-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_MixerOut (m : (ℓ : Loc Cert.MixerOut.nD Cert.MixerOut.τ Cert.MixerOut.sig) → Buf (Elt Bits) ℓ) : Prop :=
  True

def Pre_MixerOutIdeal (m : (ℓ : Loc Cert.MixerOutIdeal.nD Cert.MixerOutIdeal.τ Cert.MixerOutIdeal.sig) → Buf (Elt Ideal) ℓ) : Prop :=
  True

def Pre_MixerOutReferenceIdeal (m : (ℓ : Loc Cert.MixerOutReferenceIdeal.nD Cert.MixerOutReferenceIdeal.τ Cert.MixerOutReferenceIdeal.sig) → Buf (Elt Ideal) ℓ) : Prop :=
  True

def Pre_SbQkv (m : (ℓ : Loc Cert.SbQkv.nD Cert.SbQkv.τ Cert.SbQkv.sig) → Buf (Elt Bits) ℓ) : Prop :=
  True

def Pre_SbQkvIdeal (m : (ℓ : Loc Cert.SbQkvIdeal.nD Cert.SbQkvIdeal.τ Cert.SbQkvIdeal.sig) → Buf (Elt Ideal) ℓ) : Prop :=
  True

def Pre_SbQkvReferenceIdeal (m : (ℓ : Loc Cert.SbQkvReferenceIdeal.nD Cert.SbQkvReferenceIdeal.τ Cert.SbQkvReferenceIdeal.sig) → Buf (Elt Ideal) ℓ) : Prop :=
  True

def Pre_GdnZ (m : (ℓ : Loc Cert.GdnZ.nD Cert.GdnZ.τ Cert.GdnZ.sig) → Buf (Elt Bits) ℓ) : Prop :=
  True

def Pre_GdnZIdeal (m : (ℓ : Loc Cert.GdnZIdeal.nD Cert.GdnZIdeal.τ Cert.GdnZIdeal.sig) → Buf (Elt Ideal) ℓ) : Prop :=
  True

def Pre_GdnZReferenceIdeal (m : (ℓ : Loc Cert.GdnZReferenceIdeal.nD Cert.GdnZReferenceIdeal.τ Cert.GdnZReferenceIdeal.sig) → Buf (Elt Ideal) ℓ) : Prop :=
  True

def Pre_LruY (m : (ℓ : Loc Cert.LruY.nD Cert.LruY.τ Cert.LruY.sig) → Buf (Elt Bits) ℓ) : Prop :=
  True

def Pre_LruYIdeal (m : (ℓ : Loc Cert.LruYIdeal.nD Cert.LruYIdeal.τ Cert.LruYIdeal.sig) → Buf (Elt Ideal) ℓ) : Prop :=
  True

def Pre_LruYReferenceIdeal (m : (ℓ : Loc Cert.LruYReferenceIdeal.nD Cert.LruYReferenceIdeal.τ Cert.LruYReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_GdnQkv (m : (ℓ : Loc Cert.GdnQkv.nD Cert.GdnQkv.τ Cert.GdnQkv.sig) → Buf (Elt Bits) ℓ) : Prop :=
  True

def Pre_GdnQkvIdeal (m : (ℓ : Loc Cert.GdnQkvIdeal.nD Cert.GdnQkvIdeal.τ Cert.GdnQkvIdeal.sig) → Buf (Elt Ideal) ℓ) : Prop :=
  True

def Pre_GdnQkvReferenceIdeal (m : (ℓ : Loc Cert.GdnQkvReferenceIdeal.nD Cert.GdnQkvReferenceIdeal.τ Cert.GdnQkvReferenceIdeal.sig) → Buf (Elt Ideal) ℓ) : Prop :=
  True

def Pre_LruX (m : (ℓ : Loc Cert.LruX.nD Cert.LruX.τ Cert.LruX.sig) → Buf (Elt Bits) ℓ) : Prop :=
  True

def Pre_LruXIdeal (m : (ℓ : Loc Cert.LruXIdeal.nD Cert.LruXIdeal.τ Cert.LruXIdeal.sig) → Buf (Elt Ideal) ℓ) : Prop :=
  True

def Pre_LruXReferenceIdeal (m : (ℓ : Loc Cert.LruXReferenceIdeal.nD Cert.LruXReferenceIdeal.τ Cert.LruXReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Pair (m : (ℓ : Loc Cert.Pair.nD Cert.Pair.τ Cert.Pair.sig) → Buf (Elt Bits) ℓ) : Prop :=
  True

def Pre_PairIdeal (m : (ℓ : Loc Cert.PairIdeal.nD Cert.PairIdeal.τ Cert.PairIdeal.sig) → Buf (Elt Ideal) ℓ) : Prop :=
  True

def Pre_PairReferenceIdeal (m : (ℓ : Loc Cert.PairReferenceIdeal.nD Cert.PairReferenceIdeal.τ Cert.PairReferenceIdeal.sig) → Buf (Elt Ideal) ℓ) : Prop :=
  True

def Pre_GdnGates (m : (ℓ : Loc Cert.GdnGates.nD Cert.GdnGates.τ Cert.GdnGates.sig) → Buf (Elt Bits) ℓ) : Prop :=
  True

def Pre_GdnGatesIdeal (m : (ℓ : Loc Cert.GdnGatesIdeal.nD Cert.GdnGatesIdeal.τ Cert.GdnGatesIdeal.sig) → Buf (Elt Ideal) ℓ) : Prop :=
  True

def Pre_GdnGatesReferenceIdeal (m : (ℓ : Loc Cert.GdnGatesReferenceIdeal.nD Cert.GdnGatesReferenceIdeal.τ Cert.GdnGatesReferenceIdeal.sig) → Buf (Elt Ideal) ℓ) : Prop :=
  True

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruReferenceIdeal (m : (ℓ : Loc Cert.LruReferenceIdeal.nD Cert.LruReferenceIdeal.τ Cert.LruReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2))
      ∧ r.2.sem = fun _ => 0)

def quiescent_MixerOut [hMixerOut : Cert.MixerOut.Facts] : Prop :=
  ∀ (m : (ℓ : Loc Cert.MixerOut.nD Cert.MixerOut.τ Cert.MixerOut.sig) → Buf (Elt Bits) ℓ) (g : Dev Cert.MixerOut.nD → PrngReg), Pre_MixerOut m →
    θ_run (Cert.MixerOut.defs (F := Bits)) (onTc (τ := Cert.MixerOut.τ) (Cert.MixerOut.main (F := Bits))) ⟨m, fun _ => 0, g⟩ (fun r => (∀ c : Dev Cert.MixerOut.nD,
      r.2.mem ((c.tc : Thread Cert.MixerOut.nD Cert.MixerOut.τ).loc Cert.MixerOut.main_arg0) = m ((c.tc : Thread Cert.MixerOut.nD Cert.MixerOut.τ).loc Cert.MixerOut.main_arg0)
      ∧ r.2.mem ((c.tc : Thread Cert.MixerOut.nD Cert.MixerOut.τ).loc Cert.MixerOut.main_arg1) = m ((c.tc : Thread Cert.MixerOut.nD Cert.MixerOut.τ).loc Cert.MixerOut.main_arg1)
      ∧ r.2.mem ((c.tc : Thread Cert.MixerOut.nD Cert.MixerOut.τ).loc Cert.MixerOut.main_arg2) = m ((c.tc : Thread Cert.MixerOut.nD Cert.MixerOut.τ).loc Cert.MixerOut.main_arg2))
      ∧ r.2.sem = fun _ => 0)

def quiescent_MixerOutIdeal [hMixerOutIdeal : Cert.MixerOutIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
      ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2))
      ∧ r.2.sem = fun _ => 0)

def quiescent_MixerOutReferenceIdeal [hMixerOutReferenceIdeal : Cert.MixerOutReferenceIdeal.Facts] : Prop :=
  ∀ (m : (ℓ : Loc Cert.MixerOutReferenceIdeal.nD Cert.MixerOutReferenceIdeal.τ Cert.MixerOutReferenceIdeal.sig) → Buf (Elt Ideal) ℓ) (g : Dev Cert.MixerOutReferenceIdeal.nD → PrngReg), Pre_MixerOutReferenceIdeal m →
    θ_run (Cert.MixerOutReferenceIdeal.defs (F := Ideal)) (onTc (τ := Cert.MixerOutReferenceIdeal.τ) (Cert.MixerOutReferenceIdeal.main (F := Ideal))) ⟨m, fun _ => 0, g⟩ (fun r => (∀ c : Dev Cert.MixerOutReferenceIdeal.nD,
      r.2.mem ((c.tc : Thread Cert.MixerOutReferenceIdeal.nD Cert.MixerOutReferenceIdeal.τ).loc Cert.MixerOutReferenceIdeal.main_arg0) = m ((c.tc : Thread Cert.MixerOutReferenceIdeal.nD Cert.MixerOutReferenceIdeal.τ).loc Cert.MixerOutReferenceIdeal.main_arg0)
      ∧ r.2.mem ((c.tc : Thread Cert.MixerOutReferenceIdeal.nD Cert.MixerOutReferenceIdeal.τ).loc Cert.MixerOutReferenceIdeal.main_arg1) = m ((c.tc : Thread Cert.MixerOutReferenceIdeal.nD Cert.MixerOutReferenceIdeal.τ).loc Cert.MixerOutReferenceIdeal.main_arg1)
      ∧ r.2.mem ((c.tc : Thread Cert.MixerOutReferenceIdeal.nD Cert.MixerOutReferenceIdeal.τ).loc Cert.MixerOutReferenceIdeal.main_arg2) = m ((c.tc : Thread Cert.MixerOutReferenceIdeal.nD Cert.MixerOutReferenceIdeal.τ).loc Cert.MixerOutReferenceIdeal.main_arg2))
      ∧ r.2.sem = fun _ => 0)

def quiescent_SbQkv [hSbQkv : Cert.SbQkv.Facts] : Prop :=
  ∀ (m : (ℓ : Loc Cert.SbQkv.nD Cert.SbQkv.τ Cert.SbQkv.sig) → Buf (Elt Bits) ℓ) (g : Dev Cert.SbQkv.nD → PrngReg), Pre_SbQkv m →
    θ_run (Cert.SbQkv.defs (F := Bits)) (onTc (τ := Cert.SbQkv.τ) (Cert.SbQkv.main (F := Bits))) ⟨m, fun _ => 0, g⟩ (fun r => (∀ c : Dev Cert.SbQkv.nD,
      r.2.mem ((c.tc : Thread Cert.SbQkv.nD Cert.SbQkv.τ).loc Cert.SbQkv.main_arg0) = m ((c.tc : Thread Cert.SbQkv.nD Cert.SbQkv.τ).loc Cert.SbQkv.main_arg0)
      ∧ r.2.mem ((c.tc : Thread Cert.SbQkv.nD Cert.SbQkv.τ).loc Cert.SbQkv.main_arg1) = m ((c.tc : Thread Cert.SbQkv.nD Cert.SbQkv.τ).loc Cert.SbQkv.main_arg1))
      ∧ r.2.sem = fun _ => 0)

def quiescent_SbQkvIdeal [hSbQkvIdeal : Cert.SbQkvIdeal.Facts] : Prop :=
  ∀ (m : (ℓ : Loc Cert.SbQkvIdeal.nD Cert.SbQkvIdeal.τ Cert.SbQkvIdeal.sig) → Buf (Elt Ideal) ℓ) (g : Dev Cert.SbQkvIdeal.nD → PrngReg), Pre_SbQkvIdeal m →
    θ_run (Cert.SbQkvIdeal.defs (F := Ideal)) (onTc (τ := Cert.SbQkvIdeal.τ) (Cert.SbQkvIdeal.main (F := Ideal))) ⟨m, fun _ => 0, g⟩ (fun r => (∀ c : Dev Cert.SbQkvIdeal.nD,
      r.2.mem ((c.tc : Thread Cert.SbQkvIdeal.nD Cert.SbQkvIdeal.τ).loc Cert.SbQkvIdeal.main_arg0) = m ((c.tc : Thread Cert.SbQkvIdeal.nD Cert.SbQkvIdeal.τ).loc Cert.SbQkvIdeal.main_arg0)
      ∧ r.2.mem ((c.tc : Thread Cert.SbQkvIdeal.nD Cert.SbQkvIdeal.τ).loc Cert.SbQkvIdeal.main_arg1) = m ((c.tc : Thread Cert.SbQkvIdeal.nD Cert.SbQkvIdeal.τ).loc Cert.SbQkvIdeal.main_arg1))
      ∧ r.2.sem = fun _ => 0)

def quiescent_SbQkvReferenceIdeal [hSbQkvReferenceIdeal : Cert.SbQkvReferenceIdeal.Facts] : Prop :=
  ∀ (m : (ℓ : Loc Cert.SbQkvReferenceIdeal.nD Cert.SbQkvReferenceIdeal.τ Cert.SbQkvReferenceIdeal.sig) → Buf (Elt Ideal) ℓ) (g : Dev Cert.SbQkvReferenceIdeal.nD → PrngReg), Pre_SbQkvReferenceIdeal m →
    θ_run (Cert.SbQkvReferenceIdeal.defs (F := Ideal)) (onTc (τ := Cert.SbQkvReferenceIdeal.τ) (Cert.SbQkvReferenceIdeal.main (F := Ideal))) ⟨m, fun _ => 0, g⟩ (fun r => (∀ c : Dev Cert.SbQkvReferenceIdeal.nD,
      r.2.mem ((c.tc : Thread Cert.SbQkvReferenceIdeal.nD Cert.SbQkvReferenceIdeal.τ).loc Cert.SbQkvReferenceIdeal.main_arg0) = m ((c.tc : Thread Cert.SbQkvReferenceIdeal.nD Cert.SbQkvReferenceIdeal.τ).loc Cert.SbQkvReferenceIdeal.main_arg0)
      ∧ r.2.mem ((c.tc : Thread Cert.SbQkvReferenceIdeal.nD Cert.SbQkvReferenceIdeal.τ).loc Cert.SbQkvReferenceIdeal.main_arg1) = m ((c.tc : Thread Cert.SbQkvReferenceIdeal.nD Cert.SbQkvReferenceIdeal.τ).loc Cert.SbQkvReferenceIdeal.main_arg1))
      ∧ r.2.sem = fun _ => 0)

def quiescent_GdnZ [hGdnZ : Cert.GdnZ.Facts] : Prop :=
  ∀ (m : (ℓ : Loc Cert.GdnZ.nD Cert.GdnZ.τ Cert.GdnZ.sig) → Buf (Elt Bits) ℓ) (g : Dev Cert.GdnZ.nD → PrngReg), Pre_GdnZ m →
    θ_run (Cert.GdnZ.defs (F := Bits)) (onTc (τ := Cert.GdnZ.τ) (Cert.GdnZ.main (F := Bits))) ⟨m, fun _ => 0, g⟩ (fun r => (∀ c : Dev Cert.GdnZ.nD,
      r.2.mem ((c.tc : Thread Cert.GdnZ.nD Cert.GdnZ.τ).loc Cert.GdnZ.main_arg0) = m ((c.tc : Thread Cert.GdnZ.nD Cert.GdnZ.τ).loc Cert.GdnZ.main_arg0)
      ∧ r.2.mem ((c.tc : Thread Cert.GdnZ.nD Cert.GdnZ.τ).loc Cert.GdnZ.main_arg1) = m ((c.tc : Thread Cert.GdnZ.nD Cert.GdnZ.τ).loc Cert.GdnZ.main_arg1))
      ∧ r.2.sem = fun _ => 0)

def quiescent_GdnZIdeal [hGdnZIdeal : Cert.GdnZIdeal.Facts] : Prop :=
  ∀ (m : (ℓ : Loc Cert.GdnZIdeal.nD Cert.GdnZIdeal.τ Cert.GdnZIdeal.sig) → Buf (Elt Ideal) ℓ) (g : Dev Cert.GdnZIdeal.nD → PrngReg), Pre_GdnZIdeal m →
    θ_run (Cert.GdnZIdeal.defs (F := Ideal)) (onTc (τ := Cert.GdnZIdeal.τ) (Cert.GdnZIdeal.main (F := Ideal))) ⟨m, fun _ => 0, g⟩ (fun r => (∀ c : Dev Cert.GdnZIdeal.nD,
      r.2.mem ((c.tc : Thread Cert.GdnZIdeal.nD Cert.GdnZIdeal.τ).loc Cert.GdnZIdeal.main_arg0) = m ((c.tc : Thread Cert.GdnZIdeal.nD Cert.GdnZIdeal.τ).loc Cert.GdnZIdeal.main_arg0)
      ∧ r.2.mem ((c.tc : Thread Cert.GdnZIdeal.nD Cert.GdnZIdeal.τ).loc Cert.GdnZIdeal.main_arg1) = m ((c.tc : Thread Cert.GdnZIdeal.nD Cert.GdnZIdeal.τ).loc Cert.GdnZIdeal.main_arg1))
      ∧ r.2.sem = fun _ => 0)

def quiescent_GdnZReferenceIdeal [hGdnZReferenceIdeal : Cert.GdnZReferenceIdeal.Facts] : Prop :=
  ∀ (m : (ℓ : Loc Cert.GdnZReferenceIdeal.nD Cert.GdnZReferenceIdeal.τ Cert.GdnZReferenceIdeal.sig) → Buf (Elt Ideal) ℓ) (g : Dev Cert.GdnZReferenceIdeal.nD → PrngReg), Pre_GdnZReferenceIdeal m →
    θ_run (Cert.GdnZReferenceIdeal.defs (F := Ideal)) (onTc (τ := Cert.GdnZReferenceIdeal.τ) (Cert.GdnZReferenceIdeal.main (F := Ideal))) ⟨m, fun _ => 0, g⟩ (fun r => (∀ c : Dev Cert.GdnZReferenceIdeal.nD,
      r.2.mem ((c.tc : Thread Cert.GdnZReferenceIdeal.nD Cert.GdnZReferenceIdeal.τ).loc Cert.GdnZReferenceIdeal.main_arg0) = m ((c.tc : Thread Cert.GdnZReferenceIdeal.nD Cert.GdnZReferenceIdeal.τ).loc Cert.GdnZReferenceIdeal.main_arg0)
      ∧ r.2.mem ((c.tc : Thread Cert.GdnZReferenceIdeal.nD Cert.GdnZReferenceIdeal.τ).loc Cert.GdnZReferenceIdeal.main_arg1) = m ((c.tc : Thread Cert.GdnZReferenceIdeal.nD Cert.GdnZReferenceIdeal.τ).loc Cert.GdnZReferenceIdeal.main_arg1))
      ∧ r.2.sem = fun _ => 0)

def quiescent_LruY [hLruY : Cert.LruY.Facts] : Prop :=
  ∀ (m : (ℓ : Loc Cert.LruY.nD Cert.LruY.τ Cert.LruY.sig) → Buf (Elt Bits) ℓ) (g : Dev Cert.LruY.nD → PrngReg), Pre_LruY m →
    θ_run (Cert.LruY.defs (F := Bits)) (onTc (τ := Cert.LruY.τ) (Cert.LruY.main (F := Bits))) ⟨m, fun _ => 0, g⟩ (fun r => (∀ c : Dev Cert.LruY.nD,
      r.2.mem ((c.tc : Thread Cert.LruY.nD Cert.LruY.τ).loc Cert.LruY.main_arg0) = m ((c.tc : Thread Cert.LruY.nD Cert.LruY.τ).loc Cert.LruY.main_arg0)
      ∧ r.2.mem ((c.tc : Thread Cert.LruY.nD Cert.LruY.τ).loc Cert.LruY.main_arg1) = m ((c.tc : Thread Cert.LruY.nD Cert.LruY.τ).loc Cert.LruY.main_arg1))
      ∧ r.2.sem = fun _ => 0)

def quiescent_LruYIdeal [hLruYIdeal : Cert.LruYIdeal.Facts] : Prop :=
  ∀ (m : (ℓ : Loc Cert.LruYIdeal.nD Cert.LruYIdeal.τ Cert.LruYIdeal.sig) → Buf (Elt Ideal) ℓ) (g : Dev Cert.LruYIdeal.nD → PrngReg), Pre_LruYIdeal m →
    θ_run (Cert.LruYIdeal.defs (F := Ideal)) (onTc (τ := Cert.LruYIdeal.τ) (Cert.LruYIdeal.main (F := Ideal))) ⟨m, fun _ => 0, g⟩ (fun r => (∀ c : Dev Cert.LruYIdeal.nD,
      r.2.mem ((c.tc : Thread Cert.LruYIdeal.nD Cert.LruYIdeal.τ).loc Cert.LruYIdeal.main_arg0) = m ((c.tc : Thread Cert.LruYIdeal.nD Cert.LruYIdeal.τ).loc Cert.LruYIdeal.main_arg0)
      ∧ r.2.mem ((c.tc : Thread Cert.LruYIdeal.nD Cert.LruYIdeal.τ).loc Cert.LruYIdeal.main_arg1) = m ((c.tc : Thread Cert.LruYIdeal.nD Cert.LruYIdeal.τ).loc Cert.LruYIdeal.main_arg1))
      ∧ r.2.sem = fun _ => 0)

def quiescent_LruYReferenceIdeal [hLruYReferenceIdeal : Cert.LruYReferenceIdeal.Facts] : Prop :=
  ∀ (m : (ℓ : Loc Cert.LruYReferenceIdeal.nD Cert.LruYReferenceIdeal.τ Cert.LruYReferenceIdeal.sig) → Buf (Elt Ideal) ℓ) (g : Dev Cert.LruYReferenceIdeal.nD → PrngReg), Pre_LruYReferenceIdeal m →
    θ_run (Cert.LruYReferenceIdeal.defs (F := Ideal)) (onTc (τ := Cert.LruYReferenceIdeal.τ) (Cert.LruYReferenceIdeal.main (F := Ideal))) ⟨m, fun _ => 0, g⟩ (fun r => (∀ c : Dev Cert.LruYReferenceIdeal.nD,
      r.2.mem ((c.tc : Thread Cert.LruYReferenceIdeal.nD Cert.LruYReferenceIdeal.τ).loc Cert.LruYReferenceIdeal.main_arg0) = m ((c.tc : Thread Cert.LruYReferenceIdeal.nD Cert.LruYReferenceIdeal.τ).loc Cert.LruYReferenceIdeal.main_arg0)
      ∧ r.2.mem ((c.tc : Thread Cert.LruYReferenceIdeal.nD Cert.LruYReferenceIdeal.τ).loc Cert.LruYReferenceIdeal.main_arg1) = m ((c.tc : Thread Cert.LruYReferenceIdeal.nD Cert.LruYReferenceIdeal.τ).loc Cert.LruYReferenceIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2)
      ∧ r.2.mem ((c.tc : Thread Cert.FfnUpReferenceIdeal.nD Cert.FfnUpReferenceIdeal.τ).loc Cert.FfnUpReferenceIdeal.main_arg3) = m ((c.tc : Thread Cert.FfnUpReferenceIdeal.nD Cert.FfnUpReferenceIdeal.τ).loc Cert.FfnUpReferenceIdeal.main_arg3))
      ∧ r.2.sem = fun _ => 0)

def quiescent_GdnQkv [hGdnQkv : Cert.GdnQkv.Facts] : Prop :=
  ∀ (m : (ℓ : Loc Cert.GdnQkv.nD Cert.GdnQkv.τ Cert.GdnQkv.sig) → Buf (Elt Bits) ℓ) (g : Dev Cert.GdnQkv.nD → PrngReg), Pre_GdnQkv m →
    θ_run (Cert.GdnQkv.defs (F := Bits)) (onTc (τ := Cert.GdnQkv.τ) (Cert.GdnQkv.main (F := Bits))) ⟨m, fun _ => 0, g⟩ (fun r => (∀ c : Dev Cert.GdnQkv.nD,
      r.2.mem ((c.tc : Thread Cert.GdnQkv.nD Cert.GdnQkv.τ).loc Cert.GdnQkv.main_arg0) = m ((c.tc : Thread Cert.GdnQkv.nD Cert.GdnQkv.τ).loc Cert.GdnQkv.main_arg0)
      ∧ r.2.mem ((c.tc : Thread Cert.GdnQkv.nD Cert.GdnQkv.τ).loc Cert.GdnQkv.main_arg1) = m ((c.tc : Thread Cert.GdnQkv.nD Cert.GdnQkv.τ).loc Cert.GdnQkv.main_arg1)
      ∧ r.2.mem ((c.tc : Thread Cert.GdnQkv.nD Cert.GdnQkv.τ).loc Cert.GdnQkv.main_arg2) = m ((c.tc : Thread Cert.GdnQkv.nD Cert.GdnQkv.τ).loc Cert.GdnQkv.main_arg2))
      ∧ r.2.sem = fun _ => 0)

def quiescent_GdnQkvIdeal [hGdnQkvIdeal : Cert.GdnQkvIdeal.Facts] : Prop :=
  ∀ (m : (ℓ : Loc Cert.GdnQkvIdeal.nD Cert.GdnQkvIdeal.τ Cert.GdnQkvIdeal.sig) → Buf (Elt Ideal) ℓ) (g : Dev Cert.GdnQkvIdeal.nD → PrngReg), Pre_GdnQkvIdeal m →
    θ_run (Cert.GdnQkvIdeal.defs (F := Ideal)) (onTc (τ := Cert.GdnQkvIdeal.τ) (Cert.GdnQkvIdeal.main (F := Ideal))) ⟨m, fun _ => 0, g⟩ (fun r => (∀ c : Dev Cert.GdnQkvIdeal.nD,
      r.2.mem ((c.tc : Thread Cert.GdnQkvIdeal.nD Cert.GdnQkvIdeal.τ).loc Cert.GdnQkvIdeal.main_arg0) = m ((c.tc : Thread Cert.GdnQkvIdeal.nD Cert.GdnQkvIdeal.τ).loc Cert.GdnQkvIdeal.main_arg0)
      ∧ r.2.mem ((c.tc : Thread Cert.GdnQkvIdeal.nD Cert.GdnQkvIdeal.τ).loc Cert.GdnQkvIdeal.main_arg1) = m ((c.tc : Thread Cert.GdnQkvIdeal.nD Cert.GdnQkvIdeal.τ).loc Cert.GdnQkvIdeal.main_arg1)
      ∧ r.2.mem ((c.tc : Thread Cert.GdnQkvIdeal.nD Cert.GdnQkvIdeal.τ).loc Cert.GdnQkvIdeal.main_arg2) = m ((c.tc : Thread Cert.GdnQkvIdeal.nD Cert.GdnQkvIdeal.τ).loc Cert.GdnQkvIdeal.main_arg2))
      ∧ r.2.sem = fun _ => 0)

def quiescent_GdnQkvReferenceIdeal [hGdnQkvReferenceIdeal : Cert.GdnQkvReferenceIdeal.Facts] : Prop :=
  ∀ (m : (ℓ : Loc Cert.GdnQkvReferenceIdeal.nD Cert.GdnQkvReferenceIdeal.τ Cert.GdnQkvReferenceIdeal.sig) → Buf (Elt Ideal) ℓ) (g : Dev Cert.GdnQkvReferenceIdeal.nD → PrngReg), Pre_GdnQkvReferenceIdeal m →
    θ_run (Cert.GdnQkvReferenceIdeal.defs (F := Ideal)) (onTc (τ := Cert.GdnQkvReferenceIdeal.τ) (Cert.GdnQkvReferenceIdeal.main (F := Ideal))) ⟨m, fun _ => 0, g⟩ (fun r => (∀ c : Dev Cert.GdnQkvReferenceIdeal.nD,
      r.2.mem ((c.tc : Thread Cert.GdnQkvReferenceIdeal.nD Cert.GdnQkvReferenceIdeal.τ).loc Cert.GdnQkvReferenceIdeal.main_arg0) = m ((c.tc : Thread Cert.GdnQkvReferenceIdeal.nD Cert.GdnQkvReferenceIdeal.τ).loc Cert.GdnQkvReferenceIdeal.main_arg0)
      ∧ r.2.mem ((c.tc : Thread Cert.GdnQkvReferenceIdeal.nD Cert.GdnQkvReferenceIdeal.τ).loc Cert.GdnQkvReferenceIdeal.main_arg1) = m ((c.tc : Thread Cert.GdnQkvReferenceIdeal.nD Cert.GdnQkvReferenceIdeal.τ).loc Cert.GdnQkvReferenceIdeal.main_arg1)
      ∧ r.2.mem ((c.tc : Thread Cert.GdnQkvReferenceIdeal.nD Cert.GdnQkvReferenceIdeal.τ).loc Cert.GdnQkvReferenceIdeal.main_arg2) = m ((c.tc : Thread Cert.GdnQkvReferenceIdeal.nD Cert.GdnQkvReferenceIdeal.τ).loc Cert.GdnQkvReferenceIdeal.main_arg2))
      ∧ r.2.sem = fun _ => 0)

def quiescent_LruX [hLruX : Cert.LruX.Facts] : Prop :=
  ∀ (m : (ℓ : Loc Cert.LruX.nD Cert.LruX.τ Cert.LruX.sig) → Buf (Elt Bits) ℓ) (g : Dev Cert.LruX.nD → PrngReg), Pre_LruX m →
    θ_run (Cert.LruX.defs (F := Bits)) (onTc (τ := Cert.LruX.τ) (Cert.LruX.main (F := Bits))) ⟨m, fun _ => 0, g⟩ (fun r => (∀ c : Dev Cert.LruX.nD,
      r.2.mem ((c.tc : Thread Cert.LruX.nD Cert.LruX.τ).loc Cert.LruX.main_arg0) = m ((c.tc : Thread Cert.LruX.nD Cert.LruX.τ).loc Cert.LruX.main_arg0)
      ∧ r.2.mem ((c.tc : Thread Cert.LruX.nD Cert.LruX.τ).loc Cert.LruX.main_arg1) = m ((c.tc : Thread Cert.LruX.nD Cert.LruX.τ).loc Cert.LruX.main_arg1)
      ∧ r.2.mem ((c.tc : Thread Cert.LruX.nD Cert.LruX.τ).loc Cert.LruX.main_arg2) = m ((c.tc : Thread Cert.LruX.nD Cert.LruX.τ).loc Cert.LruX.main_arg2)
      ∧ r.2.mem ((c.tc : Thread Cert.LruX.nD Cert.LruX.τ).loc Cert.LruX.main_arg3) = m ((c.tc : Thread Cert.LruX.nD Cert.LruX.τ).loc Cert.LruX.main_arg3))
      ∧ r.2.sem = fun _ => 0)

def quiescent_LruXIdeal [hLruXIdeal : Cert.LruXIdeal.Facts] : Prop :=
  ∀ (m : (ℓ : Loc Cert.LruXIdeal.nD Cert.LruXIdeal.τ Cert.LruXIdeal.sig) → Buf (Elt Ideal) ℓ) (g : Dev Cert.LruXIdeal.nD → PrngReg), Pre_LruXIdeal m →
    θ_run (Cert.LruXIdeal.defs (F := Ideal)) (onTc (τ := Cert.LruXIdeal.τ) (Cert.LruXIdeal.main (F := Ideal))) ⟨m, fun _ => 0, g⟩ (fun r => (∀ c : Dev Cert.LruXIdeal.nD,
      r.2.mem ((c.tc : Thread Cert.LruXIdeal.nD Cert.LruXIdeal.τ).loc Cert.LruXIdeal.main_arg0) = m ((c.tc : Thread Cert.LruXIdeal.nD Cert.LruXIdeal.τ).loc Cert.LruXIdeal.main_arg0)
      ∧ r.2.mem ((c.tc : Thread Cert.LruXIdeal.nD Cert.LruXIdeal.τ).loc Cert.LruXIdeal.main_arg1) = m ((c.tc : Thread Cert.LruXIdeal.nD Cert.LruXIdeal.τ).loc Cert.LruXIdeal.main_arg1)
      ∧ r.2.mem ((c.tc : Thread Cert.LruXIdeal.nD Cert.LruXIdeal.τ).loc Cert.LruXIdeal.main_arg2) = m ((c.tc : Thread Cert.LruXIdeal.nD Cert.LruXIdeal.τ).loc Cert.LruXIdeal.main_arg2)
      ∧ r.2.mem ((c.tc : Thread Cert.LruXIdeal.nD Cert.LruXIdeal.τ).loc Cert.LruXIdeal.main_arg3) = m ((c.tc : Thread Cert.LruXIdeal.nD Cert.LruXIdeal.τ).loc Cert.LruXIdeal.main_arg3))
      ∧ r.2.sem = fun _ => 0)

def quiescent_LruXReferenceIdeal [hLruXReferenceIdeal : Cert.LruXReferenceIdeal.Facts] : Prop :=
  ∀ (m : (ℓ : Loc Cert.LruXReferenceIdeal.nD Cert.LruXReferenceIdeal.τ Cert.LruXReferenceIdeal.sig) → Buf (Elt Ideal) ℓ) (g : Dev Cert.LruXReferenceIdeal.nD → PrngReg), Pre_LruXReferenceIdeal m →
    θ_run (Cert.LruXReferenceIdeal.defs (F := Ideal)) (onTc (τ := Cert.LruXReferenceIdeal.τ) (Cert.LruXReferenceIdeal.main (F := Ideal))) ⟨m, fun _ => 0, g⟩ (fun r => (∀ c : Dev Cert.LruXReferenceIdeal.nD,
      r.2.mem ((c.tc : Thread Cert.LruXReferenceIdeal.nD Cert.LruXReferenceIdeal.τ).loc Cert.LruXReferenceIdeal.main_arg0) = m ((c.tc : Thread Cert.LruXReferenceIdeal.nD Cert.LruXReferenceIdeal.τ).loc Cert.LruXReferenceIdeal.main_arg0)
      ∧ r.2.mem ((c.tc : Thread Cert.LruXReferenceIdeal.nD Cert.LruXReferenceIdeal.τ).loc Cert.LruXReferenceIdeal.main_arg1) = m ((c.tc : Thread Cert.LruXReferenceIdeal.nD Cert.LruXReferenceIdeal.τ).loc Cert.LruXReferenceIdeal.main_arg1)
      ∧ r.2.mem ((c.tc : Thread Cert.LruXReferenceIdeal.nD Cert.LruXReferenceIdeal.τ).loc Cert.LruXReferenceIdeal.main_arg2) = m ((c.tc : Thread Cert.LruXReferenceIdeal.nD Cert.LruXReferenceIdeal.τ).loc Cert.LruXReferenceIdeal.main_arg2)
      ∧ r.2.mem ((c.tc : Thread Cert.LruXReferenceIdeal.nD Cert.LruXReferenceIdeal.τ).loc Cert.LruXReferenceIdeal.main_arg3) = m ((c.tc : Thread Cert.LruXReferenceIdeal.nD Cert.LruXReferenceIdeal.τ).loc Cert.LruXReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def quiescent_Pair [hPair : Cert.Pair.Facts] : Prop :=
  ∀ (m : (ℓ : Loc Cert.Pair.nD Cert.Pair.τ Cert.Pair.sig) → Buf (Elt Bits) ℓ) (g : Dev Cert.Pair.nD → PrngReg), Pre_Pair m →
    θ_run (Cert.Pair.defs (F := Bits)) (onTc (τ := Cert.Pair.τ) (Cert.Pair.main (F := Bits))) ⟨m, fun _ => 0, g⟩ (fun r => (∀ c : Dev Cert.Pair.nD,
      r.2.mem ((c.tc : Thread Cert.Pair.nD Cert.Pair.τ).loc Cert.Pair.main_arg0) = m ((c.tc : Thread Cert.Pair.nD Cert.Pair.τ).loc Cert.Pair.main_arg0))
      ∧ r.2.sem = fun _ => 0)

def quiescent_PairIdeal [hPairIdeal : Cert.PairIdeal.Facts] : Prop :=
  ∀ (m : (ℓ : Loc Cert.PairIdeal.nD Cert.PairIdeal.τ Cert.PairIdeal.sig) → Buf (Elt Ideal) ℓ) (g : Dev Cert.PairIdeal.nD → PrngReg), Pre_PairIdeal m →
    θ_run (Cert.PairIdeal.defs (F := Ideal)) (onTc (τ := Cert.PairIdeal.τ) (Cert.PairIdeal.main (F := Ideal))) ⟨m, fun _ => 0, g⟩ (fun r => (∀ c : Dev Cert.PairIdeal.nD,
      r.2.mem ((c.tc : Thread Cert.PairIdeal.nD Cert.PairIdeal.τ).loc Cert.PairIdeal.main_arg0) = m ((c.tc : Thread Cert.PairIdeal.nD Cert.PairIdeal.τ).loc Cert.PairIdeal.main_arg0))
      ∧ r.2.sem = fun _ => 0)

def quiescent_PairReferenceIdeal [hPairReferenceIdeal : Cert.PairReferenceIdeal.Facts] : Prop :=
  ∀ (m : (ℓ : Loc Cert.PairReferenceIdeal.nD Cert.PairReferenceIdeal.τ Cert.PairReferenceIdeal.sig) → Buf (Elt Ideal) ℓ) (g : Dev Cert.PairReferenceIdeal.nD → PrngReg), Pre_PairReferenceIdeal m →
    θ_run (Cert.PairReferenceIdeal.defs (F := Ideal)) (onTc (τ := Cert.PairReferenceIdeal.τ) (Cert.PairReferenceIdeal.main (F := Ideal))) ⟨m, fun _ => 0, g⟩ (fun r => (∀ c : Dev Cert.PairReferenceIdeal.nD,
      r.2.mem ((c.tc : Thread Cert.PairReferenceIdeal.nD Cert.PairReferenceIdeal.τ).loc Cert.PairReferenceIdeal.main_arg0) = m ((c.tc : Thread Cert.PairReferenceIdeal.nD Cert.PairReferenceIdeal.τ).loc Cert.PairReferenceIdeal.main_arg0))
      ∧ r.2.sem = fun _ => 0)

def quiescent_GdnGates [hGdnGates : Cert.GdnGates.Facts] : Prop :=
  ∀ (m : (ℓ : Loc Cert.GdnGates.nD Cert.GdnGates.τ Cert.GdnGates.sig) → Buf (Elt Bits) ℓ) (g : Dev Cert.GdnGates.nD → PrngReg), Pre_GdnGates m →
    θ_run (Cert.GdnGates.defs (F := Bits)) (onTc (τ := Cert.GdnGates.τ) (Cert.GdnGates.main (F := Bits))) ⟨m, fun _ => 0, g⟩ (fun r => (∀ c : Dev Cert.GdnGates.nD,
      r.2.mem ((c.tc : Thread Cert.GdnGates.nD Cert.GdnGates.τ).loc Cert.GdnGates.main_arg0) = m ((c.tc : Thread Cert.GdnGates.nD Cert.GdnGates.τ).loc Cert.GdnGates.main_arg0)
      ∧ r.2.mem ((c.tc : Thread Cert.GdnGates.nD Cert.GdnGates.τ).loc Cert.GdnGates.main_arg1) = m ((c.tc : Thread Cert.GdnGates.nD Cert.GdnGates.τ).loc Cert.GdnGates.main_arg1)
      ∧ r.2.mem ((c.tc : Thread Cert.GdnGates.nD Cert.GdnGates.τ).loc Cert.GdnGates.main_arg2) = m ((c.tc : Thread Cert.GdnGates.nD Cert.GdnGates.τ).loc Cert.GdnGates.main_arg2)
      ∧ r.2.mem ((c.tc : Thread Cert.GdnGates.nD Cert.GdnGates.τ).loc Cert.GdnGates.main_arg3) = m ((c.tc : Thread Cert.GdnGates.nD Cert.GdnGates.τ).loc Cert.GdnGates.main_arg3))
      ∧ r.2.sem = fun _ => 0)

def quiescent_GdnGatesIdeal [hGdnGatesIdeal : Cert.GdnGatesIdeal.Facts] : Prop :=
  ∀ (m : (ℓ : Loc Cert.GdnGatesIdeal.nD Cert.GdnGatesIdeal.τ Cert.GdnGatesIdeal.sig) → Buf (Elt Ideal) ℓ) (g : Dev Cert.GdnGatesIdeal.nD → PrngReg), Pre_GdnGatesIdeal m →
    θ_run (Cert.GdnGatesIdeal.defs (F := Ideal)) (onTc (τ := Cert.GdnGatesIdeal.τ) (Cert.GdnGatesIdeal.main (F := Ideal))) ⟨m, fun _ => 0, g⟩ (fun r => (∀ c : Dev Cert.GdnGatesIdeal.nD,
      r.2.mem ((c.tc : Thread Cert.GdnGatesIdeal.nD Cert.GdnGatesIdeal.τ).loc Cert.GdnGatesIdeal.main_arg0) = m ((c.tc : Thread Cert.GdnGatesIdeal.nD Cert.GdnGatesIdeal.τ).loc Cert.GdnGatesIdeal.main_arg0)
      ∧ r.2.mem ((c.tc : Thread Cert.GdnGatesIdeal.nD Cert.GdnGatesIdeal.τ).loc Cert.GdnGatesIdeal.main_arg1) = m ((c.tc : Thread Cert.GdnGatesIdeal.nD Cert.GdnGatesIdeal.τ).loc Cert.GdnGatesIdeal.main_arg1)
      ∧ r.2.mem ((c.tc : Thread Cert.GdnGatesIdeal.nD Cert.GdnGatesIdeal.τ).loc Cert.GdnGatesIdeal.main_arg2) = m ((c.tc : Thread Cert.GdnGatesIdeal.nD Cert.GdnGatesIdeal.τ).loc Cert.GdnGatesIdeal.main_arg2)
      ∧ r.2.mem ((c.tc : Thread Cert.GdnGatesIdeal.nD Cert.GdnGatesIdeal.τ).loc Cert.GdnGatesIdeal.main_arg3) = m ((c.tc : Thread Cert.GdnGatesIdeal.nD Cert.GdnGatesIdeal.τ).loc Cert.GdnGatesIdeal.main_arg3))
      ∧ r.2.sem = fun _ => 0)

def quiescent_GdnGatesReferenceIdeal [hGdnGatesReferenceIdeal : Cert.GdnGatesReferenceIdeal.Facts] : Prop :=
  ∀ (m : (ℓ : Loc Cert.GdnGatesReferenceIdeal.nD Cert.GdnGatesReferenceIdeal.τ Cert.GdnGatesReferenceIdeal.sig) → Buf (Elt Ideal) ℓ) (g : Dev Cert.GdnGatesReferenceIdeal.nD → PrngReg), Pre_GdnGatesReferenceIdeal m →
    θ_run (Cert.GdnGatesReferenceIdeal.defs (F := Ideal)) (onTc (τ := Cert.GdnGatesReferenceIdeal.τ) (Cert.GdnGatesReferenceIdeal.main (F := Ideal))) ⟨m, fun _ => 0, g⟩ (fun r => (∀ c : Dev Cert.GdnGatesReferenceIdeal.nD,
      r.2.mem ((c.tc : Thread Cert.GdnGatesReferenceIdeal.nD Cert.GdnGatesReferenceIdeal.τ).loc Cert.GdnGatesReferenceIdeal.main_arg0) = m ((c.tc : Thread Cert.GdnGatesReferenceIdeal.nD Cert.GdnGatesReferenceIdeal.τ).loc Cert.GdnGatesReferenceIdeal.main_arg0)
      ∧ r.2.mem ((c.tc : Thread Cert.GdnGatesReferenceIdeal.nD Cert.GdnGatesReferenceIdeal.τ).loc Cert.GdnGatesReferenceIdeal.main_arg1) = m ((c.tc : Thread Cert.GdnGatesReferenceIdeal.nD Cert.GdnGatesReferenceIdeal.τ).loc Cert.GdnGatesReferenceIdeal.main_arg1)
      ∧ r.2.mem ((c.tc : Thread Cert.GdnGatesReferenceIdeal.nD Cert.GdnGatesReferenceIdeal.τ).loc Cert.GdnGatesReferenceIdeal.main_arg2) = m ((c.tc : Thread Cert.GdnGatesReferenceIdeal.nD Cert.GdnGatesReferenceIdeal.τ).loc Cert.GdnGatesReferenceIdeal.main_arg2)
      ∧ r.2.mem ((c.tc : Thread Cert.GdnGatesReferenceIdeal.nD Cert.GdnGatesReferenceIdeal.τ).loc Cert.GdnGatesReferenceIdeal.main_arg3) = m ((c.tc : Thread Cert.GdnGatesReferenceIdeal.nD Cert.GdnGatesReferenceIdeal.τ).loc Cert.GdnGatesReferenceIdeal.main_arg3))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6))
      ∧ r.2.sem = fun _ => 0)

def quiescent_LruReferenceIdeal [hLruReferenceIdeal : Cert.LruReferenceIdeal.Facts] : Prop :=
  ∀ (m : (ℓ : Loc Cert.LruReferenceIdeal.nD Cert.LruReferenceIdeal.τ Cert.LruReferenceIdeal.sig) → Buf (Elt Ideal) ℓ) (g : Dev Cert.LruReferenceIdeal.nD → PrngReg), Pre_LruReferenceIdeal m →
    θ_run (Cert.LruReferenceIdeal.defs (F := Ideal)) (onTc (τ := Cert.LruReferenceIdeal.τ) (Cert.LruReferenceIdeal.main (F := Ideal))) ⟨m, fun _ => 0, g⟩ (fun r => (∀ c : Dev Cert.LruReferenceIdeal.nD,
      r.2.mem ((c.tc : Thread Cert.LruReferenceIdeal.nD Cert.LruReferenceIdeal.τ).loc Cert.LruReferenceIdeal.main_arg0) = m ((c.tc : Thread Cert.LruReferenceIdeal.nD Cert.LruReferenceIdeal.τ).loc Cert.LruReferenceIdeal.main_arg0)
      ∧ r.2.mem ((c.tc : Thread Cert.LruReferenceIdeal.nD Cert.LruReferenceIdeal.τ).loc Cert.LruReferenceIdeal.main_arg1) = m ((c.tc : Thread Cert.LruReferenceIdeal.nD Cert.LruReferenceIdeal.τ).loc Cert.LruReferenceIdeal.main_arg1)
      ∧ r.2.mem ((c.tc : Thread Cert.LruReferenceIdeal.nD Cert.LruReferenceIdeal.τ).loc Cert.LruReferenceIdeal.main_arg2) = m ((c.tc : Thread Cert.LruReferenceIdeal.nD Cert.LruReferenceIdeal.τ).loc Cert.LruReferenceIdeal.main_arg2)
      ∧ r.2.mem ((c.tc : Thread Cert.LruReferenceIdeal.nD Cert.LruReferenceIdeal.τ).loc Cert.LruReferenceIdeal.main_arg3) = m ((c.tc : Thread Cert.LruReferenceIdeal.nD Cert.LruReferenceIdeal.τ).loc Cert.LruReferenceIdeal.main_arg3)
      ∧ r.2.mem ((c.tc : Thread Cert.LruReferenceIdeal.nD Cert.LruReferenceIdeal.τ).loc Cert.LruReferenceIdeal.main_arg4) = m ((c.tc : Thread Cert.LruReferenceIdeal.nD Cert.LruReferenceIdeal.τ).loc Cert.LruReferenceIdeal.main_arg4)
      ∧ r.2.mem ((c.tc : Thread Cert.LruReferenceIdeal.nD Cert.LruReferenceIdeal.τ).loc Cert.LruReferenceIdeal.main_arg5) = m ((c.tc : Thread Cert.LruReferenceIdeal.nD Cert.LruReferenceIdeal.τ).loc Cert.LruReferenceIdeal.main_arg5)
      ∧ r.2.mem ((c.tc : Thread Cert.LruReferenceIdeal.nD Cert.LruReferenceIdeal.τ).loc Cert.LruReferenceIdeal.main_arg6) = m ((c.tc : Thread Cert.LruReferenceIdeal.nD Cert.LruReferenceIdeal.τ).loc Cert.LruReferenceIdeal.main_arg6))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v6) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2))

def preserves_MixerOut_MixerOutIdeal : Prop :=
  True

def algebraic_MixerOutIdeal_MixerOutReferenceIdeal [hMixerOutIdeal : Cert.MixerOutIdeal.Facts] [hMixerOutReferenceIdeal : Cert.MixerOutReferenceIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg)
    (m' : (ℓ : Loc Cert.MixerOutReferenceIdeal.nD Cert.MixerOutReferenceIdeal.τ Cert.MixerOutReferenceIdeal.sig) → Buf (Elt Ideal) ℓ) (g' : Dev Cert.MixerOutReferenceIdeal.nD → PrngReg), Pre_MixerOutIdeal m →
    (∀ c : Dev Cert.MixerOutIdeal.nD,
      m' ((c.tc : Thread Cert.MixerOutReferenceIdeal.nD Cert.MixerOutReferenceIdeal.τ).loc Cert.MixerOutReferenceIdeal.main_arg0) = m ((c.tc : Thread Cert.MixerOutIdeal.nD Cert.MixerOutIdeal.τ).loc Cert.MixerOutIdeal.main_arg0)
      ∧ m' ((c.tc : Thread Cert.MixerOutReferenceIdeal.nD Cert.MixerOutReferenceIdeal.τ).loc Cert.MixerOutReferenceIdeal.main_arg1) = m ((c.tc : Thread Cert.MixerOutIdeal.nD Cert.MixerOutIdeal.τ).loc Cert.MixerOutIdeal.main_arg1)
      ∧ m' ((c.tc : Thread Cert.MixerOutReferenceIdeal.nD Cert.MixerOutReferenceIdeal.τ).loc Cert.MixerOutReferenceIdeal.main_arg2) = m ((c.tc : Thread Cert.MixerOutIdeal.nD Cert.MixerOutIdeal.τ).loc Cert.MixerOutIdeal.main_arg2)) →
    ∃ (v0 : (c : Dev Cert.MixerOutIdeal.nD) → Buf (Elt Ideal) ((c.tc : Thread Cert.MixerOutIdeal.nD Cert.MixerOutIdeal.τ).loc Cert.MixerOutIdeal.main_v1)),
      θ_run (Cert.MixerOutIdeal.defs (F := Ideal)) (onTc (τ := Cert.MixerOutIdeal.τ) (Cert.MixerOutIdeal.main (F := Ideal))) ⟨m, fun _ => 0, g⟩ (fun r => ∀ c : Dev Cert.MixerOutIdeal.nD,
          r.2.mem ((c.tc : Thread Cert.MixerOutIdeal.nD Cert.MixerOutIdeal.τ).loc Cert.MixerOutIdeal.main_v1) = v0 c
          ∧ r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
          ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
          ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2))
      ∧ θ_run (Cert.MixerOutReferenceIdeal.defs (F := Ideal)) (onTc (τ := Cert.MixerOutReferenceIdeal.τ) (Cert.MixerOutReferenceIdeal.main (F := Ideal))) ⟨m', fun _ => 0, g'⟩ (fun r => ∀ c : Dev Cert.MixerOutReferenceIdeal.nD,
          r.2.mem ((c.tc : Thread Cert.MixerOutReferenceIdeal.nD Cert.MixerOutReferenceIdeal.τ).loc Cert.MixerOutReferenceIdeal.main_v6) = v0 c
          ∧ r.2.mem ((c.tc : Thread Cert.MixerOutReferenceIdeal.nD Cert.MixerOutReferenceIdeal.τ).loc Cert.MixerOutReferenceIdeal.main_arg0) = m' ((c.tc : Thread Cert.MixerOutReferenceIdeal.nD Cert.MixerOutReferenceIdeal.τ).loc Cert.MixerOutReferenceIdeal.main_arg0)
          ∧ r.2.mem ((c.tc : Thread Cert.MixerOutReferenceIdeal.nD Cert.MixerOutReferenceIdeal.τ).loc Cert.MixerOutReferenceIdeal.main_arg1) = m' ((c.tc : Thread Cert.MixerOutReferenceIdeal.nD Cert.MixerOutReferenceIdeal.τ).loc Cert.MixerOutReferenceIdeal.main_arg1)
          ∧ r.2.mem ((c.tc : Thread Cert.MixerOutReferenceIdeal.nD Cert.MixerOutReferenceIdeal.τ).loc Cert.MixerOutReferenceIdeal.main_arg2) = m' ((c.tc : Thread Cert.MixerOutReferenceIdeal.nD Cert.MixerOutReferenceIdeal.τ).loc Cert.MixerOutReferenceIdeal.main_arg2))

def preserves_SbQkv_SbQkvIdeal : Prop :=
  True

def algebraic_SbQkvIdeal_SbQkvReferenceIdeal [hSbQkvIdeal : Cert.SbQkvIdeal.Facts] [hSbQkvReferenceIdeal : Cert.SbQkvReferenceIdeal.Facts] : Prop :=
  ∀ (m : (ℓ : Loc Cert.SbQkvIdeal.nD Cert.SbQkvIdeal.τ Cert.SbQkvIdeal.sig) → Buf (Elt Ideal) ℓ) (g : Dev Cert.SbQkvIdeal.nD → PrngReg)
    (m' : (ℓ : Loc Cert.SbQkvReferenceIdeal.nD Cert.SbQkvReferenceIdeal.τ Cert.SbQkvReferenceIdeal.sig) → Buf (Elt Ideal) ℓ) (g' : Dev Cert.SbQkvReferenceIdeal.nD → PrngReg), Pre_SbQkvIdeal m →
    (∀ c : Dev Cert.SbQkvIdeal.nD,
      m' ((c.tc : Thread Cert.SbQkvReferenceIdeal.nD Cert.SbQkvReferenceIdeal.τ).loc Cert.SbQkvReferenceIdeal.main_arg0) = m ((c.tc : Thread Cert.SbQkvIdeal.nD Cert.SbQkvIdeal.τ).loc Cert.SbQkvIdeal.main_arg0)
      ∧ m' ((c.tc : Thread Cert.SbQkvReferenceIdeal.nD Cert.SbQkvReferenceIdeal.τ).loc Cert.SbQkvReferenceIdeal.main_arg1) = m ((c.tc : Thread Cert.SbQkvIdeal.nD Cert.SbQkvIdeal.τ).loc Cert.SbQkvIdeal.main_arg1)) →
    ∃ (v0 : (c : Dev Cert.SbQkvIdeal.nD) → Buf (Elt Ideal) ((c.tc : Thread Cert.SbQkvIdeal.nD Cert.SbQkvIdeal.τ).loc Cert.SbQkvIdeal.main_v1)),
      θ_run (Cert.SbQkvIdeal.defs (F := Ideal)) (onTc (τ := Cert.SbQkvIdeal.τ) (Cert.SbQkvIdeal.main (F := Ideal))) ⟨m, fun _ => 0, g⟩ (fun r => ∀ c : Dev Cert.SbQkvIdeal.nD,
          r.2.mem ((c.tc : Thread Cert.SbQkvIdeal.nD Cert.SbQkvIdeal.τ).loc Cert.SbQkvIdeal.main_v1) = v0 c
          ∧ r.2.mem ((c.tc : Thread Cert.SbQkvIdeal.nD Cert.SbQkvIdeal.τ).loc Cert.SbQkvIdeal.main_arg0) = m ((c.tc : Thread Cert.SbQkvIdeal.nD Cert.SbQkvIdeal.τ).loc Cert.SbQkvIdeal.main_arg0)
          ∧ r.2.mem ((c.tc : Thread Cert.SbQkvIdeal.nD Cert.SbQkvIdeal.τ).loc Cert.SbQkvIdeal.main_arg1) = m ((c.tc : Thread Cert.SbQkvIdeal.nD Cert.SbQkvIdeal.τ).loc Cert.SbQkvIdeal.main_arg1))
      ∧ θ_run (Cert.SbQkvReferenceIdeal.defs (F := Ideal)) (onTc (τ := Cert.SbQkvReferenceIdeal.τ) (Cert.SbQkvReferenceIdeal.main (F := Ideal))) ⟨m', fun _ => 0, g'⟩ (fun r => ∀ c : Dev Cert.SbQkvReferenceIdeal.nD,
          r.2.mem ((c.tc : Thread Cert.SbQkvReferenceIdeal.nD Cert.SbQkvReferenceIdeal.τ).loc Cert.SbQkvReferenceIdeal.main_v9) = v0 c
          ∧ r.2.mem ((c.tc : Thread Cert.SbQkvReferenceIdeal.nD Cert.SbQkvReferenceIdeal.τ).loc Cert.SbQkvReferenceIdeal.main_arg0) = m' ((c.tc : Thread Cert.SbQkvReferenceIdeal.nD Cert.SbQkvReferenceIdeal.τ).loc Cert.SbQkvReferenceIdeal.main_arg0)
          ∧ r.2.mem ((c.tc : Thread Cert.SbQkvReferenceIdeal.nD Cert.SbQkvReferenceIdeal.τ).loc Cert.SbQkvReferenceIdeal.main_arg1) = m' ((c.tc : Thread Cert.SbQkvReferenceIdeal.nD Cert.SbQkvReferenceIdeal.τ).loc Cert.SbQkvReferenceIdeal.main_arg1))

def preserves_GdnZ_GdnZIdeal : Prop :=
  True

def algebraic_GdnZIdeal_GdnZReferenceIdeal [hGdnZIdeal : Cert.GdnZIdeal.Facts] [hGdnZReferenceIdeal : Cert.GdnZReferenceIdeal.Facts] : Prop :=
  ∀ (m : (ℓ : Loc Cert.GdnZIdeal.nD Cert.GdnZIdeal.τ Cert.GdnZIdeal.sig) → Buf (Elt Ideal) ℓ) (g : Dev Cert.GdnZIdeal.nD → PrngReg)
    (m' : (ℓ : Loc Cert.GdnZReferenceIdeal.nD Cert.GdnZReferenceIdeal.τ Cert.GdnZReferenceIdeal.sig) → Buf (Elt Ideal) ℓ) (g' : Dev Cert.GdnZReferenceIdeal.nD → PrngReg), Pre_GdnZIdeal m →
    (∀ c : Dev Cert.GdnZIdeal.nD,
      m' ((c.tc : Thread Cert.GdnZReferenceIdeal.nD Cert.GdnZReferenceIdeal.τ).loc Cert.GdnZReferenceIdeal.main_arg0) = m ((c.tc : Thread Cert.GdnZIdeal.nD Cert.GdnZIdeal.τ).loc Cert.GdnZIdeal.main_arg0)
      ∧ m' ((c.tc : Thread Cert.GdnZReferenceIdeal.nD Cert.GdnZReferenceIdeal.τ).loc Cert.GdnZReferenceIdeal.main_arg1) = m ((c.tc : Thread Cert.GdnZIdeal.nD Cert.GdnZIdeal.τ).loc Cert.GdnZIdeal.main_arg1)) →
    ∃ (v0 : (c : Dev Cert.GdnZIdeal.nD) → Buf (Elt Ideal) ((c.tc : Thread Cert.GdnZIdeal.nD Cert.GdnZIdeal.τ).loc Cert.GdnZIdeal.main_v1)),
      θ_run (Cert.GdnZIdeal.defs (F := Ideal)) (onTc (τ := Cert.GdnZIdeal.τ) (Cert.GdnZIdeal.main (F := Ideal))) ⟨m, fun _ => 0, g⟩ (fun r => ∀ c : Dev Cert.GdnZIdeal.nD,
          r.2.mem ((c.tc : Thread Cert.GdnZIdeal.nD Cert.GdnZIdeal.τ).loc Cert.GdnZIdeal.main_v1) = v0 c
          ∧ r.2.mem ((c.tc : Thread Cert.GdnZIdeal.nD Cert.GdnZIdeal.τ).loc Cert.GdnZIdeal.main_arg0) = m ((c.tc : Thread Cert.GdnZIdeal.nD Cert.GdnZIdeal.τ).loc Cert.GdnZIdeal.main_arg0)
          ∧ r.2.mem ((c.tc : Thread Cert.GdnZIdeal.nD Cert.GdnZIdeal.τ).loc Cert.GdnZIdeal.main_arg1) = m ((c.tc : Thread Cert.GdnZIdeal.nD Cert.GdnZIdeal.τ).loc Cert.GdnZIdeal.main_arg1))
      ∧ θ_run (Cert.GdnZReferenceIdeal.defs (F := Ideal)) (onTc (τ := Cert.GdnZReferenceIdeal.τ) (Cert.GdnZReferenceIdeal.main (F := Ideal))) ⟨m', fun _ => 0, g'⟩ (fun r => ∀ c : Dev Cert.GdnZReferenceIdeal.nD,
          r.2.mem ((c.tc : Thread Cert.GdnZReferenceIdeal.nD Cert.GdnZReferenceIdeal.τ).loc Cert.GdnZReferenceIdeal.main_v5) = v0 c
          ∧ r.2.mem ((c.tc : Thread Cert.GdnZReferenceIdeal.nD Cert.GdnZReferenceIdeal.τ).loc Cert.GdnZReferenceIdeal.main_arg0) = m' ((c.tc : Thread Cert.GdnZReferenceIdeal.nD Cert.GdnZReferenceIdeal.τ).loc Cert.GdnZReferenceIdeal.main_arg0)
          ∧ r.2.mem ((c.tc : Thread Cert.GdnZReferenceIdeal.nD Cert.GdnZReferenceIdeal.τ).loc Cert.GdnZReferenceIdeal.main_arg1) = m' ((c.tc : Thread Cert.GdnZReferenceIdeal.nD Cert.GdnZReferenceIdeal.τ).loc Cert.GdnZReferenceIdeal.main_arg1))

def preserves_LruY_LruYIdeal : Prop :=
  True

def algebraic_LruYIdeal_LruYReferenceIdeal [hLruYIdeal : Cert.LruYIdeal.Facts] [hLruYReferenceIdeal : Cert.LruYReferenceIdeal.Facts] : Prop :=
  ∀ (m : (ℓ : Loc Cert.LruYIdeal.nD Cert.LruYIdeal.τ Cert.LruYIdeal.sig) → Buf (Elt Ideal) ℓ) (g : Dev Cert.LruYIdeal.nD → PrngReg)
    (m' : (ℓ : Loc Cert.LruYReferenceIdeal.nD Cert.LruYReferenceIdeal.τ Cert.LruYReferenceIdeal.sig) → Buf (Elt Ideal) ℓ) (g' : Dev Cert.LruYReferenceIdeal.nD → PrngReg), Pre_LruYIdeal m →
    (∀ c : Dev Cert.LruYIdeal.nD,
      m' ((c.tc : Thread Cert.LruYReferenceIdeal.nD Cert.LruYReferenceIdeal.τ).loc Cert.LruYReferenceIdeal.main_arg0) = m ((c.tc : Thread Cert.LruYIdeal.nD Cert.LruYIdeal.τ).loc Cert.LruYIdeal.main_arg0)
      ∧ m' ((c.tc : Thread Cert.LruYReferenceIdeal.nD Cert.LruYReferenceIdeal.τ).loc Cert.LruYReferenceIdeal.main_arg1) = m ((c.tc : Thread Cert.LruYIdeal.nD Cert.LruYIdeal.τ).loc Cert.LruYIdeal.main_arg1)) →
    ∃ (v0 : (c : Dev Cert.LruYIdeal.nD) → Buf (Elt Ideal) ((c.tc : Thread Cert.LruYIdeal.nD Cert.LruYIdeal.τ).loc Cert.LruYIdeal.main_v1)),
      θ_run (Cert.LruYIdeal.defs (F := Ideal)) (onTc (τ := Cert.LruYIdeal.τ) (Cert.LruYIdeal.main (F := Ideal))) ⟨m, fun _ => 0, g⟩ (fun r => ∀ c : Dev Cert.LruYIdeal.nD,
          r.2.mem ((c.tc : Thread Cert.LruYIdeal.nD Cert.LruYIdeal.τ).loc Cert.LruYIdeal.main_v1) = v0 c
          ∧ r.2.mem ((c.tc : Thread Cert.LruYIdeal.nD Cert.LruYIdeal.τ).loc Cert.LruYIdeal.main_arg0) = m ((c.tc : Thread Cert.LruYIdeal.nD Cert.LruYIdeal.τ).loc Cert.LruYIdeal.main_arg0)
          ∧ r.2.mem ((c.tc : Thread Cert.LruYIdeal.nD Cert.LruYIdeal.τ).loc Cert.LruYIdeal.main_arg1) = m ((c.tc : Thread Cert.LruYIdeal.nD Cert.LruYIdeal.τ).loc Cert.LruYIdeal.main_arg1))
      ∧ θ_run (Cert.LruYReferenceIdeal.defs (F := Ideal)) (onTc (τ := Cert.LruYReferenceIdeal.τ) (Cert.LruYReferenceIdeal.main (F := Ideal))) ⟨m', fun _ => 0, g'⟩ (fun r => ∀ c : Dev Cert.LruYReferenceIdeal.nD,
          r.2.mem ((c.tc : Thread Cert.LruYReferenceIdeal.nD Cert.LruYReferenceIdeal.τ).loc Cert.LruYReferenceIdeal.main_v17) = v0 c
          ∧ r.2.mem ((c.tc : Thread Cert.LruYReferenceIdeal.nD Cert.LruYReferenceIdeal.τ).loc Cert.LruYReferenceIdeal.main_arg0) = m' ((c.tc : Thread Cert.LruYReferenceIdeal.nD Cert.LruYReferenceIdeal.τ).loc Cert.LruYReferenceIdeal.main_arg0)
          ∧ r.2.mem ((c.tc : Thread Cert.LruYReferenceIdeal.nD Cert.LruYReferenceIdeal.τ).loc Cert.LruYReferenceIdeal.main_arg1) = m' ((c.tc : Thread Cert.LruYReferenceIdeal.nD Cert.LruYReferenceIdeal.τ).loc Cert.LruYReferenceIdeal.main_arg1))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)
      ∧ m' ((c.tc : Thread Cert.FfnUpReferenceIdeal.nD Cert.FfnUpReferenceIdeal.τ).loc Cert.FfnUpReferenceIdeal.main_arg2) = m ((c.tc : Thread Cert.FfnUpIdeal.nD Cert.FfnUpIdeal.τ).loc Cert.FfnUpIdeal.main_arg2)
      ∧ m' ((c.tc : Thread Cert.FfnUpReferenceIdeal.nD Cert.FfnUpReferenceIdeal.τ).loc Cert.FfnUpReferenceIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v1) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v41) = v0 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2)
          ∧ r.2.mem ((c.tc : Thread Cert.FfnUpReferenceIdeal.nD Cert.FfnUpReferenceIdeal.τ).loc Cert.FfnUpReferenceIdeal.main_arg3) = m' ((c.tc : Thread Cert.FfnUpReferenceIdeal.nD Cert.FfnUpReferenceIdeal.τ).loc Cert.FfnUpReferenceIdeal.main_arg3))

def preserves_GdnQkv_GdnQkvIdeal : Prop :=
  True

def algebraic_GdnQkvIdeal_GdnQkvReferenceIdeal [hGdnQkvIdeal : Cert.GdnQkvIdeal.Facts] [hGdnQkvReferenceIdeal : Cert.GdnQkvReferenceIdeal.Facts] : Prop :=
  ∀ (m : (ℓ : Loc Cert.GdnQkvIdeal.nD Cert.GdnQkvIdeal.τ Cert.GdnQkvIdeal.sig) → Buf (Elt Ideal) ℓ) (g : Dev Cert.GdnQkvIdeal.nD → PrngReg)
    (m' : (ℓ : Loc Cert.GdnQkvReferenceIdeal.nD Cert.GdnQkvReferenceIdeal.τ Cert.GdnQkvReferenceIdeal.sig) → Buf (Elt Ideal) ℓ) (g' : Dev Cert.GdnQkvReferenceIdeal.nD → PrngReg), Pre_GdnQkvIdeal m →
    (∀ c : Dev Cert.GdnQkvIdeal.nD,
      m' ((c.tc : Thread Cert.GdnQkvReferenceIdeal.nD Cert.GdnQkvReferenceIdeal.τ).loc Cert.GdnQkvReferenceIdeal.main_arg0) = m ((c.tc : Thread Cert.GdnQkvIdeal.nD Cert.GdnQkvIdeal.τ).loc Cert.GdnQkvIdeal.main_arg0)
      ∧ m' ((c.tc : Thread Cert.GdnQkvReferenceIdeal.nD Cert.GdnQkvReferenceIdeal.τ).loc Cert.GdnQkvReferenceIdeal.main_arg1) = m ((c.tc : Thread Cert.GdnQkvIdeal.nD Cert.GdnQkvIdeal.τ).loc Cert.GdnQkvIdeal.main_arg1)
      ∧ m' ((c.tc : Thread Cert.GdnQkvReferenceIdeal.nD Cert.GdnQkvReferenceIdeal.τ).loc Cert.GdnQkvReferenceIdeal.main_arg2) = m ((c.tc : Thread Cert.GdnQkvIdeal.nD Cert.GdnQkvIdeal.τ).loc Cert.GdnQkvIdeal.main_arg2)) →
    ∃ (v0 : (c : Dev Cert.GdnQkvIdeal.nD) → Buf (Elt Ideal) ((c.tc : Thread Cert.GdnQkvIdeal.nD Cert.GdnQkvIdeal.τ).loc Cert.GdnQkvIdeal.main_v1)),
      θ_run (Cert.GdnQkvIdeal.defs (F := Ideal)) (onTc (τ := Cert.GdnQkvIdeal.τ) (Cert.GdnQkvIdeal.main (F := Ideal))) ⟨m, fun _ => 0, g⟩ (fun r => ∀ c : Dev Cert.GdnQkvIdeal.nD,
          r.2.mem ((c.tc : Thread Cert.GdnQkvIdeal.nD Cert.GdnQkvIdeal.τ).loc Cert.GdnQkvIdeal.main_v1) = v0 c
          ∧ r.2.mem ((c.tc : Thread Cert.GdnQkvIdeal.nD Cert.GdnQkvIdeal.τ).loc Cert.GdnQkvIdeal.main_arg0) = m ((c.tc : Thread Cert.GdnQkvIdeal.nD Cert.GdnQkvIdeal.τ).loc Cert.GdnQkvIdeal.main_arg0)
          ∧ r.2.mem ((c.tc : Thread Cert.GdnQkvIdeal.nD Cert.GdnQkvIdeal.τ).loc Cert.GdnQkvIdeal.main_arg1) = m ((c.tc : Thread Cert.GdnQkvIdeal.nD Cert.GdnQkvIdeal.τ).loc Cert.GdnQkvIdeal.main_arg1)
          ∧ r.2.mem ((c.tc : Thread Cert.GdnQkvIdeal.nD Cert.GdnQkvIdeal.τ).loc Cert.GdnQkvIdeal.main_arg2) = m ((c.tc : Thread Cert.GdnQkvIdeal.nD Cert.GdnQkvIdeal.τ).loc Cert.GdnQkvIdeal.main_arg2))
      ∧ θ_run (Cert.GdnQkvReferenceIdeal.defs (F := Ideal)) (onTc (τ := Cert.GdnQkvReferenceIdeal.τ) (Cert.GdnQkvReferenceIdeal.main (F := Ideal))) ⟨m', fun _ => 0, g'⟩ (fun r => ∀ c : Dev Cert.GdnQkvReferenceIdeal.nD,
          r.2.mem ((c.tc : Thread Cert.GdnQkvReferenceIdeal.nD Cert.GdnQkvReferenceIdeal.τ).loc Cert.GdnQkvReferenceIdeal.main_v39) = v0 c
          ∧ r.2.mem ((c.tc : Thread Cert.GdnQkvReferenceIdeal.nD Cert.GdnQkvReferenceIdeal.τ).loc Cert.GdnQkvReferenceIdeal.main_arg0) = m' ((c.tc : Thread Cert.GdnQkvReferenceIdeal.nD Cert.GdnQkvReferenceIdeal.τ).loc Cert.GdnQkvReferenceIdeal.main_arg0)
          ∧ r.2.mem ((c.tc : Thread Cert.GdnQkvReferenceIdeal.nD Cert.GdnQkvReferenceIdeal.τ).loc Cert.GdnQkvReferenceIdeal.main_arg1) = m' ((c.tc : Thread Cert.GdnQkvReferenceIdeal.nD Cert.GdnQkvReferenceIdeal.τ).loc Cert.GdnQkvReferenceIdeal.main_arg1)
          ∧ r.2.mem ((c.tc : Thread Cert.GdnQkvReferenceIdeal.nD Cert.GdnQkvReferenceIdeal.τ).loc Cert.GdnQkvReferenceIdeal.main_arg2) = m' ((c.tc : Thread Cert.GdnQkvReferenceIdeal.nD Cert.GdnQkvReferenceIdeal.τ).loc Cert.GdnQkvReferenceIdeal.main_arg2))

def preserves_LruX_LruXIdeal : Prop :=
  True

def algebraic_LruXIdeal_LruXReferenceIdeal [hLruXIdeal : Cert.LruXIdeal.Facts] [hLruXReferenceIdeal : Cert.LruXReferenceIdeal.Facts] : Prop :=
  ∀ (m : (ℓ : Loc Cert.LruXIdeal.nD Cert.LruXIdeal.τ Cert.LruXIdeal.sig) → Buf (Elt Ideal) ℓ) (g : Dev Cert.LruXIdeal.nD → PrngReg)
    (m' : (ℓ : Loc Cert.LruXReferenceIdeal.nD Cert.LruXReferenceIdeal.τ Cert.LruXReferenceIdeal.sig) → Buf (Elt Ideal) ℓ) (g' : Dev Cert.LruXReferenceIdeal.nD → PrngReg), Pre_LruXIdeal m →
    (∀ c : Dev Cert.LruXIdeal.nD,
      m' ((c.tc : Thread Cert.LruXReferenceIdeal.nD Cert.LruXReferenceIdeal.τ).loc Cert.LruXReferenceIdeal.main_arg0) = m ((c.tc : Thread Cert.LruXIdeal.nD Cert.LruXIdeal.τ).loc Cert.LruXIdeal.main_arg0)
      ∧ m' ((c.tc : Thread Cert.LruXReferenceIdeal.nD Cert.LruXReferenceIdeal.τ).loc Cert.LruXReferenceIdeal.main_arg1) = m ((c.tc : Thread Cert.LruXIdeal.nD Cert.LruXIdeal.τ).loc Cert.LruXIdeal.main_arg1)
      ∧ m' ((c.tc : Thread Cert.LruXReferenceIdeal.nD Cert.LruXReferenceIdeal.τ).loc Cert.LruXReferenceIdeal.main_arg2) = m ((c.tc : Thread Cert.LruXIdeal.nD Cert.LruXIdeal.τ).loc Cert.LruXIdeal.main_arg2)
      ∧ m' ((c.tc : Thread Cert.LruXReferenceIdeal.nD Cert.LruXReferenceIdeal.τ).loc Cert.LruXReferenceIdeal.main_arg3) = m ((c.tc : Thread Cert.LruXIdeal.nD Cert.LruXIdeal.τ).loc Cert.LruXIdeal.main_arg3)) →
    ∃ (v0 : (c : Dev Cert.LruXIdeal.nD) → Buf (Elt Ideal) ((c.tc : Thread Cert.LruXIdeal.nD Cert.LruXIdeal.τ).loc Cert.LruXIdeal.main_v2)),
      θ_run (Cert.LruXIdeal.defs (F := Ideal)) (onTc (τ := Cert.LruXIdeal.τ) (Cert.LruXIdeal.main (F := Ideal))) ⟨m, fun _ => 0, g⟩ (fun r => ∀ c : Dev Cert.LruXIdeal.nD,
          r.2.mem ((c.tc : Thread Cert.LruXIdeal.nD Cert.LruXIdeal.τ).loc Cert.LruXIdeal.main_v2) = v0 c
          ∧ r.2.mem ((c.tc : Thread Cert.LruXIdeal.nD Cert.LruXIdeal.τ).loc Cert.LruXIdeal.main_arg0) = m ((c.tc : Thread Cert.LruXIdeal.nD Cert.LruXIdeal.τ).loc Cert.LruXIdeal.main_arg0)
          ∧ r.2.mem ((c.tc : Thread Cert.LruXIdeal.nD Cert.LruXIdeal.τ).loc Cert.LruXIdeal.main_arg1) = m ((c.tc : Thread Cert.LruXIdeal.nD Cert.LruXIdeal.τ).loc Cert.LruXIdeal.main_arg1)
          ∧ r.2.mem ((c.tc : Thread Cert.LruXIdeal.nD Cert.LruXIdeal.τ).loc Cert.LruXIdeal.main_arg2) = m ((c.tc : Thread Cert.LruXIdeal.nD Cert.LruXIdeal.τ).loc Cert.LruXIdeal.main_arg2)
          ∧ r.2.mem ((c.tc : Thread Cert.LruXIdeal.nD Cert.LruXIdeal.τ).loc Cert.LruXIdeal.main_arg3) = m ((c.tc : Thread Cert.LruXIdeal.nD Cert.LruXIdeal.τ).loc Cert.LruXIdeal.main_arg3))
      ∧ θ_run (Cert.LruXReferenceIdeal.defs (F := Ideal)) (onTc (τ := Cert.LruXReferenceIdeal.τ) (Cert.LruXReferenceIdeal.main (F := Ideal))) ⟨m', fun _ => 0, g'⟩ (fun r => ∀ c : Dev Cert.LruXReferenceIdeal.nD,
          r.2.mem ((c.tc : Thread Cert.LruXReferenceIdeal.nD Cert.LruXReferenceIdeal.τ).loc Cert.LruXReferenceIdeal.main_v39) = v0 c
          ∧ r.2.mem ((c.tc : Thread Cert.LruXReferenceIdeal.nD Cert.LruXReferenceIdeal.τ).loc Cert.LruXReferenceIdeal.main_arg0) = m' ((c.tc : Thread Cert.LruXReferenceIdeal.nD Cert.LruXReferenceIdeal.τ).loc Cert.LruXReferenceIdeal.main_arg0)
          ∧ r.2.mem ((c.tc : Thread Cert.LruXReferenceIdeal.nD Cert.LruXReferenceIdeal.τ).loc Cert.LruXReferenceIdeal.main_arg1) = m' ((c.tc : Thread Cert.LruXReferenceIdeal.nD Cert.LruXReferenceIdeal.τ).loc Cert.LruXReferenceIdeal.main_arg1)
          ∧ r.2.mem ((c.tc : Thread Cert.LruXReferenceIdeal.nD Cert.LruXReferenceIdeal.τ).loc Cert.LruXReferenceIdeal.main_arg2) = m' ((c.tc : Thread Cert.LruXReferenceIdeal.nD Cert.LruXReferenceIdeal.τ).loc Cert.LruXReferenceIdeal.main_arg2)
          ∧ r.2.mem ((c.tc : Thread Cert.LruXReferenceIdeal.nD Cert.LruXReferenceIdeal.τ).loc Cert.LruXReferenceIdeal.main_arg3) = m' ((c.tc : Thread Cert.LruXReferenceIdeal.nD Cert.LruXReferenceIdeal.τ).loc Cert.LruXReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v23) = v0 c
          ∧ r.2.mem ((c.tc : Thread Cert.NormReferenceIdeal.nD Cert.NormReferenceIdeal.τ).loc Cert.NormReferenceIdeal.main_v24) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def preserves_Pair_PairIdeal : Prop :=
  True

def algebraic_PairIdeal_PairReferenceIdeal [hPairIdeal : Cert.PairIdeal.Facts] [hPairReferenceIdeal : Cert.PairReferenceIdeal.Facts] : Prop :=
  ∀ (m : (ℓ : Loc Cert.PairIdeal.nD Cert.PairIdeal.τ Cert.PairIdeal.sig) → Buf (Elt Ideal) ℓ) (g : Dev Cert.PairIdeal.nD → PrngReg)
    (m' : (ℓ : Loc Cert.PairReferenceIdeal.nD Cert.PairReferenceIdeal.τ Cert.PairReferenceIdeal.sig) → Buf (Elt Ideal) ℓ) (g' : Dev Cert.PairReferenceIdeal.nD → PrngReg), Pre_PairIdeal m →
    (∀ c : Dev Cert.PairIdeal.nD,
      m' ((c.tc : Thread Cert.PairReferenceIdeal.nD Cert.PairReferenceIdeal.τ).loc Cert.PairReferenceIdeal.main_arg0) = m ((c.tc : Thread Cert.PairIdeal.nD Cert.PairIdeal.τ).loc Cert.PairIdeal.main_arg0)) →
    ∃ (v0 : (c : Dev Cert.PairIdeal.nD) → Buf (Elt Ideal) ((c.tc : Thread Cert.PairIdeal.nD Cert.PairIdeal.τ).loc Cert.PairIdeal.main_v0)),
      θ_run (Cert.PairIdeal.defs (F := Ideal)) (onTc (τ := Cert.PairIdeal.τ) (Cert.PairIdeal.main (F := Ideal))) ⟨m, fun _ => 0, g⟩ (fun r => ∀ c : Dev Cert.PairIdeal.nD,
          r.2.mem ((c.tc : Thread Cert.PairIdeal.nD Cert.PairIdeal.τ).loc Cert.PairIdeal.main_v0) = v0 c
          ∧ r.2.mem ((c.tc : Thread Cert.PairIdeal.nD Cert.PairIdeal.τ).loc Cert.PairIdeal.main_arg0) = m ((c.tc : Thread Cert.PairIdeal.nD Cert.PairIdeal.τ).loc Cert.PairIdeal.main_arg0))
      ∧ θ_run (Cert.PairReferenceIdeal.defs (F := Ideal)) (onTc (τ := Cert.PairReferenceIdeal.τ) (Cert.PairReferenceIdeal.main (F := Ideal))) ⟨m', fun _ => 0, g'⟩ (fun r => ∀ c : Dev Cert.PairReferenceIdeal.nD,
          r.2.mem ((c.tc : Thread Cert.PairReferenceIdeal.nD Cert.PairReferenceIdeal.τ).loc Cert.PairReferenceIdeal.main_v8) = v0 c
          ∧ r.2.mem ((c.tc : Thread Cert.PairReferenceIdeal.nD Cert.PairReferenceIdeal.τ).loc Cert.PairReferenceIdeal.main_arg0) = m' ((c.tc : Thread Cert.PairReferenceIdeal.nD Cert.PairReferenceIdeal.τ).loc Cert.PairReferenceIdeal.main_arg0))

def preserves_GdnGates_GdnGatesIdeal : Prop :=
  True

def algebraic_GdnGatesIdeal_GdnGatesReferenceIdeal [hGdnGatesIdeal : Cert.GdnGatesIdeal.Facts] [hGdnGatesReferenceIdeal : Cert.GdnGatesReferenceIdeal.Facts] : Prop :=
  ∀ (m : (ℓ : Loc Cert.GdnGatesIdeal.nD Cert.GdnGatesIdeal.τ Cert.GdnGatesIdeal.sig) → Buf (Elt Ideal) ℓ) (g : Dev Cert.GdnGatesIdeal.nD → PrngReg)
    (m' : (ℓ : Loc Cert.GdnGatesReferenceIdeal.nD Cert.GdnGatesReferenceIdeal.τ Cert.GdnGatesReferenceIdeal.sig) → Buf (Elt Ideal) ℓ) (g' : Dev Cert.GdnGatesReferenceIdeal.nD → PrngReg), Pre_GdnGatesIdeal m →
    (∀ c : Dev Cert.GdnGatesIdeal.nD,
      m' ((c.tc : Thread Cert.GdnGatesReferenceIdeal.nD Cert.GdnGatesReferenceIdeal.τ).loc Cert.GdnGatesReferenceIdeal.main_arg0) = m ((c.tc : Thread Cert.GdnGatesIdeal.nD Cert.GdnGatesIdeal.τ).loc Cert.GdnGatesIdeal.main_arg0)
      ∧ m' ((c.tc : Thread Cert.GdnGatesReferenceIdeal.nD Cert.GdnGatesReferenceIdeal.τ).loc Cert.GdnGatesReferenceIdeal.main_arg1) = m ((c.tc : Thread Cert.GdnGatesIdeal.nD Cert.GdnGatesIdeal.τ).loc Cert.GdnGatesIdeal.main_arg1)
      ∧ m' ((c.tc : Thread Cert.GdnGatesReferenceIdeal.nD Cert.GdnGatesReferenceIdeal.τ).loc Cert.GdnGatesReferenceIdeal.main_arg2) = m ((c.tc : Thread Cert.GdnGatesIdeal.nD Cert.GdnGatesIdeal.τ).loc Cert.GdnGatesIdeal.main_arg2)
      ∧ m' ((c.tc : Thread Cert.GdnGatesReferenceIdeal.nD Cert.GdnGatesReferenceIdeal.τ).loc Cert.GdnGatesReferenceIdeal.main_arg3) = m ((c.tc : Thread Cert.GdnGatesIdeal.nD Cert.GdnGatesIdeal.τ).loc Cert.GdnGatesIdeal.main_arg3)) →
    ∃ (v0 : (c : Dev Cert.GdnGatesIdeal.nD) → Buf (Elt Ideal) ((c.tc : Thread Cert.GdnGatesIdeal.nD Cert.GdnGatesIdeal.τ).loc Cert.GdnGatesIdeal.main_v9)) (v1 : (c : Dev Cert.GdnGatesIdeal.nD) → Buf (Elt Ideal) ((c.tc : Thread Cert.GdnGatesIdeal.nD Cert.GdnGatesIdeal.τ).loc Cert.GdnGatesIdeal.main_v10)),
      θ_run (Cert.GdnGatesIdeal.defs (F := Ideal)) (onTc (τ := Cert.GdnGatesIdeal.τ) (Cert.GdnGatesIdeal.main (F := Ideal))) ⟨m, fun _ => 0, g⟩ (fun r => ∀ c : Dev Cert.GdnGatesIdeal.nD,
          r.2.mem ((c.tc : Thread Cert.GdnGatesIdeal.nD Cert.GdnGatesIdeal.τ).loc Cert.GdnGatesIdeal.main_v9) = v0 c
          ∧ r.2.mem ((c.tc : Thread Cert.GdnGatesIdeal.nD Cert.GdnGatesIdeal.τ).loc Cert.GdnGatesIdeal.main_v10) = v1 c
          ∧ r.2.mem ((c.tc : Thread Cert.GdnGatesIdeal.nD Cert.GdnGatesIdeal.τ).loc Cert.GdnGatesIdeal.main_arg0) = m ((c.tc : Thread Cert.GdnGatesIdeal.nD Cert.GdnGatesIdeal.τ).loc Cert.GdnGatesIdeal.main_arg0)
          ∧ r.2.mem ((c.tc : Thread Cert.GdnGatesIdeal.nD Cert.GdnGatesIdeal.τ).loc Cert.GdnGatesIdeal.main_arg1) = m ((c.tc : Thread Cert.GdnGatesIdeal.nD Cert.GdnGatesIdeal.τ).loc Cert.GdnGatesIdeal.main_arg1)
          ∧ r.2.mem ((c.tc : Thread Cert.GdnGatesIdeal.nD Cert.GdnGatesIdeal.τ).loc Cert.GdnGatesIdeal.main_arg2) = m ((c.tc : Thread Cert.GdnGatesIdeal.nD Cert.GdnGatesIdeal.τ).loc Cert.GdnGatesIdeal.main_arg2)
          ∧ r.2.mem ((c.tc : Thread Cert.GdnGatesIdeal.nD Cert.GdnGatesIdeal.τ).loc Cert.GdnGatesIdeal.main_arg3) = m ((c.tc : Thread Cert.GdnGatesIdeal.nD Cert.GdnGatesIdeal.τ).loc Cert.GdnGatesIdeal.main_arg3))
      ∧ θ_run (Cert.GdnGatesReferenceIdeal.defs (F := Ideal)) (onTc (τ := Cert.GdnGatesReferenceIdeal.τ) (Cert.GdnGatesReferenceIdeal.main (F := Ideal))) ⟨m', fun _ => 0, g'⟩ (fun r => ∀ c : Dev Cert.GdnGatesReferenceIdeal.nD,
          r.2.mem ((c.tc : Thread Cert.GdnGatesReferenceIdeal.nD Cert.GdnGatesReferenceIdeal.τ).loc Cert.GdnGatesReferenceIdeal.main_v34) = v0 c
          ∧ r.2.mem ((c.tc : Thread Cert.GdnGatesReferenceIdeal.nD Cert.GdnGatesReferenceIdeal.τ).loc Cert.GdnGatesReferenceIdeal.main_v27) = v1 c
          ∧ r.2.mem ((c.tc : Thread Cert.GdnGatesReferenceIdeal.nD Cert.GdnGatesReferenceIdeal.τ).loc Cert.GdnGatesReferenceIdeal.main_arg0) = m' ((c.tc : Thread Cert.GdnGatesReferenceIdeal.nD Cert.GdnGatesReferenceIdeal.τ).loc Cert.GdnGatesReferenceIdeal.main_arg0)
          ∧ r.2.mem ((c.tc : Thread Cert.GdnGatesReferenceIdeal.nD Cert.GdnGatesReferenceIdeal.τ).loc Cert.GdnGatesReferenceIdeal.main_arg1) = m' ((c.tc : Thread Cert.GdnGatesReferenceIdeal.nD Cert.GdnGatesReferenceIdeal.τ).loc Cert.GdnGatesReferenceIdeal.main_arg1)
          ∧ r.2.mem ((c.tc : Thread Cert.GdnGatesReferenceIdeal.nD Cert.GdnGatesReferenceIdeal.τ).loc Cert.GdnGatesReferenceIdeal.main_arg2) = m' ((c.tc : Thread Cert.GdnGatesReferenceIdeal.nD Cert.GdnGatesReferenceIdeal.τ).loc Cert.GdnGatesReferenceIdeal.main_arg2)
          ∧ r.2.mem ((c.tc : Thread Cert.GdnGatesReferenceIdeal.nD Cert.GdnGatesReferenceIdeal.τ).loc Cert.GdnGatesReferenceIdeal.main_arg3) = m' ((c.tc : Thread Cert.GdnGatesReferenceIdeal.nD Cert.GdnGatesReferenceIdeal.τ).loc Cert.GdnGatesReferenceIdeal.main_arg3))

def preserves_Lru_LruIdeal : Prop :=
  True

def algebraic_LruIdeal_LruReferenceIdeal [hLruIdeal : Cert.LruIdeal.Facts] [hLruReferenceIdeal : Cert.LruReferenceIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruReferenceIdeal.nD Cert.LruReferenceIdeal.τ Cert.LruReferenceIdeal.sig) → Buf (Elt Ideal) ℓ) (g' : Dev Cert.LruReferenceIdeal.nD → PrngReg), Pre_LruIdeal m →
    (∀ c : Dev Cert.LruIdeal.nD,
      m' ((c.tc : Thread Cert.LruReferenceIdeal.nD Cert.LruReferenceIdeal.τ).loc Cert.LruReferenceIdeal.main_arg0) = m ((c.tc : Thread Cert.LruIdeal.nD Cert.LruIdeal.τ).loc Cert.LruIdeal.main_arg0)
      ∧ m' ((c.tc : Thread Cert.LruReferenceIdeal.nD Cert.LruReferenceIdeal.τ).loc Cert.LruReferenceIdeal.main_arg1) = m ((c.tc : Thread Cert.LruIdeal.nD Cert.LruIdeal.τ).loc Cert.LruIdeal.main_arg1)
      ∧ m' ((c.tc : Thread Cert.LruReferenceIdeal.nD Cert.LruReferenceIdeal.τ).loc Cert.LruReferenceIdeal.main_arg2) = m ((c.tc : Thread Cert.LruIdeal.nD Cert.LruIdeal.τ).loc Cert.LruIdeal.main_arg2)
      ∧ m' ((c.tc : Thread Cert.LruReferenceIdeal.nD Cert.LruReferenceIdeal.τ).loc Cert.LruReferenceIdeal.main_arg3) = m ((c.tc : Thread Cert.LruIdeal.nD Cert.LruIdeal.τ).loc Cert.LruIdeal.main_arg3)
      ∧ m' ((c.tc : Thread Cert.LruReferenceIdeal.nD Cert.LruReferenceIdeal.τ).loc Cert.LruReferenceIdeal.main_arg4) = m ((c.tc : Thread Cert.LruIdeal.nD Cert.LruIdeal.τ).loc Cert.LruIdeal.main_arg4)
      ∧ m' ((c.tc : Thread Cert.LruReferenceIdeal.nD Cert.LruReferenceIdeal.τ).loc Cert.LruReferenceIdeal.main_arg5) = m ((c.tc : Thread Cert.LruIdeal.nD Cert.LruIdeal.τ).loc Cert.LruIdeal.main_arg5)
      ∧ m' ((c.tc : Thread Cert.LruReferenceIdeal.nD Cert.LruReferenceIdeal.τ).loc Cert.LruReferenceIdeal.main_arg6) = m ((c.tc : Thread Cert.LruIdeal.nD Cert.LruIdeal.τ).loc Cert.LruIdeal.main_arg6)) →
    ∃ (v0 : (c : Dev Cert.LruIdeal.nD) → Buf (Elt Ideal) ((c.tc : Thread Cert.LruIdeal.nD Cert.LruIdeal.τ).loc Cert.LruIdeal.main_v5)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v5) = v0 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6))
      ∧ θ_run (Cert.LruReferenceIdeal.defs (F := Ideal)) (onTc (τ := Cert.LruReferenceIdeal.τ) (Cert.LruReferenceIdeal.main (F := Ideal))) ⟨m', fun _ => 0, g'⟩ (fun r => ∀ c : Dev Cert.LruReferenceIdeal.nD,
          r.2.mem ((c.tc : Thread Cert.LruReferenceIdeal.nD Cert.LruReferenceIdeal.τ).loc Cert.LruReferenceIdeal.main_v49) = v0 c
          ∧ r.2.mem ((c.tc : Thread Cert.LruReferenceIdeal.nD Cert.LruReferenceIdeal.τ).loc Cert.LruReferenceIdeal.main_arg0) = m' ((c.tc : Thread Cert.LruReferenceIdeal.nD Cert.LruReferenceIdeal.τ).loc Cert.LruReferenceIdeal.main_arg0)
          ∧ r.2.mem ((c.tc : Thread Cert.LruReferenceIdeal.nD Cert.LruReferenceIdeal.τ).loc Cert.LruReferenceIdeal.main_arg1) = m' ((c.tc : Thread Cert.LruReferenceIdeal.nD Cert.LruReferenceIdeal.τ).loc Cert.LruReferenceIdeal.main_arg1)
          ∧ r.2.mem ((c.tc : Thread Cert.LruReferenceIdeal.nD Cert.LruReferenceIdeal.τ).loc Cert.LruReferenceIdeal.main_arg2) = m' ((c.tc : Thread Cert.LruReferenceIdeal.nD Cert.LruReferenceIdeal.τ).loc Cert.LruReferenceIdeal.main_arg2)
          ∧ r.2.mem ((c.tc : Thread Cert.LruReferenceIdeal.nD Cert.LruReferenceIdeal.τ).loc Cert.LruReferenceIdeal.main_arg3) = m' ((c.tc : Thread Cert.LruReferenceIdeal.nD Cert.LruReferenceIdeal.τ).loc Cert.LruReferenceIdeal.main_arg3)
          ∧ r.2.mem ((c.tc : Thread Cert.LruReferenceIdeal.nD Cert.LruReferenceIdeal.τ).loc Cert.LruReferenceIdeal.main_arg4) = m' ((c.tc : Thread Cert.LruReferenceIdeal.nD Cert.LruReferenceIdeal.τ).loc Cert.LruReferenceIdeal.main_arg4)
          ∧ r.2.mem ((c.tc : Thread Cert.LruReferenceIdeal.nD Cert.LruReferenceIdeal.τ).loc Cert.LruReferenceIdeal.main_arg5) = m' ((c.tc : Thread Cert.LruReferenceIdeal.nD Cert.LruReferenceIdeal.τ).loc Cert.LruReferenceIdeal.main_arg5)
          ∧ r.2.mem ((c.tc : Thread Cert.LruReferenceIdeal.nD Cert.LruReferenceIdeal.τ).loc Cert.LruReferenceIdeal.main_arg6) = m' ((c.tc : Thread Cert.LruReferenceIdeal.nD Cert.LruReferenceIdeal.τ).loc Cert.LruReferenceIdeal.main_arg6))

def Claim : Prop :=
  ∃ (hKernel : Cert.Kernel.Facts) (hKernelIdeal : Cert.KernelIdeal.Facts) (hReferenceIdeal : Cert.ReferenceIdeal.Facts) (hFfnDown : Cert.FfnDown.Facts) (hFfnDownIdeal : Cert.FfnDownIdeal.Facts) (hFfnDownReferenceIdeal : Cert.FfnDownReferenceIdeal.Facts) (hMixerOut : Cert.MixerOut.Facts) (hMixerOutIdeal : Cert.MixerOutIdeal.Facts) (hMixerOutReferenceIdeal : Cert.MixerOutReferenceIdeal.Facts) (hSbQkv : Cert.SbQkv.Facts) (hSbQkvIdeal : Cert.SbQkvIdeal.Facts) (hSbQkvReferenceIdeal : Cert.SbQkvReferenceIdeal.Facts) (hGdnZ : Cert.GdnZ.Facts) (hGdnZIdeal : Cert.GdnZIdeal.Facts) (hGdnZReferenceIdeal : Cert.GdnZReferenceIdeal.Facts) (hLruY : Cert.LruY.Facts) (hLruYIdeal : Cert.LruYIdeal.Facts) (hLruYReferenceIdeal : Cert.LruYReferenceIdeal.Facts) (hFfnUp : Cert.FfnUp.Facts) (hFfnUpIdeal : Cert.FfnUpIdeal.Facts) (hFfnUpReferenceIdeal : Cert.FfnUpReferenceIdeal.Facts) (hGdnQkv : Cert.GdnQkv.Facts) (hGdnQkvIdeal : Cert.GdnQkvIdeal.Facts) (hGdnQkvReferenceIdeal : Cert.GdnQkvReferenceIdeal.Facts) (hLruX : Cert.LruX.Facts) (hLruXIdeal : Cert.LruXIdeal.Facts) (hLruXReferenceIdeal : Cert.LruXReferenceIdeal.Facts) (hNorm : Cert.Norm.Facts) (hNormIdeal : Cert.NormIdeal.Facts) (hNormReferenceIdeal : Cert.NormReferenceIdeal.Facts) (hPair : Cert.Pair.Facts) (hPairIdeal : Cert.PairIdeal.Facts) (hPairReferenceIdeal : Cert.PairReferenceIdeal.Facts) (hGdnGates : Cert.GdnGates.Facts) (hGdnGatesIdeal : Cert.GdnGatesIdeal.Facts) (hGdnGatesReferenceIdeal : Cert.GdnGatesReferenceIdeal.Facts) (hLru : Cert.Lru.Facts) (hLruIdeal : Cert.LruIdeal.Facts) (hLruReferenceIdeal : Cert.LruReferenceIdeal.Facts),
    quiescent_Kernel (hKernel := hKernel)
    ∧ quiescent_KernelIdeal (hKernelIdeal := hKernelIdeal)
    ∧ quiescent_ReferenceIdeal (hReferenceIdeal := hReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_MixerOut (hMixerOut := hMixerOut)
    ∧ quiescent_MixerOutIdeal (hMixerOutIdeal := hMixerOutIdeal)
    ∧ quiescent_MixerOutReferenceIdeal (hMixerOutReferenceIdeal := hMixerOutReferenceIdeal)
    ∧ quiescent_SbQkv (hSbQkv := hSbQkv)
    ∧ quiescent_SbQkvIdeal (hSbQkvIdeal := hSbQkvIdeal)
    ∧ quiescent_SbQkvReferenceIdeal (hSbQkvReferenceIdeal := hSbQkvReferenceIdeal)
    ∧ quiescent_GdnZ (hGdnZ := hGdnZ)
    ∧ quiescent_GdnZIdeal (hGdnZIdeal := hGdnZIdeal)
    ∧ quiescent_GdnZReferenceIdeal (hGdnZReferenceIdeal := hGdnZReferenceIdeal)
    ∧ quiescent_LruY (hLruY := hLruY)
    ∧ quiescent_LruYIdeal (hLruYIdeal := hLruYIdeal)
    ∧ quiescent_LruYReferenceIdeal (hLruYReferenceIdeal := hLruYReferenceIdeal)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_GdnQkv (hGdnQkv := hGdnQkv)
    ∧ quiescent_GdnQkvIdeal (hGdnQkvIdeal := hGdnQkvIdeal)
    ∧ quiescent_GdnQkvReferenceIdeal (hGdnQkvReferenceIdeal := hGdnQkvReferenceIdeal)
    ∧ quiescent_LruX (hLruX := hLruX)
    ∧ quiescent_LruXIdeal (hLruXIdeal := hLruXIdeal)
    ∧ quiescent_LruXReferenceIdeal (hLruXReferenceIdeal := hLruXReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Pair (hPair := hPair)
    ∧ quiescent_PairIdeal (hPairIdeal := hPairIdeal)
    ∧ quiescent_PairReferenceIdeal (hPairReferenceIdeal := hPairReferenceIdeal)
    ∧ quiescent_GdnGates (hGdnGates := hGdnGates)
    ∧ quiescent_GdnGatesIdeal (hGdnGatesIdeal := hGdnGatesIdeal)
    ∧ quiescent_GdnGatesReferenceIdeal (hGdnGatesReferenceIdeal := hGdnGatesReferenceIdeal)
    ∧ quiescent_Lru (hLru := hLru)
    ∧ quiescent_LruIdeal (hLruIdeal := hLruIdeal)
    ∧ quiescent_LruReferenceIdeal (hLruReferenceIdeal := hLruReferenceIdeal)
    ∧ preserves_Kernel_KernelIdeal
    ∧ algebraic_KernelIdeal_ReferenceIdeal (hKernelIdeal := hKernelIdeal) (hReferenceIdeal := hReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_MixerOut_MixerOutIdeal
    ∧ algebraic_MixerOutIdeal_MixerOutReferenceIdeal (hMixerOutIdeal := hMixerOutIdeal) (hMixerOutReferenceIdeal := hMixerOutReferenceIdeal)
    ∧ preserves_SbQkv_SbQkvIdeal
    ∧ algebraic_SbQkvIdeal_SbQkvReferenceIdeal (hSbQkvIdeal := hSbQkvIdeal) (hSbQkvReferenceIdeal := hSbQkvReferenceIdeal)
    ∧ preserves_GdnZ_GdnZIdeal
    ∧ algebraic_GdnZIdeal_GdnZReferenceIdeal (hGdnZIdeal := hGdnZIdeal) (hGdnZReferenceIdeal := hGdnZReferenceIdeal)
    ∧ preserves_LruY_LruYIdeal
    ∧ algebraic_LruYIdeal_LruYReferenceIdeal (hLruYIdeal := hLruYIdeal) (hLruYReferenceIdeal := hLruYReferenceIdeal)
    ∧ preserves_FfnUp_FfnUpIdeal
    ∧ algebraic_FfnUpIdeal_FfnUpReferenceIdeal (hFfnUpIdeal := hFfnUpIdeal) (hFfnUpReferenceIdeal := hFfnUpReferenceIdeal)
    ∧ preserves_GdnQkv_GdnQkvIdeal
    ∧ algebraic_GdnQkvIdeal_GdnQkvReferenceIdeal (hGdnQkvIdeal := hGdnQkvIdeal) (hGdnQkvReferenceIdeal := hGdnQkvReferenceIdeal)
    ∧ preserves_LruX_LruXIdeal
    ∧ algebraic_LruXIdeal_LruXReferenceIdeal (hLruXIdeal := hLruXIdeal) (hLruXReferenceIdeal := hLruXReferenceIdeal)
    ∧ preserves_Norm_NormIdeal
    ∧ algebraic_NormIdeal_NormReferenceIdeal (hNormIdeal := hNormIdeal) (hNormReferenceIdeal := hNormReferenceIdeal)
    ∧ preserves_Pair_PairIdeal
    ∧ algebraic_PairIdeal_PairReferenceIdeal (hPairIdeal := hPairIdeal) (hPairReferenceIdeal := hPairReferenceIdeal)
    ∧ preserves_GdnGates_GdnGatesIdeal
    ∧ algebraic_GdnGatesIdeal_GdnGatesReferenceIdeal (hGdnGatesIdeal := hGdnGatesIdeal) (hGdnGatesReferenceIdeal := hGdnGatesReferenceIdeal)
    ∧ preserves_Lru_LruIdeal
    ∧ algebraic_LruIdeal_LruReferenceIdeal (hLruIdeal := hLruIdeal) (hLruReferenceIdeal := hLruReferenceIdeal)
-- ==== Kernel.lean ====
abbrev S16384x12288 : Shape := ⟨2, ![16384, 12288]⟩
abbrev S16384x4096 : Shape := ⟨2, ![16384, 4096]⟩
abbrev S256x512 : Shape := ⟨2, ![256, 512]⟩
abbrev S8192x512 : Shape := ⟨2, ![8192, 512]⟩
abbrev S256x128 : Shape := ⟨2, ![256, 128]⟩
abbrev S256x256 : Shape := ⟨2, ![256, 256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S16384x12288, .bf16⟩
  | .hbm, ⟨1, _⟩ => ⟨S16384x4096, .bf16⟩
  | .local _ .vmem, ⟨0, _⟩ => ⟨S256x512, .bf16⟩
  | .local _ .vmem, ⟨1, _⟩ => ⟨S256x512, .bf16⟩
  | .local _ .vmem, ⟨2, _⟩ => ⟨S8192x512, .bf16⟩
  | .local _ .vmem, ⟨3, _⟩ => ⟨S8192x512, .bf16⟩
  | .local _ .vmem, ⟨4, _⟩ => ⟨S8192x512, .bf16⟩
  | .local _ .vmem, ⟨5, _⟩ => ⟨S8192x512, .bf16⟩
  | .local _ .vmem, ⟨6, _⟩ => ⟨S256x512, .bf16⟩
  | .local _ .vmem, ⟨7, _⟩ => ⟨S256x512, .bf16⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 32], ![false, false, false]⟩

def k0_mult1 (i : grid0.Coords) : BitVec 32 :=
  let arg2 : BitVec 32 := BitVec.ofNat 32 (i 2).val
  let c256_i32 : BitVec 32 := 256#32
  let v12 : BitVec 32 := Scalar.muli arg2 c256_i32
  v12
def k0_off1 (i : grid0.Coords) : Fin 2 → Nat :=
  let arg2 : BitVec 32 := BitVec.ofNat 32 (i 2).val
  let c256_i32 : BitVec 32 := 256#32
  let v12 : BitVec 32 := Scalar.muli arg2 c256_i32
  let v13 : BitVec 32 := v12
  let v14 : Index := Scalar.indexCast v13
  let c0_5 : Index := 0#32
  ![v14.toNat, 0]
def k0_off2 (i : grid0.Coords) : Fin 2 → Nat :=
  let arg2 : BitVec 32 := BitVec.ofNat 32 (i 2).val
  let c256_i32 : BitVec 32 := 256#32
  let v12 : BitVec 32 := Scalar.muli arg2 c256_i32
  let v13 : BitVec 32 := v12
  let v17 : Index := Scalar.indexCast v13
  let c128_7 : Index := 128#32
  ![v17.toNat, 128]
def k0_off3 (i : grid0.Coords) : Fin 2 → Nat :=
  let arg2 : BitVec 32 := BitVec.ofNat 32 (i 2).val
  let c256_i32 : BitVec 32 := 256#32
  let v12 : BitVec 32 := Scalar.muli arg2 c256_i32
  let v13 : BitVec 32 := v12
  let v20 : Index := Scalar.indexCast v13
  let c256_9 : Index := 256#32
  ![v20.toNat, 256]
def k0_off4 (i : grid0.Coords) : Fin 2 → Nat :=
  let arg2 : BitVec 32 := BitVec.ofNat 32 (i 2).val
  let c256_i32 : BitVec 32 := 256#32
  let v12 : BitVec 32 := Scalar.muli arg2 c256_i32
  let v13 : BitVec 32 := v12
  let v23 : Index := Scalar.indexCast v13
  let c384_11 : Index := 384#32
  ![v23.toNat, 384]
def k0_mult2 (i : grid0.Coords) : BitVec 32 :=
  let arg2 : BitVec 32 := BitVec.ofNat 32 (i 2).val
  let c256_i32_21 : BitVec 32 := 256#32
  let v34 : BitVec 32 := Scalar.muli arg2 c256_i32_21
  v34
@[reducible] def k0_t1_loop (i : grid0.Coords) : Scf.Loop 32 :=
  let c0_i32 : BitVec 32 := 0#32
  let arg2 : BitVec 32 := BitVec.ofNat 32 (i 2).val
  let v144 : BitVec 32 := Scalar.subi arg2 c0_i32
  let c1_i32 : BitVec 32 := 1#32
  let v146 : BitVec 32 := Scalar.divsi v144 c1_i32
  let v147 : BitVec 32 := Scalar.muli v146 c1_i32
  let v148 : BitVec 32 := Scalar.addi c0_i32 v147
  let c1_i32_54 : BitVec 32 := 1#32
  ⟨c0_i32, v148, c1_i32_54⟩
def k0_mult3 (i : grid0.Coords) (k0_t1 : Fin (k0_t1_loop i).trips) : BitVec 32 :=
  let arg2 : BitVec 32 := BitVec.ofNat 32 (i 2).val
  let c1_i32_64 : BitVec 32 := 1#32
  let v159 : BitVec 32 := Scalar.subi arg2 c1_i32_64
  let c0_i32 : BitVec 32 := 0#32
  let c1_i32_54 : BitVec 32 := 1#32
  let arg7 : BitVec 32 := Scf.iv c0_i32 c1_i32_54 k0_t1
  let v160 : BitVec 32 := Scalar.subi v159 arg7
  let c256_i32_65 : BitVec 32 := 256#32
  let v161 : BitVec 32 := Scalar.muli v160 c256_i32_65
  v161
def k0_off5 (i : grid0.Coords) (k0_t1 : Fin (k0_t1_loop i).trips) : Fin 2 → Nat :=
  let arg2 : BitVec 32 := BitVec.ofNat 32 (i 2).val
  let c1_i32_64 : BitVec 32 := 1#32
  let v159 : BitVec 32 := Scalar.subi arg2 c1_i32_64
  let c0_i32 : BitVec 32 := 0#32
  let c1_i32_54 : BitVec 32 := 1#32
  let arg7 : BitVec 32 := Scf.iv c0_i32 c1_i32_54 k0_t1
  let v160 : BitVec 32 := Scalar.subi v159 arg7
  let c256_i32_65 : BitVec 32 := 256#32
  let v161 : BitVec 32 := Scalar.muli v160 c256_i32_65
  let v162 : BitVec 32 := v161
  let v163 : Index := Scalar.indexCast v162
  let c0_66 : Index := 0#32
  ![v163.toNat, 0]
def k0_off6 (i : grid0.Coords) (k0_t1 : Fin (k0_t1_loop i).trips) : Fin 2 → Nat :=
  let arg2 : BitVec 32 := BitVec.ofNat 32 (i 2).val
  let c1_i32_64 : BitVec 32 := 1#32
  let v159 : BitVec 32 := Scalar.subi arg2 c1_i32_64
  let c0_i32 : BitVec 32 := 0#32
  let c1_i32_54 : BitVec 32 := 1#32
  let arg7 : BitVec 32 := Scf.iv c0_i32 c1_i32_54 k0_t1
  let v160 : BitVec 32 := Scalar.subi v159 arg7
  let c256_i32_65 : BitVec 32 := 256#32
  let v161 : BitVec 32 := Scalar.muli v160 c256_i32_65
  let v162 : BitVec 32 := v161
  let v166 : Index := Scalar.indexCast v162
  let c128_68 : Index := 128#32
  ![v166.toNat, 128]
def k0_off7 (i : grid0.Coords) (k0_t1 : Fin (k0_t1_loop i).trips) : Fin 2 → Nat :=
  let arg2 : BitVec 32 := BitVec.ofNat 32 (i 2).val
  let c1_i32_64 : BitVec 32 := 1#32
  let v159 : BitVec 32 := Scalar.subi arg2 c1_i32_64
  let c0_i32 : BitVec 32 := 0#32
  let c1_i32_54 : BitVec 32 := 1#32
  let arg7 : BitVec 32 := Scf.iv c0_i32 c1_i32_54 k0_t1
  let v160 : BitVec 32 := Scalar.subi v159 arg7
  let c256_i32_65 : BitVec 32 := 256#32
  let v161 : BitVec 32 := Scalar.muli v160 c256_i32_65
  let v162 : BitVec 32 := v161
  let v169 : Index := Scalar.indexCast v162
  let c256_70 : Index := 256#32
  ![v169.toNat, 256]
def k0_off8 (i : grid0.Coords) (k0_t1 : Fin (k0_t1_loop i).trips) : Fin 2 → Nat :=
  let arg2 : BitVec 32 := BitVec.ofNat 32 (i 2).val
  let c1_i32_64 : BitVec 32 := 1#32
  let v159 : BitVec 32 := Scalar.subi arg2 c1_i32_64
  let c0_i32 : BitVec 32 := 0#32
  let c1_i32_54 : BitVec 32 := 1#32
  let arg7 : BitVec 32 := Scf.iv c0_i32 c1_i32_54 k0_t1
  let v160 : BitVec 32 := Scalar.subi v159 arg7
  let c256_i32_65 : BitVec 32 := 256#32
  let v161 : BitVec 32 := Scalar.muli v160 c256_i32_65
  let v162 : BitVec 32 := v161
  let v172 : Index := Scalar.indexCast v162
  let c384_72 : Index := 384#32
  ![v172.toNat, 384]
def k0_mult4 (i : grid0.Coords) (k0_t1 : Fin (k0_t1_loop i).trips) : BitVec 32 :=
  let arg2 : BitVec 32 := BitVec.ofNat 32 (i 2).val
  let c1_i32_64 : BitVec 32 := 1#32
  let v159 : BitVec 32 := Scalar.subi arg2 c1_i32_64
  let c0_i32 : BitVec 32 := 0#32
  let c1_i32_54 : BitVec 32 := 1#32
  let arg7 : BitVec 32 := Scf.iv c0_i32 c1_i32_54 k0_t1
  let v160 : BitVec 32 := Scalar.subi v159 arg7
  let c256_i32_74 : BitVec 32 := 256#32
  let v175 : BitVec 32 := Scalar.muli v160 c256_i32_74
  v175
@[reducible] def k0_t2_loop (i : grid0.Coords) : Scf.Loop 32 :=
  let c0_i32 : BitVec 32 := 0#32
  let arg2 : BitVec 32 := BitVec.ofNat 32 (i 2).val
  let v144 : BitVec 32 := Scalar.subi arg2 c0_i32
  let c1_i32 : BitVec 32 := 1#32
  let v146 : BitVec 32 := Scalar.divsi v144 c1_i32
  let v147 : BitVec 32 := Scalar.muli v146 c1_i32
  let v148 : BitVec 32 := Scalar.addi c0_i32 v147
  let v145 : BitVec 32 := Scalar.addi c0_i32 v144
  let c1_i32_55 : BitVec 32 := 1#32
  ⟨v148, v145, c1_i32_55⟩
def k0_mult5 (i : grid0.Coords) (k0_t2 : Fin (k0_t2_loop i).trips) : BitVec 32 :=
  let arg2 : BitVec 32 := BitVec.ofNat 32 (i 2).val
  let c1_i32_64 : BitVec 32 := 1#32
  let v159 : BitVec 32 := Scalar.subi arg2 c1_i32_64
  let c0_i32 : BitVec 32 := 0#32
  let v144 : BitVec 32 := Scalar.subi arg2 c0_i32
  let c1_i32 : BitVec 32 := 1#32
  let v146 : BitVec 32 := Scalar.divsi v144 c1_i32
  let v147 : BitVec 32 := Scalar.muli v146 c1_i32
  let v148 : BitVec 32 := Scalar.addi c0_i32 v147
  let c1_i32_55 : BitVec 32 := 1#32
  let arg7 : BitVec 32 := Scf.iv v148 c1_i32_55 k0_t2
  let v160 : BitVec 32 := Scalar.subi v159 arg7
  let c256_i32_65 : BitVec 32 := 256#32
  let v161 : BitVec 32 := Scalar.muli v160 c256_i32_65
  v161
def k0_off9 (i : grid0.Coords) (k0_t2 : Fin (k0_t2_loop i).trips) : Fin 2 → Nat :=
  let arg2 : BitVec 32 := BitVec.ofNat 32 (i 2).val
  let c1_i32_64 : BitVec 32 := 1#32
  let v159 : BitVec 32 := Scalar.subi arg2 c1_i32_64
  let c0_i32 : BitVec 32 := 0#32
  let v144 : BitVec 32 := Scalar.subi arg2 c0_i32
  let c1_i32 : BitVec 32 := 1#32
  let v146 : BitVec 32 := Scalar.divsi v144 c1_i32
  let v147 : BitVec 32 := Scalar.muli v146 c1_i32
  let v148 : BitVec 32 := Scalar.addi c0_i32 v147
  let c1_i32_55 : BitVec 32 := 1#32
  let arg7 : BitVec 32 := Scf.iv v148 c1_i32_55 k0_t2
  let v160 : BitVec 32 := Scalar.subi v159 arg7
  let c256_i32_65 : BitVec 32 := 256#32
  let v161 : BitVec 32 := Scalar.muli v160 c256_i32_65
  let v162 : BitVec 32 := v161
  let v163 : Index := Scalar.indexCast v162
  let c0_66 : Index := 0#32
  ![v163.toNat, 0]
def k0_off10 (i : grid0.Coords) (k0_t2 : Fin (k0_t2_loop i).trips) : Fin 2 → Nat :=
  let arg2 : BitVec 32 := BitVec.ofNat 32 (i 2).val
  let c1_i32_64 : BitVec 32 := 1#32
  let v159 : BitVec 32 := Scalar.subi arg2 c1_i32_64
  let c0_i32 : BitVec 32 := 0#32
  let v144 : BitVec 32 := Scalar.subi arg2 c0_i32
  let c1_i32 : BitVec 32 := 1#32
  let v146 : BitVec 32 := Scalar.divsi v144 c1_i32
  let v147 : BitVec 32 := Scalar.muli v146 c1_i32
  let v148 : BitVec 32 := Scalar.addi c0_i32 v147
  let c1_i32_55 : BitVec 32 := 1#32
  let arg7 : BitVec 32 := Scf.iv v148 c1_i32_55 k0_t2
  let v160 : BitVec 32 := Scalar.subi v159 arg7
  let c256_i32_65 : BitVec 32 := 256#32
  let v161 : BitVec 32 := Scalar.muli v160 c256_i32_65
  let v162 : BitVec 32 := v161
  let v166 : Index := Scalar.indexCast v162
  let c128_68 : Index := 128#32
  ![v166.toNat, 128]
def k0_off11 (i : grid0.Coords) (k0_t2 : Fin (k0_t2_loop i).trips) : Fin 2 → Nat :=
  let arg2 : BitVec 32 := BitVec.ofNat 32 (i 2).val
  let c1_i32_64 : BitVec 32 := 1#32
  let v159 : BitVec 32 := Scalar.subi arg2 c1_i32_64
  let c0_i32 : BitVec 32 := 0#32
  let v144 : BitVec 32 := Scalar.subi arg2 c0_i32
  let c1_i32 : BitVec 32 := 1#32
  let v146 : BitVec 32 := Scalar.divsi v144 c1_i32
  let v147 : BitVec 32 := Scalar.muli v146 c1_i32
  let v148 : BitVec 32 := Scalar.addi c0_i32 v147
  let c1_i32_55 : BitVec 32 := 1#32
  let arg7 : BitVec 32 := Scf.iv v148 c1_i32_55 k0_t2
  let v160 : BitVec 32 := Scalar.subi v159 arg7
  let c256_i32_65 : BitVec 32 := 256#32
  let v161 : BitVec 32 := Scalar.muli v160 c256_i32_65
  let v162 : BitVec 32 := v161
  let v169 : Index := Scalar.indexCast v162
  let c256_70 : Index := 256#32
  ![v169.toNat, 256]
def k0_off12 (i : grid0.Coords) (k0_t2 : Fin (k0_t2_loop i).trips) : Fin 2 → Nat :=
  let arg2 : BitVec 32 := BitVec.ofNat 32 (i 2).val
  let c1_i32_64 : BitVec 32 := 1#32
  let v159 : BitVec 32 := Scalar.subi arg2 c1_i32_64
  let c0_i32 : BitVec 32 := 0#32
  let v144 : BitVec 32 := Scalar.subi arg2 c0_i32
  let c1_i32 : BitVec 32 := 1#32
  let v146 : BitVec 32 := Scalar.divsi v144 c1_i32
  let v147 : BitVec 32 := Scalar.muli v146 c1_i32
  let v148 : BitVec 32 := Scalar.addi c0_i32 v147
  let c1_i32_55 : BitVec 32 := 1#32
  let arg7 : BitVec 32 := Scf.iv v148 c1_i32_55 k0_t2
  let v160 : BitVec 32 := Scalar.subi v159 arg7
  let c256_i32_65 : BitVec 32 := 256#32
  let v161 : BitVec 32 := Scalar.muli v160 c256_i32_65
  let v162 : BitVec 32 := v161
  let v172 : Index := Scalar.indexCast v162
  let c384_72 : Index := 384#32
  ![v172.toNat, 384]
def k0_mult6 (i : grid0.Coords) (k0_t2 : Fin (k0_t2_loop i).trips) : BitVec 32 :=
  let arg2 : BitVec 32 := BitVec.ofNat 32 (i 2).val
  let c1_i32_64 : BitVec 32 := 1#32
  let v159 : BitVec 32 := Scalar.subi arg2 c1_i32_64
  let c0_i32 : BitVec 32 := 0#32
  let v144 : BitVec 32 := Scalar.subi arg2 c0_i32
  let c1_i32 : BitVec 32 := 1#32
  let v146 : BitVec 32 := Scalar.divsi v144 c1_i32
  let v147 : BitVec 32 := Scalar.muli v146 c1_i32
  let v148 : BitVec 32 := Scalar.addi c0_i32 v147
  let c1_i32_55 : BitVec 32 := 1#32
  let arg7 : BitVec 32 := Scf.iv v148 c1_i32_55 k0_t2
  let v160 : BitVec 32 := Scalar.subi v159 arg7
  let c256_i32_74 : BitVec 32 := 256#32
  let v175 : BitVec 32 := Scalar.muli v160 c256_i32_74
  v175
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S16384x12288 : Shape := ⟨2, ![16384, 12288]⟩
abbrev S2x8192x12288 : Shape := ⟨3, ![2, 8192, 12288]⟩
abbrev S2x8192x4096 : Shape := ⟨3, ![2, 8192, 4096]⟩
abbrev S2x8192x32x128 : Shape := ⟨4, ![2, 8192, 32, 128]⟩
abbrev S2x32x8192x128 : Shape := ⟨4, ![2, 32, 8192, 128]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x32x8192x8192 : Shape := ⟨4, ![2, 32, 8192, 8192]⟩
abbrev S_ : Shape := ⟨0, ![]⟩
abbrev S16384x4096 : Shape := ⟨2, ![16384, 4096]⟩

abbrev nBuf : Space → Nat
  | .hbm => 73
  | .vmem => 0
  | .smem => 0
  | _ => 0

abbrev bufTy : (tb : Table) → Fin (tcTables nBuf tb) → BufTy
  | .hbm, ⟨0, _⟩ => ⟨S16384x12288, .bf16⟩
  | .hbm, ⟨1, _⟩ => ⟨S16384x12288, .f32⟩
  | .hbm, ⟨2, _⟩ => ⟨S2x8192x12288, .f32⟩
  | .hbm, ⟨3, _⟩ => ⟨S2x8192x4096, .f32⟩
  | .hbm, ⟨4, _⟩ => ⟨S2x8192x4096, .f32⟩
  | .hbm, ⟨5, _⟩ => ⟨S2x8192x4096, .f32⟩
  | .hbm, ⟨6, _⟩ => ⟨S2x8192x32x128, .f32⟩
  | .hbm, ⟨7, _⟩ => ⟨S2x32x8192x128, .f32⟩
  | .hbm, ⟨8, _⟩ => ⟨S2x8192x32x128, .f32⟩
  | .hbm, ⟨9, _⟩ => ⟨S2x32x8192x128, .f32⟩
  | .hbm, ⟨10, _⟩ => ⟨S2x8192x32x128, .f32⟩
  | .hbm, ⟨11, _⟩ => ⟨S2x32x8192x128, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S2x32x8192x8192, .f32⟩
  | .hbm, ⟨19, _⟩ => ⟨S2x32x8192x8192, .f32⟩
  | .hbm, ⟨20, _⟩ => ⟨S2x32x8192x8192, .f32⟩
  | .hbm, ⟨21, _⟩ => ⟨S_, .f32⟩
  | .hbm, ⟨22, _⟩ => ⟨S2x32x8192x8192, .f32⟩
  | .hbm, ⟨23, _⟩ => ⟨S2x32x8192x8192, .f32⟩
  | .hbm, ⟨24, _⟩ => ⟨S2x32x8192x8192, .f32⟩
  | .hbm, ⟨25, _⟩ => ⟨S2x32x8192x8192, .f32⟩
  | .hbm, ⟨26, _⟩ => ⟨S2x32x8192x8192, .i1⟩
  | .hbm, ⟨27, _⟩ => ⟨S2x32x8192x8192, .f32⟩
  | .hbm, ⟨28, _⟩ => ⟨S2x32x8192x8192, .f32⟩
  | .hbm, ⟨29, _⟩ => ⟨S2x32x8192x8192, .f32⟩
  | .hbm, ⟨30, _⟩ => ⟨S2x32x8192x8192, .f32⟩
  | .hbm, ⟨31, _⟩ => ⟨S2x32x8192x8192, .f32⟩
  | .hbm, ⟨32, _⟩ => ⟨S2x32x8192x8192, .f32⟩
  | .hbm, ⟨33, _⟩ => ⟨S2x32x8192x8192, .f32⟩
  | .hbm, ⟨34, _⟩ => ⟨S2x32x8192x8192, .f32⟩
  | .hbm, ⟨35, _⟩ => ⟨S2x32x8192x8192, .f32⟩
  | .hbm, ⟨36, _⟩ => ⟨S2x32x8192x8192, .f32⟩
  | .hbm, ⟨37, _⟩ => ⟨S2x32x8192x8192, .f32⟩
  | .hbm, ⟨38, _⟩ => ⟨S_, .f32⟩
  | .hbm, ⟨39, _⟩ => ⟨S2x32x8192x8192, .f32⟩
  | .hbm, ⟨40, _⟩ => ⟨S2x32x8192x8192, .f32⟩
  | .hbm, ⟨41, _⟩ => ⟨S2x32x8192x8192, .f32⟩
  | .hbm, ⟨42, _⟩ => ⟨S2x32x8192x8192, .f32⟩
  | .hbm, ⟨43, _⟩ => ⟨S2x32x8192x8192, .i1⟩
  | .hbm, ⟨44, _⟩ => ⟨S2x32x8192x8192, .f32⟩
  | .hbm, ⟨45, _⟩ => ⟨S2x32x8192x8192, .f32⟩
  | .hbm, ⟨46, _⟩ => ⟨S2x32x8192x8192, .f32⟩
  | .hbm, ⟨47, _⟩ => ⟨S2x32x8192x8192, .f32⟩
  | .hbm, ⟨48, _⟩ => ⟨S2x32x8192x8192, .f32⟩
  | .hbm, ⟨49, _⟩ => ⟨S2x32x8192x8192, .f32⟩
  | .hbm, ⟨50, _⟩ => ⟨S2x32x8192x8192, .f32⟩
  | .hbm, ⟨51, _⟩ => ⟨S2x32x8192x8192, .f32⟩
  | .hbm, ⟨52, _⟩ => ⟨S2x32x8192x8192, .f32⟩
  | .hbm, ⟨53, _⟩ => ⟨S_, .f32⟩
  | .hbm, ⟨54, _⟩ => ⟨S_, .f32⟩
  | .hbm, ⟨55, _⟩ => ⟨S2x32x8192x8192, .i1⟩
  | .hbm, ⟨56, _⟩ => ⟨S2x32x8192x8192, .f32⟩
  | .hbm, ⟨57, _⟩ => ⟨S2x32x8192x8192, .f32⟩
  | .hbm, ⟨58, _⟩ => ⟨S_, .f32⟩
  | .hbm, ⟨59, _⟩ => ⟨S_, .f32⟩
  | .hbm, ⟨60, _⟩ => ⟨S2x32x8192x8192, .f32⟩
  | .hbm, ⟨61, _⟩ => ⟨S2x32x8192x8192, .f32⟩
  | .hbm, ⟨62, _⟩ => ⟨S2x32x8192x8192, .f32⟩
  | .hbm, ⟨63, _⟩ => ⟨S2x32x8192x8192, .f32⟩
  | .hbm, ⟨64, _⟩ => ⟨S_, .f32⟩
  | .hbm, ⟨65, _⟩ => ⟨S_, .f32⟩
  | .hbm, ⟨66, _⟩ => ⟨S2x32x8192x8192, .i1⟩
  | .hbm, ⟨67, _⟩ => ⟨S2x32x8192x8192, .f32⟩
  | .hbm, ⟨68, _⟩ => ⟨S2x32x8192x8192, .f32⟩
  | .hbm, ⟨69, _⟩ => ⟨S2x32x8192x128, .f32⟩
  | .hbm, ⟨70, _⟩ => ⟨S2x8192x32x128, .f32⟩
  | .hbm, ⟨71, _⟩ => ⟨S16384x4096, .f32⟩
  | .hbm, ⟨72, _⟩ => ⟨S16384x4096, .bf16⟩
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v19 : Ref sig .tc := ⟨.hbm, 35, rfl⟩
abbrev main_v20 : Ref sig .tc := ⟨.hbm, 36, rfl⟩
abbrev main_call1_v0 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_v10 : Ref sig .tc := ⟨.hbm, 49, rfl⟩
abbrev main_call1_call0_v11 : Ref sig .tc := ⟨.hbm, 50, rfl⟩
abbrev main_call1_v1 : Ref sig .tc := ⟨.hbm, 51, rfl⟩
abbrev main_v21 : Ref sig .tc := ⟨.hbm, 52, rfl⟩
abbrev main_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v22 : Ref sig .tc := ⟨.hbm, 57, rfl⟩
abbrev main_call3_cst : Ref sig .tc := ⟨.hbm, 58, rfl⟩
abbrev main_call3_v0 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_0 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩

abbrev nD : Nat := 1
abbrev τ : Topo := Topo.v7x

variable {F : FTy → Type} [FloatOps F]
-- ==== FfnDown.lean ====
abbrev S16384x11008 : Shape := ⟨2, ![16384, 11008]⟩
abbrev S4x11008x4096 : Shape := ⟨3, ![4, 11008, 4096]⟩
abbrev S16384x4096 : Shape := ⟨2, ![16384, 4096]⟩
abbrev S512x11008 : Shape := ⟨2, ![512, 11008]⟩
abbrev S1x11008x512 : Shape := ⟨3, ![1, 11008, 512]⟩
abbrev S512x512 : Shape := ⟨2, ![512, 512]⟩
abbrev S11008x512 : Shape := ⟨2, ![11008, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x11008, .bf16⟩
  | .hbm, ⟨1, _⟩ => ⟨S4x11008x4096, .f32⟩
  | .hbm, ⟨2, _⟩ => ⟨S16384x4096, .f32⟩
  | .hbm, ⟨3, _⟩ => ⟨S4x11008x4096, .bf16⟩
  | .hbm, ⟨4, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownReferenceIdeal.lean ====
abbrev S16384x11008 : Shape := ⟨2, ![16384, 11008]⟩
abbrev S4x11008x4096 : Shape := ⟨3, ![4, 11008, 4096]⟩
abbrev S16384x4096 : Shape := ⟨2, ![16384, 4096]⟩
abbrev S_ : Shape := ⟨0, ![]⟩
abbrev S1x11008x4096 : Shape := ⟨3, ![1, 11008, 4096]⟩
abbrev S11008x4096 : Shape := ⟨2, ![11008, 4096]⟩

abbrev nBuf : Space → Nat
  | .hbm => 11
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S4x11008x4096, .f32⟩
  | .hbm, ⟨2, _⟩ => ⟨S16384x4096, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S16384x11008, .f32⟩
  | .hbm, ⟨7, _⟩ => ⟨S1x11008x4096, .f32⟩
  | .hbm, ⟨8, _⟩ => ⟨S11008x4096, .f32⟩
  | .hbm, ⟨9, _⟩ => ⟨S16384x4096, .f32⟩
  | .hbm, ⟨10, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MixerOut.lean ====
abbrev S16384x4096 : Shape := ⟨2, ![16384, 4096]⟩
abbrev S2x4096x4096 : Shape := ⟨3, ![2, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .f32⟩
  | .hbm, ⟨2, _⟩ => ⟨S16384x4096, .f32⟩
  | .hbm, ⟨3, _⟩ => ⟨S2x4096x4096, .bf16⟩
  | .hbm, ⟨4, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MixerOutReferenceIdeal.lean ====
abbrev S16384x4096 : Shape := ⟨2, ![16384, 4096]⟩
abbrev S2x4096x4096 : Shape := ⟨3, ![2, 4096, 4096]⟩
abbrev S_ : Shape := ⟨0, ![]⟩
abbrev S1x4096x4096 : Shape := ⟨3, ![1, 4096, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .f32⟩
  | .hbm, ⟨2, _⟩ => ⟨S16384x4096, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S1x4096x4096, .f32⟩
  | .hbm, ⟨8, _⟩ => ⟨S4096x4096, .f32⟩
  | .hbm, ⟨9, _⟩ => ⟨S16384x4096, .f32⟩
  | .hbm, ⟨10, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== SbQkv.lean ====
abbrev S16384x4096 : Shape := ⟨2, ![16384, 4096]⟩
abbrev S1x4096x12288 : Shape := ⟨3, ![1, 4096, 12288]⟩
abbrev S16384x12288 : Shape := ⟨2, ![16384, 12288]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x12288, .f32⟩
  | .hbm, ⟨2, _⟩ => ⟨S1x4096x12288, .bf16⟩
  | .hbm, ⟨3, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SbQkvReferenceIdeal.lean ====
abbrev S16384x4096 : Shape := ⟨2, ![16384, 4096]⟩
abbrev S1x4096x12288 : Shape := ⟨3, ![1, 4096, 12288]⟩
abbrev S4096x12288 : Shape := ⟨2, ![4096, 12288]⟩
abbrev S16384x12288 : Shape := ⟨2, ![16384, 12288]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x12288, .f32⟩
  | .hbm, ⟨2, _⟩ => ⟨S16384x4096, .f32⟩
  | .hbm, ⟨3, _⟩ => ⟨S4096x12288, .f32⟩
  | .hbm, ⟨4, _⟩ => ⟨S16384x12288, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S16384x12288, .f32⟩
  | .hbm, ⟨12, _⟩ => ⟨S16384x12288, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== GdnZ.lean ====
abbrev S16384x4096 : Shape := ⟨2, ![16384, 4096]⟩
abbrev S2x4096x16448 : Shape := ⟨3, ![2, 4096, 16448]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S2x4096x16448, .f32⟩
  | .hbm, ⟨2, _⟩ => ⟨S2x4096x16448, .bf16⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c1_i32 : BitVec 32 := 1#32
  let c0_i32 : BitVec 32 := 0#32
  let c0_i32_0 : BitVec 32 := 0#32
  ![c1_i32.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GdnZReferenceIdeal.lean ====
abbrev S16384x4096 : Shape := ⟨2, ![16384, 4096]⟩
abbrev S2x4096x16448 : Shape := ⟨3, ![2, 4096, 16448]⟩
abbrev S1x4096x16448 : Shape := ⟨3, ![1, 4096, 16448]⟩
abbrev S4096x16448 : Shape := ⟨2, ![4096, 16448]⟩
abbrev S16384x16448 : Shape := ⟨2, ![16384, 16448]⟩
abbrev S16384x12288 : Shape := ⟨2, ![16384, 12288]⟩
abbrev S16384x64 : Shape := ⟨2, ![16384, 64]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x16448, .f32⟩
  | .hbm, ⟨2, _⟩ => ⟨S16384x4096, .f32⟩
  | .hbm, ⟨3, _⟩ => ⟨S1x4096x16448, .f32⟩
  | .hbm, ⟨4, _⟩ => ⟨S4096x16448, .f32⟩
  | .hbm, ⟨5, _⟩ => ⟨S16384x16448, .f32⟩
  | .hbm, ⟨6, _⟩ => ⟨S16384x12288, .f32⟩
  | .hbm, ⟨7, _⟩ => ⟨S16384x4096, .f32⟩
  | .hbm, ⟨8, _⟩ => ⟨S16384x64, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== LruY.lean ====
abbrev S16384x4096 : Shape := ⟨2, ![16384, 4096]⟩
abbrev S1x4096x8192 : Shape := ⟨3, ![1, 4096, 8192]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x8192, .f32⟩
  | .hbm, ⟨2, _⟩ => ⟨S1x4096x8192, .bf16⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LruYReferenceIdeal.lean ====
abbrev S16384x4096 : Shape := ⟨2, ![16384, 4096]⟩
abbrev S1x4096x8192 : Shape := ⟨3, ![1, 4096, 8192]⟩
abbrev S4096x8192 : Shape := ⟨2, ![4096, 8192]⟩
abbrev S16384x8192 : Shape := ⟨2, ![16384, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x8192, .f32⟩
  | .hbm, ⟨2, _⟩ => ⟨S16384x4096, .f32⟩
  | .hbm, ⟨3, _⟩ => ⟨S4096x8192, .f32⟩
  | .hbm, ⟨4, _⟩ => ⟨S16384x8192, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== FfnUp.lean ====
abbrev S16384x4096 : Shape := ⟨2, ![16384, 4096]⟩
abbrev S4x4096x22016 : Shape := ⟨3, ![4, 4096, 22016]⟩
abbrev S3x11008 : Shape := ⟨2, ![3, 11008]⟩
abbrev S11008 : Shape := ⟨1, ![11008]⟩
abbrev S1x11008 : Shape := ⟨2, ![1, 11008]⟩
abbrev S16384x11008 : Shape := ⟨2, ![16384, 11008]⟩
abbrev S1024x4096 : Shape := ⟨2, ![1024, 4096]⟩
abbrev S1x4096x512 : Shape := ⟨3, ![1, 4096, 512]⟩
abbrev S3x256 : Shape := ⟨2, ![3, 256]⟩
abbrev S1x256 : Shape := ⟨2, ![1, 256]⟩
abbrev S1024x256 : Shape := ⟨2, ![1024, 256]⟩
abbrev S1032x256 : Shape := ⟨2, ![1032, 256]⟩
abbrev S43x8x256 : Shape := ⟨3, ![43, 8, 256]⟩
abbrev S8x256 : Shape := ⟨2, ![8, 256]⟩
abbrev S1x8x256 : Shape := ⟨3, ![1, 8, 256]⟩
abbrev S4096x512 : Shape := ⟨2, ![4096, 512]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S4x4096x22016, .bf16⟩
  | .hbm, ⟨2, _⟩ => ⟨S3x11008, .f32⟩
  | .hbm, ⟨3, _⟩ => ⟨S11008, .f32⟩
  | .hbm, ⟨4, _⟩ => ⟨S1x11008, .f32⟩
  | .hbm, ⟨5, _⟩ => ⟨S16384x11008, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S1024x256, .bf16⟩
  | .local _ .vmem, ⟨9, _⟩ => ⟨S1024x256, .bf16⟩
  | .local _ .vmem, ⟨10, _⟩ => ⟨S1032x256, .f32⟩
  | .local _ .vmem, ⟨11, _⟩ => ⟨S43x8x256, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 43], ![false, false]⟩

def k0_cond2 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v_true : BitVec 1 := 1#1
  let v13 : BitVec 1 := Scalar.xori v10 v_true
  let v14 : BitVec 32 := Scalar.extui v13
  let c0_i32_5 : BitVec 32 := 0#32
  let v15 : BitVec 1 := Scalar.cmpi .ne v14 c0_i32_5
  v15

def k0_off1 (i : grid0.Coords) : Fin 3 → Nat :=
  let arg1 : BitVec 32 := BitVec.ofNat 32 (i 1).val
  let v52 : Index := Scalar.indexCast arg1
  let c0_23 : Index := 0#32
  let c0_24 : Index := 0#32
  ![v52.toNat, 0, 0]
def k0_off2 (i : grid0.Coords) : Fin 3 → Nat :=
  let arg1 : BitVec 32 := BitVec.ofNat 32 (i 1).val
  let v26 : Index := Scalar.indexCast arg1
  let c0_11 : Index := 0#32
  let c0_12 : Index := 0#32
  ![v26.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnUpReferenceIdeal.lean ====
abbrev S16384x4096 : Shape := ⟨2, ![16384, 4096]⟩
abbrev S4x4096x22016 : Shape := ⟨3, ![4, 4096, 22016]⟩
abbrev S3x11008 : Shape := ⟨2, ![3, 11008]⟩
abbrev S11008 : Shape := ⟨1, ![11008]⟩
abbrev S1x4096x22016 : Shape := ⟨3, ![1, 4096, 22016]⟩
abbrev S4096x22016 : Shape := ⟨2, ![4096, 22016]⟩
abbrev S16384x22016 : Shape := ⟨2, ![16384, 22016]⟩
abbrev S2x8192x43x2x256 : Shape := ⟨5, ![2, 8192, 43, 2, 256]⟩
abbrev S2x8192x43x1x256 : Shape := ⟨5, ![2, 8192, 43, 1, 256]⟩
abbrev S2x8192x43x256 : Shape := ⟨4, ![2, 8192, 43, 256]⟩
abbrev S2x8192x11008 : Shape := ⟨3, ![2, 8192, 11008]⟩
abbrev S_ : Shape := ⟨0, ![]⟩
abbrev S2x8194x11008 : Shape := ⟨3, ![2, 8194, 11008]⟩
abbrev S1x11008 : Shape := ⟨2, ![1, 11008]⟩
abbrev S1x1x11008 : Shape := ⟨3, ![1, 1, 11008]⟩
abbrev S16384x11008 : Shape := ⟨2, ![16384, 11008]⟩

abbrev nBuf : Space → Nat
  | .hbm => 57
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x4096x22016, .bf16⟩
  | .hbm, ⟨2, _⟩ => ⟨S3x11008, .f32⟩
  | .hbm, ⟨3, _⟩ => ⟨S11008, .f32⟩
  | .hbm, ⟨4, _⟩ => ⟨S16384x4096, .f32⟩
  | .hbm, ⟨5, _⟩ => ⟨S1x4096x22016, .bf16⟩
  | .hbm, ⟨6, _⟩ => ⟨S4096x22016, .bf16⟩
  | .hbm, ⟨7, _⟩ => ⟨S4096x22016, .f32⟩
  | .hbm, ⟨8, _⟩ => ⟨S16384x22016, .f32⟩
  | .hbm, ⟨9, _⟩ => ⟨S2x8192x43x2x256, .f32⟩
  | .hbm, ⟨10, _⟩ => ⟨S2x8192x43x1x256, .f32⟩
  | .hbm, ⟨11, _⟩ => ⟨S2x8192x43x256, .f32⟩
  | .hbm, ⟨12, _⟩ => ⟨S2x8192x11008, .f32⟩
  | .hbm, ⟨13, _⟩ => ⟨S2x8192x43x1x256, .f32⟩
  | .hbm, ⟨14, _⟩ => ⟨S2x8192x43x256, .f32⟩
  | .hbm, ⟨15, _⟩ => ⟨S2x8192x11008, .f32⟩
  | .hbm, ⟨16, _⟩ => ⟨S_, .i32⟩
  | .hbm, ⟨17, _⟩ => ⟨S_, .f32⟩
  | .hbm, ⟨18, _⟩ => ⟨S2x8194x11008, .f32⟩
  | .hbm, ⟨19, _⟩ => ⟨S2x8192x11008, .f32⟩
  | .hbm, ⟨20, _⟩ => ⟨S1x11008, .f32⟩
  | .hbm, ⟨21, _⟩ => ⟨S11008, .f32⟩
  | .hbm, ⟨22, _⟩ => ⟨S1x1x11008, .f32⟩
  | .hbm, ⟨23, _⟩ => ⟨S2x8192x11008, .f32⟩
  | .hbm, ⟨24, _⟩ => ⟨S2x8192x11008, .f32⟩
  | .hbm, ⟨25, _⟩ => ⟨S_, .f32⟩
  | .hbm, ⟨26, _⟩ => ⟨S2x8192x11008, .f32⟩
  | .hbm, ⟨27, _⟩ => ⟨S2x8192x11008, .f32⟩
  | .hbm, ⟨28, _⟩ => ⟨S2x8192x11008, .f32⟩
  | .hbm, ⟨29, _⟩ => ⟨S1x11008, .f32⟩
  | .hbm, ⟨30, _⟩ => ⟨S11008, .f32⟩
  | .hbm, ⟨31, _⟩ => ⟨S1x1x11008, .f32⟩
  | .hbm, ⟨32, _⟩ => ⟨S2x8192x11008, .f32⟩
  | .hbm, ⟨33, _⟩ => ⟨S2x8192x11008, .f32⟩
  | .hbm, ⟨34, _⟩ => ⟨S2x8192x11008, .f32⟩
  | .hbm, ⟨35, _⟩ => ⟨S2x8192x11008, .f32⟩
  | .hbm, ⟨36, _⟩ => ⟨S1x11008, .f32⟩
  | .hbm, ⟨37, _⟩ => ⟨S11008, .f32⟩
  | .hbm, ⟨38, _⟩ => ⟨S1x1x11008, .f32⟩
  | .hbm, ⟨39, _⟩ => ⟨S2x8192x11008, .f32⟩
  | .hbm, ⟨40, _⟩ => ⟨S2x8192x11008, .f32⟩
  | .hbm, ⟨41, _⟩ => ⟨S2x8192x11008, .f32⟩
  | .hbm, ⟨42, _⟩ => ⟨S1x1x11008, .f32⟩
  | .hbm, ⟨43, _⟩ => ⟨S2x8192x11008, .f32⟩
  | .hbm, ⟨44, _⟩ => ⟨S2x8192x11008, .f32⟩
  | .hbm, ⟨45, _⟩ => ⟨S2x8192x11008, .f32⟩
  | .hbm, ⟨46, _⟩ => ⟨S2x8192x11008, .f32⟩
  | .hbm, ⟨47, _⟩ => ⟨S_, .f32⟩
  | .hbm, ⟨48, _⟩ => ⟨S2x8192x11008, .f32⟩
  | .hbm, ⟨49, _⟩ => ⟨S2x8192x11008, .f32⟩
  | .hbm, ⟨50, _⟩ => ⟨S_, .f32⟩
  | .hbm, ⟨51, _⟩ => ⟨S2x8192x11008, .f32⟩
  | .hbm, ⟨52, _⟩ => ⟨S2x8192x11008, .f32⟩
  | .hbm, ⟨53, _⟩ => ⟨S2x8192x11008, .f32⟩
  | .hbm, ⟨54, _⟩ => ⟨S2x8192x11008, .f32⟩
  | .hbm, ⟨55, _⟩ => ⟨S16384x11008, .f32⟩
  | .hbm, ⟨56, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== GdnQkv.lean ====
abbrev S16384x4096 : Shape := ⟨2, ![16384, 4096]⟩
abbrev S2x4096x16448 : Shape := ⟨3, ![2, 4096, 16448]⟩
abbrev S4x12288 : Shape := ⟨2, ![4, 12288]⟩
abbrev S16384x12288 : Shape := ⟨2, ![16384, 12288]⟩
abbrev S1024x4096 : Shape := ⟨2, ![1024, 4096]⟩
abbrev S1x4096x512 : Shape := ⟨3, ![1, 4096, 512]⟩
abbrev S4x512 : Shape := ⟨2, ![4, 512]⟩
abbrev S1024x512 : Shape := ⟨2, ![1024, 512]⟩
abbrev S1032x512 : Shape := ⟨2, ![1032, 512]⟩
abbrev S24x8x512 : Shape := ⟨3, ![24, 8, 512]⟩
abbrev S8x512 : Shape := ⟨2, ![8, 512]⟩
abbrev S1x8x512 : Shape := ⟨3, ![1, 8, 512]⟩
abbrev S4096x512 : Shape := ⟨2, ![4096, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S2x4096x16448, .f32⟩
  | .hbm, ⟨2, _⟩ => ⟨S4x12288, .f32⟩
  | .hbm, ⟨3, _⟩ => ⟨S2x4096x16448, .bf16⟩
  | .hbm, ⟨4, _⟩ => ⟨S16384x12288, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S4x512, .f32⟩
  | .local _ .vmem, ⟨5, _⟩ => ⟨S4x512, .f32⟩
  | .local _ .vmem, ⟨6, _⟩ => ⟨S1024x512, .f32⟩
  | .local _ .vmem, ⟨7, _⟩ => ⟨S1024x512, .f32⟩
  | .local _ .vmem, ⟨8, _⟩ => ⟨S1032x512, .f32⟩
  | .local _ .vmem, ⟨9, _⟩ => ⟨S24x8x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 24], ![false, false]⟩

def k0_cond2 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v_true : BitVec 1 := 1#1
  let v13 : BitVec 1 := Scalar.xori v10 v_true
  let v14 : BitVec 32 := Scalar.extui v13
  let c0_i32_5 : BitVec 32 := 0#32
  let v15 : BitVec 1 := Scalar.cmpi .ne v14 c0_i32_5
  v15

def k0_off1 (i : grid0.Coords) : Fin 3 → Nat :=
  let arg1 : BitVec 32 := BitVec.ofNat 32 (i 1).val
  let v49 : Index := Scalar.indexCast arg1
  let c0_23 : Index := 0#32
  let c0_24 : Index := 0#32
  ![v49.toNat, 0, 0]
def k0_off2 (i : grid0.Coords) : Fin 3 → Nat :=
  let arg1 : BitVec 32 := BitVec.ofNat 32 (i 1).val
  let v24 : Index := Scalar.indexCast arg1
  let c0_11 : Index := 0#32
  let c0_12 : Index := 0#32
  ![v24.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GdnQkvReferenceIdeal.lean ====
abbrev S16384x4096 : Shape := ⟨2, ![16384, 4096]⟩
abbrev S2x4096x16448 : Shape := ⟨3, ![2, 4096, 16448]⟩
abbrev S4x12288 : Shape := ⟨2, ![4, 12288]⟩
abbrev S1x4096x16448 : Shape := ⟨3, ![1, 4096, 16448]⟩
abbrev S4096x16448 : Shape := ⟨2, ![4096, 16448]⟩
abbrev S16384x16448 : Shape := ⟨2, ![16384, 16448]⟩
abbrev S16384x12288 : Shape := ⟨2, ![16384, 12288]⟩
abbrev S16384x64 : Shape := ⟨2, ![16384, 64]⟩
abbrev S2x8192x12288 : Shape := ⟨3, ![2, 8192, 12288]⟩
abbrev S_ : Shape := ⟨0, ![]⟩
abbrev S2x8195x12288 : Shape := ⟨3, ![2, 8195, 12288]⟩
abbrev S1x12288 : Shape := ⟨2, ![1, 12288]⟩
abbrev S12288 : Shape := ⟨1, ![12288]⟩
abbrev S1x1x12288 : Shape := ⟨3, ![1, 1, 12288]⟩

abbrev nBuf : Space → Nat
  | .hbm => 54
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x16448, .f32⟩
  | .hbm, ⟨2, _⟩ => ⟨S4x12288, .f32⟩
  | .hbm, ⟨3, _⟩ => ⟨S16384x4096, .f32⟩
  | .hbm, ⟨4, _⟩ => ⟨S1x4096x16448, .f32⟩
  | .hbm, ⟨5, _⟩ => ⟨S4096x16448, .f32⟩
  | .hbm, ⟨6, _⟩ => ⟨S16384x16448, .f32⟩
  | .hbm, ⟨7, _⟩ => ⟨S16384x12288, .f32⟩
  | .hbm, ⟨8, _⟩ => ⟨S16384x4096, .f32⟩
  | .hbm, ⟨9, _⟩ => ⟨S16384x64, .f32⟩
  | .hbm, ⟨10, _⟩ => ⟨S2x8192x12288, .f32⟩
  | .hbm, ⟨11, _⟩ => ⟨S_, .i32⟩
  | .hbm, ⟨12, _⟩ => ⟨S_, .f32⟩
  | .hbm, ⟨13, _⟩ => ⟨S2x8195x12288, .f32⟩
  | .hbm, ⟨14, _⟩ => ⟨S2x8192x12288, .f32⟩
  | .hbm, ⟨15, _⟩ => ⟨S1x12288, .f32⟩
  | .hbm, ⟨16, _⟩ => ⟨S12288, .f32⟩
  | .hbm, ⟨17, _⟩ => ⟨S1x1x12288, .f32⟩
  | .hbm, ⟨18, _⟩ => ⟨S2x8192x12288, .f32⟩
  | .hbm, ⟨19, _⟩ => ⟨S2x8192x12288, .f32⟩
  | .hbm, ⟨20, _⟩ => ⟨S_, .f32⟩
  | .hbm, ⟨21, _⟩ => ⟨S2x8192x12288, .f32⟩
  | .hbm, ⟨22, _⟩ => ⟨S2x8192x12288, .f32⟩
  | .hbm, ⟨23, _⟩ => ⟨S2x8192x12288, .f32⟩
  | .hbm, ⟨24, _⟩ => ⟨S1x12288, .f32⟩
  | .hbm, ⟨25, _⟩ => ⟨S12288, .f32⟩
  | .hbm, ⟨26, _⟩ => ⟨S1x1x12288, .f32⟩
  | .hbm, ⟨27, _⟩ => ⟨S2x8192x12288, .f32⟩
  | .hbm, ⟨28, _⟩ => ⟨S2x8192x12288, .f32⟩
  | .hbm, ⟨29, _⟩ => ⟨S2x8192x12288, .f32⟩
  | .hbm, ⟨30, _⟩ => ⟨S2x8192x12288, .f32⟩
  | .hbm, ⟨31, _⟩ => ⟨S1x12288, .f32⟩
  | .hbm, ⟨32, _⟩ => ⟨S12288, .f32⟩
  | .hbm, ⟨33, _⟩ => ⟨S1x1x12288, .f32⟩
  | .hbm, ⟨34, _⟩ => ⟨S2x8192x12288, .f32⟩
  | .hbm, ⟨35, _⟩ => ⟨S2x8192x12288, .f32⟩
  | .hbm, ⟨36, _⟩ => ⟨S2x8192x12288, .f32⟩
  | .hbm, ⟨37, _⟩ => ⟨S2x8192x12288, .f32⟩
  | .hbm, ⟨38, _⟩ => ⟨S1x12288, .f32⟩
  | .hbm, ⟨39, _⟩ => ⟨S12288, .f32⟩
  | .hbm, ⟨40, _⟩ => ⟨S1x1x12288, .f32⟩
  | .hbm, ⟨41, _⟩ => ⟨S2x8192x12288, .f32⟩
  | .hbm, ⟨42, _⟩ => ⟨S2x8192x12288, .f32⟩
  | .hbm, ⟨43, _⟩ => ⟨S2x8192x12288, .f32⟩
  | .hbm, ⟨44, _⟩ => ⟨S2x8192x12288, .f32⟩
  | .hbm, ⟨45, _⟩ => ⟨S2x8192x12288, .f32⟩
  | .hbm, ⟨46, _⟩ => ⟨S_, .f32⟩
  | .hbm, ⟨47, _⟩ => ⟨S2x8192x12288, .f32⟩
  | .hbm, ⟨48, _⟩ => ⟨S2x8192x12288, .f32⟩
  | .hbm, ⟨49, _⟩ => ⟨S_, .f32⟩
  | .hbm, ⟨50, _⟩ => ⟨S2x8192x12288, .f32⟩
  | .hbm, ⟨51, _⟩ => ⟨S2x8192x12288, .f32⟩
  | .hbm, ⟨52, _⟩ => ⟨S2x8192x12288, .f32⟩
  | .hbm, ⟨53, _⟩ => ⟨S16384x12288, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== LruX.lean ====
abbrev S16384x4096 : Shape := ⟨2, ![16384, 4096]⟩
abbrev S1x4096x8192 : Shape := ⟨3, ![1, 4096, 8192]⟩
abbrev S4x4096 : Shape := ⟨2, ![4, 4096]⟩
abbrev S4096 : Shape := ⟨1, ![4096]⟩
abbrev S1x4096 : Shape := ⟨2, ![1, 4096]⟩
abbrev S1024x4096 : Shape := ⟨2, ![1024, 4096]⟩
abbrev S1x4096x512 : Shape := ⟨3, ![1, 4096, 512]⟩
abbrev S4x512 : Shape := ⟨2, ![4, 512]⟩
abbrev S1x512 : Shape := ⟨2, ![1, 512]⟩
abbrev S1024x512 : Shape := ⟨2, ![1024, 512]⟩
abbrev S1032x512 : Shape := ⟨2, ![1032, 512]⟩
abbrev S8x8x512 : Shape := ⟨3, ![8, 8, 512]⟩
abbrev S8x512 : Shape := ⟨2, ![8, 512]⟩
abbrev S1x8x512 : Shape := ⟨3, ![1, 8, 512]⟩
abbrev S4096x512 : Shape := ⟨2, ![4096, 512]⟩

abbrev nBuf : Space → Nat
  | .hbm => 7
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S1x4096x8192, .f32⟩
  | .hbm, ⟨2, _⟩ => ⟨S4x4096, .f32⟩
  | .hbm, ⟨3, _⟩ => ⟨S4096, .f32⟩
  | .hbm, ⟨4, _⟩ => ⟨S1x4096x8192, .bf16⟩
  | .hbm, ⟨5, _⟩ => ⟨S1x4096, .f32⟩
  | .hbm, ⟨6, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1032x512, .f32⟩
  | .local _ .vmem, ⟨11, _⟩ => ⟨S8x8x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v_true : BitVec 1 := 1#1
  let v13 : BitVec 1 := Scalar.xori v10 v_true
  let v14 : BitVec 32 := Scalar.extui v13
  let c0_i32_5 : BitVec 32 := 0#32
  let v15 : BitVec 1 := Scalar.cmpi .ne v14 c0_i32_5
  v15

def k0_off1 (i : grid0.Coords) : Fin 3 → Nat :=
  let arg1 : BitVec 32 := BitVec.ofNat 32 (i 1).val
  let v51 : Index := Scalar.indexCast arg1
  let c0_25 : Index := 0#32
  let c0_26 : Index := 0#32
  ![v51.toNat, 0, 0]
def k0_off2 (i : grid0.Coords) : Fin 3 → Nat :=
  let arg1 : BitVec 32 := BitVec.ofNat 32 (i 1).val
  let v24 : Index := Scalar.indexCast arg1
  let c0_11 : Index := 0#32
  let c0_12 : Index := 0#32
  ![v24.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== LruXReferenceIdeal.lean ====
abbrev S16384x4096 : Shape := ⟨2, ![16384, 4096]⟩
abbrev S1x4096x8192 : Shape := ⟨3, ![1, 4096, 8192]⟩
abbrev S4x4096 : Shape := ⟨2, ![4, 4096]⟩
abbrev S4096 : Shape := ⟨1, ![4096]⟩
abbrev S4096x8192 : Shape := ⟨2, ![4096, 8192]⟩
abbrev S16384x8192 : Shape := ⟨2, ![16384, 8192]⟩
abbrev S2x8192x4096 : Shape := ⟨3, ![2, 8192, 4096]⟩
abbrev S_ : Shape := ⟨0, ![]⟩
abbrev S2x8195x4096 : Shape := ⟨3, ![2, 8195, 4096]⟩
abbrev S1x4096 : Shape := ⟨2, ![1, 4096]⟩
abbrev S1x1x4096 : Shape := ⟨3, ![1, 1, 4096]⟩

abbrev nBuf : Space → Nat
  | .hbm => 47
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x8192, .f32⟩
  | .hbm, ⟨2, _⟩ => ⟨S4x4096, .f32⟩
  | .hbm, ⟨3, _⟩ => ⟨S4096, .f32⟩
  | .hbm, ⟨4, _⟩ => ⟨S16384x4096, .f32⟩
  | .hbm, ⟨5, _⟩ => ⟨S4096x8192, .f32⟩
  | .hbm, ⟨6, _⟩ => ⟨S16384x8192, .f32⟩
  | .hbm, ⟨7, _⟩ => ⟨S16384x4096, .f32⟩
  | .hbm, ⟨8, _⟩ => ⟨S16384x4096, .f32⟩
  | .hbm, ⟨9, _⟩ => ⟨S2x8192x4096, .f32⟩
  | .hbm, ⟨10, _⟩ => ⟨S_, .i32⟩
  | .hbm, ⟨11, _⟩ => ⟨S_, .f32⟩
  | .hbm, ⟨12, _⟩ => ⟨S2x8195x4096, .f32⟩
  | .hbm, ⟨13, _⟩ => ⟨S2x8192x4096, .f32⟩
  | .hbm, ⟨14, _⟩ => ⟨S1x4096, .f32⟩
  | .hbm, ⟨15, _⟩ => ⟨S4096, .f32⟩
  | .hbm, ⟨16, _⟩ => ⟨S1x1x4096, .f32⟩
  | .hbm, ⟨17, _⟩ => ⟨S2x8192x4096, .f32⟩
  | .hbm, ⟨18, _⟩ => ⟨S2x8192x4096, .f32⟩
  | .hbm, ⟨19, _⟩ => ⟨S_, .f32⟩
  | .hbm, ⟨20, _⟩ => ⟨S2x8192x4096, .f32⟩
  | .hbm, ⟨21, _⟩ => ⟨S2x8192x4096, .f32⟩
  | .hbm, ⟨22, _⟩ => ⟨S2x8192x4096, .f32⟩
  | .hbm, ⟨23, _⟩ => ⟨S1x4096, .f32⟩
  | .hbm, ⟨24, _⟩ => ⟨S4096, .f32⟩
  | .hbm, ⟨25, _⟩ => ⟨S1x1x4096, .f32⟩
  | .hbm, ⟨26, _⟩ => ⟨S2x8192x4096, .f32⟩
  | .hbm, ⟨27, _⟩ => ⟨S2x8192x4096, .f32⟩
  | .hbm, ⟨28, _⟩ => ⟨S2x8192x4096, .f32⟩
  | .hbm, ⟨29, _⟩ => ⟨S2x8192x4096, .f32⟩
  | .hbm, ⟨30, _⟩ => ⟨S1x4096, .f32⟩
  | .hbm, ⟨31, _⟩ => ⟨S4096, .f32⟩
  | .hbm, ⟨32, _⟩ => ⟨S1x1x4096, .f32⟩
  | .hbm, ⟨33, _⟩ => ⟨S2x8192x4096, .f32⟩
  | .hbm, ⟨34, _⟩ => ⟨S2x8192x4096, .f32⟩
  | .hbm, ⟨35, _⟩ => ⟨S2x8192x4096, .f32⟩
  | .hbm, ⟨36, _⟩ => ⟨S2x8192x4096, .f32⟩
  | .hbm, ⟨37, _⟩ => ⟨S1x4096, .f32⟩
  | .hbm, ⟨38, _⟩ => ⟨S4096, .f32⟩
  | .hbm, ⟨39, _⟩ => ⟨S1x1x4096, .f32⟩
  | .hbm, ⟨40, _⟩ => ⟨S2x8192x4096, .f32⟩
  | .hbm, ⟨41, _⟩ => ⟨S2x8192x4096, .f32⟩
  | .hbm, ⟨42, _⟩ => ⟨S2x8192x4096, .f32⟩
  | .hbm, ⟨43, _⟩ => ⟨S1x1x4096, .f32⟩
  | .hbm, ⟨44, _⟩ => ⟨S2x8192x4096, .f32⟩
  | .hbm, ⟨45, _⟩ => ⟨S2x8192x4096, .f32⟩
  | .hbm, ⟨46, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩

abbrev nD : Nat := 1
abbrev τ : Topo := Topo.v7x

variable {F : FTy → Type} [FloatOps F]
-- ==== Norm.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S16384x4096, .f32⟩
  | .hbm, ⟨6, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormReferenceIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S1x4096, .f32⟩
  | .hbm, ⟨27, _⟩ => ⟨S16384x4096, .f32⟩
  | .hbm, ⟨28, _⟩ => ⟨S16384x4096, .f32⟩
  | .hbm, ⟨29, _⟩ => ⟨S1x4096, .f32⟩
  | .hbm, ⟨30, _⟩ => ⟨S16384x4096, .f32⟩
  | .hbm, ⟨31, _⟩ => ⟨S16384x4096, .f32⟩
  | .hbm, ⟨32, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Pair.lean ====
abbrev S4x4096x22016 : Shape := ⟨3, ![4, 4096, 22016]⟩
abbrev S1x4096x256 : Shape := ⟨3, ![1, 4096, 256]⟩
abbrev S1x4096x512 : Shape := ⟨3, ![1, 4096, 512]⟩
abbrev S4096x256 : Shape := ⟨2, ![4096, 256]⟩

abbrev nBuf : Space → Nat
  | .hbm => 2
  | .vmem => 6
  | .smem => 0
  | _ => 0

abbrev bufTy : (tb : Table) → Fin (tcTables nBuf tb) → BufTy
  | .hbm, ⟨0, _⟩ => ⟨S4x4096x22016, .f32⟩
  | .hbm, ⟨1, _⟩ => ⟨S4x4096x22016, .bf16⟩
  | .local _ .vmem, ⟨0, _⟩ => ⟨S1x4096x256, .f32⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x512, .bf16⟩
  | .local _ .vmem, ⟨5, _⟩ => ⟨S1x4096x512, .bf16⟩
  | _, _ => ⟨S4x4096x22016, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 43], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairReferenceIdeal.lean ====
abbrev S4x4096x22016 : Shape := ⟨3, ![4, 4096, 22016]⟩
abbrev S4x4096x11008 : Shape := ⟨3, ![4, 4096, 11008]⟩
abbrev S4x4096x43x256 : Shape := ⟨4, ![4, 4096, 43, 256]⟩
abbrev S4x4096x43x1x256 : Shape := ⟨5, ![4, 4096, 43, 1, 256]⟩
abbrev S4x4096x43x2x256 : Shape := ⟨5, ![4, 4096, 43, 2, 256]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x22016, .f32⟩
  | .hbm, ⟨1, _⟩ => ⟨S4x4096x11008, .f32⟩
  | .hbm, ⟨2, _⟩ => ⟨S4x4096x11008, .f32⟩
  | .hbm, ⟨3, _⟩ => ⟨S4x4096x43x256, .f32⟩
  | .hbm, ⟨4, _⟩ => ⟨S4x4096x43x256, .f32⟩
  | .hbm, ⟨5, _⟩ => ⟨S4x4096x43x1x256, .f32⟩
  | .hbm, ⟨6, _⟩ => ⟨S4x4096x43x1x256, .f32⟩
  | .hbm, ⟨7, _⟩ => ⟨S4x4096x43x2x256, .f32⟩
  | .hbm, ⟨8, _⟩ => ⟨S4x4096x22016, .f32⟩
  | .hbm, ⟨9, _⟩ => ⟨S4x4096x22016, .bf16⟩
  | _, _ => ⟨S4x4096x22016, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== GdnGates.lean ====
abbrev S16384x4096 : Shape := ⟨2, ![16384, 4096]⟩
abbrev S2x4096x16448 : Shape := ⟨3, ![2, 4096, 16448]⟩
abbrev S32 : Shape := ⟨1, ![32]⟩
abbrev S1x4096x64 : Shape := ⟨3, ![1, 4096, 64]⟩
abbrev S4096x64 : Shape := ⟨2, ![4096, 64]⟩
abbrev S_ : Shape := ⟨0, ![]⟩
abbrev S4096x128 : Shape := ⟨2, ![4096, 128]⟩
abbrev S1x32 : Shape := ⟨2, ![1, 32]⟩
abbrev S1x128 : Shape := ⟨2, ![1, 128]⟩
abbrev S16384x128 : Shape := ⟨2, ![16384, 128]⟩
abbrev S512x4096 : Shape := ⟨2, ![512, 4096]⟩
abbrev S512x128 : Shape := ⟨2, ![512, 128]⟩
abbrev S16384x64 : Shape := ⟨2, ![16384, 64]⟩
abbrev S16384x32 : Shape := ⟨2, ![16384, 32]⟩

abbrev nBuf : Space → Nat
  | .hbm => 22
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S2x4096x16448, .f32⟩
  | .hbm, ⟨2, _⟩ => ⟨S32, .f32⟩
  | .hbm, ⟨3, _⟩ => ⟨S32, .f32⟩
  | .hbm, ⟨4, _⟩ => ⟨S2x4096x16448, .bf16⟩
  | .hbm, ⟨5, _⟩ => ⟨S1x4096x64, .bf16⟩
  | .hbm, ⟨6, _⟩ => ⟨S4096x64, .bf16⟩
  | .hbm, ⟨7, _⟩ => ⟨S_, .i32⟩
  | .hbm, ⟨8, _⟩ => ⟨S_, .bf16⟩
  | .hbm, ⟨9, _⟩ => ⟨S4096x128, .bf16⟩
  | .hbm, ⟨10, _⟩ => ⟨S1x32, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S1x32, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S16384x128, .f32⟩
  | .hbm, ⟨19, _⟩ => ⟨S16384x128, .f32⟩
  | .hbm, ⟨20, _⟩ => ⟨S16384x64, .f32⟩
  | .hbm, ⟨21, _⟩ => ⟨S16384x32, .f32⟩
  | .local _ .vmem, ⟨0, _⟩ => ⟨S512x4096, .bf16⟩
  | .local _ .vmem, ⟨1, _⟩ => ⟨S512x4096, .bf16⟩
  | .local _ .vmem, ⟨2, _⟩ => ⟨S4096x128, .bf16⟩
  | .local _ .vmem, ⟨3, _⟩ => ⟨S1x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GdnGatesReferenceIdeal.lean ====
abbrev S16384x4096 : Shape := ⟨2, ![16384, 4096]⟩
abbrev S2x4096x16448 : Shape := ⟨3, ![2, 4096, 16448]⟩
abbrev S32 : Shape := ⟨1, ![32]⟩
abbrev S1x4096x16448 : Shape := ⟨3, ![1, 4096, 16448]⟩
abbrev S4096x16448 : Shape := ⟨2, ![4096, 16448]⟩
abbrev S16384x16448 : Shape := ⟨2, ![16384, 16448]⟩
abbrev S16384x64 : Shape := ⟨2, ![16384, 64]⟩
abbrev S16384x32 : Shape := ⟨2, ![16384, 32]⟩
abbrev S1x32 : Shape := ⟨2, ![1, 32]⟩
abbrev S_ : Shape := ⟨0, ![]⟩
abbrev S2x8192x32 : Shape := ⟨3, ![2, 8192, 32]⟩
abbrev S2x32x8192 : Shape := ⟨3, ![2, 32, 8192]⟩
abbrev S2x32x128x64 : Shape := ⟨4, ![2, 32, 128, 64]⟩

abbrev nBuf : Space → Nat
  | .hbm => 58
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x16448, .f32⟩
  | .hbm, ⟨2, _⟩ => ⟨S32, .f32⟩
  | .hbm, ⟨3, _⟩ => ⟨S32, .f32⟩
  | .hbm, ⟨4, _⟩ => ⟨S16384x4096, .f32⟩
  | .hbm, ⟨5, _⟩ => ⟨S1x4096x16448, .f32⟩
  | .hbm, ⟨6, _⟩ => ⟨S4096x16448, .f32⟩
  | .hbm, ⟨7, _⟩ => ⟨S16384x16448, .f32⟩
  | .hbm, ⟨8, _⟩ => ⟨S16384x64, .f32⟩
  | .hbm, ⟨9, _⟩ => ⟨S16384x32, .f32⟩
  | .hbm, ⟨10, _⟩ => ⟨S16384x32, .f32⟩
  | .hbm, ⟨11, _⟩ => ⟨S32, .f32⟩
  | .hbm, ⟨12, _⟩ => ⟨S1x32, .f32⟩
  | .hbm, ⟨13, _⟩ => ⟨S16384x32, .f32⟩
  | .hbm, ⟨14, _⟩ => ⟨S16384x32, .f32⟩
  | .hbm, ⟨15, _⟩ => ⟨S_, .f32⟩
  | .hbm, ⟨16, _⟩ => ⟨S16384x32, .f32⟩
  | .hbm, ⟨17, _⟩ => ⟨S16384x32, .f32⟩
  | .hbm, ⟨18, _⟩ => ⟨S16384x32, .f32⟩
  | .hbm, ⟨19, _⟩ => ⟨S16384x32, .f32⟩
  | .hbm, ⟨20, _⟩ => ⟨S16384x32, .i1⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S16384x32, .f32⟩
  | .hbm, ⟨28, _⟩ => ⟨S16384x32, .f32⟩
  | .hbm, ⟨29, _⟩ => ⟨S1x32, .f32⟩
  | .hbm, ⟨30, _⟩ => ⟨S16384x32, .f32⟩
  | .hbm, ⟨31, _⟩ => ⟨S16384x32, .f32⟩
  | .hbm, ⟨32, _⟩ => ⟨S16384x32, .f32⟩
  | .hbm, ⟨33, _⟩ => ⟨S2x8192x32, .f32⟩
  | .hbm, ⟨34, _⟩ => ⟨S2x32x8192, .f32⟩
  | .hbm, ⟨35, _⟩ => ⟨S2x32x128x64, .f32⟩
  | .hbm, ⟨36, _⟩ => ⟨S_, .f32⟩
  | .hbm, ⟨37, _⟩ => ⟨S_, .f32⟩
  | .hbm, ⟨38, _⟩ => ⟨S2x32x128x64, .f32⟩
  | .hbm, ⟨39, _⟩ => ⟨S_, .f32⟩
  | .hbm, ⟨40, _⟩ => ⟨S_, .f32⟩
  | .hbm, ⟨41, _⟩ => ⟨S2x32x128x64, .f32⟩
  | .hbm, ⟨42, _⟩ => ⟨S2x32x128x64, .f32⟩
  | .hbm, ⟨43, _⟩ => ⟨S2x32x8192, .f32⟩
  | .hbm, ⟨44, _⟩ => ⟨S2x8192x32, .f32⟩
  | .hbm, ⟨45, _⟩ => ⟨S16384x32, .f32⟩
  | .hbm, ⟨46, _⟩ => ⟨S2x32x8192, .f32⟩
  | .hbm, ⟨47, _⟩ => ⟨S2x8192x32, .f32⟩
  | .hbm, ⟨48, _⟩ => ⟨S16384x32, .f32⟩
  | .hbm, ⟨49, _⟩ => ⟨S16384x32, .f32⟩
  | .hbm, ⟨50, _⟩ => ⟨S16384x32, .f32⟩
  | .hbm, ⟨51, _⟩ => ⟨S_, .f32⟩
  | .hbm, ⟨52, _⟩ => ⟨S16384x32, .f32⟩
  | .hbm, ⟨53, _⟩ => ⟨S16384x32, .f32⟩
  | .hbm, ⟨54, _⟩ => ⟨S_, .f32⟩
  | .hbm, ⟨55, _⟩ => ⟨S16384x32, .f32⟩
  | .hbm, ⟨56, _⟩ => ⟨S16384x32, .f32⟩
  | .hbm, ⟨57, _⟩ => ⟨S16384x64, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call1_cst : Ref sig .tc := ⟨.hbm, 36, rfl⟩
abbrev main_call1_v0 : Ref sig .tc := ⟨.hbm, 37, rfl⟩
abbrev main_v19 : Ref sig .tc := ⟨.hbm, 38, rfl⟩
abbrev main_call2_cst : Ref sig .tc := ⟨.hbm, 39, rfl⟩
abbrev main_call2_v0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst : Ref sig .tc := ⟨.hbm, 51, rfl⟩
abbrev main_v30 : Ref sig .tc := ⟨.hbm, 52, rfl⟩
abbrev main_v31 : Ref sig .tc := ⟨.hbm, 53, rfl⟩
abbrev main_cst_0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩

abbrev nD : Nat := 1
abbrev τ : Topo := Topo.v7x

variable {F : FTy → Type} [FloatOps F]
-- ==== Lru.lean ====
abbrev S16384x4096 : Shape := ⟨2, ![16384, 4096]⟩
abbrev S16x256x256 : Shape := ⟨3, ![16, 256, 256]⟩
abbrev S16x256 : Shape := ⟨2, ![16, 256]⟩
abbrev S4096 : Shape := ⟨1, ![4096]⟩
abbrev S16x256x512 : Shape := ⟨3, ![16, 256, 512]⟩
abbrev S16x512 : Shape := ⟨2, ![16, 512]⟩
abbrev S16x1x512 : Shape := ⟨3, ![16, 1, 512]⟩
abbrev S16x1x256 : Shape := ⟨3, ![16, 1, 256]⟩
abbrev S512x256 : Shape := ⟨2, ![512, 256]⟩
abbrev S1x256x512 : Shape := ⟨3, ![1, 256, 512]⟩
abbrev S1x1x512 : Shape := ⟨3, ![1, 1, 512]⟩
abbrev S1x1x256 : Shape := ⟨3, ![1, 1, 256]⟩
abbrev S1x256 : Shape := ⟨2, ![1, 256]⟩
abbrev S256x512 : Shape := ⟨2, ![256, 512]⟩
abbrev S512x512 : Shape := ⟨2, ![512, 512]⟩
abbrev S1x512 : Shape := ⟨2, ![1, 512]⟩
abbrev S8x256 : Shape := ⟨2, ![8, 256]⟩

abbrev nBuf : Space → Nat
  | .hbm => 13
  | .vmem => 15
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16x256x256, .f32⟩
  | .hbm, ⟨3, _⟩ => ⟨S16x256, .f32⟩
  | .hbm, ⟨4, _⟩ => ⟨S16x256x256, .f32⟩
  | .hbm, ⟨5, _⟩ => ⟨S16x256, .f32⟩
  | .hbm, ⟨6, _⟩ => ⟨S4096, .f32⟩
  | .hbm, ⟨7, _⟩ => ⟨S16x256x512, .f32⟩
  | .hbm, ⟨8, _⟩ => ⟨S16x256x512, .bf16⟩
  | .hbm, ⟨9, _⟩ => ⟨S16x512, .f32⟩
  | .hbm, ⟨10, _⟩ => ⟨S16x1x512, .f32⟩
  | .hbm, ⟨11, _⟩ => ⟨S16x1x256, .f32⟩
  | .hbm, ⟨12, _⟩ => ⟨S16384x4096, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S1x256x512, .bf16⟩
  | .local _ .vmem, ⟨5, _⟩ => ⟨S1x256x512, .bf16⟩
  | .local _ .vmem, ⟨6, _⟩ => ⟨S1x1x512, .f32⟩
  | .local _ .vmem, ⟨7, _⟩ => ⟨S1x1x512, .f32⟩
  | .local _ .vmem, ⟨8, _⟩ => ⟨S1x1x256, .f32⟩
  | .local _ .vmem, ⟨9, _⟩ => ⟨S1x1x256, .f32⟩
  | .local _ .vmem, ⟨10, _⟩ => ⟨S512x256, .bf16⟩
  | .local _ .vmem, ⟨11, _⟩ => ⟨S512x256, .bf16⟩
  | .local _ .vmem, ⟨12, _⟩ => ⟨S1x256, .f32⟩
  | .local _ .vmem, ⟨13, _⟩ => ⟨S512x256, .f32⟩
  | .local _ .vmem, ⟨14, _⟩ => ⟨S512x256, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 16, 16], ![false, false, false]⟩

@[reducible] def k0_t1_loop : Scf.Loop 32 :=
  let c0_i32_23 : BitVec 32 := 0#32
  let c64_i32 : BitVec 32 := 64#32
  let v50 : BitVec 32 := Scalar.addi c0_i32_23 c64_i32
  let c1_i32 : BitVec 32 := 1#32
  ⟨c0_i32_23, v50, c1_i32⟩
def k0_mult1 (k0_t1 : Fin k0_t1_loop.trips) : BitVec 32 :=
  let c0_i32_23 : BitVec 32 := 0#32
  let c1_i32 : BitVec 32 := 1#32
  let arg12 : BitVec 32 := Scf.iv c0_i32_23 c1_i32 k0_t1
  let c8_i32 : BitVec 32 := 8#32
  let v60 : BitVec 32 := Scalar.muli arg12 c8_i32
  v60
def k0_off1 (k0_t1 : Fin k0_t1_loop.trips) : Fin 2 → Nat :=
  let c0_i32_23 : BitVec 32 := 0#32
  let c1_i32 : BitVec 32 := 1#32
  let arg12 : BitVec 32 := Scf.iv c0_i32_23 c1_i32 k0_t1
  let c8_i32 : BitVec 32 := 8#32
  let v60 : BitVec 32 := Scalar.muli arg12 c8_i32
  let v61 : BitVec 32 := v60
  let v62 : Index := Scalar.indexCast v61
  let c0_33 : Index := 0#32
  ![v62.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== LruReferenceIdeal.lean ====
abbrev S16384x4096 : Shape := ⟨2, ![16384, 4096]⟩
abbrev S16x256x256 : Shape := ⟨3, ![16, 256, 256]⟩
abbrev S16x256 : Shape := ⟨2, ![16, 256]⟩
abbrev S4096 : Shape := ⟨1, ![4096]⟩
abbrev S2x8192x4096 : Shape := ⟨3, ![2, 8192, 4096]⟩
abbrev S2x8192x16x256 : Shape := ⟨4, ![2, 8192, 16, 256]⟩
abbrev S16x256x2x8192 : Shape := ⟨4, ![16, 256, 2, 8192]⟩
abbrev S1x1x16x256 : Shape := ⟨4, ![1, 1, 16, 256]⟩
abbrev S_ : Shape := ⟨0, ![]⟩
abbrev S1x1x4096 : Shape := ⟨3, ![1, 1, 4096]⟩
abbrev S2x4096 : Shape := ⟨2, ![2, 4096]⟩
abbrev S8192x2x4096 : Shape := ⟨3, ![8192, 2, 4096]⟩
abbrev S1x2x4096 : Shape := ⟨3, ![1, 2, 4096]⟩

abbrev nBuf : Space → Nat
  | .hbm => 101
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16x256x256, .f32⟩
  | .hbm, ⟨3, _⟩ => ⟨S16x256, .f32⟩
  | .hbm, ⟨4, _⟩ => ⟨S16x256x256, .f32⟩
  | .hbm, ⟨5, _⟩ => ⟨S16x256, .f32⟩
  | .hbm, ⟨6, _⟩ => ⟨S4096, .f32⟩
  | .hbm, ⟨7, _⟩ => ⟨S2x8192x4096, .f32⟩
  | .hbm, ⟨8, _⟩ => ⟨S2x8192x16x256, .f32⟩
  | .hbm, ⟨9, _⟩ => ⟨S16x256x2x8192, .f32⟩
  | .hbm, ⟨10, _⟩ => ⟨S2x8192x16x256, .f32⟩
  | .hbm, ⟨11, _⟩ => ⟨S1x1x16x256, .f32⟩
  | .hbm, ⟨12, _⟩ => ⟨S2x8192x16x256, .f32⟩
  | .hbm, ⟨13, _⟩ => ⟨S2x8192x16x256, .f32⟩
  | .hbm, ⟨14, _⟩ => ⟨S2x8192x16x256, .f32⟩
  | .hbm, ⟨15, _⟩ => ⟨S2x8192x16x256, .f32⟩
  | .hbm, ⟨16, _⟩ => ⟨S_, .f32⟩
  | .hbm, ⟨17, _⟩ => ⟨S2x8192x16x256, .f32⟩
  | .hbm, ⟨18, _⟩ => ⟨S2x8192x16x256, .f32⟩
  | .hbm, ⟨19, _⟩ => ⟨S_, .f32⟩
  | .hbm, ⟨20, _⟩ => ⟨S2x8192x16x256, .f32⟩
  | .hbm, ⟨21, _⟩ => ⟨S2x8192x16x256, .f32⟩
  | .hbm, ⟨22, _⟩ => ⟨S2x8192x4096, .f32⟩
  | .hbm, ⟨23, _⟩ => ⟨S16x256x2x8192, .f32⟩
  | .hbm, ⟨24, _⟩ => ⟨S2x8192x16x256, .f32⟩
  | .hbm, ⟨25, _⟩ => ⟨S1x1x16x256, .f32⟩
  | .hbm, ⟨26, _⟩ => ⟨S2x8192x16x256, .f32⟩
  | .hbm, ⟨27, _⟩ => ⟨S2x8192x16x256, .f32⟩
  | .hbm, ⟨28, _⟩ => ⟨S2x8192x16x256, .f32⟩
  | .hbm, ⟨29, _⟩ => ⟨S2x8192x16x256, .f32⟩
  | .hbm, ⟨30, _⟩ => ⟨S_, .f32⟩
  | .hbm, ⟨31, _⟩ => ⟨S2x8192x16x256, .f32⟩
  | .hbm, ⟨32, _⟩ => ⟨S2x8192x16x256, .f32⟩
  | .hbm, ⟨33, _⟩ => ⟨S_, .f32⟩
  | .hbm, ⟨34, _⟩ => ⟨S2x8192x16x256, .f32⟩
  | .hbm, ⟨35, _⟩ => ⟨S2x8192x16x256, .f32⟩
  | .hbm, ⟨36, _⟩ => ⟨S2x8192x4096, .f32⟩
  | .hbm, ⟨37, _⟩ => ⟨S_, .f32⟩
  | .hbm, ⟨38, _⟩ => ⟨S2x8192x4096, .f32⟩
  | .hbm, ⟨39, _⟩ => ⟨S2x8192x4096, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S4096, .i1⟩
  | .hbm, ⟨47, _⟩ => ⟨S4096, .f32⟩
  | .hbm, ⟨48, _⟩ => ⟨S4096, .f32⟩
  | .hbm, ⟨49, _⟩ => ⟨S4096, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S4096, .f32⟩
  | .hbm, ⟨54, _⟩ => ⟨S4096, .f32⟩
  | .hbm, ⟨55, _⟩ => ⟨S1x1x4096, .f32⟩
  | .hbm, ⟨56, _⟩ => ⟨S2x8192x4096, .f32⟩
  | .hbm, ⟨57, _⟩ => ⟨S2x8192x4096, .f32⟩
  | .hbm, ⟨58, _⟩ => ⟨S2x8192x4096, .f32⟩
  | .hbm, ⟨59, _⟩ => ⟨S_, .f32⟩
  | .hbm, ⟨60, _⟩ => ⟨S2x8192x4096, .f32⟩
  | .hbm, ⟨61, _⟩ => ⟨S2x8192x4096, .f32⟩
  | .hbm, ⟨62, _⟩ => ⟨S2x8192x4096, .f32⟩
  | .hbm, ⟨63, _⟩ => ⟨S2x8192x4096, .f32⟩
  | .hbm, ⟨64, _⟩ => ⟨S2x8192x4096, .f32⟩
  | .hbm, ⟨65, _⟩ => ⟨S2x8192x4096, .f32⟩
  | .hbm, ⟨66, _⟩ => ⟨S2x8192x4096, .f32⟩
  | .hbm, ⟨67, _⟩ => ⟨S_, .f32⟩
  | .hbm, ⟨68, _⟩ => ⟨S2x4096, .f32⟩
  | .hbm, ⟨69, _⟩ => ⟨S8192x2x4096, .f32⟩
  | .hbm, ⟨70, _⟩ => ⟨S8192x2x4096, .f32⟩
  | .hbm, ⟨71, _⟩ => ⟨S_, .f32⟩
  | .hbm, ⟨72, _⟩ => ⟨S8192x2x4096, .f32⟩
  | .hbm, ⟨73, _⟩ => ⟨S_, .i32⟩
  | .hbm, ⟨74, _⟩ => ⟨S8192x2x4096, .f32⟩
  | .hbm, ⟨75, _⟩ => ⟨S8192x2x4096, .f32⟩
  | .hbm, ⟨76, _⟩ => ⟨S_, .i32⟩
  | .hbm, ⟨77, _⟩ => ⟨S2x4096, .f32⟩
  | .hbm, ⟨78, _⟩ => ⟨S8192x2x4096, .f32⟩
  | .hbm, ⟨79, _⟩ => ⟨S_, .i32⟩
  | .hbm, ⟨80, _⟩ => ⟨S_, .i1⟩
  | .hbm, ⟨81, _⟩ => ⟨S_, .i32⟩
  | .hbm, ⟨82, _⟩ => ⟨S_, .i32⟩
  | .hbm, ⟨83, _⟩ => ⟨S1x2x4096, .f32⟩
  | .hbm, ⟨84, _⟩ => ⟨S2x4096, .f32⟩
  | .hbm, ⟨85, _⟩ => ⟨S_, .i32⟩
  | .hbm, ⟨86, _⟩ => ⟨S_, .i32⟩
  | .hbm, ⟨87, _⟩ => ⟨S1x2x4096, .f32⟩
  | .hbm, ⟨88, _⟩ => ⟨S2x4096, .f32⟩
  | .hbm, ⟨89, _⟩ => ⟨S2x4096, .f32⟩
  | .hbm, ⟨90, _⟩ => ⟨S2x4096, .f32⟩
  | .hbm, ⟨91, _⟩ => ⟨S1x2x4096, .f32⟩
  | .hbm, ⟨92, _⟩ => ⟨S_, .i32⟩
  | .hbm, ⟨93, _⟩ => ⟨S_, .i32⟩
  | .hbm, ⟨94, _⟩ => ⟨S8192x2x4096, .f32⟩
  | .hbm, ⟨95, _⟩ => ⟨S_, .i32⟩
  | .hbm, ⟨96, _⟩ => ⟨S_, .i32⟩
  | .hbm, ⟨97, _⟩ => ⟨S2x8192x4096, .f32⟩
  | .hbm, ⟨98, _⟩ => ⟨S16384x4096, .f32⟩
  | .hbm, ⟨99, _⟩ => ⟨S16384x4096, .f32⟩
  | .hbm, ⟨100, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_6 : Ref sig .tc := ⟨.hbm, 71, rfl⟩
abbrev main_v44 : Ref sig .tc := ⟨.hbm, 72, rfl⟩
abbrev main_c : Ref sig .tc := ⟨.hbm, 73, rfl⟩
abbrev main_v45_0 : Ref sig .tc := ⟨.hbm, 74, rfl⟩
abbrev main_v45_1 : Ref sig .tc := ⟨.hbm, 75, rfl⟩
abbrev main_v45_2 : Ref sig .tc := ⟨.hbm, 76, rfl⟩
abbrev main_v45_3 : Ref sig .tc := ⟨.hbm, 77, rfl⟩
abbrev main_v45_4 : Ref sig .tc := ⟨.hbm, 78, rfl⟩
abbrev main_while0c_c_11 : Ref sig .tc := ⟨.hbm, 79, rfl⟩
abbrev main_while0c_v50 : Ref sig .tc := ⟨.hbm, 80, rfl⟩
abbrev main_while0b_call1_c : Ref sig .tc := ⟨.hbm, 81, rfl⟩
abbrev main_while0b_call1_c_0 : Ref sig .tc := ⟨.hbm, 82, rfl⟩
abbrev main_while0b_call1_v0 : Ref sig .tc := ⟨.hbm, 83, rfl⟩
abbrev main_while0b_v50 : Ref sig .tc := ⟨.hbm, 84, rfl⟩
abbrev main_while0b_call2_c : Ref sig .tc := ⟨.hbm, 85, rfl⟩
abbrev main_while0b_call2_c_0 : Ref sig .tc := ⟨.hbm, 86, rfl⟩
abbrev main_while0b_call2_v0 : Ref sig .tc := ⟨.hbm, 87, rfl⟩
abbrev main_while0b_v51 : Ref sig .tc := ⟨.hbm, 88, rfl⟩
abbrev main_while0b_v52 : Ref sig .tc := ⟨.hbm, 89, rfl⟩
abbrev main_while0b_v53 : Ref sig .tc := ⟨.hbm, 90, rfl⟩
abbrev main_while0b_call3_v0 : Ref sig .tc := ⟨.hbm, 91, rfl⟩
abbrev main_while0b_call3_c : Ref sig .tc := ⟨.hbm, 92, rfl⟩
abbrev main_while0b_call3_c_0 : Ref sig .tc := ⟨.hbm, 93, rfl⟩
abbrev main_while0b_v54 : Ref sig .tc := ⟨.hbm, 94, rfl⟩
abbrev main_while0b_c_11 : Ref sig .tc := ⟨.hbm, 95, rfl⟩
abbrev main_while0b_v55 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩

abbrev nD : Nat := 1
abbrev τ : Topo := Topo.v7x

variable {F : FTy → Type} [FloatOps F]

abbrev main_while0_count : Scf.Loop 32 := ⟨0#32, 8192#32, 1#32⟩
-- ==== Proof.SbTrip.lean ====
/-
  The attention kernel's staged arithmetic, head by head. One grid point holds four heads of 128 columns; each head goes
  through the diagonal key block first and then through the key blocks before it, last to first, carrying the sum of
  weighted values and, per query row, the sum of the log keep factors already passed. The generated run states the four
  heads through separate payload names; this module names one head's step once and reads the run through it.
-/
module

public import proofs.«01_k».proof.Proof.Gen.KernelIdeal.Value
public import Idealize.ShloMosaic.Lib.ValueIdx

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F] [Named F]

/-! ## Bounds and offsets -/

/-- The loop over the earlier key blocks makes as many trips as there are earlier blocks. -/
theorem trips1 (i : grid0.Coords) : (k0_t1_loop i).trips = (i 2).val :=
  (by decide +kernel : ∀ a : Fin 32, (Scf.Loop.trips ⟨0#32, Scalar.addi 0#32 (Scalar.muli (Scalar.divsi (Scalar.subi (BitVec.ofNat 32 a.val) 0#32) 1#32) 1#32), 1#32⟩ : ℕ) = a.val) (i 2)

/-- The remainder loop of the unrolling makes no trip. -/
theorem trips2 (i : grid0.Coords) : (k0_t2_loop i).trips = 0 :=
  (by decide +kernel : ∀ a : Fin 32, (Scf.Loop.trips ⟨Scalar.addi 0#32 (Scalar.muli (Scalar.divsi (Scalar.subi (BitVec.ofNat 32 a.val) 0#32) 1#32) 1#32), Scalar.addi 0#32 (Scalar.subi (BitVec.ofNat 32 a.val) 0#32), 1#32⟩ : ℕ) = 0) (i 2)

/-- Trip `k` of query block `a` reads the keys from row `256 (a - 1 - k)`. -/
theorem row1 : ∀ a : Fin 32, ∀ k : Fin 32, k < a →
    (Scalar.indexCast (Scalar.muli (Scalar.subi (Scalar.subi (BitVec.ofNat 32 a.val) 1#32) (Scf.iv 0#32 1#32 k.val)) 256#32) : Index).toNat = 256 * (a.val - 1 - k.val) := by
  decide +kernel

/-- The diagonal block of query block `a` starts at key row `256 a`. -/
theorem row0 : ∀ a : Fin 32, (Scalar.indexCast (Scalar.muli (BitVec.ofNat 32 a.val) 256#32) : Index).toNat = 256 * a.val := by
  decide +kernel

/-! ## One head -/

/-- The `256 × 128` block of keys (or values) at block row `kb`, columns `o …`, of an `8192 × 512` staged array. -/
def blk (x : Vec F S8192x512 .bf16) (o : Fin 4) (kb : ℕ) : Vec F S256x128 .bf16 := fun y =>
  x (ValueIdx.ix2 ⟨(256 * kb + (y 0).val) % 8192, Nat.mod_lt _ (by decide)⟩
    ⟨128 * o.val + (y 1).val, by have h : (y 1).val < 128 := (y 1).isLt; have := o.isLt; omega⟩)

/-- One head's `256 × 128` block of the staged queries. -/
def qblk (x : Vec F S256x512 .bf16) (o : Fin 4) : Vec F S256x128 .bf16 := fun y =>
  x (ValueIdx.ix2 ⟨(y 0).val, (y 0).isLt⟩
    ⟨128 * o.val + (y 1).val, by have h : (y 1).val < 128 := (y 1).isLt; have := o.isLt; omega⟩)

theorem ld_blk (x : Vec F S8192x512 .bf16) (o : Fin 4) (kb : ℕ) (hkb : kb < 32) (off : Fin 2 → ℕ)
    (h0 : off 0 = 256 * kb) (h1 : off 1 = 128 * o.val) (inb : ∀ a, off a + S256x128.size a ≤ S8192x512.size a) :
    View.ld x (Rect.unit off S256x128.size inb) = blk x o kb := by
  funext y
  unfold blk
  refine congrArg x (funext fun a => Fin.ext ?_)
  have hy : (y 0).val < 256 := (y 0).isLt
  match a with
  | ⟨0, _⟩ => show off 0 + 1 * (y 0).val = (256 * kb + (y 0).val) % 8192; rw [h0, Nat.mod_eq_of_lt (by omega)]; omega
  | ⟨1, _⟩ => show off 1 + 1 * (y 1).val = 128 * o.val + (y 1).val; rw [h1]; omega

theorem ld_qblk (x : Vec F S256x512 .bf16) (o : Fin 4) (off : Fin 2 → ℕ)
    (h0 : off 0 = 0) (h1 : off 1 = 128 * o.val) (inb : ∀ a, off a + S256x128.size a ≤ S256x512.size a) :
    View.ld x (Rect.unit off S256x128.size inb) = qblk x o := by
  funext y
  unfold qblk
  refine congrArg x (funext fun a => Fin.ext ?_)
  match a with
  | ⟨0, _⟩ => show off 0 + 1 * (y 0).val = (y 0).val; rw [h0]; omega
  | ⟨1, _⟩ => show off 1 + 1 * (y 1).val = 128 * o.val + (y 1).val; rw [h1]; omega

/-- The (negated) scores of one query block against one key block. -/
def hScore (q k : Vec F S256x128 .bf16) : FVec F S256x256 .f32 :=
  matmul dot_S256x128_S256x128_S256x256_1_1_0_0_n_n none q k (constant S256x256 .f32 0x00000000#32)

/-- The log keep factors of a block of scores. -/
def hKeep (x : FVec F S256x256 .f32) : FVec F S256x256 .f32 := k0_pay47 x

/-- The log keep factors summed from each key to the end of its block: their product with the lower triangle `t`. -/
def hFrom (t : FVec F S256x256 .bf16) (l : FVec F S256x256 .f32) : FVec F S256x256 .f32 :=
  matmul dot_S256x256_S256x256_S256x256_1_0_0_1_n_n none (truncf .bf16 l bitsLt_bf16_f32) t (constant S256x256 .f32 0x00000000#32)

/-- The zero of the value sum. -/
def hZero : FVec F S256x128 .f32 := broadcast S256x128 (Scalar.ofBits .f32 0x00000000#32)

/-- The zero of the running log keep sum. -/
def hZeroR : FVec F S256x1 .f32 := broadcast S256x1 (Scalar.ofBits .f32 0x00000000#32)

/-- Entries of a diagonal block at or past the query's own position are set to zero. -/
def hMask (x : FVec F S256x256 .f32) : FVec F S256x256 .f32 :=
  select k0_pay34 x (broadcast S256x256 (Scalar.ofBits .f32 0x00000000#32))

/-- The weights of one block: from the summed log keeps, the scores and the log keeps of the later blocks. -/
def hExp (s x : FVec F S256x256 .f32) (r : FVec F S256x1 .f32) : FVec F S256x256 .f32 :=
  exp (addf (subf s x) (broadcastTo S256x256 r broadcasts_S256x1_S256x256))

/-- The value sum with one more block of weights `w`. -/
def hAcc (a : FVec F S256x128 .f32) (w : FVec F S256x256 .f32) (v : Vec F S256x128 .bf16) : FVec F S256x128 .f32 :=
  addf a (matmul dot_S256x256_S256x128_S256x128_1_0_0_1_n_n none (truncf .bf16 w bitsLt_bf16_f32) v (constant S256x128 .f32 0x00000000#32))

/-- The running log keep sum with one more block: the block's sum stands in the first column. -/
def hRun (r : FVec F S256x1 .f32) (s : FVec F S256x256 .f32) : FVec F S256x1 .f32 :=
  addf r (extractStridedSlice S256x1 ![0, 0] s slices_S256x256_o0_0_S256x1)

def hInitAcc (t : FVec F S256x256 .bf16) (q k v : Vec F S256x128 .bf16) : FVec F S256x128 .f32 :=
  hAcc hZero (hMask (hExp (hFrom t (hMask (hKeep (hScore q k)))) (hScore q k) hZeroR)) v

def hInitRun (t : FVec F S256x256 .bf16) (q k : Vec F S256x128 .bf16) : FVec F S256x1 .f32 :=
  hRun hZeroR (hFrom t (hMask (hKeep (hScore q k))))

def hStepAcc (t : FVec F S256x256 .bf16) (q k v : Vec F S256x128 .bf16) (a : FVec F S256x128 .f32) (r : FVec F S256x1 .f32) :
    FVec F S256x128 .f32 :=
  hAcc a (hExp (hFrom t (hKeep (hScore q k))) (hScore q k) r) v

def hStepRun (t : FVec F S256x256 .bf16) (q k : Vec F S256x128 .bf16) (r : FVec F S256x1 .f32) : FVec F S256x1 .f32 :=
  hRun r (hFrom t (hKeep (hScore q k)))

/-- One head's value sum and running log keep sum after the diagonal block `i` and `n` earlier blocks. -/
def hst (t : FVec F S256x256 .bf16) (q : Vec F S256x128 .bf16) (K V : ℕ → Vec F S256x128 .bf16) (i : ℕ) :
    ℕ → FVec F S256x128 .f32 × FVec F S256x1 .f32
  | 0 => (hInitAcc t q (K i) (V i), hInitRun t q (K i))
  | n + 1 => (hStepAcc t q (K (i - 1 - n)) (V (i - 1 - n)) (hst t q K V i n).1 (hst t q K V i n).2,
      hStepRun t q (K (i - 1 - n)) (hst t q K V i n).2)

/-- What one trip of the loop yields, from the four heads' steps. -/
theorem trip_read (c : Dev nD) (bd : Option _) (i : grid0.Coords) (arg3 : Memref sig .tc .vmem S256x512 .bf16) (harg3 : arg3.IsWhole) (arg4 : Memref sig .tc .vmem S8192x512 .bf16) (harg4 : arg4.IsWhole) (arg5 : Memref sig .tc .vmem S8192x512 .bf16) (harg5 : arg5.IsWhole) (arg6 : Memref sig .tc .vmem S256x512 .bf16) (harg6 : arg6.IsWhole) (arg2 : BitVec 32) (v0 v1 v2 v3 : Vec F S256x128 .bf16) (v10 : FVec F S256x256 .bf16) (x1 x2 : Vec F S8192x512 .bf16) (k : Fin (k0_t1_loop i).trips)
    (a0 a1 a2 a3 : FVec F S256x128 .f32) (r0 r1 r2 r3 : FVec F S256x1 .f32) :
    tripR_k0_t1 (F := F) Variants.none c bd i arg3 harg3 arg4 harg4 arg5 harg5 arg6 harg6 arg2 v0 v1 v2 v3 v10 (harg4.unread x1) (harg5.unread x2) k (a0, a1, a2, a3, r0, r1, r2, r3)
      = (hStepAcc v10 v0 (blk x1 0 ((i 2).val - 1 - k.val)) (blk x2 0 ((i 2).val - 1 - k.val)) a0 r0,
         hStepAcc v10 v1 (blk x1 1 ((i 2).val - 1 - k.val)) (blk x2 1 ((i 2).val - 1 - k.val)) a1 r1,
         hStepAcc v10 v2 (blk x1 2 ((i 2).val - 1 - k.val)) (blk x2 2 ((i 2).val - 1 - k.val)) a2 r2,
         hStepAcc v10 v3 (blk x1 3 ((i 2).val - 1 - k.val)) (blk x2 3 ((i 2).val - 1 - k.val)) a3 r3,
         hStepRun v10 v0 (blk x1 0 ((i 2).val - 1 - k.val)) r0,
         hStepRun v10 v1 (blk x1 1 ((i 2).val - 1 - k.val)) r1,
         hStepRun v10 v2 (blk x1 2 ((i 2).val - 1 - k.val)) r2,
         hStepRun v10 v3 (blk x1 3 ((i 2).val - 1 - k.val)) r3) := by
  have hk : k.val < (i 2).val := lt_of_lt_of_eq k.isLt (trips1 i)
  have hi : (i 2).val < 32 := (i 2).isLt
  have hb : (i 2).val - 1 - k.val < 32 := by omega
  have h := row1 (i 2) ⟨k.val, hk.trans hi⟩ hk
  have e5 : k0_off5 i k 0 = 256 * ((i 2).val - 1 - k.val) := h
  have e6 : k0_off6 i k 0 = 256 * ((i 2).val - 1 - k.val) := h
  have e7 : k0_off7 i k 0 = 256 * ((i 2).val - 1 - k.val) := h
  have e8 : k0_off8 i k 0 = 256 * ((i 2).val - 1 - k.val) := h
  have l5 := fun (x : Vec F S8192x512 .bf16) => ld_blk x 0 _ hb (k0_off5 i k) e5 rfl (k0_off5_inb i k)
  have l6 := fun (x : Vec F S8192x512 .bf16) => ld_blk x 1 _ hb (k0_off6 i k) e6 rfl (k0_off6_inb i k)
  have l7 := fun (x : Vec F S8192x512 .bf16) => ld_blk x 2 _ hb (k0_off7 i k) e7 rfl (k0_off7_inb i k)
  have l8 := fun (x : Vec F S8192x512 .bf16) => ld_blk x 3 _ hb (k0_off8 i k) e8 rfl (k0_off8_inb i k)
  unfold tripR_k0_t1 trip_k0_t1
  dsimp only
  sl_unfold_words
  simp only [View.readAt_eq_ld, harg4.read_unread, harg5.read_unread]
  rw [← l5 x1, ← l5 x2, ← l6 x1, ← l6 x2, ← l7 x1, ← l7 x2, ← l8 x1, ← l8 x2]
  rfl

/-- The carried values after `n` trips are the four heads' states. -/
theorem st_read (c : Dev nD) (bd : Option _) (i : grid0.Coords) (arg3 : Memref sig .tc .vmem S256x512 .bf16) (harg3 : arg3.IsWhole) (arg4 : Memref sig .tc .vmem S8192x512 .bf16) (harg4 : arg4.IsWhole) (arg5 : Memref sig .tc .vmem S8192x512 .bf16) (harg5 : arg5.IsWhole) (arg6 : Memref sig .tc .vmem S256x512 .bf16) (harg6 : arg6.IsWhole) (arg2 : BitVec 32) (q : Fin 4 → Vec F S256x128 .bf16) (t : FVec F S256x256 .bf16) (x1 x2 : Vec F S8192x512 .bf16)
    (S : Fin 4 → ℕ → FVec F S256x128 .f32 × FVec F S256x1 .f32) (hS : S = fun o => hst t (q o) (blk x1 o) (blk x2 o) (i 2).val)
    (n : ℕ) (hn : n ≤ (k0_t1_loop i).trips) :
    st_k0_t1 (F := F) Variants.none c bd i arg3 harg3 arg4 harg4 arg5 harg5 arg6 harg6 arg2 (q 0) (q 1) (q 2) (q 3) t (harg4.unread x1) (harg5.unread x2)
        ((S 0 0).1, (S 1 0).1, (S 2 0).1, (S 3 0).1, (S 0 0).2, (S 1 0).2, (S 2 0).2, (S 3 0).2) n
      = ((S 0 n).1, (S 1 n).1, (S 2 n).1, (S 3 n).1, (S 0 n).2, (S 1 n).2, (S 2 n).2, (S 3 n).2) := by
  induction n with
  | zero => exact st_k0_t1_zero ..
  | succ n ih =>
    have hlt : n < (k0_t1_loop i).trips := hn
    rw [show n + 1 = (⟨n, hlt⟩ : Fin (k0_t1_loop i).trips).val + 1 from rfl, st_k0_t1_succ, ih hlt.le, trip_read, hS]
    rfl

/-- The remainder loop leaves the carried values as they were. -/
theorem st2_trips (𝒱 : Variants) (c : Dev nD) (bd : Option 𝒱.V) (i : grid0.Coords) (arg3 : Memref sig .tc .vmem S256x512 .bf16) (harg3 : arg3.IsWhole) (arg4 : Memref sig .tc .vmem S8192x512 .bf16) (harg4 : arg4.IsWhole) (arg5 : Memref sig .tc .vmem S8192x512 .bf16) (harg5 : arg5.IsWhole) (arg6 : Memref sig .tc .vmem S256x512 .bf16) (harg6 : arg6.IsWhole) (arg2 : BitVec 32) (v0 v1 v2 v3 : Vec F S256x128 .bf16) (v10 : FVec F S256x256 .bf16) (v148 : BitVec 32) (X4 : BufTy.Contents (Elt F) arg4.view.ty) (X5 : BufTy.Contents (Elt F) arg5.view.ty) (init) :
    st_k0_t2 (F := F) 𝒱 c bd i arg3 harg3 arg4 harg4 arg5 harg5 arg6 harg6 arg2 v0 v1 v2 v3 v10 v148 X4 X5 init (k0_t2_loop i).trips = init := by
  rw [trips2]
  exact st_k0_t2_zero ..

/-- The `256 × 128` rectangle of one head's columns in the output block. -/
theorem inbO (o : Fin 4) : ∀ a, (![0, 128 * o.val] : Fin 2 → ℕ) a + S256x128.size a ≤ S256x512.size a := by
  revert o; decide

/-- The four heads' stores of a grid point: each head's value sum after all its trips, in its own columns. -/
theorem run_read (c : Dev nD) (i : grid0.Coords) (arg3 : Memref sig .tc .vmem S256x512 .bf16) (harg3 : arg3.IsWhole) (arg4 : Memref sig .tc .vmem S8192x512 .bf16) (harg4 : arg4.IsWhole) (arg5 : Memref sig .tc .vmem S8192x512 .bf16) (harg5 : arg5.IsWhole) (arg6 : Memref sig .tc .vmem S256x512 .bf16) (harg6 : arg6.IsWhole)
    (x0 : Vec F S256x512 .bf16) (x1 : Vec F S8192x512 .bf16) (x2 : Vec F S8192x512 .bf16)
    (S : Fin 4 → ℕ → FVec F S256x128 .f32 × FVec F S256x1 .f32) (hS : S = fun o => hst k0_pay33 (qblk x0 o) (blk x1 o) (blk x2 o) (i 2).val) :
    (kernelRun0_A c i arg3 harg3 arg4 harg4 arg5 harg5 arg6 harg6 x0 x1 x2).1
      = [⟨Rect.unit ![0, 384] S256x128.size (inbO 3), truncf .bf16 (S 3 (i 2).val).1 bitsLt_bf16_f32⟩,
         ⟨Rect.unit ![0, 256] S256x128.size (inbO 2), truncf .bf16 (S 2 (i 2).val).1 bitsLt_bf16_f32⟩,
         ⟨Rect.unit ![0, 128] S256x128.size (inbO 1), truncf .bf16 (S 1 (i 2).val).1 bitsLt_bf16_f32⟩,
         ⟨Rect.unit ![0, 0] S256x128.size (inbO 0), truncf .bf16 (S 0 (i 2).val).1 bitsLt_bf16_f32⟩] := by
  have hi : (i 2).val < 32 := (i 2).isLt
  have l1 := fun (x : Vec F S8192x512 .bf16) => ld_blk x 0 _ hi (k0_off1 i) (row0 (i 2)) rfl (k0_off1_inb i)
  have l2 := fun (x : Vec F S8192x512 .bf16) => ld_blk x 1 _ hi (k0_off2 i) (row0 (i 2)) rfl (k0_off2_inb i)
  have l3 := fun (x : Vec F S8192x512 .bf16) => ld_blk x 2 _ hi (k0_off3 i) (row0 (i 2)) rfl (k0_off3_inb i)
  have l4 := fun (x : Vec F S8192x512 .bf16) => ld_blk x 3 _ hi (k0_off4 i) (row0 (i 2)) rfl (k0_off4_inb i)
  have q0 := ld_qblk x0 0 ![0, 0] rfl rfl inb_S256x512_S256x128_0_0
  have q1 := ld_qblk x0 1 ![0, 128] rfl rfl inb_S256x512_S256x128_0_128
  have q2 := ld_qblk x0 2 ![0, 256] rfl rfl inb_S256x512_S256x128_0_256
  have q3 := ld_qblk x0 3 ![0, 384] rfl rfl inb_S256x512_S256x128_0_384
  let n := (i 2).val
  have hs : st_k0_t1 (F := F) Variants.none c none i arg3 harg3 arg4 harg4 arg5 harg5 arg6 harg6 (BitVec.ofNat 32 (i 2).val) (qblk x0 0) (qblk x0 1) (qblk x0 2) (qblk x0 3) k0_pay33 (harg4.unread x1) (harg5.unread x2)
      (hInitAcc k0_pay33 (qblk x0 0) (blk x1 0 (i 2).val) (blk x2 0 (i 2).val), hInitAcc k0_pay33 (qblk x0 1) (blk x1 1 (i 2).val) (blk x2 1 (i 2).val),
       hInitAcc k0_pay33 (qblk x0 2) (blk x1 2 (i 2).val) (blk x2 2 (i 2).val), hInitAcc k0_pay33 (qblk x0 3) (blk x1 3 (i 2).val) (blk x2 3 (i 2).val),
       hInitRun k0_pay33 (qblk x0 0) (blk x1 0 (i 2).val), hInitRun k0_pay33 (qblk x0 1) (blk x1 1 (i 2).val),
       hInitRun k0_pay33 (qblk x0 2) (blk x1 2 (i 2).val), hInitRun k0_pay33 (qblk x0 3) (blk x1 3 (i 2).val)) (k0_t1_loop i).trips
      = ((S 0 (i 2).val).1, (S 1 (i 2).val).1, (S 2 (i 2).val).1, (S 3 (i 2).val).1, (S 0 (i 2).val).2, (S 1 (i 2).val).2, (S 2 (i 2).val).2, (S 3 (i 2).val).2) := by
    have h := st_read (F := F) c none i arg3 harg3 arg4 harg4 arg5 harg5 arg6 harg6 (BitVec.ofNat 32 (i 2).val) (qblk x0) k0_pay33 x1 x2 S hS
      (k0_t1_loop i).trips le_rfl
    subst hS
    refine h.trans ?_
    rw [trips1]
  have e0 := congrArg (fun p => p.1) hs
  have e1 := congrArg (fun p => p.2.1) hs
  have e2 := congrArg (fun p => p.2.2.1) hs
  have e3 := congrArg (fun p => p.2.2.2.1) hs
  dsimp only at e0 e1 e2 e3
  rw [← e0, ← e1, ← e2, ← e3]
  rw [← l1 x1, ← l1 x2, ← l2 x1, ← l2 x2, ← l3 x1, ← l3 x2, ← l4 x1, ← l4 x2, ← q0, ← q1, ← q2, ← q3]
  clear e0 e1 e2 e3 hs
  unfold kernelRun0_A
  dsimp only
  sl_unfold_words
  simp only [View.readAt_eq_ld, harg3.read_unread, harg4.read_unread, harg5.read_unread]
  rw [st2_trips]
  clear l1 l2 l3 l4 q0 q1 q2 q3
  rfl
end Cert.KernelIdeal.Attn

end
-- ==== Proof.SbScalar.lean ====
/-
  The scalar facts of the attention claim, on extended reals. `lk x` is the log keep factor as the kernel computes it from
  the negated score `x`; `sp` is the softplus the reference's log-sigmoid is written with. Both are total, infinite
  scores included, so the claim needs no precondition.
-/
module

public import Idealize.ShloMosaic.PureOps.Ideal
public import Mathlib.Analysis.SpecialFunctions.Pow.Real

@[expose] public section

noncomputable section

namespace Cert.Sb

open Idealize.ShloMosaic

/-- The log keep factor of a negated score, by the kernel's formula. -/
def lk (x : EReal) : EReal :=
  min x 0 - Ideal.log (1 + Ideal.exp2 (max x (-x) * ((-((Real.log 2)⁻¹) : ℝ) : EReal)))

/-- Softplus by the reference's formula. -/
def sp (y : EReal) : EReal := max y 0 + Ideal.log (1 + Ideal.exp (-(max y (-y))))

theorem log2_pos : (0 : ℝ) < Real.log 2 := Real.log_pos (by norm_num)

theorem coe_max (a b : ℝ) : ((max a b : ℝ) : EReal) = max (a : EReal) b := EReal.coe_strictMono.monotone.map_max

theorem coe_min (a b : ℝ) : ((min a b : ℝ) : EReal) = min (a : EReal) b := EReal.coe_strictMono.monotone.map_min

theorem max_neg_coe (r : ℝ) : max (r : EReal) (-(r : EReal)) = ((|r| : ℝ) : EReal) := by
  rw [← EReal.coe_neg, ← coe_max]; rfl

theorem log_one_add (t : ℝ) (ht : 0 < t) : Ideal.log (1 + (t : EReal)) = ((Real.log (1 + t) : ℝ) : EReal) := by
  rw [show (1 : EReal) + (t : EReal) = ((1 + t : ℝ) : EReal) by push_cast; rfl]
  show (if 1 + t ≤ 0 then (⊥ : EReal) else _) = _
  rw [if_neg (by linarith)]

/-- At a finite score the log keep factor is the real one. -/
theorem lk_coe (r : ℝ) : lk r = ((min r 0 - Real.log (1 + Real.exp (-|r|)) : ℝ) : EReal) := by
  unfold lk
  have h : (max (r : EReal) (-(r : EReal))) * ((-((Real.log 2)⁻¹) : ℝ) : EReal) = ((|r| * -((Real.log 2)⁻¹) : ℝ) : EReal) := by
    rw [max_neg_coe, ← EReal.coe_mul]
  have h2 : Ideal.exp2 ((|r| * -((Real.log 2)⁻¹) : ℝ) : EReal) = ((Real.exp (-|r|) : ℝ) : EReal) := by
    show ((Real.rpow 2 _ : ℝ) : EReal) = _
    congr 1
    rw [Real.rpow_eq_pow, Real.rpow_def_of_pos (by norm_num)]
    congr 1
    have := log2_pos.ne'
    field_simp
  rw [h, h2, log_one_add _ (Real.exp_pos _), show min (r : EReal) 0 = ((min r 0 : ℝ) : EReal) by rw [coe_min]; rfl, ← EReal.coe_sub]

/-- A score of minus infinity leaves nothing. -/
theorem lk_bot : lk ⊥ = ⊥ := by
  unfold lk
  rw [min_eq_left bot_le, sub_eq_add_neg, EReal.bot_add]

/-- A score of plus infinity keeps everything. -/
theorem lk_top : lk ⊤ = 0 := by
  unfold lk
  have h : max (⊤ : EReal) (-⊤) * ((-((Real.log 2)⁻¹) : ℝ) : EReal) = ⊥ := by
    rw [max_eq_left le_top]
    exact EReal.top_mul_coe_of_neg (by have := log2_pos; simp [this])
  rw [h]
  show min ⊤ 0 - Ideal.log (1 + 0) = 0
  rw [add_zero, show (1 : EReal) = ((1 : ℝ) : EReal) from rfl]
  show min ⊤ 0 - (if (1 : ℝ) ≤ 0 then (⊥ : EReal) else ((Real.log 1 : ℝ) : EReal)) = 0
  rw [if_neg (by norm_num), Real.log_one]
  simp

theorem sp_coe (r : ℝ) : sp r = ((max r 0 + Real.log (1 + Real.exp (-|r|)) : ℝ) : EReal) := by
  unfold sp
  rw [max_neg_coe, ← EReal.coe_neg]
  show max (r : EReal) 0 + Ideal.log (1 + ((Real.exp (-|r|) : ℝ) : EReal)) = _
  rw [log_one_add _ (Real.exp_pos _), EReal.coe_add, coe_max]; rfl

theorem log_one : Ideal.log (1 + Ideal.exp ⊥) = 0 := by
  show Ideal.log (1 + 0) = 0
  rw [add_zero, show (1 : EReal) = ((1 : ℝ) : EReal) from rfl]
  show (if (1 : ℝ) ≤ 0 then (⊥ : EReal) else ((Real.log 1 : ℝ) : EReal)) = 0
  rw [if_neg (by norm_num), Real.log_one]; rfl

theorem sp_bot : sp ⊥ = 0 := by
  unfold sp
  rw [EReal.neg_bot, max_eq_right bot_le, max_eq_right bot_le, EReal.neg_top, log_one, add_zero]

theorem sp_top : sp ⊤ = ⊤ := by
  unfold sp
  rw [EReal.neg_top, max_eq_left le_top, max_eq_left le_top, EReal.neg_top, log_one, add_zero]

/-- The reference's `log_sigmoid (-z)` is the kernel's log keep factor. -/
theorem neg_sp_neg (x : EReal) : -sp (-x) = lk x := by
  induction x with
  | bot => rw [EReal.neg_bot, sp_top, lk_bot]; rfl
  | top => rw [EReal.neg_top, sp_bot, lk_top]; simp
  | coe r =>
    rw [← EReal.coe_neg, sp_coe, lk_coe, ← EReal.coe_neg, abs_neg]
    congr 1
    have : max (-r) 0 = -(min r 0) := by rw [← neg_zero (G := ℝ), max_neg_neg, neg_zero]
    rw [this]; ring

/-- The reference's `log_sigmoid z` is the log keep factor less the negated score, at a finite score. -/
theorem neg_sp_coe (r : ℝ) : -sp (r : EReal) = lk r - r := by
  rw [sp_coe, lk_coe, ← EReal.coe_sub, ← EReal.coe_neg]
  congr 1
  rcases le_total r 0 with h | h
  · rw [max_eq_right h, min_eq_left h]; ring
  · rw [max_eq_left h, min_eq_right h]; ring

/-- The two weights of a key agree: the kernel's, from the log keeps `K` summed from the key to its block's end and those
    `R` of the later blocks, and the reference's, from the log keeps after the key and its log beta. -/
theorem weight_eq (x K R : EReal) (hK : x = ⊥ → K = ⊥) :
    Ideal.exp (K - x + R) = Ideal.exp (-sp x + (K + R - lk x)) := by
  induction x with
  | bot =>
    rw [hK rfl, lk_bot, sp_bot]
    simp [sub_eq_add_neg]
  | top =>
    rw [lk_top, sp_top]
    simp [sub_eq_add_neg]
  | coe r =>
    rw [neg_sp_coe, lk_coe]
    generalize (min r 0 - Real.log (1 + Real.exp (-|r|))) = l
    congr 1
    have h : ∀ c : EReal, c - (r : EReal) = (l : EReal) - r + (c - l) := by
      intro c
      have : (l : EReal) + -(l : EReal) = 0 := by rw [← EReal.coe_neg, ← EReal.coe_add, add_neg_cancel]; rfl
      calc c - (r : EReal) = c + -(r : EReal) + 0 := by rw [add_zero, sub_eq_add_neg]
        _ = c + -(r : EReal) + ((l : EReal) + -(l : EReal)) := by rw [this]
        _ = _ := by simp only [sub_eq_add_neg]; ac_rfl
    rw [← h (K + R)]
    simp only [sub_eq_add_neg]; ac_rfl

end Cert.Sb

end
-- ==== Proof.SbBlock.lean ====
/-
  The attention kernel's block operations read at an element, on extended reals: scores, log keeps, their sums towards the
  end of the block, masks, weights, value sums.
-/
module

public import proofs.«01_k».proof.Proof.SbTrip
public import proofs.«01_k».proof.Proof.SbScalar
public import Idealize.ShloMosaic.PureOps.Ideal.Laws
public import Idealize.ShloMosaic.Lib.WordCmp

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.ValueIdx (ix2 contrEquiv1 contrEquiv1_symm_val)

/-- A score is the sum over the head's columns of query times key. -/
theorem score_at (q k : Vec Ideal S256x128 .bf16) (r c : Fin 256) :
    hScore q k (ix2 r c) = ∑ d : Fin 128, q (ix2 r d) * k (ix2 c d) := by
  unfold hScore
  simp only [matmul]
  rw [Ideal.matmul_constant_zero_apply, ← Equiv.sum_comp (contrEquiv1 dot_S256x128_S256x128_S256x256_1_1_0_0_n_n 128 rfl rfl).symm]
  refine Finset.sum_congr rfl fun d _ => congrArg₂ (· * ·) (congrArg q ?_) (congrArg k ?_)
  · exact funext fun a => match a with | ⟨0, _⟩ => rfl | ⟨1, _⟩ => Fin.ext (contrEquiv1_symm_val dot_S256x128_S256x128_S256x256_1_1_0_0_n_n 128 rfl rfl d)
  · exact funext fun a => match a with | ⟨0, _⟩ => rfl | ⟨1, _⟩ => Fin.ext (contrEquiv1_symm_val dot_S256x128_S256x128_S256x256_1_1_0_0_n_n 128 rfl rfl d)

/-- The sum of products with a `256 × 256` right factor. -/
theorem from_at (t : FVec Ideal S256x256 .bf16) (l : FVec Ideal S256x256 .f32) (r c : Fin 256) :
    hFrom t l (ix2 r c) = ∑ s : Fin 256, (l (ix2 r s) : EReal) * t (ix2 s c) := by
  unfold hFrom
  simp only [matmul]
  rw [Ideal.matmul_constant_zero_apply, ← Equiv.sum_comp (contrEquiv1 dot_S256x256_S256x256_S256x256_1_0_0_1_n_n 256 rfl rfl).symm]
  refine Finset.sum_congr rfl fun d _ => congrArg₂ (· * ·) (congrArg l ?_) (congrArg t ?_)
  · exact funext fun a => match a with | ⟨0, _⟩ => rfl | ⟨1, _⟩ => Fin.ext (contrEquiv1_symm_val dot_S256x256_S256x256_S256x256_1_0_0_1_n_n 256 rfl rfl d)
  · exact funext fun a => match a with | ⟨1, _⟩ => rfl | ⟨0, _⟩ => Fin.ext (contrEquiv1_symm_val dot_S256x256_S256x256_S256x256_1_0_0_1_n_n 256 rfl rfl d)

/-- The value sum grows by the weights times the block's values. -/
theorem acc_at (a : FVec Ideal S256x128 .f32) (w : FVec Ideal S256x256 .f32) (v : Vec Ideal S256x128 .bf16) (r : Fin 256) (d : Fin 128) :
    hAcc a w v (ix2 r d) = (a (ix2 r d) : EReal) + ∑ s : Fin 256, (w (ix2 r s) : EReal) * v (ix2 s d) := by
  unfold hAcc
  show (a (ix2 r d) : EReal) + FloatOps.matmul (F := Ideal) dot_S256x256_S256x128_S256x128_1_0_0_1_n_n none (truncf .bf16 w bitsLt_bf16_f32) v
    (constant S256x128 .f32 0x00000000#32) (ix2 r d) = _
  rw [Ideal.matmul_constant_zero_apply, ← Equiv.sum_comp (contrEquiv1 dot_S256x256_S256x128_S256x128_1_0_0_1_n_n 256 rfl rfl).symm]
  refine congrArg ((a (ix2 r d) : EReal) + ·) (Finset.sum_congr rfl fun s _ => congrArg₂ (· * ·) (congrArg w ?_) (congrArg v ?_))
  · exact funext fun a => match a with | ⟨0, _⟩ => rfl | ⟨1, _⟩ => Fin.ext (contrEquiv1_symm_val dot_S256x256_S256x128_S256x128_1_0_0_1_n_n 256 rfl rfl s)
  · exact funext fun a => match a with | ⟨1, _⟩ => rfl | ⟨0, _⟩ => Fin.ext (contrEquiv1_symm_val dot_S256x256_S256x128_S256x128_1_0_0_1_n_n 256 rfl rfl s)

theorem one_f32 : Ideal.ofBits .f32 0x3F800000#32 = 1 := by
  simp [Ideal.ofBits, Ideal.ieee, -EReal.coe_mul]; norm_num

/-- The log keep factor of a score. -/
theorem keep_at (x : FVec Ideal S256x256 .f32) (r c : Fin 256) : hKeep x (ix2 r c) = Sb.lk (x (ix2 r c)) := by
  have hn : (Named.named κ "neg_log2e" 0xBFB8AA3B#32 : Ideal .f32) = ((-((Real.log 2)⁻¹) : ℝ) : EReal) :=
    IdealRules.named_const.ideal_named_scalar _ _ _ _ rfl
  unfold hKeep k0_pay47 Sb.lk
  show min (x (ix2 r c)) (Ideal.ofBits .f32 0x00000000#32) - Ideal.log (Ideal.ofBits .f32 0x3F800000#32
    + Ideal.exp2 (max (x (ix2 r c)) (-(x (ix2 r c))) * (Named.named κ "neg_log2e" 0xBFB8AA3B#32 : Ideal .f32))) = _
  rw [hn, Ideal.ofBits_zero_f32, one_f32]

theorem fin256 (s : Fin 256) : s.val < 2 ^ (32 - 1) := lt_trans s.isLt (by norm_num)

theorem select_dec {α : Type} (p : Prop) [Decidable p] (a b : α) :
    Scalar.select (BitVec.ofBool (decide p)) a b = if p then a else b := by
  by_cases h : p <;> simp [h, Scalar.select]

/-- The triangle: one where the row is at or past the column. -/
theorem tri_at (s c : Fin 256) : (k0_pay33 (F := Ideal) (ix2 s c) : EReal) = if c.val ≤ s.val then 1 else 0 := by
  unfold k0_pay33
  show Scalar.select (IntOp.cmpi .sge (iota .tc S256x256 32 [0] iota_S256x256_d0_w32 (ix2 s c)) (iota .tc S256x256 32 [1] iota_S256x256_d1_w32 (ix2 s c))) (Ideal.ofBits .f32 0x3F800000#32)
    (Ideal.ofBits .f32 0x00000000#32) = _
  rw [Ideal.ofBits_zero_f32, one_f32, iota_single_apply, iota_single_apply]
  rw [WordCmp.cmpi_sge_ofNat (fin256 s) (fin256 c), select_dec]

/-- The diagonal mask keeps the entries with column before row. -/
theorem mask_at (x : FVec Ideal S256x256 .f32) (r c : Fin 256) :
    hMask x (ix2 r c) = if c.val < r.val then (x (ix2 r c) : EReal) else 0 := by
  unfold hMask k0_pay34
  show Scalar.select (IntOp.cmpi .slt (iota .tc S256x256 32 [1] iota_S256x256_d1_w32 (ix2 r c)) (iota .tc S256x256 32 [0] iota_S256x256_d0_w32 (ix2 r c))) (x (ix2 r c))
    (Ideal.ofBits .f32 0x00000000#32) = _
  rw [Ideal.ofBits_zero_f32, iota_single_apply, iota_single_apply]
  rw [WordCmp.cmpi_slt_ofNat (fin256 c) (fin256 r), select_dec]

/-- A weight. -/
theorem exp_at (s x : FVec Ideal S256x256 .f32) (v : FVec Ideal S256x1 .f32) (r c : Fin 256) :
    hExp s x v (ix2 r c) = Ideal.exp ((s (ix2 r c) : EReal) - x (ix2 r c) + v (ix2 r 0)) := by
  unfold hExp
  show Ideal.exp ((s (ix2 r c) : EReal) - x (ix2 r c) + v _) = _
  refine congrArg (fun z => Ideal.exp (_ + v z)) (funext fun a => ?_)
  match a with | ⟨0, _⟩ => rfl | ⟨1, _⟩ => rfl

/-- The running sum grows by the block sum's first column. -/
theorem run_at (v : FVec Ideal S256x1 .f32) (s : FVec Ideal S256x256 .f32) (r : Fin 256) :
    hRun v s (ix2 r 0) = (v (ix2 r 0) : EReal) + s (ix2 r 0) := by
  unfold hRun
  show (v (ix2 r 0) : EReal) + s _ = _
  refine congrArg (fun z => (v (ix2 r 0) : EReal) + s z) (funext fun a => ?_)
  match a with | ⟨0, _⟩ => exact Fin.ext (by show 0 + _ = _; simp) | ⟨1, _⟩ => rfl

end Cert.KernelIdeal.Attn

end
-- ==== Proof.SbSum.lean ====
/-
  The attention of one query row in plain sums: `x j` is the negated score of key `j`, `v j` its value (in one column), `t`
  the query's own position. The log keep factors are summed from a key to the end of the row; a key's weight is the
  exponential of its log beta plus the log keeps after it.
-/
module

public import proofs.«01_k».proof.Proof.SbScalar
public import Mathlib.Algebra.BigOperators.Intervals

@[expose] public section

noncomputable section

namespace Cert.Sb

open Idealize.ShloMosaic Finset

/-- The log keep factor of key `j`: none from the query's own position on. -/
def L (x : ℕ → EReal) (t j : ℕ) : EReal := if j < t then lk (x j) else 0

/-- The log keep factors of key `j` and of all later keys. -/
def C (x : ℕ → EReal) (t j : ℕ) : EReal := ∑ s ∈ Ico j 8192, L x t s

/-- The weight of key `j`. -/
def W (x : ℕ → EReal) (t j : ℕ) : EReal := if j < t then Ideal.exp (-sp (x j) + (C x t j - L x t j)) else 0

/-- The row's result. -/
def out (x v : ℕ → EReal) (t : ℕ) : EReal := ∑ j ∈ range 8192, W x t j * v j

theorem out_fin (x v : ℕ → EReal) (t : ℕ) : out x v t = ∑ j : Fin 8192, W x t j.val * v j.val :=
  (Fin.sum_univ_eq_sum_range (fun j => W x t j * v j) 8192).symm

/-- A product with a column of the triangle is the sum from that column's place to the end of the block. -/
theorem tri_sum (f : ℕ → EReal) (kb : ℕ) (c : Fin 256) :
    ∑ s : Fin 256, f (256 * kb + s.val) * (if c.val ≤ s.val then 1 else 0) = ∑ j ∈ Ico (256 * kb + c.val) (256 * (kb + 1)), f j := by
  simp only [mul_ite, mul_one, mul_zero]
  rw [Fin.sum_univ_eq_sum_range (fun s => if c.val ≤ s then f (256 * kb + s) else 0) 256, ← sum_filter]
  have h : (range 256).filter (fun s => c.val ≤ s) = Ico c.val 256 := by
    ext s; simp only [mem_filter, mem_range, mem_Ico]; tauto
  rw [h, sum_Ico_add (f := f), mul_add, mul_one, add_comm c.val, add_comm 256 (256 * kb)]

/-- A sum over one block. -/
theorem blk_sum (g : ℕ → EReal) (kb : ℕ) : ∑ s : Fin 256, g (256 * kb + s.val) = ∑ j ∈ Ico (256 * kb) (256 * (kb + 1)), g j := by
  have h := tri_sum g kb 0
  simpa using h

/-- The log keeps from `j` on end with the query's own block `i`. -/
theorem C_eq (x : ℕ → EReal) (t i j : ℕ) (hi : i < 32) (ht : t ≤ 256 * (i + 1)) (hj : j ≤ 256 * (i + 1)) :
    C x t j = ∑ s ∈ Ico j (256 * (i + 1)), L x t s := by
  unfold C
  rw [← sum_Ico_consecutive _ hj (by omega : 256 * (i + 1) ≤ 8192),
    sum_eq_zero (s := Ico (256 * (i + 1)) 8192), add_zero]
  intro s hs
  rw [mem_Ico] at hs
  exact if_neg (by omega)

/-- The result ends with the query's own block `i`: later keys have weight zero. -/
theorem out_eq (x v : ℕ → EReal) (t i : ℕ) (hi : i < 32) (ht : t ≤ 256 * (i + 1)) :
    out x v t = ∑ j ∈ Ico 0 (256 * (i + 1)), W x t j * v j := by
  unfold out
  rw [range_eq_Ico, ← sum_Ico_consecutive _ (Nat.zero_le _) (by omega : 256 * (i + 1) ≤ 8192),
    sum_eq_zero (s := Ico (256 * (i + 1)) 8192), add_zero]
  intro s hs
  rw [mem_Ico] at hs
  unfold W
  rw [if_neg (by omega), zero_mul]

/-- The kernel's weight of a key before the query is `W`: `K` the log keeps from the key to its block's end, `R` those of
    the blocks after. -/
theorem W_eq (x : ℕ → EReal) (t i kb j : ℕ) (hi : i < 32) (ht : t ≤ 256 * (i + 1)) (hkb : kb ≤ i) (hjt : j < t) (hj : j < 256 * (kb + 1)) :
    Ideal.exp (∑ s ∈ Ico j (256 * (kb + 1)), L x t s - x j + ∑ s ∈ Ico (256 * (kb + 1)) (256 * (i + 1)), L x t s) = W x t j := by
  unfold W
  rw [if_pos hjt, C_eq x t i j hi ht (by omega), ← sum_Ico_consecutive _ hj.le (by omega : 256 * (kb + 1) ≤ 256 * (i + 1)),
    show L x t j = lk (x j) from if_pos hjt]
  refine weight_eq _ _ _ fun h => ?_
  rw [sum_eq_sum_Ico_succ_bot hj, show L x t j = lk (x j) from if_pos hjt, h, lk_bot, EReal.bot_add]

end Cert.Sb

end
-- ==== Proof.SbHead.lean ====
/-
  One head of one query block: after the diagonal block and `n` earlier key blocks a row's value sum is the weighted sum
  over the keys passed, and its running sum the sum of their log keeps; after all of them, the row's result.
-/
module

public import proofs.«01_k».proof.Proof.SbBlock
public import proofs.«01_k».proof.Proof.SbSum

@[expose] public section

set_option maxRecDepth 16384

noncomputable section

namespace Cert.KernelIdeal.Attn

open Cert.KernelIdeal Cert.KernelIdeal.Gen Idealize.ShloMosaic Idealize.ShloMosaic.TcCoe Idealize.SL.Sem Finset
open Idealize.ShloMosaic.ValueIdx (ix2)

theorem zeroR_at (r : Fin 256) : (hZeroR (F := Ideal) (ix2 r 0) : EReal) = 0 := Ideal.ofBits_zero_f32

theorem zero_at (r : Fin 256) (d : Fin 128) : (hZero (F := Ideal) (ix2 r d) : EReal) = 0 := Ideal.ofBits_zero_f32

variable (q : Vec Ideal S256x128 .bf16) (K V : ℕ → Vec Ideal S256x128 .bf16) (i : ℕ) (hi : i < 32) (r : Fin 256) (d : Fin 128)
  (x v : ℕ → EReal)
  (hx : ∀ kb, kb < 32 → ∀ s : Fin 256, hScore q (K kb) (ix2 r s) = x (256 * kb + s.val))
  (hv : ∀ kb, kb < 32 → ∀ s : Fin 256, (V kb (ix2 s d) : EReal) = v (256 * kb + s.val))

include hi hx

/-- An earlier block's log keeps, summed to the block's end. -/
theorem from_early (kb : ℕ) (hkb : kb < i) (c : Fin 256) :
    hFrom k0_pay33 (hKeep (hScore q (K kb))) (ix2 r c) = ∑ s ∈ Ico (256 * kb + c.val) (256 * (kb + 1)), Sb.L x (256 * i + r.val) s := by
  rw [from_at, ← Sb.tri_sum]
  refine sum_congr rfl fun s _ => ?_
  have hs := s.isLt
  rw [keep_at, hx kb (hkb.trans hi), tri_at, Sb.L, if_pos (show 256 * kb + s.val < 256 * i + r.val by omega)]

/-- The diagonal block's log keeps, masked, summed to the block's end. -/
theorem from_diag (c : Fin 256) :
    hFrom k0_pay33 (hMask (hKeep (hScore q (K i)))) (ix2 r c) = ∑ s ∈ Ico (256 * i + c.val) (256 * (i + 1)), Sb.L x (256 * i + r.val) s := by
  rw [from_at, ← Sb.tri_sum]
  refine sum_congr rfl fun s _ => ?_
  rw [mask_at, keep_at, hx i hi, tri_at, Sb.L]
  by_cases h : s.val < r.val
  · rw [if_pos h, if_pos (show 256 * i + s.val < 256 * i + r.val by omega)]
  · rw [if_neg h, if_neg (show ¬ 256 * i + s.val < 256 * i + r.val by omega)]

/-- The running sum after `n` earlier blocks. -/
theorem run_inv (n : ℕ) (hn : n ≤ i) :
    ((hst k0_pay33 q K V i n).2 (ix2 r 0) : EReal) = ∑ s ∈ Ico (256 * (i - n)) (256 * (i + 1)), Sb.L x (256 * i + r.val) s := by
  induction n with
  | zero =>
    show hInitRun k0_pay33 q (K i) (ix2 r 0) = _
    unfold hInitRun
    rw [run_at, from_diag q K i hi r x hx, zeroR_at, zero_add]; rfl
  | succ n ih =>
    show hStepRun k0_pay33 q (K (i - 1 - n)) (hst k0_pay33 q K V i n).2 (ix2 r 0) = _
    unfold hStepRun
    rw [run_at, from_early q K i hi r x hx _ (by omega), ih (by omega), add_comm,
      show 256 * (i - n) = 256 * (i - 1 - n + 1) by omega, show 256 * (i - (n + 1)) = 256 * (i - 1 - n) + (0 : Fin 256).val by simp; omega]
    exact sum_Ico_consecutive _ (by simp) (by omega)

include hv

/-- The value sum after `n` earlier blocks. -/
theorem acc_inv (n : ℕ) (hn : n ≤ i) :
    ((hst k0_pay33 q K V i n).1 (ix2 r d) : EReal)
      = ∑ j ∈ Ico (256 * (i - n)) (256 * (i + 1)), Sb.W x (256 * i + r.val) j * v j := by
  have hr := r.isLt
  induction n with
  | zero =>
    show hInitAcc k0_pay33 q (K i) (V i) (ix2 r d) = _
    unfold hInitAcc
    rw [acc_at, zero_at, zero_add, Nat.sub_zero, ← Sb.blk_sum]
    refine sum_congr rfl fun s _ => ?_
    have hs := s.isLt
    rw [mask_at, exp_at, from_diag q K i hi r x hx, hx i hi, hv i hi, zeroR_at]
    refine congrArg (· * _) ?_
    by_cases h : s.val < r.val
    · rw [if_pos h, ← Sb.W_eq x _ i i _ hi (by omega) le_rfl (show 256 * i + s.val < 256 * i + r.val by omega) (by omega), Ico_self, sum_empty]
    · rw [if_neg h, Sb.W, if_neg (show ¬ 256 * i + s.val < 256 * i + r.val by omega)]
  | succ n ih =>
    show hStepAcc k0_pay33 q (K (i - 1 - n)) (V (i - 1 - n)) (hst k0_pay33 q K V i n).1 (hst k0_pay33 q K V i n).2 (ix2 r d) = _
    unfold hStepAcc
    rw [acc_at, ih (by omega), add_comm,
      show 256 * (i - n) = 256 * (i - 1 - n + 1) by omega, show 256 * (i - (n + 1)) = 256 * (i - 1 - n) by omega,
      ← sum_Ico_consecutive (fun j => Sb.W x (256 * i + r.val) j * v j) (by omega : 256 * (i - 1 - n) ≤ 256 * (i - 1 - n + 1)) (by omega), ← Sb.blk_sum]
    refine congrArg (· + _) (sum_congr rfl fun s _ => ?_)
    have hs := s.isLt
    rw [exp_at, from_early q K i hi r x hx _ (by omega), hx _ (by omega), hv _ (by omega), run_inv q K V i hi r x hx n (by omega),
      show 256 * (i - n) = 256 * (i - 1 - n + 1) by omega,
      Sb.W_eq x _ i _ _ hi (by omega) (by omega) (by omega) (by omega)]

/-- After all the blocks a row's value sum is its result. -/
theorem head_out : ((hst k0_pay33 q K V i i).1 (ix2 r d) : EReal) = Sb.out x v (256 * i + r.val) := by
  have hr := r.isLt
  rw [acc_inv q K V i hi r d x v hx hv i le_rfl, Nat.sub_self, Sb.out_eq x v _ i hi (by omega)]

end Cert.KernelIdeal.Attn

end
-- ==== Proof.SbSpec.lean ====
/-
  The attention's result in plain sums over the packed array `A` of queries, keys and values: a row holds one token's
  queries (columns 0 to 4095, already scaled and negated), keys (4096 to 8191) and values (8192 to 12287), 32 heads of 128
  columns in each; batch `b` is the rows from `8192 b`.
-/
module

public import proofs.«01_k».proof.Proof.SbSum
public import Idealize.ShloMosaic.Lib.ValueIdx

@[expose] public section

noncomputable section

namespace Cert.Sb

open Idealize.ShloMosaic
open Idealize.ShloMosaic.ValueIdx (ix2)

/-- The packed array. -/
abbrev Arr := (⟨2, ![16384, 12288]⟩ : Shape).Idx → EReal

/-- The element at row `r` and column `c`. -/
def rd (A : Arr) (r c : ℕ) : EReal := A (ix2 ⟨r % 16384, Nat.mod_lt _ (by decide)⟩ ⟨c % 12288, Nat.mod_lt _ (by decide)⟩)

/-- The negated score of key `j` for query `t` in head `h` of batch `b`. -/
def xs (A : Arr) (b h t j : ℕ) : EReal :=
  ∑ d : Fin 128, rd A (8192 * b + t) (128 * h + d.val) * rd A (8192 * b + j) (4096 + (128 * h + d.val))

/-- Key `j`'s value in column `d` of head `h` of batch `b`. -/
def vs (A : Arr) (b h d j : ℕ) : EReal := rd A (8192 * b + j) (8192 + (128 * h + d))

/-- The attention's result: row `8192 b + t`, column `128 h + d`. -/
def res (A : Arr) (r c : ℕ) : EReal :=
  out (xs A (r / 8192) (c / 128) (r % 8192)) (vs A (r / 8192) (c / 128) (c % 128)) (r % 8192)

theorem rd_eq (A : Arr) (r c : ℕ) (i : (⟨2, ![16384, 12288]⟩ : Shape).Idx) (h0 : (i 0).val = r) (h1 : (i 1).val = c) : A i = rd A r c := by
  unfold rd
  refine congrArg A (funext fun a => ?_)
  have l0 : (i 0).val < 16384 := (i 0).isLt
  have l1 : (i 1).val < 12288 := (i 1).isLt
  match a with
  | ⟨0, _⟩ => exact Fin.ext (by show (i 0).val = r % 16384; omega)
  | ⟨1, _⟩ => exact Fin.ext (by show (i 1).val = c % 12288; omega)

end Cert.Sb

end
-- ==== Proof.SbArray.lean ====
/-
  From one grid point's stores to the whole result array. A grid point is a batch, a group of four heads and a block of
  256 queries: its four stores are four heads of the attention, read off the packed array through the three staged
  windows; the blocks of all points tile the result.
-/
module

public import proofs.«01_k».proof.Proof.SbHead
public import proofs.«01_k».proof.Proof.SbSpec
public import Idealize.ShloMosaic.Lib.Pipeline.ValueKit.Tiles

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)
open Idealize.ShloMosaic.ValueIdx (ix2 eq_ix2)

variable (m : (ℓ : Loc nD τ sig) → Buf (Elt Ideal) ℓ) (ρ : Dev nD → PrngReg)

/-- The packed array of queries, keys and values on device `c`. -/
abbrev arr (c : Dev nD) : Sb.Arr := m ((c : Thread nD τ).loc main_arg0)

/-! ## Where the windows stand -/

/-- A point's query block, and the corner of each window's block in its array. -/
theorem corners : ∀ t : Fin grid0.N, (grid0.coords t 2).val = t.val % 32
    ∧ win0_0.index t 0 * win0_0.size 0 = 8192 * (t.val / 256) + 256 * (t.val % 32) ∧ win0_0.index t 1 * win0_0.size 1 = 512 * (t.val / 32 % 8)
    ∧ win0_1.index t 0 * win0_1.size 0 = 8192 * (t.val / 256) ∧ win0_1.index t 1 * win0_1.size 1 = 4096 + 512 * (t.val / 32 % 8)
    ∧ win0_2.index t 0 * win0_2.size 0 = 8192 * (t.val / 256) ∧ win0_2.index t 1 * win0_2.size 1 = 8192 + 512 * (t.val / 32 % 8)
    ∧ win0_3.index t 0 * win0_3.size 0 = 8192 * (t.val / 256) + 256 * (t.val % 32) ∧ win0_3.index t 1 * win0_3.size 1 = 512 * (t.val / 32 % 8)
    ∧ win0_3.xsize (grid0.coords t) 0 = 256 ∧ win0_3.xsize (grid0.coords t) 1 = 512 := by
  decide +kernel

theorem q_read (c : Dev nD) (t : Fin cfg0.N) (y : S256x512.Idx) :
    (iblk m c 0 t y : EReal) = Sb.rd (arr m c) (8192 * (t.val / 256) + 256 * (t.val % 32) + (y 0).val) (512 * (t.val / 32 % 8) + (y 1).val) := by
  obtain ⟨-, e0, e1, -⟩ := corners t
  refine Sb.rd_eq (arr m c) _ _ _ ?_ ?_
  · show win0_0.index t 0 * win0_0.size 0 + 1 * (y 0).val = _
    rw [e0, one_mul]
  · show win0_0.index t 1 * win0_0.size 1 + 1 * (y 1).val = _
    rw [e1, one_mul]

theorem k_read (c : Dev nD) (t : Fin cfg0.N) (y : S8192x512.Idx) :
    (iblk m c 1 t y : EReal) = Sb.rd (arr m c) (8192 * (t.val / 256) + (y 0).val) (4096 + 512 * (t.val / 32 % 8) + (y 1).val) := by
  obtain ⟨-, -, -, e0, e1, -⟩ := corners t
  refine Sb.rd_eq (arr m c) _ _ _ ?_ ?_
  · show win0_1.index t 0 * win0_1.size 0 + 1 * (y 0).val = _
    rw [e0, one_mul]
  · show win0_1.index t 1 * win0_1.size 1 + 1 * (y 1).val = _
    rw [e1, one_mul]

theorem v_read (c : Dev nD) (t : Fin cfg0.N) (y : S8192x512.Idx) :
    (iblk m c 2 t y : EReal) = Sb.rd (arr m c) (8192 * (t.val / 256) + (y 0).val) (8192 + 512 * (t.val / 32 % 8) + (y 1).val) := by
  obtain ⟨-, -, -, -, -, e0, e1, -⟩ := corners t
  refine Sb.rd_eq (arr m c) _ _ _ ?_ ?_
  · show win0_2.index t 0 * win0_2.size 0 + 1 * (y 0).val = _
    rw [e0, one_mul]
  · show win0_2.index t 1 * win0_2.size 1 + 1 * (y 1).val = _
    rw [e1, one_mul]

/-! ## One block of the result -/

/-- The result array: the specification read at a row and a column. -/
def result (c : Dev nD) : Buf (Elt Ideal) ((c : Thread nD τ).loc main_v0) :=
  fun i : S16384x4096.Idx => Sb.res (arr m c) (i 0).val (i 1).val

/-- Head `o` of a point's four, at query row `r` and column `d`: the specification's value there. -/
theorem head_read (c : Dev nD) (t : Fin cfg0.N) (o : Fin 4) (r : Fin 256) (d : Fin 128) :
    ((hst k0_pay33 (qblk (iblk m c 0 t) o) (blk (iblk m c 1 t) o) (blk (iblk m c 2 t) o) (t.val % 32) (t.val % 32)).1 (ix2 r d) : EReal)
      = Sb.res (arr m c) (8192 * (t.val / 256) + 256 * (t.val % 32) + r.val) (512 * (t.val / 32 % 8) + (128 * o.val + d.val)) := by
  have hr := r.isLt
  have hd := d.isLt
  have ho := o.isLt
  have ht : t.val < 512 := t.isLt
  have er : (8192 * (t.val / 256) + 256 * (t.val % 32) + r.val) / 8192 = t.val / 256 := by omega
  have em : (8192 * (t.val / 256) + 256 * (t.val % 32) + r.val) % 8192 = 256 * (t.val % 32) + r.val := by omega
  have eh : (512 * (t.val / 32 % 8) + (128 * o.val + d.val)) / 128 = 4 * (t.val / 32 % 8) + o.val := by omega
  have ed : (512 * (t.val / 32 % 8) + (128 * o.val + d.val)) % 128 = d.val := by omega
  unfold Sb.res
  rw [er, em, eh, ed]
  refine head_out _ _ _ _ (Nat.mod_lt _ (by decide)) r d _ _ (fun kb hkb s => ?_) (fun kb hkb s => ?_)
  · have hs := s.isLt
    rw [score_at]
    unfold Sb.xs
    refine Finset.sum_congr rfl fun e _ => ?_
    have he := e.isLt
    have h1 : (qblk (iblk m c 0 t) o (ix2 r e) : EReal) = Sb.rd (arr m c) (8192 * (t.val / 256) + (256 * (t.val % 32) + r.val)) (128 * (4 * (t.val / 32 % 8) + o.val) + e.val) := by
      unfold qblk
      rw [q_read]
      congr 1
      · show _ + r.val = _
        omega
      · show _ + (128 * o.val + e.val) = _
        omega
    have h2 : (blk (iblk m c 1 t) o kb (ix2 s e) : EReal) = Sb.rd (arr m c) (8192 * (t.val / 256) + (256 * kb + s.val)) (4096 + (128 * (4 * (t.val / 32 % 8) + o.val) + e.val)) := by
      unfold blk
      rw [k_read]
      congr 1
      · show _ + (256 * kb + s.val) % 8192 = _
        omega
      · show _ + (128 * o.val + e.val) = _
        omega
    rw [h1, h2]
  · have hs := s.isLt
    unfold blk Sb.vs
    rw [v_read]
    congr 1
    · show _ + (256 * kb + s.val) % 8192 = _
      omega
    · show _ + (128 * o.val + d.val) = _
      omega

/-- One of a point's four stores, where it holds an element of the staged block. -/
theorem piece_read (c : Dev nD) (t : Fin cfg0.N) (o : Fin 4) (off : Fin 2 → ℕ) (h0 : off 0 = 0) (h1 : off 1 = 128 * o.val) (y : S256x512.Idx) :
    View.TileAt (Val := Elt Ideal) (S := S256x512) (e := .bf16) y off S256x128.size
      (truncf .bf16 (hst k0_pay33 (qblk (iblk m c 0 t) o) (blk (iblk m c 1 t) o) (blk (iblk m c 2 t) o) (t.val % 32) (t.val % 32)).1 bitsLt_bf16_f32)
      (Sb.res (arr m c) (8192 * (t.val / 256) + 256 * (t.val % 32) + (y 0).val) (512 * (t.val / 32 % 8) + (y 1).val)) := by
  intro x hx
  have a0 : (y 0).val = off 0 + (x 0).val := hx 0
  have a1 : (y 1).val = off 1 + (x 1).val := hx 1
  rw [a0, a1, h0, h1, Nat.zero_add]
  rw [show x = ix2 (⟨(x 0).val, (x 0).isLt⟩ : Fin 256) (⟨(x 1).val, (x 1).isLt⟩ : Fin 128) from eq_ix2 x]
  exact head_read m c t o _ _

/-- What a point leaves in the staged block of the result. -/
theorem out_read (c : Dev nD) (t : Fin cfg0.N) (y : S256x512.Idx) :
    (out0_A_3 c (grid0.coords t) (ms0_0 t) (hs0_0 t) (ms0_1 t) (hs0_1 t) (ms0_2 t) (hs0_2 t) (ms0_3 t) (hs0_3 t) (iblk m c 0 t) (iblk m c 1 t) (iblk m c 2 t) y : EReal)
      = Sb.res (arr m c) (8192 * (t.val / 256) + 256 * (t.val % 32) + (y 0).val) (512 * (t.val / 32 % 8) + (y 1).val) := by
  unfold out0_A_3
  have hcov := cover0_A_3 c (grid0.coords t) (ms0_0 t) (hs0_0 t) (ms0_1 t) (hs0_1 t) (ms0_2 t) (hs0_2 t) (ms0_3 t) (hs0_3 t) (iblk m c 0 t) (iblk m c 1 t) (iblk m c 2 t)
  rw [View.read_writes_eq_canon _ _ _ hcov]
  refine View.canon_eq_of_allAt _ y _ (hcov y) ?_
  rw [run_read c (grid0.coords t) (ms0_0 t) (hs0_0 t) (ms0_1 t) (hs0_1 t) (ms0_2 t) (hs0_2 t) (ms0_3 t) (hs0_3 t) (iblk m c 0 t) (iblk m c 1 t) (iblk m c 2 t) _ rfl,
    (corners t).1]
  exact View.allAt_cons_unit _ _ _ _ _ (piece_read m c t 3 _ rfl rfl y)
    (View.allAt_cons_unit _ _ _ _ _ (piece_read m c t 2 _ rfl rfl y)
      (View.allAt_cons_unit _ _ _ _ _ (piece_read m c t 1 _ rfl rfl y)
        (View.allAt_cons_unit _ _ _ _ _ (piece_read m c t 0 _ rfl rfl y) (View.allAt_nil _ _))))

/-- What a point writes back is its block of the result array. -/
theorem flushed_eq (c : Dev nD) (t : Fin cfg0.N) :
    (dats m 0 c).flushed 3 t = (win0_3.blk t).view.read (Elt Ideal) (result m c) := by
  rw [Value.flushed3_A m c t]
  obtain ⟨-, -, -, -, -, -, -, e0, e1, -⟩ := corners t
  funext y
  refine (out_read m c t y).trans ?_
  show _ = Sb.res (arr m c) (win0_3.index t 0 * win0_3.size 0 + 1 * (y 0).val) (win0_3.index t 1 * win0_3.size 1 + 1 * (y 1).val)
  rw [e0, e1, one_mul, one_mul]

/-! ## The whole array -/

/-- An index of the result array is in point `t`'s block. -/
theorem mem_blk (t : Fin cfg0.N) (i : S16384x4096.Idx) :
    i ∈ ((cfg0.win 3).blk t).view.set ↔ (8192 * (t.val / 256) + 256 * (t.val % 32) ≤ (i 0).val ∧ (i 0).val < 8192 * (t.val / 256) + 256 * (t.val % 32) + 256)
      ∧ (512 * (t.val / 32 % 8) ≤ (i 1).val ∧ (i 1).val < 512 * (t.val / 32 % 8) + 512) := by
  show i ∈ ((View.whole main_v0).slice (win0_3.rect t)).set ↔ _
  rw [View.set_slice_whole, Rect.mem_set_unit]
  obtain ⟨-, -, -, -, -, -, -, e0, e1, s0, s1⟩ := corners t
  rw [← e0, ← e1]
  constructor
  · intro h
    refine ⟨?_, ?_⟩
    · have := h 0
      exact ⟨this.1, by rw [← s0]; exact this.2⟩
    · have := h 1
      exact ⟨this.1, by rw [← s1]; exact this.2⟩
  · rintro ⟨h0, h1⟩ a
    match a with
    | ⟨0, _⟩ =>
      refine ⟨h0.1, ?_⟩
      show _ < _ + win0_3.xsize (grid0.coords t) 0
      rw [s0]
      exact h0.2
    | ⟨1, _⟩ =>
      refine ⟨h1.1, ?_⟩
      show _ < _ + win0_3.xsize (grid0.coords t) 1
      rw [s1]
      exact h1.2

/-- The points' blocks tile the result array. -/
theorem cover (i : S16384x4096.Idx) : ∃ t : Fin cfg0.N, (cfg0.win 3).flush t = true ∧ i ∈ ((cfg0.win 3).blk t).view.set := by
  have h0 : (i 0).val < 16384 := (i 0).isLt
  have h1 : (i 1).val < 4096 := (i 1).isLt
  refine ⟨⟨256 * ((i 0).val / 8192) + 32 * ((i 1).val / 512) + (i 0).val % 8192 / 256, show _ < 512 by omega⟩, flush0_3 _, ?_⟩
  rw [mem_blk]
  dsimp only
  omega

/-- After the run the result array holds the attention's result. -/
theorem final (c : Dev nD) : (dats m 0 c).arrAt 3 cfg0.N = result m c :=
  (dats m 0 c).arrAt_eq_of_cover 3 (result m c) (fun t _ => flushed_eq m c t) cover

/-- The run, read: the attention's result in the result array, the argument unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun _ h c => ⟨((h c).1).trans (final m c), (h c).2⟩) (Value.run_blocks m ρ)

end Cert.KernelIdeal.Attn

end
-- ==== Proof.SbRef.lean ====
/-
  The attention reference read at an element: scores, log-sigmoids, the reversed running sum along the keys, weights and
  the weighted sum of values are the plain sums of the specification.
-/
module

public import proofs.«01_k».proof.Proof.Gen.ReferenceIdeal.Read
public import proofs.«01_k».proof.Proof.SbSpec
public import Idealize.ShloMosaic.Lib.WordCmp

@[expose] public section

set_option maxRecDepth 16384

noncomputable section

namespace Cert.ReferenceIdeal.Attn

open Cert.ReferenceIdeal Cert.ReferenceIdeal.Gen Cert.ReferenceIdeal.Read Idealize.ShloMosaic Finset
open Idealize.ShloMosaic.ValueIdx (ix4)

variable (A : (⟨S16384x12288, .bf16⟩ : BufTy).Contents (Elt Ideal))

/-- The queries, split into batches and heads. -/
theorem q_at (i : S2x32x8192x128.Idx) :
    (val_main_v6 (F := Ideal) A i : EReal) = Sb.rd A (8192 * (i 0).val + (i 2).val) (128 * (i 1).val + (i 3).val) := by
  have h0 : (i 0).val < 2 := (i 0).isLt
  have h1 : (i 1).val < 32 := (i 1).isLt
  have h2 : (i 2).val < 8192 := (i 2).isLt
  have h3 : (i 3).val < 128 := (i 3).isLt
  rw [val_main_v6_apply, val_main_v5_apply, val_main_v2_apply, val_main_v1_apply, val_main_v0_apply]
  refine Sb.rd_eq A _ _ _ ?_ ?_
  · dsimp only; omega
  · dsimp only; omega

/-- The keys, split into batches and heads. -/
theorem k_at (i : S2x32x8192x128.Idx) :
    (val_main_v8 (F := Ideal) A i : EReal) = Sb.rd A (8192 * (i 0).val + (i 2).val) (4096 + (128 * (i 1).val + (i 3).val)) := by
  have h0 : (i 0).val < 2 := (i 0).isLt
  have h1 : (i 1).val < 32 := (i 1).isLt
  have h2 : (i 2).val < 8192 := (i 2).isLt
  have h3 : (i 3).val < 128 := (i 3).isLt
  rw [val_main_v8_apply, val_main_v7_apply, val_main_v3_apply, val_main_v1_apply, val_main_v0_apply]
  refine Sb.rd_eq A _ _ _ ?_ ?_
  · dsimp only; omega
  · dsimp only; omega

/-- The values, split into batches and heads. -/
theorem v_at (i : S2x32x8192x128.Idx) :
    (val_main_v10 (F := Ideal) A i : EReal) = Sb.rd A (8192 * (i 0).val + (i 2).val) (8192 + (128 * (i 1).val + (i 3).val)) := by
  have h0 : (i 0).val < 2 := (i 0).isLt
  have h1 : (i 1).val < 32 := (i 1).isLt
  have h2 : (i 2).val < 8192 := (i 2).isLt
  have h3 : (i 3).val < 128 := (i 3).isLt
  rw [val_main_v10_apply, val_main_v9_apply, val_main_v4_apply, val_main_v1_apply, val_main_v0_apply]
  refine Sb.rd_eq A _ _ _ ?_ ?_
  · dsimp only; omega
  · dsimp only; omega

/-- The negated scores. -/
theorem x_at (b : Fin 2) (h : Fin 32) (t j : Fin 8192) :
    (val_main_v17 (F := Ideal) A (ix4 b h t j) : EReal) = Sb.xs A b.val h.val t.val j.val := by
  rw [val_main_v17_apply]
  refine sum_congr rfl fun d _ => ?_
  rw [q_at, k_at]

/-- Softplus as the reference writes it, its not-a-number case never taken. -/
theorem softplus_at (y : EReal) :
    Scalar.select (Ideal.cmp .une (y - 0) (y - 0)) (y + 0) (max y 0 + Ideal.log1p (Ideal.exp (-(max (y - 0) (-(y - 0)))))) = Sb.sp y := by
  rw [sub_zero, show Ideal.cmp .une y y = 0#1 by simp [Ideal.cmp]]
  rfl

/-- The log betas. -/
theorem beta_at (b : Fin 2) (h : Fin 32) (t j : Fin 8192) :
    (val_main_v19 (F := Ideal) A (ix4 b h t j) : EReal) = -Sb.sp (Sb.xs A b.val h.val t.val j.val) := by
  have e : (val_main_call0_v0 (F := Ideal) A (ix4 b h t j) : EReal) = Sb.xs A b.val h.val t.val j.val := by
    rw [← x_at, val_main_call0_v0_apply, val_main_v18_apply]
    exact neg_neg _
  rw [← e, ← softplus_at, ← Ideal.ofBits_zero_f32, val_main_v19_apply, val_main_call0_v1_apply, val_main_call0_call0_v11_apply,
    val_main_call0_call0_v10_apply, val_main_call0_call0_v9_apply, val_main_call0_call0_v8_apply, val_main_call0_call0_v7_apply,
    val_main_call0_call0_v6_apply, val_main_call0_call0_v4_apply, val_main_call0_call0_v3_apply, val_main_call0_call0_v1_apply,
    val_main_call0_call0_v0_apply, val_main_call0_call0_v2_apply, val_main_call0_call0_v5_apply]
  rfl

/-- The log keep factors. -/
theorem keep_at (b : Fin 2) (h : Fin 32) (t j : Fin 8192) :
    (val_main_v21 (F := Ideal) A (ix4 b h t j) : EReal) = Sb.lk (Sb.xs A b.val h.val t.val j.val) := by
  have e : (val_main_call1_v0 (F := Ideal) A (ix4 b h t j) : EReal) = -Sb.xs A b.val h.val t.val j.val := by
    rw [← x_at, val_main_call1_v0_apply, val_main_v20_apply, val_main_v18_apply]
    exact neg_neg _
  rw [← Sb.neg_sp_neg, ← e, ← softplus_at, ← Ideal.ofBits_zero_f32, val_main_v21_apply, val_main_call1_v1_apply, val_main_call1_call0_v11_apply,
    val_main_call1_call0_v10_apply, val_main_call1_call0_v9_apply, val_main_call1_call0_v8_apply, val_main_call1_call0_v7_apply,
    val_main_call1_call0_v6_apply, val_main_call1_call0_v4_apply, val_main_call1_call0_v3_apply, val_main_call1_call0_v1_apply,
    val_main_call1_call0_v0_apply, val_main_call1_call0_v2_apply, val_main_call1_call0_v5_apply]
  rfl

theorem fin8192 (s : Fin 8192) : s.val < 2 ^ (32 - 1) := lt_trans s.isLt (by norm_num)

theorem select_dec {α : Type} (p : Prop) [Decidable p] (a b : α) :
    Scalar.select (BitVec.ofBool (decide p)) a b = if p then a else b := by
  by_cases h : p <;> simp [h, Scalar.select]

/-- Whether key `j` is before query `t`. -/
theorem before_at (i : S8192x8192.Idx) : val_main_v16 (F := Ideal) i = BitVec.ofBool (decide ((i 1).val < (i 0).val)) := by
  rw [val_main_v16_apply, val_main_v14_apply, val_main_v15_apply, val_main_v12_apply, val_main_v13_apply, val_main_v11_apply, val_main_v11_apply]
  exact WordCmp.cmpi_slt_ofNat (fin8192 (i 1)) (fin8192 (i 0))

/-- The log keep factors of the keys before the query. -/
theorem L_at (b : Fin 2) (h : Fin 32) (t j : Fin 8192) :
    (val_main_v22 (F := Ideal) A (ix4 b h t j) : EReal) = Sb.L (Sb.xs A b.val h.val t.val) t.val j.val := by
  rw [val_main_v22_apply, val_main_call2_v1_apply, before_at, keep_at, val_main_call2_v2_apply, select_dec, Sb.L]
  refine congrArg (ite _ _) ?_
  exact Ideal.ofBits_zero_f32

/-- A left fold of additions over the positions of an axis is the sum. -/
theorem fold_sum (N : ℕ) (g : Fin N → EReal) : (List.finRange N).foldl (fun r n => r + g n) 0 = ∑ n, g n := by
  rw [Fin.sum_univ_def, List.sum_eq_foldl, List.foldl_map]

/-- One position of a window: the operand's element inside the row, zero past its end. -/
theorem pick {B H T n : ℕ} (x : (⟨4, ![B, H, T, n]⟩ : Shape).Idx → EReal) (y : ℕ → EReal) (b : Fin B) (h : Fin H) (t : Fin T) (j : Fin n)
    (k : ℕ) (hy : ∀ s : Fin n, x (ix4 b h t s) = y s.val) (p : Fin 4 → ℕ) (e0 : p 0 = b.val) (e1 : p 1 = h.val) (e2 : p 2 = t.val)
    (e3 : p 3 = j.val + k)
    {inst : Decidable (∀ a : Fin 4, (![0, 0, 0, 0] : Fin 4 → ℕ) a ≤ p a ∧ p a - (![0, 0, 0, 0] : Fin 4 → ℕ) a < (![B, H, T, n] : Fin 4 → ℕ) a)} :
    (if hin : ∀ a : Fin 4, (![0, 0, 0, 0] : Fin 4 → ℕ) a ≤ p a ∧ p a - (![0, 0, 0, 0] : Fin 4 → ℕ) a < (![B, H, T, n] : Fin 4 → ℕ) a then
      x (fun a => ⟨p a - (![0, 0, 0, 0] : Fin 4 → ℕ) a, (hin a).2⟩) else 0) = if j.val + k < n then y (j.val + k) else 0 := by
  by_cases hk : j.val + k < n
  · have hin : ∀ a : Fin 4, (![0, 0, 0, 0] : Fin 4 → ℕ) a ≤ p a ∧ p a - (![0, 0, 0, 0] : Fin 4 → ℕ) a < (![B, H, T, n] : Fin 4 → ℕ) a := by
      intro a
      match a with
      | ⟨0, _⟩ => exact ⟨Nat.zero_le _, by show p 0 - 0 < B; rw [e0]; exact b.isLt⟩
      | ⟨1, _⟩ => exact ⟨Nat.zero_le _, by show p 1 - 0 < H; rw [e1]; exact h.isLt⟩
      | ⟨2, _⟩ => exact ⟨Nat.zero_le _, by show p 2 - 0 < T; rw [e2]; exact t.isLt⟩
      | ⟨3, _⟩ => exact ⟨Nat.zero_le _, by show p 3 - 0 < n; rw [e3]; exact hk⟩
    rw [dif_pos hin, if_pos hk, ← hy ⟨j.val + k, hk⟩]
    refine congrArg x (funext fun a => Fin.ext ?_)
    match a with
    | ⟨0, _⟩ => exact e0
    | ⟨1, _⟩ => exact e1
    | ⟨2, _⟩ => exact e2
    | ⟨3, _⟩ => exact e3
  · rw [if_neg hk, dif_neg]
    intro hin
    have := (hin 3).2
    have h3 : p 3 - 0 < n := this
    rw [e3] at h3
    exact hk h3

/-- A window of `n` positions along the last axis, starting at `j` and filled up with zeros past the end: its sum is the
    sum from `j` to the end of the row. -/
theorem window_sum {B H T n hi : ℕ} {u : Shape} (x : (⟨4, ![B, H, T, n]⟩ : Shape).Idx → EReal) (init : u.Idx → EReal)
    (hw : (⟨4, ![B, H, T, n]⟩ : Shape).ReduceWindows ![1, 1, 1, n] ![1, 1, 1, 1] ![0, 0, 0, 0] ![0, 0, 0, hi] ⟨4, ![B, H, T, n]⟩)
    (hu : 0 < u.numel) (h0 : ∀ i, init i = 0) (y : ℕ → EReal) (b : Fin B) (h : Fin H) (t : Fin T) (j : Fin n)
    (hy : ∀ s : Fin n, x (ix4 b h t s) = y s.val) :
    Host.reduceWindow (fun a b : EReal => a + b) ![1, 1, 1, n] ![1, 1, 1, 1] ![0, 0, 0, 0] ![0, 0, 0, hi] x init hw hu (ix4 b h t j)
      = ∑ s ∈ Ico j.val n, y s := by
  unfold Host.reduceWindow
  dsimp only
  rw [h0, fold_sum]
  have key : ∀ k : Fin (⟨4, ![1, 1, 1, n]⟩ : Shape).numel, ∀ p : Fin 4 → ℕ,
      (p = fun a => ((ix4 b h t j : (⟨4, ![B, H, T, n]⟩ : Shape).Idx) a).val * (![1, 1, 1, 1] : Fin 4 → ℕ) a
        + ((⟨4, ![1, 1, 1, n]⟩ : Shape).rowMajor.symm k a).val) →
      p 0 = b.val ∧ p 1 = h.val ∧ p 2 = t.val ∧ p 3 = j.val + k.val := by
    intro k p hp
    obtain ⟨i, rfl⟩ := (⟨4, ![1, 1, 1, n]⟩ : Shape).rowMajor.surjective k
    rw [Equiv.symm_apply_apply] at hp
    have l0 : (i 0).val < 1 := (i 0).isLt
    have l1 : (i 1).val < 1 := (i 1).isLt
    have l2 : (i 2).val < 1 := (i 2).isLt
    rw [Shape.rowMajor_val_four]
    subst hp
    refine ⟨?_, ?_, ?_, ?_⟩
    · show b.val * 1 + (i 0).val = _; omega
    · show h.val * 1 + (i 1).val = _; omega
    · show t.val * 1 + (i 2).val = _; omega
    · show j.val * 1 + (i 3).val = j.val + ((((i 0).val * 1 + (i 1).val) * 1 + (i 2).val) * n + (i 3).val)
      have e0 : (i 0).val = 0 := by omega
      have e1 : (i 1).val = 0 := by omega
      have e2 : (i 2).val = 0 := by omega
      rw [e0, e1, e2]; simp
  have num : (⟨4, ![1, 1, 1, n]⟩ : Shape).numel = n := by simp [Shape.numel, Fin.prod_univ_four]
  refine (sum_congr rfl fun k _ => ?_).trans (b := ∑ k : Fin (⟨4, ![1, 1, 1, n]⟩ : Shape).numel, if j.val + k.val < n then y (j.val + k.val) else 0) ?_
  · obtain ⟨e0, e1, e2, e3⟩ := key k _ rfl
    exact pick x y b h t j k.val hy (fun a => ((ix4 b h t j : (⟨4, ![B, H, T, n]⟩ : Shape).Idx) a).val * (![1, 1, 1, 1] : Fin 4 → ℕ) a
        + ((⟨4, ![1, 1, 1, n]⟩ : Shape).rowMajor.symm k a).val) e0 e1 e2 e3
  · rw [Fin.sum_univ_eq_sum_range (fun k => if j.val + k < n then y (j.val + k) else 0), num, ← sum_filter, sum_Ico_eq_sum_range]
    refine sum_congr ?_ fun _ _ => rfl
    ext k; simp only [mem_filter, mem_range]; omega

/-- The reversed running sum at key `j`: the sum of the log keep factors of the keys before the query, from `j` on. -/
theorem cumsum_at (b : Fin 2) (h : Fin 32) (t j : Fin 8192) :
    (val_main_v23 (F := Ideal) A (ix4 b h t j) : EReal) = Sb.C (Sb.xs A b.val h.val t.val) t.val j.val := by
  unfold val_main_v23 Host.reduceWindowAdd
  rw [Ideal.hostReduceWindowAdd_def]
  unfold Ideal.hostReduceWindowAdd
  refine window_sum (B := 2) (H := 32) (T := 8192) (n := 8192) (hi := 8191) (u := ⟨0, ![]⟩) (val_main_v22 (F := Ideal) A) _ _ _
    (fun _ => ?_) _ b h t j (fun s => L_at A b h t s)
  exact Ideal.ofBits_zero_f32

/-- The weights. -/
theorem weight_at (b : Fin 2) (h : Fin 32) (t j : Fin 8192) :
    (val_main_v27 (F := Ideal) A (ix4 b h t j) : EReal) = Sb.W (Sb.xs A b.val h.val t.val) t.val j.val := by
  rw [val_main_v27_apply, val_main_call4_v1_apply, before_at, val_main_call4_v2_apply, select_dec, Sb.W]
  have e : (val_main_v26 (F := Ideal) A (ix4 b h t j) : EReal)
      = Ideal.exp (-Sb.sp (Sb.xs A b.val h.val t.val j.val) + (Sb.C (Sb.xs A b.val h.val t.val) t.val j.val - Sb.L (Sb.xs A b.val h.val t.val) t.val j.val)) := by
    rw [← beta_at, ← cumsum_at, ← L_at, val_main_v26_apply, val_main_v25_apply, val_main_v24_apply]
    rfl
  rw [e]
  refine congrArg (ite _ _) ?_
  exact Ideal.ofBits_zero_f32

/-- A head's result. -/
theorem head_at (b : Fin 2) (h : Fin 32) (t : Fin 8192) (d : Fin 128) :
    (val_main_v28 (F := Ideal) A (ix4 b h t d) : EReal) = Sb.out (Sb.xs A b.val h.val t.val) (Sb.vs A b.val h.val d.val) t.val := by
  rw [val_main_v28_apply, Sb.out_fin]
  refine sum_congr rfl fun j _ => ?_
  have el : lidx_main_v28 (ix4 b h t d) j = ix4 b h t j := funext fun a => match a with
    | ⟨0, _⟩ => rfl
    | ⟨1, _⟩ => rfl
    | ⟨2, _⟩ => rfl
    | ⟨3, _⟩ => rfl
  rw [el, weight_at, v_at]
  rfl

/-- The reference's result is the specification's. -/
theorem res_at (i : S16384x4096.Idx) : (val_main_v31 (F := Ideal) A i : EReal) = Sb.res A (i 0).val (i 1).val := by
  have h0 : (i 0).val < 16384 := (i 0).isLt
  have h1 : (i 1).val < 4096 := (i 1).isLt
  rw [val_main_v31_apply, val_main_v30_apply, val_main_v29_apply]
  have e : idx_main_v29 (idx_main_v30 i) = ix4 ⟨(i 0).val / 8192, by omega⟩ ⟨(i 1).val / 128, by omega⟩ ⟨(i 0).val % 8192, by omega⟩ ⟨(i 1).val % 128, by omega⟩ := by
    funext a
    match a with
    | ⟨0, _⟩ => exact Fin.ext (by show ((i 0).val * 4096 + (i 1).val) / 33554432 = (i 0).val / 8192; omega)
    | ⟨1, _⟩ => exact Fin.ext (by show ((i 0).val * 4096 + (i 1).val) / 128 % 32 = (i 1).val / 128; omega)
    | ⟨2, _⟩ => exact Fin.ext (by show ((i 0).val * 4096 + (i 1).val) / 4096 % 8192 = (i 0).val % 8192; omega)
    | ⟨3, _⟩ => exact Fin.ext (by show ((i 0).val * 4096 + (i 1).val) % 128 = (i 1).val % 128; omega)
  rw [e]
  exact head_at A _ _ _ _

end Cert.ReferenceIdeal.Attn

end
-- ==== Proof.SbClaim.lean ====
/-
  The claims about the attention: its frames, its one named constant, and the equation with the reference.
-/
module

public import proofs.«01_k».proof.Defs
public import proofs.«01_k».proof.Proof.Gen.Kernel.Frame
public import proofs.«01_k».proof.Proof.SbArray
public import proofs.«01_k».proof.Proof.SbRef

@[expose] public section

noncomputable section

namespace Cert.Sb

open Idealize.ShloMosaic Idealize.ShloMosaic.TcCoe Idealize.SL.Sem

/-- The attention kernel runs and leaves its argument as it was. -/
theorem quiescent_Kernel : Cert.quiescent_Kernel := fun m ρ _ => Cert.Kernel.Gen.frame m ρ

/-- So does its idealization. -/
theorem quiescent_KernelIdeal : Cert.quiescent_KernelIdeal := fun m ρ _ => Cert.KernelIdeal.Gen.frame m ρ

/-- So does the plain stick-breaking reference; it has no semaphore. -/
theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one constant that was given a name: minus the base-two logarithm of e. -/
theorem preserves : Cert.preserves_Kernel_KernelIdeal :=
  IdealRules.named_const.statement Cert.KernelIdeal.κ "neg_log2e" .f32 0xBFB8AA3B#32 _ rfl

/-- On the extended reals the attention kernel computes the reference's result: every row and column is the weighted sum
    of the values of the keys before the query, the weights the stick-breaking ones. -/
theorem algebraic : Cert.algebraic_KernelIdeal_ReferenceIdeal := by
  intro m ρ m' ρ' _ hagree
  refine ⟨fun c => Cert.KernelIdeal.Attn.result m c, Cert.KernelIdeal.Attn.run m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v31_eq, hagree c]
  funext i
  exact Cert.ReferenceIdeal.Attn.res_at _ i

end Cert.Sb

end
-- ==== Proof.Proj.lean ====
/-
  Facts every projection call uses: an array read at natural indices, the product of a row block by a column block as a
  plain sum, and when an index lies in a rectangular block.
-/
module

public import Idealize.ShloMosaic.PureOps.Ideal.Laws
public import Idealize.ShloMosaic.Lib.ValueIdx
public import Idealize.ShloMosaic.Lib.Pipeline.ValueKit.Tiles

@[expose] public section

set_option maxRecDepth 16384

noncomputable section

namespace Cert.Proj

open Idealize.ShloMosaic Idealize.ShloMosaic.TcCoe
open Idealize.ShloMosaic.ValueIdx (ix2 ix3 contrEquiv1 contrEquiv1_symm_val)

/-- A matrix of extended reals. -/
abbrev Mat (R C : ℕ) := (⟨2, ![R, C]⟩ : Shape).Idx → EReal

/-- A stack of matrices of extended reals. -/
abbrev Stack (G R C : ℕ) := (⟨3, ![G, R, C]⟩ : Shape).Idx → EReal

/-- The matrix's element at row `r` and column `c` (zero outside). -/
def rd {R C : ℕ} (A : Mat R C) (r c : ℕ) : EReal := if h : r < R ∧ c < C then A (ix2 ⟨r, h.1⟩ ⟨c, h.2⟩) else 0

/-- The stack's element at layer `g`, row `r` and column `c` (zero outside). -/
def rd3 {G R C : ℕ} (A : Stack G R C) (g r c : ℕ) : EReal :=
  if h : g < G ∧ r < R ∧ c < C then A (ix3 ⟨g, h.1⟩ ⟨r, h.2.1⟩ ⟨c, h.2.2⟩) else 0

/-- An element of a matrix, by the values of its index. -/
theorem rd_eq {R C : ℕ} (A : Mat R C) (r c : ℕ) (i : (⟨2, ![R, C]⟩ : Shape).Idx) (h0 : (i 0).val = r) (h1 : (i 1).val = c) :
    A i = rd A r c := by
  subst h0 h1
  have l0 : (i 0).val < R := (i 0).isLt
  have l1 : (i 1).val < C := (i 1).isLt
  unfold rd
  rw [dif_pos ⟨l0, l1⟩]
  exact congrArg A (funext fun a => match a with | ⟨0, _⟩ => rfl | ⟨1, _⟩ => rfl)

/-- An element of a stack, by the values of its index. -/
theorem rd3_eq {G R C : ℕ} (A : Stack G R C) (g r c : ℕ) (i : (⟨3, ![G, R, C]⟩ : Shape).Idx) (hg : (i 0).val = g)
    (h0 : (i 1).val = r) (h1 : (i 2).val = c) : A i = rd3 A g r c := by
  subst hg h0 h1
  have lg : (i 0).val < G := (i 0).isLt
  have l0 : (i 1).val < R := (i 1).isLt
  have l1 : (i 2).val < C := (i 2).isLt
  unfold rd3
  rw [dif_pos ⟨lg, l0, l1⟩]
  exact congrArg A (funext fun a => match a with | ⟨0, _⟩ => rfl | ⟨1, _⟩ => rfl | ⟨2, _⟩ => rfl)

/-- Row `r` of a matrix times column `c` of layer `g` of the weights. -/
def dot {T K G C : ℕ} (A : Mat T K) (W : Stack G K C) (g r c : ℕ) : EReal := ∑ k : Fin K, rd A r k.val * rd3 W g k.val c

/-- The matrix unit's product of a row block by a column block, at an element. -/
theorem matmul_at {M K N : ℕ} {φ₁ φ₂ : FTy} (wf : DotDims.WF ⟨2, ![M, K]⟩ ⟨2, ![K, N]⟩ ⟨2, ![M, N]⟩ [1] [0] [0] [1] [] [])
    (x : FVec Ideal ⟨2, ![M, K]⟩ φ₁) (w : FVec Ideal ⟨2, ![K, N]⟩ φ₂) (r : Fin M) (c : Fin N) :
    FloatOps.matmul (F := Ideal) (⟨[1], [0], [0], [1], [], [], wf⟩ : DotDims ⟨2, ![M, K]⟩ ⟨2, ![K, N]⟩ ⟨2, ![M, N]⟩) none x w
      (constant ⟨2, ![M, N]⟩ .f32 0x00000000#32) (ix2 r c) = ∑ k : Fin K, (x (ix2 r k) : EReal) * w (ix2 k c) := by
  rw [Ideal.matmul_constant_zero_apply, ← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun d _ => congrArg₂ (· * ·) (congrArg x ?_) (congrArg w ?_)
  · exact funext fun a => match a with | ⟨0, _⟩ => rfl | ⟨1, _⟩ => Fin.ext (contrEquiv1_symm_val (⟨[1], [0], [0], [1], [], [], wf⟩ : DotDims ⟨2, ![M, K]⟩ ⟨2, ![K, N]⟩ ⟨2, ![M, N]⟩) K rfl rfl d)
  · exact funext fun a => match a with | ⟨1, _⟩ => rfl | ⟨0, _⟩ => Fin.ext (contrEquiv1_symm_val (⟨[1], [0], [0], [1], [], [], wf⟩ : DotDims ⟨2, ![M, K]⟩ ⟨2, ![K, N]⟩ ⟨2, ![M, N]⟩) K rfl rfl d)

/-- One layer of weights with its layer axis dropped, at an element. -/
theorem layer_at {K N : ℕ} {α : Type} (w : (⟨3, ![1, K, N]⟩ : Shape).Idx → α) (h : Shape.ShapeCasts ⟨3, ![1, K, N]⟩ ⟨2, ![K, N]⟩) (k : Fin K) (c : Fin N) :
    shapeCast ⟨2, ![K, N]⟩ w h (ix2 k c) = w (ix3 (0 : Fin 1) k c) :=
  shapeCast_apply w h (ix2 k c) (ix3 (0 : Fin 1) k c) (by
    rw [Shape.rowMajor_val_three, Shape.rowMajor_val_two]
    show (0 * K + k.val) * N + c.val = k.val * N + c.val
    rw [Nat.zero_mul, Nat.zero_add])

/-- A block's product, its rows read off the matrix from row `R0` on and its columns off layer `g` from column `C0` on. -/
theorem block_dot {T K G C M N : ℕ} {φ₁ φ₂ : FTy} (A : Mat T K) (W : Stack G K C) (g R0 C0 : ℕ)
    (wf : DotDims.WF ⟨2, ![M, K]⟩ ⟨2, ![K, N]⟩ ⟨2, ![M, N]⟩ [1] [0] [0] [1] [] [])
    (h : Shape.ShapeCasts ⟨3, ![1, K, N]⟩ ⟨2, ![K, N]⟩) (x : FVec Ideal ⟨2, ![M, K]⟩ φ₁) (w : FVec Ideal ⟨3, ![1, K, N]⟩ φ₂)
    (hx : ∀ y, (x y : EReal) = rd A (R0 + (y 0).val) (y 1).val) (hw : ∀ y, (w y : EReal) = rd3 W g (y 1).val (C0 + (y 2).val))
    (y : (⟨2, ![M, N]⟩ : Shape).Idx) :
    FloatOps.matmul (F := Ideal) (⟨[1], [0], [0], [1], [], [], wf⟩ : DotDims ⟨2, ![M, K]⟩ ⟨2, ![K, N]⟩ ⟨2, ![M, N]⟩) none x
      (shapeCast ⟨2, ![K, N]⟩ w h) (constant ⟨2, ![M, N]⟩ .f32 0x00000000#32) y
      = dot A W g (R0 + (y 0).val) (C0 + (y 1).val) := by
  obtain ⟨r, c, rfl⟩ : ∃ (r : Fin M) (c : Fin N), y = ix2 r c := ⟨y 0, y 1, ValueIdx.eq_ix2 y⟩
  rw [matmul_at]
  unfold dot
  refine Finset.sum_congr rfl fun k _ => ?_
  exact congrArg₂ (fun a b : EReal => a * b) (hx _) ((layer_at w h k c).trans (hw _))

/-- The word of one is one. -/
theorem one_f32 : Ideal.ofBits .f32 0x3F800000#32 = 1 := by
  simp [Ideal.ofBits, Ideal.ieee, -EReal.coe_mul]; norm_num

/-- When an index of a matrix lies in a rectangular block. -/
theorem mem_block {R C : ℕ} (off size : Fin 2 → ℕ) (inb : ∀ a, off a + size a ≤ (⟨2, ![R, C]⟩ : Shape).size a)
    (i : (⟨2, ![R, C]⟩ : Shape).Idx) {a b p q : ℕ} (e0 : off 0 = a) (e1 : off 1 = b) (s0 : size 0 = p) (s1 : size 1 = q) :
    i ∈ (Rect.unit (s := ⟨2, ![R, C]⟩) off size inb).set ↔ (a ≤ (i 0).val ∧ (i 0).val < a + p) ∧ (b ≤ (i 1).val ∧ (i 1).val < b + q) := by
  rw [Rect.mem_set_unit, ← e0, ← e1, ← s0, ← s1]
  constructor
  · exact fun h => ⟨h 0, h 1⟩
  · rintro ⟨h0, h1⟩ a
    match a with
    | ⟨0, _⟩ => exact h0
    | ⟨1, _⟩ => exact h1

end Cert.Proj

end
-- ==== Proof.DownArray.lean ====
/-
  The second feed-forward projection: what a grid point stores, and from the points' blocks the whole result.
-/
module

public import proofs.«01_k».proof.Proof.Proj
public import proofs.«01_k».proof.Proof.Gen.FfnDownIdeal.Value

@[expose] public section

set_option maxRecDepth 16384

noncomputable section

namespace Cert.FfnDownIdeal.Down

open Cert.FfnDownIdeal Cert.FfnDownIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The hidden features on device `c`. -/
abbrev hid (c : Dev nD) : Proj.Mat 16384 11008 := m ((c : Thread nD τ).loc main_arg0)

/-- The four layers' weights on device `c`. -/
abbrev wts (c : Dev nD) : Proj.Stack 4 11008 4096 := m ((c : Thread nD τ).loc main_arg1)

/-- The residual stream on device `c`. -/
abbrev resid (c : Dev nD) : Proj.Mat 16384 4096 := m ((c : Thread nD τ).loc main_arg2)

/-- The scale the residual enters with. -/
def alpha : EReal := Ideal.ofBits .f32 0x3FD744FD#32

/-- An element of the result: the scaled residual plus the product of a row of features and a column of weights. -/
def out (c : Dev nD) (r k : ℕ) : EReal := alpha * Proj.rd (resid m c) r k + Proj.dot (hid m c) (wts m c) 1 r k

/-- The corner of each window's block in its array at each grid point. -/
theorem corners : ∀ t : Fin grid0.N,
    (win0_0.index t 0 * win0_0.size 0 = 512 * (t.val / 8) ∧ win0_0.index t 1 * win0_0.size 1 = 0)
    ∧ (win0_1.index t 0 * win0_1.size 0 = 1 ∧ win0_1.index t 1 * win0_1.size 1 = 0 ∧ win0_1.index t 2 * win0_1.size 2 = 512 * (t.val % 8))
    ∧ (win0_2.index t 0 * win0_2.size 0 = 512 * (t.val / 8) ∧ win0_2.index t 1 * win0_2.size 1 = 512 * (t.val % 8))
    ∧ (win0_3.index t 0 * win0_3.size 0 = 512 * (t.val / 8) ∧ win0_3.index t 1 * win0_3.size 1 = 512 * (t.val % 8))
    ∧ win0_3.xsize (grid0.coords t) 0 = 512 ∧ win0_3.xsize (grid0.coords t) 1 = 512 := by
  decide +kernel

/-- The weights the region finds are the argument's: rounding them is the identity here. -/
theorem weights (c : Dev nD) : (V m c main_v0 : Proj.Stack 4 11008 4096) = wts m c := by
  show StableHlo.after hostOps0 (fun b => m (c, b)) main_v0 = _
  unfold hostOps0
  rw [StableHlo.after_cons, StableHlo.after_nil, StableHlo.unary_result]
  rfl

theorem x_read (c : Dev nD) (t : Fin cfg0.N) (y : S512x11008.Idx) :
    (iblk m c 0 t y : EReal) = Proj.rd (hid m c) (512 * (t.val / 8) + (y 0).val) (y 1).val := by
  obtain ⟨⟨e0, e1⟩, -⟩ := corners t
  have h : (V m c main_arg0 : Proj.Mat 16384 11008) = hid m c := V_main_arg0 m c
  rw [← h]
  refine Proj.rd_eq (V m c main_arg0 : Proj.Mat 16384 11008) _ _ _ ?_ ?_
  · show win0_0.index t 0 * win0_0.size 0 + 1 * (y 0).val = _
    rw [e0, one_mul]
  · show win0_0.index t 1 * win0_0.size 1 + 1 * (y 1).val = _
    rw [e1, one_mul, Nat.zero_add]

theorem w_read (c : Dev nD) (t : Fin cfg0.N) (y : S1x11008x512.Idx) :
    (iblk m c 1 t y : EReal) = Proj.rd3 (wts m c) 1 (y 1).val (512 * (t.val % 8) + (y 2).val) := by
  obtain ⟨-, ⟨e0, e1, e2⟩, -⟩ := corners t
  rw [← weights]
  have hy : (y 0).val < 1 := (y 0).isLt
  refine Proj.rd3_eq (V m c main_v0 : Proj.Stack 4 11008 4096) _ _ _ _ ?_ ?_ ?_
  · show win0_1.index t 0 * win0_1.size 0 + 1 * (y 0).val = _
    rw [e0]
    omega
  · show win0_1.index t 1 * win0_1.size 1 + 1 * (y 1).val = _
    rw [e1, one_mul, Nat.zero_add]
  · show win0_1.index t 2 * win0_1.size 2 + 1 * (y 2).val = _
    rw [e2, one_mul]

theorem r_read (c : Dev nD) (t : Fin cfg0.N) (y : S512x512.Idx) :
    (iblk m c 2 t y : EReal) = Proj.rd (resid m c) (512 * (t.val / 8) + (y 0).val) (512 * (t.val % 8) + (y 1).val) := by
  obtain ⟨-, -, ⟨e0, e1⟩, -⟩ := corners t
  have h : (V m c main_arg2 : Proj.Mat 16384 4096) = resid m c := V_main_arg2 m c
  rw [← h]
  refine Proj.rd_eq (V m c main_arg2 : Proj.Mat 16384 4096) _ _ _ ?_ ?_
  · show win0_2.index t 0 * win0_2.size 0 + 1 * (y 0).val = _
    rw [e0, one_mul]
  · show win0_2.index t 1 * win0_2.size 1 + 1 * (y 1).val = _
    rw [e1, one_mul]

theorem zero2 : (![0, 0] : Fin 2 → Nat) = fun _ => 0 := funext fun a => by fin_cases a <;> rfl
theorem zero3 : (![0, 0, 0] : Fin 3 → Nat) = fun _ => 0 := funext fun a => by fin_cases a <;> rfl

/-- What a point leaves in the staged block of the result. -/
theorem out_read (c : Dev nD) (t : Fin cfg0.N) (y : S512x512.Idx) :
    (out0_3 (iblk m c 0 t) (iblk m c 1 t) (iblk m c 2 t) y : EReal) = out m c (512 * (t.val / 8) + (y 0).val) (512 * (t.val % 8) + (y 1).val) := by
  unfold out0_3
  rw [View.canon_unit_zero zero2, View.ld_unit_zero zero2, View.ld_unit_zero zero3, View.ld_unit_zero zero2]
  unfold k0_pay1 out
  refine congrArg₂ (fun a b : EReal => a + b) ?_ ?_
  · show alpha * (iblk m c 2 t y : EReal) = _
    rw [r_read]
  · exact Proj.block_dot (hid m c) (wts m c) 1 _ _ _ _ (iblk m c 0 t) (iblk m c 1 t) (x_read m c t) (w_read m c t) y

/-- The result array: the specification read at a row and a column. -/
def result (c : Dev nD) : Buf (Elt Ideal) ((c : Thread nD τ).loc main_v1) :=
  fun i : S16384x4096.Idx => out m c (i 0).val (i 1).val

/-- What a point writes back is its block of the result array. -/
theorem flushed_eq (c : Dev nD) (t : Fin cfg0.N) :
    (dats m 0 c).flushed 3 t = (win0_3.blk t).view.read (Elt Ideal) (result m c) := by
  rw [Value.flushed3 m c t]
  obtain ⟨-, -, -, ⟨e0, e1⟩, -⟩ := corners t
  funext y
  refine (out_read m c t y).trans ?_
  show _ = out m c (win0_3.index t 0 * win0_3.size 0 + 1 * (y 0).val) (win0_3.index t 1 * win0_3.size 1 + 1 * (y 1).val)
  rw [e0, e1, one_mul, one_mul]

/-- An index of the result array is in point `t`'s block. -/
theorem mem_blk (t : Fin cfg0.N) (i : S16384x4096.Idx) :
    i ∈ ((cfg0.win 3).blk t).view.set ↔ (512 * (t.val / 8) ≤ (i 0).val ∧ (i 0).val < 512 * (t.val / 8) + 512)
      ∧ (512 * (t.val % 8) ≤ (i 1).val ∧ (i 1).val < 512 * (t.val % 8) + 512) := by
  show i ∈ ((View.whole main_v1).slice (win0_3.rect t)).set ↔ _
  rw [View.set_slice_whole]
  obtain ⟨-, -, -, ⟨e0, e1⟩, s0, s1⟩ := corners t
  exact Proj.mem_block _ _ _ i e0 e1 s0 s1

/-- The points' blocks tile the result array. -/
theorem cover (i : S16384x4096.Idx) : ∃ t : Fin cfg0.N, (cfg0.win 3).flush t = true ∧ i ∈ ((cfg0.win 3).blk t).view.set := by
  have h0 : (i 0).val < 16384 := (i 0).isLt
  have h1 : (i 1).val < 4096 := (i 1).isLt
  refine ⟨⟨8 * ((i 0).val / 512) + (i 1).val / 512, show _ < 256 by omega⟩, flush0_3 _, ?_⟩
  rw [mem_blk]
  dsimp only
  omega

/-- The run, read: the result array holds the specification, the arguments are unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans
    ((dats m 0 c).arrAt_eq_of_cover 3 (result m c) (fun t _ => flushed_eq m c t) cover), (h c).2⟩) (Value.run_blocks m ρ)

end Cert.FfnDownIdeal.Down

end
-- ==== Proof.DownClaim.lean ====
/-
  The claims about the second feed-forward projection: its frames and the equation with the reference.
-/
module

public import proofs.«01_k».proof.Defs
public import proofs.«01_k».proof.Proof.Gen.FfnDown.Frame
public import proofs.«01_k».proof.Proof.DownArray
public import proofs.«01_k».proof.Proof.Gen.FfnDownReferenceIdeal.Read

@[expose] public section

noncomputable section

namespace Cert.Down

open Idealize.ShloMosaic Idealize.ShloMosaic.TcCoe Idealize.SL.Sem

/-- The projection runs and leaves its arguments as they were. -/
theorem quiescent_FfnDown : Cert.quiescent_FfnDown := fun m ρ _ => Cert.FfnDown.Gen.frame m ρ

/-- So does its idealization. -/
theorem quiescent_FfnDownIdeal : Cert.quiescent_FfnDownIdeal := fun m ρ _ => Cert.FfnDownIdeal.Gen.frame m ρ

/-- So does the plain product; it has no semaphore. -/
theorem quiescent_FfnDownReferenceIdeal : Cert.quiescent_FfnDownReferenceIdeal := fun m ρ _ =>
  (θ_run Cert.FfnDownReferenceIdeal.defs _ _).mono (fun r h => ⟨fun c => (h c).2, sem_eq_zero_of_no_sems (by decide) r.2⟩)
    (Cert.FfnDownReferenceIdeal.Value.run (F := Ideal) m ρ)

open Cert.FfnDownReferenceIdeal Cert.FfnDownReferenceIdeal.Read in
/-- The reference at an element: the scaled residual plus a row of features times a column of the layer's weights. -/
theorem reference_at (x0 : Proj.Mat 16384 11008) (x1 : Proj.Stack 4 11008 4096) (x2 : Proj.Mat 16384 4096) (i : S16384x4096.Idx) :
    (val_main_v6 (F := Ideal) x0 x1 x2 i : EReal)
      = Cert.FfnDownIdeal.Down.alpha * Proj.rd x2 (i 0).val (i 1).val + Proj.dot x0 x1 1 (i 0).val (i 1).val := by
  have hc : (i 1).val < 4096 := (i 1).isLt
  rw [val_main_v6_apply, val_main_v1_apply, val_main_v0_apply, val_main_v5_apply]
  refine congrArg₂ (fun a b : EReal => a + b) ?_ ?_
  · exact congrArg (fun b : EReal => Cert.FfnDownIdeal.Down.alpha * b) (Proj.rd_eq x2 _ _ i rfl rfl)
  · unfold Proj.dot
    refine Finset.sum_congr rfl fun k _ => ?_
    have hk : k.val < 11008 := k.isLt
    rw [val_main_v2_apply, val_main_v4_apply, val_main_v3_apply]
    refine congrArg₂ (fun a b : EReal => a * b) ?_ ?_
    · exact Proj.rd_eq x0 _ _ _ rfl rfl
    · refine Proj.rd3_eq x1 _ _ _ _ rfl ?_ ?_
      · show (k.val * 4096 + (i 1).val) / 4096 % 11008 = k.val
        omega
      · show (k.val * 4096 + (i 1).val) % 4096 = (i 1).val
        omega

/-- On the extended reals the projection computes the reference's result at every row and column. -/
theorem algebraic : Cert.algebraic_FfnDownIdeal_FfnDownReferenceIdeal := by
  intro m ρ m' ρ' _ hagree
  refine ⟨fun c => Cert.FfnDownIdeal.Down.result m c, Cert.FfnDownIdeal.Down.run m ρ, ?_⟩
  refine (θ_run Cert.FfnDownReferenceIdeal.defs _ _).mono (fun r h c => ⟨(h c).1.trans ?_, (h c).2⟩)
    (Cert.FfnDownReferenceIdeal.Value.run (F := Ideal) m' ρ')
  rw [Cert.FfnDownReferenceIdeal.Read.val_main_v6_eq, (hagree c).1, (hagree c).2.1, (hagree c).2.2]
  funext i
  exact reference_at _ _ _ i

end Cert.Down

end
-- ==== Proof.MixArray.lean ====
/-
  A mixer's output projection: what a grid point stores, and from the points' blocks the whole result.
-/
module

public import proofs.«01_k».proof.Proof.Proj
public import proofs.«01_k».proof.Proof.Gen.MixerOutIdeal.Value

@[expose] public section

set_option maxRecDepth 16384

noncomputable section

namespace Cert.MixerOutIdeal.Mix

open Cert.MixerOutIdeal Cert.MixerOutIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The mixed features on device `c`. -/
abbrev mix (c : Dev nD) : Proj.Mat 16384 4096 := m ((c : Thread nD τ).loc main_arg0)

/-- The two layers' weights on device `c`. -/
abbrev wts (c : Dev nD) : Proj.Stack 2 4096 4096 := m ((c : Thread nD τ).loc main_arg1)

/-- The residual stream on device `c`. -/
abbrev resid (c : Dev nD) : Proj.Mat 16384 4096 := m ((c : Thread nD τ).loc main_arg2)

/-- The scale the residual enters with. -/
def alpha : EReal := Ideal.ofBits .f32 0x3FD744FD#32

/-- An element of the result: the scaled residual plus the product of a row of features and a column of weights. -/
def out (c : Dev nD) (r k : ℕ) : EReal := alpha * Proj.rd (resid m c) r k + Proj.dot (mix m c) (wts m c) 1 r k

/-- The corner of each window's block in its array at each grid point. -/
theorem corners : ∀ t : Fin grid0.N,
    (win0_0.index t 0 * win0_0.size 0 = 1024 * (t.val / 8) ∧ win0_0.index t 1 * win0_0.size 1 = 0)
    ∧ (win0_1.index t 0 * win0_1.size 0 = 1 ∧ win0_1.index t 1 * win0_1.size 1 = 0 ∧ win0_1.index t 2 * win0_1.size 2 = 512 * (t.val % 8))
    ∧ (win0_2.index t 0 * win0_2.size 0 = 1024 * (t.val / 8) ∧ win0_2.index t 1 * win0_2.size 1 = 512 * (t.val % 8))
    ∧ (win0_3.index t 0 * win0_3.size 0 = 1024 * (t.val / 8) ∧ win0_3.index t 1 * win0_3.size 1 = 512 * (t.val % 8))
    ∧ win0_3.xsize (grid0.coords t) 0 = 1024 ∧ win0_3.xsize (grid0.coords t) 1 = 512 := by
  decide +kernel

/-- The weights the region finds are the argument's: rounding them is the identity here. -/
theorem weights (c : Dev nD) : (V m c main_v0 : Proj.Stack 2 4096 4096) = wts m c := by
  show StableHlo.after hostOps0 (fun b => m (c, b)) main_v0 = _
  unfold hostOps0
  rw [StableHlo.after_cons, StableHlo.after_nil, StableHlo.unary_result]
  rfl

theorem x_read (c : Dev nD) (t : Fin cfg0.N) (y : S1024x4096.Idx) :
    (iblk m c 0 t y : EReal) = Proj.rd (mix m c) (1024 * (t.val / 8) + (y 0).val) (y 1).val := by
  obtain ⟨⟨e0, e1⟩, -⟩ := corners t
  have h : (V m c main_arg0 : Proj.Mat 16384 4096) = mix m c := V_main_arg0 m c
  rw [← h]
  refine Proj.rd_eq (V m c main_arg0 : Proj.Mat 16384 4096) _ _ _ ?_ ?_
  · show win0_0.index t 0 * win0_0.size 0 + 1 * (y 0).val = _
    rw [e0, one_mul]
  · show win0_0.index t 1 * win0_0.size 1 + 1 * (y 1).val = _
    rw [e1, one_mul, Nat.zero_add]

theorem w_read (c : Dev nD) (t : Fin cfg0.N) (y : S1x4096x512.Idx) :
    (iblk m c 1 t y : EReal) = Proj.rd3 (wts m c) 1 (y 1).val (512 * (t.val % 8) + (y 2).val) := by
  obtain ⟨-, ⟨e0, e1, e2⟩, -⟩ := corners t
  rw [← weights]
  have hy : (y 0).val < 1 := (y 0).isLt
  refine Proj.rd3_eq (V m c main_v0 : Proj.Stack 2 4096 4096) _ _ _ _ ?_ ?_ ?_
  · show win0_1.index t 0 * win0_1.size 0 + 1 * (y 0).val = _
    rw [e0]
    omega
  · show win0_1.index t 1 * win0_1.size 1 + 1 * (y 1).val = _
    rw [e1, one_mul, Nat.zero_add]
  · show win0_1.index t 2 * win0_1.size 2 + 1 * (y 2).val = _
    rw [e2, one_mul]

theorem r_read (c : Dev nD) (t : Fin cfg0.N) (y : S1024x512.Idx) :
    (iblk m c 2 t y : EReal) = Proj.rd (resid m c) (1024 * (t.val / 8) + (y 0).val) (512 * (t.val % 8) + (y 1).val) := by
  obtain ⟨-, -, ⟨e0, e1⟩, -⟩ := corners t
  have h : (V m c main_arg2 : Proj.Mat 16384 4096) = resid m c := V_main_arg2 m c
  rw [← h]
  refine Proj.rd_eq (V m c main_arg2 : Proj.Mat 16384 4096) _ _ _ ?_ ?_
  · show win0_2.index t 0 * win0_2.size 0 + 1 * (y 0).val = _
    rw [e0, one_mul]
  · show win0_2.index t 1 * win0_2.size 1 + 1 * (y 1).val = _
    rw [e1, one_mul]

theorem zero2 : (![0, 0] : Fin 2 → Nat) = fun _ => 0 := funext fun a => by fin_cases a <;> rfl
theorem zero3 : (![0, 0, 0] : Fin 3 → Nat) = fun _ => 0 := funext fun a => by fin_cases a <;> rfl

/-- What a point leaves in the staged block of the result. -/
theorem out_read (c : Dev nD) (t : Fin cfg0.N) (y : S1024x512.Idx) :
    (out0_3 (iblk m c 0 t) (iblk m c 1 t) (iblk m c 2 t) y : EReal) = out m c (1024 * (t.val / 8) + (y 0).val) (512 * (t.val % 8) + (y 1).val) := by
  unfold out0_3
  rw [View.canon_unit_zero zero2, View.ld_unit_zero zero2, View.ld_unit_zero zero3, View.ld_unit_zero zero2]
  unfold k0_pay1 out
  refine congrArg₂ (fun a b : EReal => a + b) ?_ ?_
  · show alpha * (iblk m c 2 t y : EReal) = _
    rw [r_read]
  · exact Proj.block_dot (mix m c) (wts m c) 1 _ _ _ _ (iblk m c 0 t) (iblk m c 1 t) (x_read m c t) (w_read m c t) y

/-- The result array: the specification read at a row and a column. -/
def result (c : Dev nD) : Buf (Elt Ideal) ((c : Thread nD τ).loc main_v1) :=
  fun i : S16384x4096.Idx => out m c (i 0).val (i 1).val

/-- What a point writes back is its block of the result array. -/
theorem flushed_eq (c : Dev nD) (t : Fin cfg0.N) :
    (dats m 0 c).flushed 3 t = (win0_3.blk t).view.read (Elt Ideal) (result m c) := by
  rw [Value.flushed3 m c t]
  obtain ⟨-, -, -, ⟨e0, e1⟩, -⟩ := corners t
  funext y
  refine (out_read m c t y).trans ?_
  show _ = out m c (win0_3.index t 0 * win0_3.size 0 + 1 * (y 0).val) (win0_3.index t 1 * win0_3.size 1 + 1 * (y 1).val)
  rw [e0, e1, one_mul, one_mul]

/-- An index of the result array is in point `t`'s block. -/
theorem mem_blk (t : Fin cfg0.N) (i : S16384x4096.Idx) :
    i ∈ ((cfg0.win 3).blk t).view.set ↔ (1024 * (t.val / 8) ≤ (i 0).val ∧ (i 0).val < 1024 * (t.val / 8) + 1024)
      ∧ (512 * (t.val % 8) ≤ (i 1).val ∧ (i 1).val < 512 * (t.val % 8) + 512) := by
  show i ∈ ((View.whole main_v1).slice (win0_3.rect t)).set ↔ _
  rw [View.set_slice_whole]
  obtain ⟨-, -, -, ⟨e0, e1⟩, s0, s1⟩ := corners t
  exact Proj.mem_block _ _ _ i e0 e1 s0 s1

/-- The points' blocks tile the result array. -/
theorem cover (i : S16384x4096.Idx) : ∃ t : Fin cfg0.N, (cfg0.win 3).flush t = true ∧ i ∈ ((cfg0.win 3).blk t).view.set := by
  have h0 : (i 0).val < 16384 := (i 0).isLt
  have h1 : (i 1).val < 4096 := (i 1).isLt
  refine ⟨⟨8 * ((i 0).val / 1024) + (i 1).val / 512, show _ < 128 by omega⟩, flush0_3 _, ?_⟩
  rw [mem_blk]
  dsimp only
  omega

/-- The run, read: the result array holds the specification, the arguments are unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans
    ((dats m 0 c).arrAt_eq_of_cover 3 (result m c) (fun t _ => flushed_eq m c t) cover), (h c).2⟩) (Value.run_blocks m ρ)

end Cert.MixerOutIdeal.Mix

end
-- ==== Proof.MixClaim.lean ====
/-
  The claims about a mixer's output projection: its frames and the equation with the reference.
-/
module

public import proofs.«01_k».proof.Defs
public import proofs.«01_k».proof.Proof.Gen.MixerOut.Frame
public import proofs.«01_k».proof.Proof.MixArray
public import proofs.«01_k».proof.Proof.Gen.MixerOutReferenceIdeal.Read

@[expose] public section

noncomputable section

namespace Cert.Mix

open Idealize.ShloMosaic Idealize.ShloMosaic.TcCoe Idealize.SL.Sem

/-- The projection runs and leaves its arguments as they were. -/
theorem quiescent_MixerOut : Cert.quiescent_MixerOut := fun m ρ _ => Cert.MixerOut.Gen.frame m ρ

/-- So does its idealization. -/
theorem quiescent_MixerOutIdeal : Cert.quiescent_MixerOutIdeal := fun m ρ _ => Cert.MixerOutIdeal.Gen.frame m ρ

/-- So does the plain product; it has no semaphore. -/
theorem quiescent_MixerOutReferenceIdeal : Cert.quiescent_MixerOutReferenceIdeal := fun m ρ _ =>
  (θ_run Cert.MixerOutReferenceIdeal.defs _ _).mono (fun r h => ⟨fun c => (h c).2, sem_eq_zero_of_no_sems (by decide) r.2⟩)
    (Cert.MixerOutReferenceIdeal.Value.run (F := Ideal) m ρ)

open Cert.MixerOutReferenceIdeal Cert.MixerOutReferenceIdeal.Read in
/-- The reference at an element: the scaled residual plus a row of features times a column of the layer's weights. -/
theorem reference_at (x0 : Proj.Mat 16384 4096) (x1 : Proj.Stack 2 4096 4096) (x2 : Proj.Mat 16384 4096) (i : S16384x4096.Idx) :
    (val_main_v6 (F := Ideal) x0 x1 x2 i : EReal)
      = Cert.MixerOutIdeal.Mix.alpha * Proj.rd x2 (i 0).val (i 1).val + Proj.dot x0 x1 1 (i 0).val (i 1).val := by
  have hc : (i 1).val < 4096 := (i 1).isLt
  rw [val_main_v6_apply, val_main_v1_apply, val_main_v0_apply, val_main_v5_apply]
  refine congrArg₂ (fun a b : EReal => a + b) ?_ ?_
  · exact congrArg (fun b : EReal => Cert.MixerOutIdeal.Mix.alpha * b) (Proj.rd_eq x2 _ _ i rfl rfl)
  · unfold Proj.dot
    refine Finset.sum_congr rfl fun k _ => ?_
    have hk : k.val < 4096 := k.isLt
    rw [val_main_v2_apply, val_main_v4_apply, val_main_v3_apply]
    refine congrArg₂ (fun a b : EReal => a * b) ?_ ?_
    · exact Proj.rd_eq x0 _ _ _ rfl rfl
    · refine Proj.rd3_eq x1 _ _ _ _ rfl ?_ ?_
      · show (k.val * 4096 + (i 1).val) / 4096 % 4096 = k.val
        omega
      · show (k.val * 4096 + (i 1).val) % 4096 = (i 1).val
        omega

/-- On the extended reals the projection computes the reference's result at every row and column. -/
theorem algebraic : Cert.algebraic_MixerOutIdeal_MixerOutReferenceIdeal := by
  intro m ρ m' ρ' _ hagree
  refine ⟨fun c => Cert.MixerOutIdeal.Mix.result m c, Cert.MixerOutIdeal.Mix.run m ρ, ?_⟩
  refine (θ_run Cert.MixerOutReferenceIdeal.defs _ _).mono (fun r h c => ⟨(h c).1.trans ?_, (h c).2⟩)
    (Cert.MixerOutReferenceIdeal.Value.run (F := Ideal) m' ρ')
  rw [Cert.MixerOutReferenceIdeal.Read.val_main_v6_eq, (hagree c).1, (hagree c).2.1, (hagree c).2.2]
  funext i
  exact reference_at _ _ _ i

end Cert.Mix

end
-- ==== Proof.QkvArray.lean ====
/-
  The projection to the attention's queries, keys and values: what a grid point stores, and from the points' blocks the
  whole result.
-/
module

public import proofs.«01_k».proof.Proof.Proj
public import proofs.«01_k».proof.Proof.Gen.SbQkvIdeal.Value

@[expose] public section

set_option maxRecDepth 16384

noncomputable section

namespace Cert.SbQkvIdeal.Qkv

open Cert.SbQkvIdeal Cert.SbQkvIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The features on device `c`. -/
abbrev feat (c : Dev nD) : Proj.Mat 16384 4096 := m ((c : Thread nD τ).loc main_arg0)

/-- The layer's weights on device `c`. -/
abbrev wts (c : Dev nD) : Proj.Stack 1 4096 12288 := m ((c : Thread nD τ).loc main_arg1)

/-- The factor a column leaves with: the queries' negated scale on the first 4096 columns, one on the others. -/
def scale (k : ℕ) : EReal := if k < 4096 then Ideal.ofBits .f32 0xBDB504F3#32 else Ideal.ofBits .f32 0x3F800000#32

/-- An element of the result: the product of a row of features and a column of weights, scaled. -/
def out (c : Dev nD) (r k : ℕ) : EReal := Proj.dot (feat m c) (wts m c) 0 r k * scale k

/-- A point's column block, and the corner of each window's block in its array. -/
theorem corners : ∀ t : Fin grid0.N, (grid0.coords t 1).val = t.val % 24
    ∧ (win0_0.index t 0 * win0_0.size 0 = 1024 * (t.val / 24) ∧ win0_0.index t 1 * win0_0.size 1 = 0)
    ∧ (win0_1.index t 0 * win0_1.size 0 = 0 ∧ win0_1.index t 1 * win0_1.size 1 = 0 ∧ win0_1.index t 2 * win0_1.size 2 = 512 * (t.val % 24))
    ∧ (win0_2.index t 0 * win0_2.size 0 = 1024 * (t.val / 24) ∧ win0_2.index t 1 * win0_2.size 1 = 512 * (t.val % 24))
    ∧ win0_2.xsize (grid0.coords t) 0 = 1024 ∧ win0_2.xsize (grid0.coords t) 1 = 512 := by
  decide +kernel

/-- The weights the region finds are the argument's: rounding them is the identity here. -/
theorem weights (c : Dev nD) : (V m c main_v0 : Proj.Stack 1 4096 12288) = wts m c := by
  show StableHlo.after hostOps0 (fun b => m (c, b)) main_v0 = _
  unfold hostOps0
  rw [StableHlo.after_cons, StableHlo.after_nil, StableHlo.unary_result]
  rfl

theorem x_read (c : Dev nD) (t : Fin cfg0.N) (y : S1024x4096.Idx) :
    (iblk m c 0 t y : EReal) = Proj.rd (feat m c) (1024 * (t.val / 24) + (y 0).val) (y 1).val := by
  obtain ⟨-, ⟨e0, e1⟩, -⟩ := corners t
  have h : (V m c main_arg0 : Proj.Mat 16384 4096) = feat m c := V_main_arg0 m c
  rw [← h]
  refine Proj.rd_eq (V m c main_arg0 : Proj.Mat 16384 4096) _ _ _ ?_ ?_
  · show win0_0.index t 0 * win0_0.size 0 + 1 * (y 0).val = _
    rw [e0, one_mul]
  · show win0_0.index t 1 * win0_0.size 1 + 1 * (y 1).val = _
    rw [e1, one_mul, Nat.zero_add]

theorem w_read (c : Dev nD) (t : Fin cfg0.N) (y : S1x4096x512.Idx) :
    (iblk m c 1 t y : EReal) = Proj.rd3 (wts m c) 0 (y 1).val (512 * (t.val % 24) + (y 2).val) := by
  obtain ⟨-, -, ⟨e0, e1, e2⟩, -⟩ := corners t
  rw [← weights]
  have hy : (y 0).val < 1 := (y 0).isLt
  refine Proj.rd3_eq (V m c main_v0 : Proj.Stack 1 4096 12288) _ _ _ _ ?_ ?_ ?_
  · show win0_1.index t 0 * win0_1.size 0 + 1 * (y 0).val = _
    rw [e0]
    omega
  · show win0_1.index t 1 * win0_1.size 1 + 1 * (y 1).val = _
    rw [e1, one_mul, Nat.zero_add]
  · show win0_1.index t 2 * win0_1.size 2 + 1 * (y 2).val = _
    rw [e2, one_mul]

theorem zero2 : (![0, 0] : Fin 2 → Nat) = fun _ => 0 := funext fun a => by fin_cases a <;> rfl
theorem zero3 : (![0, 0, 0] : Fin 3 → Nat) = fun _ => 0 := funext fun a => by fin_cases a <;> rfl

/-- The choice of factor made from the column block's number. -/
theorem scale_word : ∀ j : Fin 24, Scalar.cmpi .slt (BitVec.ofNat 32 j.val) 8#32 = if j.val < 8 then 1#1 else 0#1 := by
  decide

/-- The factor a block's columns take is the one of each of its columns. -/
theorem scale_at (j : ℕ) (hj : j < 24) (q : ℕ) (hq : q < 512) :
    (Scalar.select (Scalar.cmpi .slt (BitVec.ofNat 32 j) 8#32) (Scalar.ofBits (F := Ideal) .f32 0xBDB504F3#32)
      (Scalar.ofBits (F := Ideal) .f32 0x3F800000#32) : EReal) = scale (512 * j + q) := by
  rw [scale_word ⟨j, hj⟩]
  unfold scale
  by_cases h : j < 8
  · rw [if_pos (show (⟨j, hj⟩ : Fin 24).val < 8 from h), if_pos (show 512 * j + q < 4096 by omega)]
    rfl
  · rw [if_neg (show ¬(⟨j, hj⟩ : Fin 24).val < 8 from h), if_neg (show ¬512 * j + q < 4096 by omega)]
    rfl

/-- What a point leaves in the staged block of the result. -/
theorem out_read (c : Dev nD) (t : Fin cfg0.N) (y : S1024x512.Idx) :
    (out0_2 (grid0.coords t) (iblk m c 0 t) (iblk m c 1 t) y : EReal) = out m c (1024 * (t.val / 24) + (y 0).val) (512 * (t.val % 24) + (y 1).val) := by
  unfold out0_2
  rw [View.canon_unit_zero zero2, View.ld_unit_zero zero2, View.ld_unit_zero zero3]
  unfold k0_pay1 out
  refine congrArg₂ (fun a b : EReal => a * b) ?_ ?_
  · exact Proj.block_dot (feat m c) (wts m c) 0 _ _ _ _ (iblk m c 0 t) (iblk m c 1 t) (x_read m c t) (w_read m c t) y
  · have h := scale_at (t.val % 24) (Nat.mod_lt _ (by decide)) (y 1).val (y 1).isLt
    rw [← (corners t).1] at h ⊢
    exact h

/-- The result array: the specification read at a row and a column. -/
def result (c : Dev nD) : Buf (Elt Ideal) ((c : Thread nD τ).loc main_v1) :=
  fun i : S16384x12288.Idx => out m c (i 0).val (i 1).val

/-- What a point writes back is its block of the result array. -/
theorem flushed_eq (c : Dev nD) (t : Fin cfg0.N) :
    (dats m 0 c).flushed 2 t = (win0_2.blk t).view.read (Elt Ideal) (result m c) := by
  rw [Value.flushed2 m c t]
  obtain ⟨-, -, -, ⟨e0, e1⟩, -⟩ := corners t
  funext y
  refine (out_read m c t y).trans ?_
  show _ = out m c (win0_2.index t 0 * win0_2.size 0 + 1 * (y 0).val) (win0_2.index t 1 * win0_2.size 1 + 1 * (y 1).val)
  rw [e0, e1, one_mul, one_mul]

/-- An index of the result array is in point `t`'s block. -/
theorem mem_blk (t : Fin cfg0.N) (i : S16384x12288.Idx) :
    i ∈ ((cfg0.win 2).blk t).view.set ↔ (1024 * (t.val / 24) ≤ (i 0).val ∧ (i 0).val < 1024 * (t.val / 24) + 1024)
      ∧ (512 * (t.val % 24) ≤ (i 1).val ∧ (i 1).val < 512 * (t.val % 24) + 512) := by
  show i ∈ ((View.whole main_v1).slice (win0_2.rect t)).set ↔ _
  rw [View.set_slice_whole]
  obtain ⟨-, -, -, ⟨e0, e1⟩, s0, s1⟩ := corners t
  exact Proj.mem_block _ _ _ i e0 e1 s0 s1

/-- The points' blocks tile the result array. -/
theorem cover (i : S16384x12288.Idx) : ∃ t : Fin cfg0.N, (cfg0.win 2).flush t = true ∧ i ∈ ((cfg0.win 2).blk t).view.set := by
  have h0 : (i 0).val < 16384 := (i 0).isLt
  have h1 : (i 1).val < 12288 := (i 1).isLt
  refine ⟨⟨24 * ((i 0).val / 1024) + (i 1).val / 512, show _ < 384 by omega⟩, flush0_2 _, ?_⟩
  rw [mem_blk]
  dsimp only
  omega

/-- The run, read: the result array holds the specification, the arguments are unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans
    ((dats m 0 c).arrAt_eq_of_cover 2 (result m c) (fun t _ => flushed_eq m c t) cover), (h c).2⟩) (Value.run_blocks m ρ)

end Cert.SbQkvIdeal.Qkv

end
-- ==== Proof.QkvClaim.lean ====
/-
  The claims about the projection to the attention's queries, keys and values: its frames and the equation with the
  reference.
-/
module

public import proofs.«01_k».proof.Defs
public import proofs.«01_k».proof.Proof.Gen.SbQkv.Frame
public import proofs.«01_k».proof.Proof.QkvArray
public import proofs.«01_k».proof.Proof.Gen.SbQkvReferenceIdeal.Read

@[expose] public section

noncomputable section

namespace Cert.Qkv

open Idealize.ShloMosaic Idealize.ShloMosaic.TcCoe Idealize.SL.Sem
open Idealize.ShloMosaic.ValueIdx (ix2)

/-- The projection runs and leaves its arguments as they were. -/
theorem quiescent_SbQkv : Cert.quiescent_SbQkv := fun m ρ _ => Cert.SbQkv.Gen.frame m ρ

/-- So does its idealization. -/
theorem quiescent_SbQkvIdeal : Cert.quiescent_SbQkvIdeal := fun m ρ _ => Cert.SbQkvIdeal.Gen.frame m ρ

/-- So does the plain product; it has no semaphore. -/
theorem quiescent_SbQkvReferenceIdeal : Cert.quiescent_SbQkvReferenceIdeal := fun m ρ _ =>
  (θ_run Cert.SbQkvReferenceIdeal.defs _ _).mono (fun r h => ⟨fun c => (h c).2, sem_eq_zero_of_no_sems (by decide) r.2⟩)
    (Cert.SbQkvReferenceIdeal.Value.run (F := Ideal) m ρ)

section Reference

open Cert.SbQkvReferenceIdeal Cert.SbQkvReferenceIdeal.Read

variable (x0 : Proj.Mat 16384 4096) (x1 : Proj.Stack 1 4096 12288)

/-- The reference's product at an element. -/
theorem product_at (i : S16384x12288.Idx) : (val_main_v2 (F := Ideal) x0 x1 i : EReal) = Proj.dot x0 x1 0 (i 0).val (i 1).val := by
  have hc : (i 1).val < 12288 := (i 1).isLt
  rw [val_main_v2_apply]
  unfold Proj.dot
  refine Finset.sum_congr rfl fun k _ => ?_
  have hk : k.val < 4096 := k.isLt
  rw [val_main_v0_apply, val_main_v1_apply]
  refine congrArg₂ (fun a b : EReal => a * b) ?_ ?_
  · exact Proj.rd_eq x0 _ _ _ rfl rfl
  · refine Proj.rd3_eq x1 _ _ _ _ rfl ?_ ?_
    · show (k.val * 12288 + (i 1).val) / 12288 % 4096 = k.val
      omega
    · show (k.val * 12288 + (i 1).val) % 12288 = (i 1).val
      omega

/-- The three thirds the reference joins. -/
def third : Fin 3 → Proj.Mat 16384 4096 :=
  ![val_main_v7 (F := Ideal) x0 x1, val_main_v4 (F := Ideal) x0 x1, val_main_v5 (F := Ideal) x0 x1]

/-- Each third at an element: the product at the column counted from the third's start, scaled in the first. -/
theorem third_at (n : Fin 3) (i : S16384x4096.Idx) :
    third x0 x1 n i = Proj.dot x0 x1 0 (i 0).val (4096 * n.val + (i 1).val) * Cert.SbQkvIdeal.Qkv.scale (4096 * n.val + (i 1).val) := by
  have hc : (i 1).val < 4096 := (i 1).isLt
  unfold Cert.SbQkvIdeal.Qkv.scale
  match n with
  | ⟨0, _⟩ =>
    rw [if_pos (show 4096 * 0 + (i 1).val < 4096 by omega)]
    show (val_main_v7 (F := Ideal) x0 x1 i : EReal) = _
    rw [val_main_v7_apply, val_main_v3_apply, val_main_v6_apply]
    refine congrArg₂ (fun a b : EReal => a * b) ?_ rfl
    rw [product_at]
    exact congrArg (Proj.dot x0 x1 0 (i 0).val) (show (i 1).val = 4096 * 0 + (i 1).val by omega)
  | ⟨1, _⟩ =>
    rw [if_neg (show ¬4096 * 1 + (i 1).val < 4096 by omega), Proj.one_f32, mul_one]
    show (val_main_v4 (F := Ideal) x0 x1 i : EReal) = _
    rw [val_main_v4_apply, product_at]
    rfl
  | ⟨2, _⟩ =>
    rw [if_neg (show ¬4096 * 2 + (i 1).val < 4096 by omega), Proj.one_f32, mul_one]
    show (val_main_v5 (F := Ideal) x0 x1 i : EReal) = _
    rw [val_main_v5_apply, product_at]
    rfl

/-- The reference at an element: a row of features times a column of the layer's weights, scaled on the queries. -/
theorem reference_at (i : S16384x12288.Idx) :
    (val_main_v9 (F := Ideal) x0 x1 i : EReal)
      = Proj.dot x0 x1 0 (i 0).val (i 1).val * Cert.SbQkvIdeal.Qkv.scale (i 1).val := by
  have hc : (i 1).val < 12288 := (i 1).isLt
  have hr : (i 0).val < 16384 := (i 0).isLt
  have hn : (i 1).val / 4096 < 3 := by omega
  have hm : (i 1).val % 4096 < 4096 := Nat.mod_lt _ (by decide)
  rw [val_main_v9_apply]
  show (val_main_v8 (F := Ideal) x0 x1 i : EReal) = _
  refine (concatenate_ofFn_apply (t := S16384x12288) (s₁ := S16384x4096) 1 (third x0 x1)
    Facts₀.concatenates_S16384x4096_S16384x4096_S16384x4096_S16384x12288_d1 rfl 4096 rfl i ⟨(i 1).val / 4096, hn⟩ rfl
    (ix2 ⟨(i 0).val, hr⟩ ⟨(i 1).val % 4096, hm⟩) rfl ?_).trans ?_
  · intro b hb
    match b with
    | ⟨0, _⟩ => rfl
    | ⟨1, _⟩ => exact absurd rfl hb
  · rw [third_at]
    have e : 4096 * ((i 1).val / 4096) + (i 1).val % 4096 = (i 1).val := Nat.div_add_mod _ _
    show Proj.dot x0 x1 0 (i 0).val (4096 * ((i 1).val / 4096) + (i 1).val % 4096)
      * Cert.SbQkvIdeal.Qkv.scale (4096 * ((i 1).val / 4096) + (i 1).val % 4096) = _
    rw [e]

end Reference

/-- On the extended reals the projection computes the reference's result at every row and column. -/
theorem algebraic : Cert.algebraic_SbQkvIdeal_SbQkvReferenceIdeal := by
  intro m ρ m' ρ' _ hagree
  refine ⟨fun c => Cert.SbQkvIdeal.Qkv.result m c, Cert.SbQkvIdeal.Qkv.run m ρ, ?_⟩
  refine (θ_run Cert.SbQkvReferenceIdeal.defs _ _).mono (fun r h c => ⟨(h c).1.trans ?_, (h c).2⟩)
    (Cert.SbQkvReferenceIdeal.Value.run (F := Ideal) m' ρ')
  rw [Cert.SbQkvReferenceIdeal.Read.val_main_v9_eq, (hagree c).1, (hagree c).2]
  funext i
  exact reference_at _ _ i

end Cert.Qkv

end
-- ==== Proof.GateArray.lean ====
/-
  The projection to the delta rule's output gate: what a grid point stores, and from the points' blocks the
  whole result.
-/
module

public import proofs.«01_k».proof.Proof.Proj
public import proofs.«01_k».proof.Proof.Gen.GdnZIdeal.Value
public import Idealize.ShloMosaic.Lib.Pipeline.ValueKit.Acc

@[expose] public section

set_option maxRecDepth 16384

noncomputable section

namespace Cert.GdnZIdeal.Gate

open Cert.GdnZIdeal Cert.GdnZIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The features on device `c`. -/
abbrev feat (c : Dev nD) : Proj.Mat 16384 4096 := m ((c : Thread nD τ).loc main_arg0)

/-- The two layers' weights on device `c`. -/
abbrev wts (c : Dev nD) : Proj.Stack 2 4096 16448 := m ((c : Thread nD τ).loc main_arg1)

/-- An element of the result: the product of a row of features and a column of weights, counted from column 12288. -/
def out (c : Dev nD) (r k : ℕ) : EReal := Proj.dot (feat m c) (wts m c) 1 r (12288 + k)

/-- The corner of each window's block in its array. -/
theorem corners : ∀ t : Fin grid0.N,
    (win0_0.index t 0 * win0_0.size 0 = 1024 * (t.val / 8) ∧ win0_0.index t 1 * win0_0.size 1 = 0)
    ∧ (win0_1.index t 0 * win0_1.size 0 = 1 ∧ win0_1.index t 1 * win0_1.size 1 = 0 ∧ win0_1.index t 2 * win0_1.size 2 = 12288 + 512 * (t.val % 8))
    ∧ (win0_2.index t 0 * win0_2.size 0 = 1024 * (t.val / 8) ∧ win0_2.index t 1 * win0_2.size 1 = 512 * (t.val % 8))
    ∧ win0_2.xsize (grid0.coords t) 0 = 1024 ∧ win0_2.xsize (grid0.coords t) 1 = 512 := by
  decide +kernel

/-- The weights the region finds are the argument's: rounding them is the identity here. -/
theorem weights (c : Dev nD) : (V m c main_v0 : Proj.Stack 2 4096 16448) = wts m c := by
  show StableHlo.after hostOps0 (fun b => m (c, b)) main_v0 = _
  unfold hostOps0
  rw [StableHlo.after_cons, StableHlo.after_nil, StableHlo.unary_result]
  rfl

theorem x_read (c : Dev nD) (t : Fin cfg0.N) (y : S1024x4096.Idx) :
    (iblk m c 0 t y : EReal) = Proj.rd (feat m c) (1024 * (t.val / 8) + (y 0).val) (y 1).val := by
  obtain ⟨⟨e0, e1⟩, -⟩ := corners t
  have h : (V m c main_arg0 : Proj.Mat 16384 4096) = feat m c := V_main_arg0 m c
  rw [← h]
  refine Proj.rd_eq (V m c main_arg0 : Proj.Mat 16384 4096) _ _ _ ?_ ?_
  · show win0_0.index t 0 * win0_0.size 0 + 1 * (y 0).val = _
    rw [e0, one_mul]
  · show win0_0.index t 1 * win0_0.size 1 + 1 * (y 1).val = _
    rw [e1, one_mul, Nat.zero_add]

theorem w_read (c : Dev nD) (t : Fin cfg0.N) (y : S1x4096x512.Idx) :
    (X0_1 m c t y : EReal) = Proj.rd3 (wts m c) 1 (y 1).val (12288 + 512 * (t.val % 8) + (y 2).val) := by
  obtain ⟨-, ⟨e0, e1, e2⟩, -⟩ := corners t
  rw [← weights]
  have hy : (y 0).val < 1 := (y 0).isLt
  unfold X0_1 Pipeline.Window.fill
  rw [dif_pos (moved0_1 t y)]
  refine Proj.rd3_eq (V m c main_v0 : Proj.Stack 2 4096 16448) _ _ _ _ ?_ ?_ ?_
  · show win0_1.index t 0 * win0_1.size 0 + 1 * (y 0).val = _
    rw [e0]
    omega
  · show win0_1.index t 1 * win0_1.size 1 + 1 * (y 1).val = _
    rw [e1, one_mul, Nat.zero_add]
  · show win0_1.index t 2 * win0_1.size 2 + 1 * (y 2).val = _
    rw [e2, one_mul]

/-- What a point leaves in the staged block of the result. -/
theorem out_read (c : Dev nD) (t : Fin cfg0.N) (y : S1024x512.Idx) :
    (out0_A_2 c (grid0.coords t) (ms0_0 t) (hs0_0 t) (ms0_1 t) (hs0_1 t) (ms0_2 t) (hs0_2 t) (iblk m c 0 t) (X0_1 m c t) y : EReal) = out m c (1024 * (t.val / 8) + (y 0).val) (512 * (t.val % 8) + (y 1).val) := by
  frame_out
  have h := Proj.block_dot (φ₁ := .bf16) (φ₂ := .bf16) (feat m c) (wts m c) 1 _ _ dot_S1024x4096_S4096x512_S1024x512_1_0_0_1_n_n_wf
    shapeCasts_S1x4096x512_S4096x512 (iblk m c 0 t) (X0_1 m c t) (x_read m c t) (w_read m c t) y
  unfold out
  rw [← Nat.add_assoc, ← h]
  rfl

/-- The result array: the specification read at a row and a column. -/
def result (c : Dev nD) : Buf (Elt Ideal) ((c : Thread nD τ).loc main_v1) :=
  fun i : S16384x4096.Idx => out m c (i 0).val (i 1).val

/-- What a point writes back is its block of the result array. -/
theorem flushed_eq (c : Dev nD) (t : Fin cfg0.N) :
    (dats m 0 c).flushed 2 t = (win0_2.blk t).view.read (Elt Ideal) (result m c) := by
  rw [Value.flushed2_A m c t]
  obtain ⟨-, -, ⟨e0, e1⟩, -⟩ := corners t
  funext y
  refine (out_read m c t y).trans ?_
  show _ = out m c (win0_2.index t 0 * win0_2.size 0 + 1 * (y 0).val) (win0_2.index t 1 * win0_2.size 1 + 1 * (y 1).val)
  rw [e0, e1, one_mul, one_mul]

/-- An index of the result array is in point `t`'s block. -/
theorem mem_blk (t : Fin cfg0.N) (i : S16384x4096.Idx) :
    i ∈ ((cfg0.win 2).blk t).view.set ↔ (1024 * (t.val / 8) ≤ (i 0).val ∧ (i 0).val < 1024 * (t.val / 8) + 1024)
      ∧ (512 * (t.val % 8) ≤ (i 1).val ∧ (i 1).val < 512 * (t.val % 8) + 512) := by
  show i ∈ ((View.whole main_v1).slice (win0_2.rect t)).set ↔ _
  rw [View.set_slice_whole]
  obtain ⟨-, -, ⟨e0, e1⟩, s0, s1⟩ := corners t
  exact Proj.mem_block _ _ _ i e0 e1 s0 s1

/-- The points' blocks tile the result array. -/
theorem cover (i : S16384x4096.Idx) : ∃ t : Fin cfg0.N, (cfg0.win 2).flush t = true ∧ i ∈ ((cfg0.win 2).blk t).view.set := by
  have h0 : (i 0).val < 16384 := (i 0).isLt
  have h1 : (i 1).val < 4096 := (i 1).isLt
  refine ⟨⟨8 * ((i 0).val / 1024) + (i 1).val / 512, show _ < 128 by omega⟩, flush0_2 _, ?_⟩
  rw [mem_blk]
  dsimp only
  omega

/-- The run, read: the result array holds the specification, the arguments are unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans
    ((dats m 0 c).arrAt_eq_of_cover 2 (result m c) (fun t _ => flushed_eq m c t) cover), (h c).2⟩) (Value.run_blocks m ρ)

end Cert.GdnZIdeal.Gate

end
-- ==== Proof.GateClaim.lean ====
/-
  The claims about the projection to the delta rule's output gate: its frames and the equation with the reference.
-/
module

public import proofs.«01_k».proof.Defs
public import proofs.«01_k».proof.Proof.Gen.GdnZ.Frame
public import proofs.«01_k».proof.Proof.GateArray
public import proofs.«01_k».proof.Proof.Gen.GdnZReferenceIdeal.Read

@[expose] public section

noncomputable section

namespace Cert.Gate

open Idealize.ShloMosaic Idealize.ShloMosaic.TcCoe Idealize.SL.Sem

/-- The projection runs and leaves its arguments as they were. -/
theorem quiescent_GdnZ : Cert.quiescent_GdnZ := fun m ρ _ => Cert.GdnZ.Gen.frame m ρ

/-- So does its idealization. -/
theorem quiescent_GdnZIdeal : Cert.quiescent_GdnZIdeal := fun m ρ _ => Cert.GdnZIdeal.Gen.frame m ρ

/-- So does the plain product; it has no semaphore. -/
theorem quiescent_GdnZReferenceIdeal : Cert.quiescent_GdnZReferenceIdeal := fun m ρ _ =>
  (θ_run Cert.GdnZReferenceIdeal.defs _ _).mono (fun r h => ⟨fun c => (h c).2, sem_eq_zero_of_no_sems (by decide) r.2⟩)
    (Cert.GdnZReferenceIdeal.Value.run (F := Ideal) m ρ)

section Reference

open Cert.GdnZReferenceIdeal Cert.GdnZReferenceIdeal.Read

variable (x0 : Proj.Mat 16384 4096) (x1 : Proj.Stack 2 4096 16448)

/-- The reference at an element: a row of features times a column of weights, counted from column 12288. -/
theorem reference_at (i : S16384x4096.Idx) : (val_main_v5 (F := Ideal) x0 x1 i : EReal) = Proj.dot x0 x1 1 (i 0).val (12288 + (i 1).val) := by
  have hc : (i 1).val < 4096 := (i 1).isLt
  rw [val_main_v5_apply, val_main_v3_apply]
  unfold Proj.dot
  refine Finset.sum_congr rfl fun k _ => ?_
  have hk : k.val < 4096 := k.isLt
  rw [val_main_v0_apply, val_main_v2_apply, val_main_v1_apply]
  refine congrArg₂ (fun a b : EReal => a * b) ?_ ?_
  · exact Proj.rd_eq x0 _ _ _ rfl rfl
  · refine Proj.rd3_eq x1 _ _ _ _ rfl ?_ ?_
    · show (k.val * 16448 + (12288 + (i 1).val)) / 16448 % 4096 = k.val
      omega
    · show (k.val * 16448 + (12288 + (i 1).val)) % 16448 = 12288 + (i 1).val
      omega

end Reference

/-- On the extended reals the projection computes the reference's result at every row and column. -/
theorem algebraic : Cert.algebraic_GdnZIdeal_GdnZReferenceIdeal := by
  intro m ρ m' ρ' _ hagree
  refine ⟨fun c => Cert.GdnZIdeal.Gate.result m c, Cert.GdnZIdeal.Gate.run m ρ, ?_⟩
  refine (θ_run Cert.GdnZReferenceIdeal.defs _ _).mono (fun r h c => ⟨(h c).1.trans ?_, (h c).2⟩)
    (Cert.GdnZReferenceIdeal.Value.run (F := Ideal) m' ρ')
  rw [Cert.GdnZReferenceIdeal.Read.val_main_v5_eq, (hagree c).1, (hagree c).2]
  funext i
  exact reference_at _ _ i

end Cert.Gate

end
-- ==== Proof.GeluArray.lean ====
/-
  The projection to the linear recurrence's gelu branch: what a grid point stores, and from the points' blocks the
  whole result.
-/
module

public import proofs.«01_k».proof.Proof.Proj
public import proofs.«01_k».proof.Proof.Gen.LruYIdeal.Value

@[expose] public section

set_option maxRecDepth 16384

noncomputable section

namespace Cert.LruYIdeal.Gelu

open Cert.LruYIdeal Cert.LruYIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The features on device `c`. -/
abbrev feat (c : Dev nD) : Proj.Mat 16384 4096 := m ((c : Thread nD τ).loc main_arg0)

/-- The layer's weights on device `c`. -/
abbrev wts (c : Dev nD) : Proj.Stack 1 4096 8192 := m ((c : Thread nD τ).loc main_arg1)

/-- The tanh form of gelu. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- An element of the result: gelu of the product of a row of features and a column of the second half of the weights. -/
def out (c : Dev nD) (r k : ℕ) : EReal := gelu (Proj.dot (feat m c) (wts m c) 0 r (4096 + k))

/-- The corner of each window's block in its array. -/
theorem corners : ∀ t : Fin grid0.N,
    (win0_0.index t 0 * win0_0.size 0 = 1024 * (t.val / 8) ∧ win0_0.index t 1 * win0_0.size 1 = 0)
    ∧ (win0_1.index t 0 * win0_1.size 0 = 0 ∧ win0_1.index t 1 * win0_1.size 1 = 0 ∧ win0_1.index t 2 * win0_1.size 2 = 4096 + 512 * (t.val % 8))
    ∧ (win0_2.index t 0 * win0_2.size 0 = 1024 * (t.val / 8) ∧ win0_2.index t 1 * win0_2.size 1 = 512 * (t.val % 8))
    ∧ win0_2.xsize (grid0.coords t) 0 = 1024 ∧ win0_2.xsize (grid0.coords t) 1 = 512 := by
  decide +kernel

/-- The weights the region finds are the argument's: rounding them is the identity here. -/
theorem weights (c : Dev nD) : (V m c main_v0 : Proj.Stack 1 4096 8192) = wts m c := by
  show StableHlo.after hostOps0 (fun b => m (c, b)) main_v0 = _
  unfold hostOps0
  rw [StableHlo.after_cons, StableHlo.after_nil, StableHlo.unary_result]
  rfl

theorem x_read (c : Dev nD) (t : Fin cfg0.N) (y : S1024x4096.Idx) :
    (iblk m c 0 t y : EReal) = Proj.rd (feat m c) (1024 * (t.val / 8) + (y 0).val) (y 1).val := by
  obtain ⟨⟨e0, e1⟩, -⟩ := corners t
  have h : (V m c main_arg0 : Proj.Mat 16384 4096) = feat m c := V_main_arg0 m c
  rw [← h]
  refine Proj.rd_eq (V m c main_arg0 : Proj.Mat 16384 4096) _ _ _ ?_ ?_
  · show win0_0.index t 0 * win0_0.size 0 + 1 * (y 0).val = _
    rw [e0, one_mul]
  · show win0_0.index t 1 * win0_0.size 1 + 1 * (y 1).val = _
    rw [e1, one_mul, Nat.zero_add]

theorem w_read (c : Dev nD) (t : Fin cfg0.N) (y : S1x4096x512.Idx) :
    (iblk m c 1 t y : EReal) = Proj.rd3 (wts m c) 0 (y 1).val (4096 + 512 * (t.val % 8) + (y 2).val) := by
  obtain ⟨-, ⟨e0, e1, e2⟩, -⟩ := corners t
  rw [← weights]
  have hy : (y 0).val < 1 := (y 0).isLt
  refine Proj.rd3_eq (V m c main_v0 : Proj.Stack 1 4096 8192) _ _ _ _ ?_ ?_ ?_
  · show win0_1.index t 0 * win0_1.size 0 + 1 * (y 0).val = _
    rw [e0]
    omega
  · show win0_1.index t 1 * win0_1.size 1 + 1 * (y 1).val = _
    rw [e1, one_mul, Nat.zero_add]
  · show win0_1.index t 2 * win0_1.size 2 + 1 * (y 2).val = _
    rw [e2, one_mul]

theorem zero2 : (![0, 0] : Fin 2 → Nat) = fun _ => 0 := funext fun a => by fin_cases a <;> rfl
theorem zero3 : (![0, 0, 0] : Fin 3 → Nat) = fun _ => 0 := funext fun a => by fin_cases a <;> rfl

/-- What a point leaves in the staged block of the result. -/
theorem out_read (c : Dev nD) (t : Fin cfg0.N) (y : S1024x512.Idx) :
    (out0_2 (iblk m c 0 t) (iblk m c 1 t) y : EReal) = out m c (1024 * (t.val / 8) + (y 0).val) (512 * (t.val % 8) + (y 1).val) := by
  unfold out0_2
  rw [View.canon_unit_zero zero2, View.ld_unit_zero zero2, View.ld_unit_zero zero3]
  have h := Proj.block_dot (φ₁ := .bf16) (φ₂ := .bf16) (feat m c) (wts m c) 0 _ _ dot_S1024x4096_S4096x512_S1024x512_1_0_0_1_n_n_wf
    shapeCasts_S1x4096x512_S4096x512 (iblk m c 0 t) (iblk m c 1 t) (x_read m c t) (w_read m c t) y
  unfold out
  rw [← Nat.add_assoc, ← h]
  rfl

/-- The result array: the specification read at a row and a column. -/
def result (c : Dev nD) : Buf (Elt Ideal) ((c : Thread nD τ).loc main_v1) :=
  fun i : S16384x4096.Idx => out m c (i 0).val (i 1).val

/-- What a point writes back is its block of the result array. -/
theorem flushed_eq (c : Dev nD) (t : Fin cfg0.N) :
    (dats m 0 c).flushed 2 t = (win0_2.blk t).view.read (Elt Ideal) (result m c) := by
  rw [Value.flushed2 m c t]
  obtain ⟨-, -, ⟨e0, e1⟩, -⟩ := corners t
  funext y
  refine (out_read m c t y).trans ?_
  show _ = out m c (win0_2.index t 0 * win0_2.size 0 + 1 * (y 0).val) (win0_2.index t 1 * win0_2.size 1 + 1 * (y 1).val)
  rw [e0, e1, one_mul, one_mul]

/-- An index of the result array is in point `t`'s block. -/
theorem mem_blk (t : Fin cfg0.N) (i : S16384x4096.Idx) :
    i ∈ ((cfg0.win 2).blk t).view.set ↔ (1024 * (t.val / 8) ≤ (i 0).val ∧ (i 0).val < 1024 * (t.val / 8) + 1024)
      ∧ (512 * (t.val % 8) ≤ (i 1).val ∧ (i 1).val < 512 * (t.val % 8) + 512) := by
  show i ∈ ((View.whole main_v1).slice (win0_2.rect t)).set ↔ _
  rw [View.set_slice_whole]
  obtain ⟨-, -, ⟨e0, e1⟩, s0, s1⟩ := corners t
  exact Proj.mem_block _ _ _ i e0 e1 s0 s1

/-- The points' blocks tile the result array. -/
theorem cover (i : S16384x4096.Idx) : ∃ t : Fin cfg0.N, (cfg0.win 2).flush t = true ∧ i ∈ ((cfg0.win 2).blk t).view.set := by
  have h0 : (i 0).val < 16384 := (i 0).isLt
  have h1 : (i 1).val < 4096 := (i 1).isLt
  refine ⟨⟨8 * ((i 0).val / 1024) + (i 1).val / 512, show _ < 128 by omega⟩, flush0_2 _, ?_⟩
  rw [mem_blk]
  dsimp only
  omega

/-- The run, read: the result array holds the specification, the arguments are unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans
    ((dats m 0 c).arrAt_eq_of_cover 2 (result m c) (fun t _ => flushed_eq m c t) cover), (h c).2⟩) (Value.run_blocks m ρ)

end Cert.LruYIdeal.Gelu

end
-- ==== Proof.GeluClaim.lean ====
/-
  The claims about the projection to the linear recurrence's gelu branch: its frames and the equation with the reference.
-/
module

public import proofs.«01_k».proof.Defs
public import proofs.«01_k».proof.Proof.Gen.LruY.Frame
public import proofs.«01_k».proof.Proof.GeluArray
public import proofs.«01_k».proof.Proof.Gen.LruYReferenceIdeal.Read

@[expose] public section

noncomputable section

namespace Cert.Gelu

open Idealize.ShloMosaic Idealize.ShloMosaic.TcCoe Idealize.SL.Sem

/-- The projection runs and leaves its arguments as they were. -/
theorem quiescent_LruY : Cert.quiescent_LruY := fun m ρ _ => Cert.LruY.Gen.frame m ρ

/-- So does its idealization. -/
theorem quiescent_LruYIdeal : Cert.quiescent_LruYIdeal := fun m ρ _ => Cert.LruYIdeal.Gen.frame m ρ

/-- So does the plain product; it has no semaphore. -/
theorem quiescent_LruYReferenceIdeal : Cert.quiescent_LruYReferenceIdeal := fun m ρ _ =>
  (θ_run Cert.LruYReferenceIdeal.defs _ _).mono (fun r h => ⟨fun c => (h c).2, sem_eq_zero_of_no_sems (by decide) r.2⟩)
    (Cert.LruYReferenceIdeal.Value.run (F := Ideal) m ρ)

section Reference

open Cert.LruYReferenceIdeal Cert.LruYReferenceIdeal.Read

variable (x0 : Proj.Mat 16384 4096) (x1 : Proj.Stack 1 4096 8192)

/-- The reference's product at an element. -/
theorem product_at (i : S16384x8192.Idx) : (val_main_v2 (F := Ideal) x0 x1 i : EReal) = Proj.dot x0 x1 0 (i 0).val (i 1).val := by
  have hc : (i 1).val < 8192 := (i 1).isLt
  rw [val_main_v2_apply]
  unfold Proj.dot
  refine Finset.sum_congr rfl fun k _ => ?_
  have hk : k.val < 4096 := k.isLt
  rw [val_main_v0_apply, val_main_v1_apply]
  refine congrArg₂ (fun a b : EReal => a * b) ?_ ?_
  · exact Proj.rd_eq x0 _ _ _ rfl rfl
  · refine Proj.rd3_eq x1 _ _ _ _ rfl ?_ ?_
    · show (k.val * 8192 + (i 1).val) / 8192 % 4096 = k.val
      omega
    · show (k.val * 8192 + (i 1).val) % 8192 = (i 1).val
      omega

/-- The reference at an element: gelu of a row of features times a column of the second half of the weights. -/
theorem reference_at (i : S16384x4096.Idx) :
    (val_main_v17 (F := Ideal) x0 x1 i : EReal)
      = Cert.LruYIdeal.Gelu.gelu (Proj.dot x0 x1 0 (i 0).val (4096 + (i 1).val)) := by
  have h : (val_main_v4 (F := Ideal) x0 x1 i : EReal) = Proj.dot x0 x1 0 (i 0).val (4096 + (i 1).val) := by
    rw [val_main_v4_apply, product_at]
  rw [val_main_v17_apply, val_main_v16_apply, val_main_v15_apply, val_main_v14_apply, val_main_v13_apply, val_main_v12_apply,
    val_main_v11_apply, val_main_v10_apply, val_main_v9_apply, val_main_v8_apply, val_main_v7_apply, val_main_v6_apply,
    val_main_v5_apply]
  generalize val_main_v4 (F := Ideal) x0 x1 i = z at h ⊢
  rw [← h]
  unfold Cert.LruYIdeal.Gelu.gelu
  rw [show (z : EReal) * (z * z) = z * z * z from (mul_assoc _ _ _).symm]
  rfl

end Reference

/-- On the extended reals the projection computes the reference's result at every row and column. -/
theorem algebraic : Cert.algebraic_LruYIdeal_LruYReferenceIdeal := by
  intro m ρ m' ρ' _ hagree
  refine ⟨fun c => Cert.LruYIdeal.Gelu.result m c, Cert.LruYIdeal.Gelu.run m ρ, ?_⟩
  refine (θ_run Cert.LruYReferenceIdeal.defs _ _).mono (fun r h c => ⟨(h c).1.trans ?_, (h c).2⟩)
    (Cert.LruYReferenceIdeal.Value.run (F := Ideal) m' ρ')
  rw [Cert.LruYReferenceIdeal.Read.val_main_v17_eq, (hagree c).1, (hagree c).2]
  funext i
  exact reference_at _ _ i

end Cert.Gelu

end
-- ==== Proof.UpBody.lean ====
/-
  The first feed-forward projection: what the body does at one grid point, the carried rows included.
-/
module

public import proofs.«01_k».proof.Proof.Gen.FfnUpIdeal.Frame
public import Idealize.ShloMosaic.Lib.VecWindow
public import Idealize.ShloMosaic.Lib.WholeRead
public import Idealize.ShloMosaic.Lib.ValueIdxCore

@[expose] public section

set_option maxRecDepth 16384

noncomputable section

namespace Cert.FfnUpIdeal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnUpIdeal Cert.FfnUpIdeal.Gen
open Idealize.ShloMosaic.ValueIdx (ix2 ix3)

variable {F : FTy → Type} [FloatOps F]

local notation "𝕄" => MT nD τ sig Unit (Elt F) ℕ (UR sig nD τ) ℕ

/-- The first row block of a sequence, as the body tests it. -/
def first (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  let v10 : BitVec 1 := Scalar.cmpi .eq v9 0#32
  let v11 : BitVec 32 := Scalar.extui v10
  Scalar.cmpi .ne v11 0#32

/-- The product of a row block by a column block, gate columns and up columns side by side. -/
def prod (x : Vec F S1024x4096 .bf16) (w : Vec F S1x4096x512 .bf16) : FVec F S1024x512 .f32 :=
  matmul dot_S1024x4096_S4096x512_S1024x512_1_0_0_1_n_n none x (shapeCast S4096x512 w shapeCasts_S1x4096x512_S4096x512)
    (constant S1024x512 .f32 0x00000000#32)

/-- The gate columns of the product. -/
def gate (x : Vec F S1024x4096 .bf16) (w : Vec F S1x4096x512 .bf16) : FVec F S1024x256 .f32 :=
  extractStridedSlice S1024x256 ![0, 0] (prod x w) slices_S1024x512_o0_0_S1024x256

/-- The up columns of the product. -/
def up (x : Vec F S1024x4096 .bf16) (w : Vec F S1x4096x512 .bf16) : FVec F S1024x256 .f32 :=
  extractStridedSlice S1024x256 ![0, 256] (prod x w) slices_S1024x512_o0_256_S1024x256

/-- The last eight gate rows, as the body keeps them for the next row block. -/
def tail (x : Vec F S1024x4096 .bf16) (w : Vec F S1x4096x512 .bf16) : FVec F S1x8x256 .f32 :=
  shapeCast S1x8x256 (extractStridedSlice S8x256 ![1016, 0] (gate x w) slices_S1024x256_o1016_0_S8x256) shapeCasts_S8x256_S1x8x256

/-- The gate rows `k - 8` rows up, the eight rows `h` standing before them. -/
def rows (k : ℕ) (hk : k ≤ 8) (h : Vec F S8x256 .f32) (g : FVec F S1024x256 .f32) : FVec F S1024x256 .f32 := fun y =>
  if hy : (y 0).val + k < 8 then h (ix2 (n0 := 8) (n1 := 256) ⟨(y 0).val + k, hy⟩ (y 1))
  else g (ix2 (n0 := 1024) (n1 := 256) ⟨(y 0).val + k - 8, by have : (y 0).val < 1024 := (y 0).isLt; omega⟩ (y 1))

/-- The gate rows are written below the eight rows before them and read back `k` rows down. -/
theorem rows_eq (k : ℕ) (hk : k ≤ 8) (E : Vec F S1032x256 .f32) (h : Vec F S8x256 .f32) (g : FVec F S1024x256 .f32)
    (inb : ∀ a, (![k, 0] : Fin 2 → ℕ) a + S1024x256.size a ≤ S1032x256.size a) :
    VecWindow.window (VecWindow.put (VecWindow.put E ![0, 0] S8x256.size h) ![8, 0] S1024x256.size g) ![k, 0] S1024x256.size inb
      = rows k hk h g := by
  funext y
  have h0 : (y 0).val < 1024 := (y 0).isLt
  have h1 : (y 1).val < 256 := (y 1).isLt
  have e0 : ((Rect.unit (s := S1032x256) ![k, 0] S1024x256.size inb).emb y 0).val = k + 1 * (y 0).val := rfl
  have e1 : ((Rect.unit (s := S1032x256) ![k, 0] S1024x256.size inb).emb y 1).val = 0 + 1 * (y 1).val := rfl
  unfold VecWindow.window rows
  by_cases hy : (y 0).val + k < 8
  · rw [dif_pos hy]
    unfold VecWindow.put
    rw [dif_neg (fun hh => by have := (hh 0).1; simp only [e0, Matrix.cons_val_zero] at this; omega), dif_pos (fun a => by
      match a with
      | 0 => exact ⟨Nat.zero_le _, by rw [e0]; show _ < 0 + 8; omega⟩
      | 1 => exact ⟨Nat.zero_le _, by rw [e1]; show _ < 0 + 256; omega⟩)]
    refine congrArg h (funext fun a => Fin.ext ?_)
    match a with
    | 0 => show k + 1 * (y 0).val - 0 = (y 0).val + k; omega
    | 1 => show 0 + 1 * (y 1).val - 0 = (y 1).val; omega
  · rw [dif_neg hy]
    unfold VecWindow.put
    rw [dif_pos (fun a => by
      match a with
      | 0 => exact ⟨by rw [e0]; show 8 ≤ _; omega, by rw [e0]; show _ < 8 + 1024; omega⟩
      | 1 => exact ⟨Nat.zero_le _, by rw [e1]; show _ < 0 + 256; omega⟩)]
    refine congrArg g (funext fun a => Fin.ext ?_)
    match a with
    | 0 => show k + 1 * (y 0).val - 8 = (y 0).val + k - 8; omega
    | 1 => show 0 + 1 * (y 1).val - 0 = (y 1).val; omega

/-- Nothing before the sequence: zero rows. -/
def none8 : Vec F S8x256 .f32 :=
  shapeCast S8x256 (broadcast S8x256 (Scalar.ofBits .f32 0x00000000#32 : F .f32)) shapeCasts_S8x256_S8x256

/-- The rows kept for the point's column block. -/
def kept (i : grid0.Coords) (X : Vec F S43x8x256 .f32) (h : k0_cond2 i = 1#1) : Vec F S8x256 .f32 :=
  shapeCast S8x256 (shapeCast S8x256 (VecWindow.window X (k0_off1 i) S1x8x256.size (k0_off1_inb i h)) shapeCasts_S1x8x256_S8x256)
    shapeCasts_S8x256_S8x256

/-- The eight rows before the point's row block: zero at the start of a sequence, else the kept ones. -/
def before8 (i : grid0.Coords) (X : Vec F S43x8x256 .f32) : Vec F S8x256 .f32 :=
  if h : k0_cond2 i = 1#1 then kept i X h else none8

/-- The causal convolution of the gate columns, three taps and a bias. -/
def conv (h : Vec F S8x256 .f32) (g : FVec F S1024x256 .f32) (w : Vec F S3x256 .f32) (b : Vec F S1x256 .f32) : FVec F S1024x256 .f32 :=
  addf (addf (addf
      (mulf g (broadcastTo S1024x256 (VecWindow.window w ![2, 0] S1x256.size inb_S3x256_S1x256_2_0) broadcasts_S1x256_S1024x256))
      (mulf (rows 7 (by decide) h g) (broadcastTo S1024x256 (VecWindow.window w ![1, 0] S1x256.size inb_S3x256_S1x256_1_0) broadcasts_S1x256_S1024x256)))
      (mulf (rows 6 (by decide) h g) (broadcastTo S1024x256 (VecWindow.window w ![0, 0] S1x256.size inb_S3x256_S1x256_0_0) broadcasts_S1x256_S1024x256)))
    (broadcastTo S1024x256 (shapeCast S1x256 b shapeCasts_S1x256_S1x256) broadcasts_S1x256_S1024x256)

/-- The block the body stores: silu of the convolved gate times up, in the result's type. -/
def out (h : Vec F S8x256 .f32) (x : Vec F S1024x4096 .bf16) (w : Vec F S1x4096x512 .bf16) (cw : Vec F S3x256 .f32) (b : Vec F S1x256 .f32) :
    FVec F S1024x256 .bf16 :=
  truncf .bf16 (mulf (mulf (conv h (gate x w) cw b) (logistic (conv h (gate x w) cw b))) (up x w)) bitsLt_bf16_f32

/-- The kept rows after the point: the last eight gate rows at the point's column block. -/
def keep (i : grid0.Coords) (X : Vec F S43x8x256 .f32) (x : Vec F S1024x4096 .bf16) (w : Vec F S1x4096x512 .bf16) : Vec F S43x8x256 .f32 :=
  VecWindow.put X (k0_off2 i) S1x8x256.size (tail x w)

/-- A load of rows written in two pieces is the shifted rows. -/
theorem cov_rows (k : ℕ) (hk : k ≤ 8) (v : View sig .tc .vmem S1032x256 .f32) (h : Vec F S8x256 .f32) (g : FVec F S1024x256 .f32)
    (inb8 : ∀ a, (![8, 0] : Fin 2 → ℕ) a + S1024x256.size a ≤ S1032x256.size a)
    (inb0 : ∀ a, (![0, 0] : Fin 2 → ℕ) a + S8x256.size a ≤ S1032x256.size a)
    (inb : ∀ a, (![k, 0] : Fin 2 → ℕ) a + S1024x256.size a ≤ S1032x256.size a) :
    v.readCov (Val := Elt F) [⟨Rect.unit (s := S1032x256) ![8, 0] S1024x256.size inb8, g⟩, ⟨Rect.unit (s := S1032x256) ![0, 0] S8x256.size inb0, h⟩]
      (Rect.unit (s := S1032x256) ![k, 0] S1024x256.size inb).toLoadRect = rows k hk h g := by
  show v.readAt (Elt F) _ _ = _
  rw [View.readAt_unit v _ inb rfl inb, View.read_writes_cons_put (Val := Elt F) v _ inb8 g _ rfl, View.read_writes_cons_put (Val := Elt F) v _ inb0 h _ rfl]
  exact rows_eq k hk _ h g inb

/-- The two tests of the body exclude each other. -/
theorem first_iff (i : grid0.Coords) : first i = 1#1 ↔ ¬ k0_cond2 i = 1#1 := by
  unfold first k0_cond2
  dsimp only
  generalize Scalar.cmpi .eq _ _ = b
  revert b
  decide

/-- A run of the body at the first row block of a sequence. -/
theorem run_first (c : Dev nD) (i : grid0.Coords) (h1 : first i = 1#1) (h2 : ¬ k0_cond2 i = 1#1)
    (arg2 : Memref sig .tc .vmem S1024x4096 .bf16) (harg2 : arg2.IsWhole) (arg3 : Memref sig .tc .vmem S1x4096x512 .bf16) (harg3 : arg3.IsWhole)
    (arg4 : Memref sig .tc .vmem S3x256 .f32) (harg4 : arg4.IsWhole) (arg5 : Memref sig .tc .vmem S1x256 .f32) (harg5 : arg5.IsWhole)
    (arg6 : Memref sig .tc .vmem S1024x256 .bf16) (harg6 : arg6.IsWhole) (arg7 : Memref sig .tc .vmem S1032x256 .f32) (harg7 : arg7.IsWhole)
    (arg8 : Memref sig .tc .vmem S43x8x256 .f32) (harg8 : arg8.IsWhole)
    (x0 : Vec F S1024x4096 .bf16) (x1 : Vec F S1x4096x512 .bf16) (x2 : Vec F S3x256 .f32) (x3 : Vec F S1x256 .f32)
    (x8 : Vec F S43x8x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ owns (c : Thread nD τ) arg8 fullShare x8
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare (out (none8) x0 x1 x2 x3)
          ∗ (∃ d, owns (c : Thread nD τ) arg7 fullShare d) ∗ owns (c : Thread nD τ) arg8 fullShare (keep i x8 x0 x1)) -∗ K ⟨⟩))
      ⊢ wp frame (wpE (defs₀ (F := F)) Variants.none c none) E (cc0_ffn_up i arg2 harg2 arg3 harg3 arg4 harg4 arg5 harg5 arg6 harg6 arg7 harg7 arg8 harg8) K := by
  unfold cc0_ffn_up
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%f8, %hf8, H8⟩, Hk⟩
  sl_exec (disch := first | sl_exact h1 | sl_exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H6]
  · iexists _; isplitr; swap; · iexact H6
    ipureintro
    rw [View.read_writes_full]
    subst hf0 hf1 hf2 hf3 hf8
    sl_unfold_words
    unfold out conv gate up prod none8
    rw [View.readAt_full arg2.view f0, View.readAt_full arg3.view f1, View.readAt_full arg5.view f3, cov_rows 7 (by decide), cov_rows 6 (by decide)]
    simp only [shapeCast_self]
    rfl
  isplitl [H7]
  · iexists _; iexists _; isplitr; swap; · iexact H7
    ipureintro; rfl
  iexists _; isplitr; swap; · iexact H8
  ipureintro
  rw [View.read_writes_cons_put _ _ _ _ _ rfl]
  subst hf0 hf1 hf8
  sl_unfold_words
  unfold keep tail gate prod
  rw [View.readAt_full arg2.view f0, View.readAt_full arg3.view f1]
  rfl

/-- A run of the body at a later row block of a sequence. -/
theorem run_later (c : Dev nD) (i : grid0.Coords) (h1 : ¬ first i = 1#1) (h2 : k0_cond2 i = 1#1)
    (arg2 : Memref sig .tc .vmem S1024x4096 .bf16) (harg2 : arg2.IsWhole) (arg3 : Memref sig .tc .vmem S1x4096x512 .bf16) (harg3 : arg3.IsWhole)
    (arg4 : Memref sig .tc .vmem S3x256 .f32) (harg4 : arg4.IsWhole) (arg5 : Memref sig .tc .vmem S1x256 .f32) (harg5 : arg5.IsWhole)
    (arg6 : Memref sig .tc .vmem S1024x256 .bf16) (harg6 : arg6.IsWhole) (arg7 : Memref sig .tc .vmem S1032x256 .f32) (harg7 : arg7.IsWhole)
    (arg8 : Memref sig .tc .vmem S43x8x256 .f32) (harg8 : arg8.IsWhole)
    (x0 : Vec F S1024x4096 .bf16) (x1 : Vec F S1x4096x512 .bf16) (x2 : Vec F S3x256 .f32) (x3 : Vec F S1x256 .f32)
    (x8 : Vec F S43x8x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ owns (c : Thread nD τ) arg8 fullShare x8
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare (out (kept i x8 h2) x0 x1 x2 x3)
          ∗ (∃ d, owns (c : Thread nD τ) arg7 fullShare d) ∗ owns (c : Thread nD τ) arg8 fullShare (keep i x8 x0 x1)) -∗ K ⟨⟩))
      ⊢ wp frame (wpE (defs₀ (F := F)) Variants.none c none) E (cc0_ffn_up i arg2 harg2 arg3 harg3 arg4 harg4 arg5 harg5 arg6 harg6 arg7 harg7 arg8 harg8) K := by
  unfold cc0_ffn_up
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%f8, %hf8, H8⟩, Hk⟩
  sl_exec (disch := first | sl_exact h1 | sl_exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H6]
  · iexists _; isplitr; swap; · iexact H6
    ipureintro
    rw [View.read_writes_full]
    subst hf0 hf1 hf2 hf3 hf8
    sl_unfold_words
    unfold out conv gate up prod kept
    rw [View.readAt_full arg2.view f0, View.readAt_full arg3.view f1, View.readAt_full arg5.view f3, cov_rows 7 (by decide), cov_rows 6 (by decide)]
    simp only [shapeCast_self]
    rfl
  isplitl [H7]
  · iexists _; iexists _; isplitr; swap; · iexact H7
    ipureintro; rfl
  iexists _; isplitr; swap; · iexact H8
  ipureintro
  rw [View.read_writes_cons_put _ _ _ _ _ rfl]
  subst hf0 hf1 hf8
  sl_unfold_words
  unfold keep tail gate prod
  rw [View.readAt_full arg2.view f0, View.readAt_full arg3.view f1]
  rfl

end Cert.FfnUpIdeal.Up

end
-- ==== Proof.UpFrame.lean ====
/-
  The first feed-forward projection: the invariant that carries the kept rows from one row block to the next, the body
  obligation at every grid point, and the frame of the launch.
-/
module

public import proofs.«01_k».proof.Proof.UpBody
public import Idealize.ShloMosaic.Lib.Claim

@[expose] public section

set_option maxRecDepth 16384

noncomputable section

namespace Cert.FfnUpIdeal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FfnUpIdeal Cert.FfnUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Where the body keeps its rows at each point: the slot of the point's column block. -/
theorem slot2 : ∀ t : Fin cfg0.N, k0_off2 (grid0.coords t) = ![t.val % 43, 0, 0] :=
  (by decide +kernel : ∀ t : Fin grid0.N, k0_off2 (grid0.coords t) = ![t.val % 43, 0, 0])

/-- Where the body takes the rows kept from the row block before: the same slot. -/
theorem slot1 : ∀ t : Fin cfg0.N, k0_off1 (grid0.coords t) = ![t.val % 43, 0, 0] :=
  (by decide +kernel : ∀ t : Fin grid0.N, k0_off1 (grid0.coords t) = ![t.val % 43, 0, 0])

/-- Kept rows are taken at every row block but the first of each sequence. -/
theorem later_iff : ∀ t : Fin cfg0.N, k0_cond2 (grid0.coords t) = 1#1 ↔ t.val / 43 % 8 ≠ 0 :=
  (by decide +kernel : ∀ t : Fin grid0.N, k0_cond2 (grid0.coords t) = 1#1 ↔ t.val / 43 % 8 ≠ 0)

/-- The point of the row block before, at the same column block. -/
def prev (t : Fin cfg0.N) : Fin cfg0.N := ⟨t.val - 43, Nat.lt_of_le_of_lt (Nat.sub_le _ _) t.isLt⟩

/-- The last gate rows of a point, as kept. -/
def tailAt (c : Dev nD) (t : Fin cfg0.N) : FVec F S1x8x256 .f32 := tail (iblk m c 0 t) (iblk m c 1 t)

/-- The eight rows before a point's row block. -/
def earlier (c : Dev nD) (t : Fin cfg0.N) : Vec F S8x256 .f32 :=
  if k0_cond2 (grid0.coords t) = 1#1 then
    shapeCast S8x256 (shapeCast S8x256 (tailAt m c (prev t)) shapeCasts_S1x8x256_S8x256) shapeCasts_S8x256_S8x256
  else none8

/-- The block stored at a point. -/
def outAt (c : Dev nD) (t : Fin cfg0.N) : FVec F S1024x256 .bf16 :=
  out (earlier m c t) (iblk m c 0 t) (iblk m c 1 t) (iblk m c 2 t) (iblk m c 3 t)

/-- The kept rows before point `t`: each of the last 43 points' slots holds that point's last gate rows. -/
def Good (c : Dev nD) (t : ℕ) (X : Vec F S43x8x256 .f32) : Prop :=
  ∀ s : Fin cfg0.N, s.val < t → t ≤ s.val + 43 →
    VecWindow.window X (k0_off2 (grid0.coords s)) S1x8x256.size (k0_off2_inb (grid0.coords s)) = tailAt m c s

/-- A window at equal offsets is the same window. -/
theorem window_off (X : Vec F S43x8x256 .f32) {o o' : Fin 3 → ℕ} (h : o = o') (i : ∀ a, o a + S1x8x256.size a ≤ S43x8x256.size a)
    (i' : ∀ a, o' a + S1x8x256.size a ≤ S43x8x256.size a) :
    VecWindow.window X o S1x8x256.size i = VecWindow.window X o' S1x8x256.size i' := by
  subst h; rfl

/-- Under the invariant the body finds the rows before its row block. -/
theorem before8_eq (c : Dev nD) (t : Fin cfg0.N) (X : Vec F S43x8x256 .f32) (hX : Good m c t.val X) :
    before8 (grid0.coords t) X = earlier m c t := by
  unfold before8 earlier
  by_cases h : k0_cond2 (grid0.coords t) = 1#1
  · rw [dif_pos h, if_pos h]
    unfold kept
    have hl := (later_iff t).mp h
    have h43 : 43 ≤ t.val := by
      by_contra hlt
      exact hl (by rw [Nat.div_eq_of_lt (Nat.lt_of_not_le hlt)])
    have hp : (prev t).val = t.val - 43 := rfl
    rw [window_off X ((slot1 t).trans ((slot2 (prev t)).trans (by
      rw [hp, ← Nat.mod_eq_sub_mod h43])).symm) _ (k0_off2_inb (grid0.coords (prev t))),
      hX (prev t) (by omega) (by omega)]
  · rw [dif_neg h, if_neg h]

/-- The body's store keeps the invariant. -/
theorem good_next (c : Dev nD) (t : Fin cfg0.N) (X : Vec F S43x8x256 .f32) (hX : Good m c t.val X) :
    Good m c (t.val + 1) (keep (grid0.coords t) X (iblk m c 0 t) (iblk m c 1 t)) := by
  intro s hs hs'
  unfold keep
  by_cases e : s = t
  · subst e
    exact VecWindow.window_put_same X _ _ _ _
  · have hne : s.val ≠ t.val := fun h => e (Fin.ext h)
    rw [VecWindow.window_put_of_disjoint X _ _ _ _ _ _ 0 (by
      rw [slot2 s, slot2 t]
      show s.val % 43 + 1 ≤ t.val % 43 ∨ t.val % 43 + 1 ≤ s.val % 43
      omega)]
    exact hX s (by omega) (by omega)

/-- What the body carries before point `t`: some shifted rows, the kept rows, the generator. -/
def Φ (c : Dev nD) (t : ℕ) : sProp 𝕄 :=
  iprop((∃ d, owns (c : Thread nD τ) (Memref.whole cc0_scratch0) fullShare d)
    ∗ (∃ X, ⌜Good m c t X⌝ ∗ owns (c : Thread nD τ) (Memref.whole cc0_scratch1) fullShare X) ∗ ∃ r, prngReg c r)

/-- The proof data: the arrays as the region finds them, each input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := Φ m c t.val
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- The input buffers hold their blocks before every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The run of the body at any point, whichever way its tests go. -/
theorem run_any (c : Dev nD) (i : grid0.Coords)
    (arg2 : Memref sig .tc .vmem S1024x4096 .bf16) (harg2 : arg2.IsWhole) (arg3 : Memref sig .tc .vmem S1x4096x512 .bf16) (harg3 : arg3.IsWhole)
    (arg4 : Memref sig .tc .vmem S3x256 .f32) (harg4 : arg4.IsWhole) (arg5 : Memref sig .tc .vmem S1x256 .f32) (harg5 : arg5.IsWhole)
    (arg6 : Memref sig .tc .vmem S1024x256 .bf16) (harg6 : arg6.IsWhole) (arg7 : Memref sig .tc .vmem S1032x256 .f32) (harg7 : arg7.IsWhole)
    (arg8 : Memref sig .tc .vmem S43x8x256 .f32) (harg8 : arg8.IsWhole)
    (x0 : Vec F S1024x4096 .bf16) (x1 : Vec F S1x4096x512 .bf16) (x2 : Vec F S3x256 .f32) (x3 : Vec F S1x256 .f32)
    (x8 : Vec F S43x8x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ owns (c : Thread nD τ) arg8 fullShare x8
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare (out (before8 i x8) x0 x1 x2 x3)
          ∗ (∃ d, owns (c : Thread nD τ) arg7 fullShare d) ∗ owns (c : Thread nD τ) arg8 fullShare (keep i x8 x0 x1)) -∗ K ⟨⟩))
      ⊢ wp frame (wpE (defs₀ (F := F)) Variants.none c none) E (cc0_ffn_up i arg2 harg2 arg3 harg3 arg4 harg4 arg5 harg5 arg6 harg6 arg7 harg7 arg8 harg8) K := by
  unfold before8
  by_cases h : k0_cond2 i = 1#1
  · rw [dif_pos h]
    exact run_later c i (fun h1 => (first_iff i).mp h1 h) h _ _ _ _ _ _ _ _ _ _ _ _ _ _ _ _ _ _ _ _ _
  · rw [dif_neg h]
    exact run_first c i ((first_iff i).mpr h) h _ _ _ _ _ _ _ _ _ _ _ _ _ _ _ _ _ _ _ _ _

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: it finds the rows before its row block, stores `outAt` and keeps its own last rows. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.castSucc = Φ m c t.val from rfl, show (dats m 0 c).Φ t.succ = Φ m c (t.val + 1) from rfl,
    show (dats m 0 c).owesAt () t.succ = (dats m 0 c).owesAt () t.castSucc from rfl,
    after0, after1, after2, after3, after4]
  unfold Φ
  iintro ⟨⟨HE, ⟨%X, %hX, HX⟩, Hp⟩, Ho, ⟨%d0, H0⟩, ⟨%d1, H1⟩, ⟨%d2, H2⟩, ⟨%d3, H3⟩, ⟨%d4, H4⟩⟩
  iapply (run_any c (grid0.coords t) _ _ _ _ _ _ _ _ _ _ _ _ _ _ (iblk m c 0 t) (iblk m c 1 t) (iblk m c 2 t) (iblk m c 3 t) X Set.univ _)
  isplitl [H0]; · iexact H0
  isplitl [H1]; · iexact H1
  isplitl [H2]; · iexact H2
  isplitl [H3]; · iexact H3
  isplitl [H4]; · iexists _; iexact H4
  isplitl [HE]; · iexact HE
  isplitl [HX]; · iexact HX
  rw [before8_eq m c t X hX]
  iintro ⟨H0, H1, H2, H3, H4, HE, HX⟩
  isplitl [HE HX Hp]
  · isplitl [HE]; · iexact HE
    isplitl [HX]
    · iexists _; isplitr; swap; · iexact HX
      ipureintro; exact good_next m c t X hX
    iexact Hp
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch buffers as memrefs owned at some contents. -/
theorem scratch_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)) ∗ (∃ r, prngReg c r)) := by
  unfold Pipeline.ΦA; rw [scopedRest0_eq]; simp only [owns_whole]; try rfl

/-- Before the first point nothing is kept yet. -/
theorem enter (c : Dev nD) : (Pipeline.ΦA spec0 c : sProp 𝕄) ⊢ (dats m 0 c).Φ 0 := by
  rw [scratch_eq, show (dats m 0 c).Φ 0 = Φ m c 0 from rfl]
  unfold Φ
  iintro ⟨⟨HE, ⟨%X, HX⟩⟩, Hp⟩
  isplitl [HE]; · iexact HE
  isplitl [HX]
  · iexists X; isplitr; swap; · iexact HX
    ipureintro; exact fun s hs _ => absurd hs (Nat.not_lt_zero _)
  iexact Hp

/-- After the last point the kept rows are forgotten. -/
theorem leave (c : Dev nD) : (dats m 0 c).Φ (Fin.last cfg0.N) ⊢ (Pipeline.ΦA spec0 c : sProp 𝕄) := by
  rw [scratch_eq, show (dats m 0 c).Φ (Fin.last cfg0.N) = Φ m c cfg0.N from rfl]
  unfold Φ
  iintro ⟨HE, ⟨%X, %hX, HX⟩, Hp⟩
  isplitl [HE HX]
  · isplitl [HE]; · iexact HE
    iexists X; iexact HX
  iexact Hp

set_option backward.isDefEq.respectTransparency.types false in
/-- The launch: every array ends at what the proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the run terminates, the arguments end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.FfnUpIdeal.Up

end
-- ==== Proof.UpCarry.lean ====
/-
  The first feed-forward projection as compiled: it is the same program as the one read on the extended reals, so the
  frame proved of that one at any reading of the floats is its frame too.
-/
module

public import proofs.«01_k».proof.Proof.Gen.FfnUp.Frame
public import proofs.«01_k».proof.Proof.UpFrame

@[expose] public section

noncomputable section

namespace Cert.FfnUp.Up

open Idealize.ShloMosaic Idealize.ShloMosaic.TcCoe Idealize.SL.Sem

variable {F : FTy → Type} [FloatOps F]

/-- The two bodies are one. -/
theorem body_eq : @Cert.FfnUp.cc0_ffn_up F _ _ = @Cert.FfnUpIdeal.cc0_ffn_up F _ _ := rfl

/-- The two programs on the device are one. -/
theorem main_eq : @Cert.FfnUp.main F _ = @Cert.FfnUpIdeal.main F _ := rfl

/-- The two tables of bodies are one. -/
theorem defs₀_eq : @Cert.FfnUp.defs₀ F _ _ = @Cert.FfnUpIdeal.defs₀ F _ _ := by
  unfold Cert.FfnUp.defs₀ Cert.FfnUpIdeal.defs₀
  congr 1
  funext l x
  match l, x with
  | 0, (t, s) => rfl

/-- The two tables with the pipeline's calls are one. -/
theorem defs_eq : @Cert.FfnUp.defs F _ _ = @Cert.FfnUpIdeal.defs F _ _ := by
  unfold Cert.FfnUp.defs Cert.FfnUpIdeal.defs
  exact congrArg (Pipeline.defs Cert.FfnUpIdeal.pcfgs) defs₀_eq

open Cert.FfnUp in
/-- The frame: the run terminates, the arguments end unchanged, every semaphore counter ends at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [main_eq, defs_eq]
  exact Cert.FfnUpIdeal.Up.frame m ρ

end Cert.FfnUp.Up

end
-- ==== Proof.Taps.lean ====
/-
  Facts the convolved projections use: a vector read at natural indices, the value some rows earlier in the same
  sequence, and silu.
-/
module

public import proofs.«01_k».proof.Proof.Proj
public import Idealize.ShloMosaic.Lib.KernelVsHost

@[expose] public section

set_option maxRecDepth 16384

noncomputable section

namespace Cert.Proj

open Idealize.ShloMosaic Idealize.ShloMosaic.TcCoe
open Idealize.ShloMosaic.ValueIdx (ix3)

/-- A vector of extended reals. -/
abbrev Row (C : ℕ) := (⟨1, ![C]⟩ : Shape).Idx → EReal

/-- The vector's element at `c` (zero outside). -/
def rd1 {C : ℕ} (b : Row C) (c : ℕ) : EReal := if h : c < C then b (fun a => match a with | ⟨0, _⟩ => ⟨c, h⟩) else 0

/-- An element of a vector, by the value of its index. -/
theorem rd1_eq {C : ℕ} (b : Row C) (c : ℕ) (i : (⟨1, ![C]⟩ : Shape).Idx) (h0 : (i 0).val = c) : b i = rd1 b c := by
  subst h0
  have l0 : (i 0).val < C := (i 0).isLt
  unfold rd1
  rw [dif_pos l0]
  exact congrArg b (funext fun a => match a with | ⟨0, _⟩ => rfl)

/-- The value `d` rows before row `r`, zero before the start of the row's sequence of 8192 rows. -/
def back (f : ℕ → EReal) (d r : ℕ) : EReal := if r % 8192 < d then 0 else f (r - d)

/-- The value no rows before is the value. -/
theorem back_zero (f : ℕ → EReal) (r : ℕ) : back f 0 r = f r := if_neg (Nat.not_lt_zero _)

/-- silu: a value times its logistic. -/
def silu (z : EReal) : EReal := z * Ideal.logistic z

/-- The zero word is zero. -/
theorem zero_f32 : Ideal.ofBits .f32 0x00000000#32 = 0 := by
  simp [Ideal.ofBits, Ideal.ieee]

/-- Sequences with `p` zero rows put before each, read `p - d` rows down: the value `d` rows before in the sequence. -/
theorem front_at {C L p : ℕ} {φ : FTy} (x : FVec Ideal ⟨3, ![2, 8192, C]⟩ φ) (v : FVec Ideal ⟨0, ![]⟩ φ)
    (h : Shape.Pads ⟨3, ![2, 8192, C]⟩ ![0, p, 0] ![0, 0, 0] ![0, 0, 0] ⟨3, ![2, L, C]⟩) (hu : 0 < (⟨0, ![]⟩ : Shape).numel) (hv : ∀ i, (v i : EReal) = 0)
    (f : ℕ → ℕ → EReal) (hx : ∀ i, (x i : EReal) = f (8192 * (i 0).val + (i 1).val) (i 2).val)
    (j : (⟨3, ![2, L, C]⟩ : Shape).Idx) (d s : ℕ) (hs : s < 8192) (hd : d ≤ p) (hj : (j 1).val + d = s + p) :
    (pad ⟨3, ![2, L, C]⟩ ![0, p, 0] ![0, 0, 0] ![0, 0, 0] x v h hu j : EReal) = back (fun r => f r (j 2).val) d (8192 * (j 0).val + s) := by
  have l0 : (j 0).val < 2 := (j 0).isLt
  have l2 : (j 2).val < C := (j 2).isLt
  unfold back
  by_cases hsd : s < d
  · rw [pad_apply_of_not_inside _ _ _ x v h hu j 1 (fun hh => by
      have := hh.1
      change p ≤ (j 1).val at this
      omega), hv, if_pos (by omega)]
  · rw [pad_apply_of_inside _ _ _ x v h hu j (ix3 (n0 := 2) (n1 := 8192) (n2 := C) ⟨(j 0).val, l0⟩ ⟨s - d, by omega⟩ ⟨(j 2).val, l2⟩) (fun a => match a with
      | ⟨0, _⟩ => by show (j 0).val = 0 + (j 0).val * (0 + 1); omega
      | ⟨1, _⟩ => by show (j 1).val = p + (s - d) * (0 + 1); omega
      | ⟨2, _⟩ => by show (j 2).val = 0 + (j 2).val * (0 + 1); omega), hx, if_neg (by omega)]
    show f (8192 * (j 0).val + (s - d)) (j 2).val = _
    congr 1; omega

/-- A sum of three, last term first. -/
theorem last_first (a b c : EReal) : a + b + c = c + b + a := by
  rw [add_comm c b, add_comm (b + c) a, add_assoc]

/-- Dividing one by one more than an exponential of the negative is the logistic. -/
theorem logistic_at (z : EReal) :
    Ideal.div (Ideal.ofBits .f32 0x3F800000#32) (Ideal.ofBits .f32 0x3F800000#32 + Ideal.exp (-z)) = Ideal.logistic z := by
  unfold Ideal.logistic
  rw [one_f32]

end Cert.Proj

end
-- ==== Proof.UpArray.lean ====
/-
  The first feed-forward projection: what a grid point stores, and from the points' blocks the whole result.
-/
module

public import proofs.«01_k».proof.Proof.Taps
public import proofs.«01_k».proof.Proof.UpFrame
public import Idealize.ShloMosaic.Lib.Pipeline.Value
public import Idealize.ShloMosaic.Lib.Pipeline.ValueKit.Acc

@[expose] public section

set_option maxRecDepth 16384

noncomputable section

namespace Cert.FfnUpIdeal.Up

open Cert.FfnUpIdeal Cert.FfnUpIdeal.Gen Idealize.ShloMosaic Idealize.ShloMosaic.TcCoe Idealize.SL.Sem
open Idealize.ShloMosaic.Pipeline (Dat)
open Idealize.ShloMosaic.ValueIdx (ix2 ix3)

variable (m : (ℓ : Loc nD τ sig) → Buf (Elt Ideal) ℓ) (ρ : Dev nD → PrngReg)

/-- The features on device `c`. -/
abbrev feat (c : Dev nD) : Proj.Mat 16384 4096 := m ((c : Thread nD τ).loc main_arg0)

/-- The four layers' weights on device `c`. -/
abbrev wts (c : Dev nD) : Proj.Stack 4 4096 22016 := m ((c : Thread nD τ).loc main_arg1)

/-- The taps of the convolution on device `c`. -/
abbrev taps (c : Dev nD) : Proj.Mat 3 11008 := m ((c : Thread nD τ).loc main_arg2)

/-- The bias of the convolution on device `c`. -/
abbrev bias (c : Dev nD) : Proj.Row 11008 := m ((c : Thread nD τ).loc main_arg3)

/-- An element of the result from the four arguments: the gate column of channel `k` convolved along the sequence, silu of it,
    times the up column. -/
def spec (A : Proj.Mat 16384 4096) (W : Proj.Stack 4 4096 22016) (T : Proj.Mat 3 11008) (b : Proj.Row 11008) (r k : ℕ) : EReal :=
  Proj.silu (Proj.back (fun r => Proj.dot A W 1 r (512 * (k / 256) + k % 256)) 0 r * Proj.rd T 2 k
      + Proj.back (fun r => Proj.dot A W 1 r (512 * (k / 256) + k % 256)) 1 r * Proj.rd T 1 k
      + Proj.back (fun r => Proj.dot A W 1 r (512 * (k / 256) + k % 256)) 2 r * Proj.rd T 0 k
      + Proj.rd1 b k)
    * Proj.dot A W 1 r (512 * (k / 256) + 256 + k % 256)

/-- The corner of each window's block in its array. -/
theorem corners : ∀ t : Fin grid0.N,
    (win0_0.index t 0 * win0_0.size 0 = 1024 * (t.val / 43) ∧ win0_0.index t 1 * win0_0.size 1 = 0)
    ∧ (win0_1.index t 0 * win0_1.size 0 = 1 ∧ win0_1.index t 1 * win0_1.size 1 = 0 ∧ win0_1.index t 2 * win0_1.size 2 = 512 * (t.val % 43))
    ∧ (win0_2.index t 0 * win0_2.size 0 = 0 ∧ win0_2.index t 1 * win0_2.size 1 = 256 * (t.val % 43))
    ∧ (win0_3.index t 0 * win0_3.size 0 = 0 ∧ win0_3.index t 1 * win0_3.size 1 = 256 * (t.val % 43))
    ∧ (win0_4.index t 0 * win0_4.size 0 = 1024 * (t.val / 43) ∧ win0_4.index t 1 * win0_4.size 1 = 256 * (t.val % 43))
    ∧ win0_4.xsize (grid0.coords t) 0 = 1024 ∧ win0_4.xsize (grid0.coords t) 1 = 256 := by
  decide +kernel

/-- The bias the region finds is the argument's, as a row. -/
theorem bias_row (c : Dev nD) : (V m c main_v0 : Proj.Mat 1 11008) = shapeCast S1x11008 (bias m c) shapeCasts_S11008_S1x11008 := by
  show StableHlo.after hostOps0 (fun b => m (c, b)) main_v0 = _
  unfold hostOps0
  rw [StableHlo.after_cons, StableHlo.after_nil, StableHlo.reshape_result]
  rfl

theorem x_read (c : Dev nD) (t : Fin cfg0.N) (y : S1024x4096.Idx) :
    (iblk m c 0 t y : EReal) = Proj.rd (feat m c) (1024 * (t.val / 43) + (y 0).val) (y 1).val := by
  obtain ⟨⟨e0, e1⟩, -⟩ := corners t
  have h : (V m c main_arg0 : Proj.Mat 16384 4096) = feat m c := V_main_arg0 m c
  rw [← h]
  refine Proj.rd_eq (V m c main_arg0 : Proj.Mat 16384 4096) _ _ _ ?_ ?_
  · show win0_0.index t 0 * win0_0.size 0 + 1 * (y 0).val = _
    rw [e0, one_mul]
  · show win0_0.index t 1 * win0_0.size 1 + 1 * (y 1).val = _
    rw [e1, one_mul, Nat.zero_add]

theorem w_read (c : Dev nD) (t : Fin cfg0.N) (y : S1x4096x512.Idx) :
    (iblk m c 1 t y : EReal) = Proj.rd3 (wts m c) 1 (y 1).val (512 * (t.val % 43) + (y 2).val) := by
  obtain ⟨-, ⟨e0, e1, e2⟩, -⟩ := corners t
  have h : (V m c main_arg1 : Proj.Stack 4 4096 22016) = wts m c := V_main_arg1 m c
  rw [← h]
  have hy : (y 0).val < 1 := (y 0).isLt
  refine Proj.rd3_eq (V m c main_arg1 : Proj.Stack 4 4096 22016) _ _ _ _ ?_ ?_ ?_
  · show win0_1.index t 0 * win0_1.size 0 + 1 * (y 0).val = _
    rw [e0]
    omega
  · show win0_1.index t 1 * win0_1.size 1 + 1 * (y 1).val = _
    rw [e1, one_mul, Nat.zero_add]
  · show win0_1.index t 2 * win0_1.size 2 + 1 * (y 2).val = _
    rw [e2, one_mul]

theorem tap_read (c : Dev nD) (t : Fin cfg0.N) (y : S3x256.Idx) :
    (iblk m c 2 t y : EReal) = Proj.rd (taps m c) (y 0).val (256 * (t.val % 43) + (y 1).val) := by
  obtain ⟨-, -, ⟨e0, e1⟩, -⟩ := corners t
  have h : (V m c main_arg2 : Proj.Mat 3 11008) = taps m c := V_main_arg2 m c
  rw [← h]
  refine Proj.rd_eq (V m c main_arg2 : Proj.Mat 3 11008) _ _ _ ?_ ?_
  · show win0_2.index t 0 * win0_2.size 0 + 1 * (y 0).val = _
    rw [e0, one_mul, Nat.zero_add]
  · show win0_2.index t 1 * win0_2.size 1 + 1 * (y 1).val = _
    rw [e1, one_mul]

theorem bias_read (c : Dev nD) (t : Fin cfg0.N) (y : S1x256.Idx) :
    (iblk m c 3 t y : EReal) = Proj.rd1 (bias m c) (256 * (t.val % 43) + (y 1).val) := by
  obtain ⟨-, -, -, ⟨e0, e1⟩, -⟩ := corners t
  have hy : (y 0).val < 1 := (y 0).isLt
  have hy1 : (y 1).val < 256 := (y 1).isLt
  have hc : 256 * (t.val % 43) + (y 1).val < 11008 := by omega
  show (V m c main_v0 : Proj.Mat 1 11008) ((win0_3.rect t).emb y) = _
  rw [bias_row]
  have e : (fun a => match a with | ⟨0, _⟩ => ⟨256 * (t.val % 43) + (y 1).val, hc⟩ : S11008.Idx) 0 = ⟨256 * (t.val % 43) + (y 1).val, hc⟩ := rfl
  refine (shapeCast_apply (bias m c) shapeCasts_S11008_S1x11008 _ (fun a => match a with | ⟨0, _⟩ => ⟨256 * (t.val % 43) + (y 1).val, hc⟩) ?_).trans
    (Proj.rd1_eq (bias m c) _ _ (congrArg Fin.val e))
  rw [Shape.rowMajor_val_one, Shape.rowMajor_val_two]
  show 256 * (t.val % 43) + (y 1).val = (win0_3.index t 0 * win0_3.size 0 + 1 * (y 0).val) * 11008 + (win0_3.index t 1 * win0_3.size 1 + 1 * (y 1).val)
  rw [e0, e1]
  omega

/-- A point's product at an element. -/
theorem prod_read (c : Dev nD) (t : Fin cfg0.N) (y : S1024x512.Idx) :
    (prod (F := Ideal) (iblk m c 0 t) (iblk m c 1 t) y : EReal)
      = Proj.dot (feat m c) (wts m c) 1 (1024 * (t.val / 43) + (y 0).val) (512 * (t.val % 43) + (y 1).val) := by
  rw [← Proj.block_dot (φ₁ := .bf16) (φ₂ := .bf16) (feat m c) (wts m c) 1 _ _ dot_S1024x4096_S4096x512_S1024x512_1_0_0_1_n_n_wf
    shapeCasts_S1x4096x512_S4096x512 (iblk m c 0 t) (iblk m c 1 t) (x_read m c t) (w_read m c t) y]
  rfl

/-- A point's gate columns at an element. -/
theorem gate_read (c : Dev nD) (t : Fin cfg0.N) (y : S1024x256.Idx) :
    (gate (F := Ideal) (iblk m c 0 t) (iblk m c 1 t) y : EReal)
      = Proj.dot (feat m c) (wts m c) 1 (1024 * (t.val / 43) + (y 0).val) (512 * (t.val % 43) + (y 1).val) := by
  have h0 : (y 0).val < 1024 := (y 0).isLt
  have h1 : (y 1).val < 256 := (y 1).isLt
  unfold gate
  refine (extractStridedSlice_apply ![0, 0] _ slices_S1024x512_o0_0_S1024x256 y (ix2 (n0 := 1024) (n1 := 512) ⟨(y 0).val, h0⟩ ⟨(y 1).val, by omega⟩)
    (fun a => match a with
    | ⟨0, _⟩ => by show (y 0).val = 0 + (y 0).val; omega
    | ⟨1, _⟩ => by show (y 1).val = 0 + (y 1).val; omega)).trans ?_
  exact prod_read m c t _

/-- A point's up columns at an element. -/
theorem up_read (c : Dev nD) (t : Fin cfg0.N) (y : S1024x256.Idx) :
    (up (F := Ideal) (iblk m c 0 t) (iblk m c 1 t) y : EReal)
      = Proj.dot (feat m c) (wts m c) 1 (1024 * (t.val / 43) + (y 0).val) (512 * (t.val % 43) + (256 + (y 1).val)) := by
  have h0 : (y 0).val < 1024 := (y 0).isLt
  have h1 : (y 1).val < 256 := (y 1).isLt
  unfold up
  refine (extractStridedSlice_apply ![0, 256] _ slices_S1024x512_o0_256_S1024x256 y (ix2 (n0 := 1024) (n1 := 512) ⟨(y 0).val, h0⟩ ⟨256 + (y 1).val, by omega⟩)
    (fun a => match a with
    | ⟨0, _⟩ => by show (y 0).val = 0 + (y 0).val; omega
    | ⟨1, _⟩ => by show 256 + (y 1).val = 256 + (y 1).val; rfl)).trans ?_
  exact prod_read m c t _

/-- The eight rows before a point's row block: zero at the start of a sequence, else the gate columns there. -/
theorem earlier_read (c : Dev nD) (t : Fin cfg0.N) (y : S8x256.Idx) :
    (earlier m c t y : EReal) = if t.val / 43 % 8 = 0 then 0
      else Proj.dot (feat m c) (wts m c) 1 (1024 * (t.val / 43) + (y 0).val - 8) (512 * (t.val % 43) + (y 1).val) := by
  have h0 : (y 0).val < 8 := (y 0).isLt
  have h1 : (y 1).val < 256 := (y 1).isLt
  unfold earlier
  by_cases h : k0_cond2 (grid0.coords t) = 1#1
  · have hl := (later_iff t).mp h
    rw [if_pos h, if_neg hl]
    unfold tailAt tail
    simp only [shapeCast_self, shapeCast_shapeCast]
    refine (extractStridedSlice_apply ![1016, 0] _ slices_S1024x256_o1016_0_S8x256 y (ix2 (n0 := 1024) (n1 := 256) ⟨1016 + (y 0).val, by omega⟩ ⟨(y 1).val, h1⟩)
      (fun a => match a with
      | ⟨0, _⟩ => by show 1016 + (y 0).val = 1016 + (y 0).val; rfl
      | ⟨1, _⟩ => by show (y 1).val = 0 + (y 1).val; omega)).trans ?_
    rw [gate_read]
    show Proj.dot _ _ 1 (1024 * ((t.val - 43) / 43) + (1016 + (y 0).val)) (512 * ((t.val - 43) % 43) + (y 1).val) = _
    congr 1 <;> omega
  · rw [if_neg h, if_pos (by
      by_contra hl
      exact h ((later_iff t).mpr hl))]
    unfold none8
    rw [shapeCast_self]
    exact Proj.zero_f32

/-- The gate columns some rows up, at an element: the value that many rows before in the sequence. -/
theorem rows_read (c : Dev nD) (t : Fin cfg0.N) (k d : ℕ) (hk : k ≤ 8) (hd : k + d = 8) (y : S1024x256.Idx) :
    (rows k hk (earlier m c t) (gate (F := Ideal) (iblk m c 0 t) (iblk m c 1 t)) y : EReal)
      = Proj.back (fun r => Proj.dot (feat m c) (wts m c) 1 r (512 * (t.val % 43) + (y 1).val)) d (1024 * (t.val / 43) + (y 0).val) := by
  have h0 : (y 0).val < 1024 := (y 0).isLt
  unfold rows Proj.back
  by_cases hy : (y 0).val + k < 8
  · rw [dif_pos hy, earlier_read]
    by_cases ht : t.val / 43 % 8 = 0
    · rw [if_pos ht, if_pos (by omega)]
    · rw [if_neg ht, if_neg (by omega)]
      show Proj.dot _ _ 1 (1024 * (t.val / 43) + ((y 0).val + k) - 8) (512 * (t.val % 43) + (y 1).val) = _
      congr 1; omega
  · rw [dif_neg hy, gate_read, if_neg (by omega)]
    show Proj.dot _ _ 1 (1024 * (t.val / 43) + ((y 0).val + k - 8)) (512 * (t.val % 43) + (y 1).val) = _
    congr 1; omega

/-- A row of taps spread over the block, at an element. -/
theorem spread (w : Vec Ideal S1x256 .f32) (y : S1024x256.Idx) :
    broadcastTo S1024x256 w broadcasts_S1x256_S1024x256 y = w (ix2 (n0 := 1) (n1 := 256) 0 (y 1)) :=
  broadcastTo_apply w broadcasts_S1x256_S1024x256 y _ fun a => match a with
    | ⟨0, _⟩ => rfl
    | ⟨1, _⟩ => rfl

theorem tap_at (c : Dev nD) (t : Fin cfg0.N) (k : ℕ) (inb : ∀ a, (![k, 0] : Fin 2 → ℕ) a + S1x256.size a ≤ S3x256.size a) (y : S1024x256.Idx) :
    (broadcastTo S1024x256 (VecWindow.window (iblk m c 2 t) ![k, 0] S1x256.size inb) broadcasts_S1x256_S1024x256 y : EReal)
      = Proj.rd (taps m c) k (256 * (t.val % 43) + (y 1).val) := by
  rw [spread]
  unfold VecWindow.window
  rw [tap_read]
  show Proj.rd _ (k + 1 * 0) (256 * (t.val % 43) + (0 + 1 * (y 1).val)) = _
  congr 1; omega

/-- The convolved gate columns at an element. -/
theorem conv_read (c : Dev nD) (t : Fin cfg0.N) (y : S1024x256.Idx) :
    (conv (F := Ideal) (earlier m c t) (gate (iblk m c 0 t) (iblk m c 1 t)) (iblk m c 2 t) (iblk m c 3 t) y : EReal)
      = Proj.back (fun r => Proj.dot (feat m c) (wts m c) 1 r (512 * (t.val % 43) + (y 1).val)) 0 (1024 * (t.val / 43) + (y 0).val)
          * Proj.rd (taps m c) 2 (256 * (t.val % 43) + (y 1).val)
        + Proj.back (fun r => Proj.dot (feat m c) (wts m c) 1 r (512 * (t.val % 43) + (y 1).val)) 1 (1024 * (t.val / 43) + (y 0).val)
          * Proj.rd (taps m c) 1 (256 * (t.val % 43) + (y 1).val)
        + Proj.back (fun r => Proj.dot (feat m c) (wts m c) 1 r (512 * (t.val % 43) + (y 1).val)) 2 (1024 * (t.val / 43) + (y 0).val)
          * Proj.rd (taps m c) 0 (256 * (t.val % 43) + (y 1).val)
        + Proj.rd1 (bias m c) (256 * (t.val % 43) + (y 1).val) := by
  rw [Proj.back_zero, ← rows_read m c t 7 1 (by decide) rfl, ← rows_read m c t 6 2 (by decide) rfl, ← gate_read,
    ← tap_at m c t 2 inb_S3x256_S1x256_2_0, ← tap_at m c t 1 inb_S3x256_S1x256_1_0, ← tap_at m c t 0 inb_S3x256_S1x256_0_0,
    show Proj.rd1 (bias m c) (256 * (t.val % 43) + (y 1).val)
      = (broadcastTo S1024x256 (shapeCast S1x256 (iblk m c 3 t) shapeCasts_S1x256_S1x256) broadcasts_S1x256_S1024x256 y : EReal) from by
        rw [spread]
        exact (bias_read m c t (ix2 (n0 := 1) (n1 := 256) 0 (y 1))).symm.trans (congrFun (shapeCast_self _ _).symm _)]
  rfl

/-- What a point leaves in the staged block of the result. -/
theorem out_read (c : Dev nD) (t : Fin cfg0.N) (y : S1024x256.Idx) :
    (outAt m c t y : EReal)
      = spec (feat m c) (wts m c) (taps m c) (bias m c) (1024 * (t.val / 43) + (y 0).val) (256 * (t.val % 43) + (y 1).val) := by
  have h1 : (y 1).val < 256 := (y 1).isLt
  unfold spec
  rw [show 512 * ((256 * (t.val % 43) + (y 1).val) / 256) + (256 * (t.val % 43) + (y 1).val) % 256 = 512 * (t.val % 43) + (y 1).val by omega,
    show 512 * ((256 * (t.val % 43) + (y 1).val) / 256) + 256 + (256 * (t.val % 43) + (y 1).val) % 256 = 512 * (t.val % 43) + (256 + (y 1).val) by omega,
    ← conv_read, ← up_read]
  rfl

/-- The result array: the specification read at a row and a column. -/
def result (c : Dev nD) : Buf (Elt Ideal) ((c : Thread nD τ).loc main_v1) :=
  fun i : S16384x11008.Idx => spec (feat m c) (wts m c) (taps m c) (bias m c) (i 0).val (i 1).val

/-- What a point writes back is its block of the result array. -/
theorem flushed_eq (c : Dev nD) (t : Fin cfg0.N) :
    (dats m 0 c).flushed 4 t = (win0_4.blk t).view.read (Elt Ideal) (result m c) := by
  show (cfg0.win 4).cut (grid0.coords t) ((dats m 0 c).after 4 t) = _
  rw [after4]
  obtain ⟨-, -, -, -, ⟨e0, e1⟩, -⟩ := corners t
  funext y
  refine (out_read m c t y).trans ?_
  show _ = spec _ _ _ _ (win0_4.index t 0 * win0_4.size 0 + 1 * (y 0).val) (win0_4.index t 1 * win0_4.size 1 + 1 * (y 1).val)
  rw [e0, e1, one_mul, one_mul]

/-- An index of the result array is in point `t`'s block. -/
theorem mem_blk (t : Fin cfg0.N) (i : S16384x11008.Idx) :
    i ∈ ((cfg0.win 4).blk t).view.set ↔ (1024 * (t.val / 43) ≤ (i 0).val ∧ (i 0).val < 1024 * (t.val / 43) + 1024)
      ∧ (256 * (t.val % 43) ≤ (i 1).val ∧ (i 1).val < 256 * (t.val % 43) + 256) := by
  show i ∈ ((View.whole main_v1).slice (win0_4.rect t)).set ↔ _
  rw [View.set_slice_whole]
  obtain ⟨-, -, -, -, ⟨e0, e1⟩, s0, s1⟩ := corners t
  exact Proj.mem_block _ _ _ i e0 e1 s0 s1

/-- The points' blocks tile the result array. -/
theorem cover (i : S16384x11008.Idx) : ∃ t : Fin cfg0.N, (cfg0.win 4).flush t = true ∧ i ∈ ((cfg0.win 4).blk t).view.set := by
  have h0 : (i 0).val < 16384 := (i 0).isLt
  have h1 : (i 1).val < 11008 := (i 1).isLt
  refine ⟨⟨43 * ((i 0).val / 1024) + (i 1).val / 256, show _ < 688 by omega⟩, flush0_4 _, ?_⟩
  rw [mem_blk]
  dsimp only
  omega

/-- The run, read: the result array holds the specification, the arguments are unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).trans ((dats m 0 c).arrAt_eq_of_cover 4 (result m c) (fun t _ => flushed_eq m c t) cover), h.2 c⟩)
    (θ_run_and ((θ_run defs _ _).mono (fun r h (c : Dev nD) => ((h c).1 4 : r.2.mem ((c : Thread nD τ).loc main_v1) = (dats m 0 c).arrAt 4 cfg0.N)) (run_main m ρ))
      (frame_of m ρ (dats m) (A_eq m) (run_main m ρ)))

end Cert.FfnUpIdeal.Up

end
-- ==== Proof.UpClaim.lean ====
/-
  The claims about the first feed-forward projection: its frames and the equation with the reference.
-/
module

public import proofs.«01_k».proof.Defs
public import proofs.«01_k».proof.Proof.UpCarry
public import proofs.«01_k».proof.Proof.UpArray
public import proofs.«01_k».proof.Proof.Gen.FfnUpReferenceIdeal.Read

@[expose] public section

set_option maxRecDepth 16384

noncomputable section

namespace Cert.Up

open Idealize.ShloMosaic Idealize.ShloMosaic.TcCoe Idealize.SL.Sem

/-- The projection runs and leaves its arguments as they were. -/
theorem quiescent_FfnUp : Cert.quiescent_FfnUp := fun m ρ _ => Cert.FfnUp.Up.frame m ρ

/-- So does its idealization. -/
theorem quiescent_FfnUpIdeal : Cert.quiescent_FfnUpIdeal := fun m ρ _ => Cert.FfnUpIdeal.Up.frame m ρ

/-- So does the plain form; it has no semaphore. -/
theorem quiescent_FfnUpReferenceIdeal : Cert.quiescent_FfnUpReferenceIdeal := fun m ρ _ =>
  (θ_run Cert.FfnUpReferenceIdeal.defs _ _).mono (fun r h => ⟨fun c => (h c).2, sem_eq_zero_of_no_sems (by decide) r.2⟩)
    (Cert.FfnUpReferenceIdeal.Value.run (F := Ideal) m ρ)

section Reference

open Cert.FfnUpReferenceIdeal Cert.FfnUpReferenceIdeal.Read

variable (x0 : Proj.Mat 16384 4096) (x1 : Proj.Stack 4 4096 22016) (x2 : Proj.Mat 3 11008) (x3 : Proj.Row 11008)

/-- The reference's product at an element. -/
theorem product_at (i : S16384x22016.Idx) : (val_main_v4 (F := Ideal) x0 x1 i : EReal) = Proj.dot x0 x1 1 (i 0).val (i 1).val := by
  have hc : (i 1).val < 22016 := (i 1).isLt
  rw [val_main_v4_apply]
  unfold Proj.dot
  refine Finset.sum_congr rfl fun k _ => ?_
  have hk : k.val < 4096 := k.isLt
  rw [val_main_v0_apply, val_main_v3_apply, val_main_v2_apply, val_main_v1_apply]
  refine congrArg₂ (fun a b : EReal => a * b) ?_ ?_
  · exact Proj.rd_eq x0 _ _ _ rfl rfl
  · refine Proj.rd3_eq x1 _ _ _ _ rfl ?_ ?_
    · show (k.val * 22016 + (i 1).val) / 22016 % 4096 = k.val
      omega
    · show (k.val * 22016 + (i 1).val) % 22016 = (i 1).val
      omega

/-- The product with its rows split by sequence and its columns by group, gate before up in each group. -/
theorem split_at (i : S2x8192x43x2x256.Idx) : (val_main_v5 (F := Ideal) x0 x1 i : EReal)
    = Proj.dot x0 x1 1 (8192 * (i 0).val + (i 1).val) (512 * (i 2).val + 256 * (i 3).val + (i 4).val) := by
  have h0 : (i 0).val < 2 := (i 0).isLt
  have h1 : (i 1).val < 8192 := (i 1).isLt
  have h2 : (i 2).val < 43 := (i 2).isLt
  have h3 : (i 3).val < 2 := (i 3).isLt
  have h4 : (i 4).val < 256 := (i 4).isLt
  rw [val_main_v5_apply, product_at]
  show Proj.dot x0 x1 1 ((((((i 0).val * 8192 + (i 1).val) * 43 + (i 2).val) * 2 + (i 3).val) * 256 + (i 4).val) / 22016)
    ((((((i 0).val * 8192 + (i 1).val) * 43 + (i 2).val) * 2 + (i 3).val) * 256 + (i 4).val) % 22016) = _
  congr 1 <;> omega

/-- The gate columns, by group. -/
theorem gate4_at (i : S2x8192x43x256.Idx) : (val_main_v7 (F := Ideal) x0 x1 i : EReal)
    = Proj.dot x0 x1 1 (8192 * (i 0).val + (i 1).val) (512 * (i 2).val + (i 3).val) := by
  have h0 : (i 0).val < 2 := (i 0).isLt
  have h1 : (i 1).val < 8192 := (i 1).isLt
  have h2 : (i 2).val < 43 := (i 2).isLt
  have h3 : (i 3).val < 256 := (i 3).isLt
  rw [val_main_v7_apply, val_main_v6_apply, split_at]
  show Proj.dot x0 x1 1
    (8192 * (((((i 0).val * 8192 + (i 1).val) * 43 + (i 2).val) * 256 + (i 3).val) / 90177536)
      + ((((i 0).val * 8192 + (i 1).val) * 43 + (i 2).val) * 256 + (i 3).val) / 11008 % 8192)
    (512 * (((((i 0).val * 8192 + (i 1).val) * 43 + (i 2).val) * 256 + (i 3).val) / 256 % 43) + 256 * 0
      + ((((i 0).val * 8192 + (i 1).val) * 43 + (i 2).val) * 256 + (i 3).val) % 256) = _
  congr 1 <;> omega

/-- The up columns, by group. -/
theorem up4_at (i : S2x8192x43x256.Idx) : (val_main_v10 (F := Ideal) x0 x1 i : EReal)
    = Proj.dot x0 x1 1 (8192 * (i 0).val + (i 1).val) (512 * (i 2).val + 256 + (i 3).val) := by
  have h0 : (i 0).val < 2 := (i 0).isLt
  have h1 : (i 1).val < 8192 := (i 1).isLt
  have h2 : (i 2).val < 43 := (i 2).isLt
  have h3 : (i 3).val < 256 := (i 3).isLt
  rw [val_main_v10_apply, val_main_v9_apply, split_at]
  show Proj.dot x0 x1 1
    (8192 * (((((i 0).val * 8192 + (i 1).val) * 43 + (i 2).val) * 256 + (i 3).val) / 90177536)
      + ((((i 0).val * 8192 + (i 1).val) * 43 + (i 2).val) * 256 + (i 3).val) / 11008 % 8192)
    (512 * (((((i 0).val * 8192 + (i 1).val) * 43 + (i 2).val) * 256 + (i 3).val) / 256 % 43) + 256 * (1 + 0)
      + ((((i 0).val * 8192 + (i 1).val) * 43 + (i 2).val) * 256 + (i 3).val) % 256) = _
  congr 1 <;> omega

/-- The gate columns of a sequence. -/
theorem gate_at (i : S2x8192x11008.Idx) : (val_main_v8 (F := Ideal) x0 x1 i : EReal)
    = Proj.dot x0 x1 1 (8192 * (i 0).val + (i 1).val) (512 * ((i 2).val / 256) + (i 2).val % 256) := by
  have h0 : (i 0).val < 2 := (i 0).isLt
  have h1 : (i 1).val < 8192 := (i 1).isLt
  have h2 : (i 2).val < 11008 := (i 2).isLt
  rw [val_main_v8_apply, gate4_at]
  show Proj.dot x0 x1 1
    (8192 * ((((i 0).val * 8192 + (i 1).val) * 11008 + (i 2).val) / 90177536) + (((i 0).val * 8192 + (i 1).val) * 11008 + (i 2).val) / 11008 % 8192)
    (512 * ((((i 0).val * 8192 + (i 1).val) * 11008 + (i 2).val) / 256 % 43) + (((i 0).val * 8192 + (i 1).val) * 11008 + (i 2).val) % 256) = _
  congr 1 <;> omega

/-- The up columns of a sequence. -/
theorem up_at (i : S2x8192x11008.Idx) : (val_main_v11 (F := Ideal) x0 x1 i : EReal)
    = Proj.dot x0 x1 1 (8192 * (i 0).val + (i 1).val) (512 * ((i 2).val / 256) + 256 + (i 2).val % 256) := by
  have h0 : (i 0).val < 2 := (i 0).isLt
  have h1 : (i 1).val < 8192 := (i 1).isLt
  have h2 : (i 2).val < 11008 := (i 2).isLt
  rw [val_main_v11_apply, up4_at]
  show Proj.dot x0 x1 1
    (8192 * ((((i 0).val * 8192 + (i 1).val) * 11008 + (i 2).val) / 90177536) + (((i 0).val * 8192 + (i 1).val) * 11008 + (i 2).val) / 11008 % 8192)
    (512 * ((((i 0).val * 8192 + (i 1).val) * 11008 + (i 2).val) / 256 % 43) + 256 + (((i 0).val * 8192 + (i 1).val) * 11008 + (i 2).val) % 256) = _
  congr 1 <;> omega

/-- The gate columns with two zero rows before each sequence. -/
theorem padded_at (j : S2x8194x11008.Idx) (d s : ℕ) (hs : s < 8192) (hd : d ≤ 2) (hj : (j 1).val + d = s + 2) :
    (val_main_v12 (F := Ideal) x0 x1 j : EReal)
      = Proj.back (fun r => Proj.dot x0 x1 1 r (512 * ((j 2).val / 256) + (j 2).val % 256)) d (8192 * (j 0).val + s) := by
  unfold val_main_v12
  exact Proj.front_at (φ := .f32) _ _ _ _ (fun i => by
    show (((0#32 : BitVec 32).toInt : ℝ) : EReal) = 0
    simp) (fun r k => Proj.dot x0 x1 1 r (512 * (k / 256) + k % 256)) (gate_at x0 x1) j d s hs hd hj

/-- A tap of the convolution, spread over rows. -/
theorem tap0_at (i : S2x8192x11008.Idx) : (val_main_v17 (F := Ideal) x2 i : EReal) = Proj.rd x2 0 (i 2).val := by
  have h2 : (i 2).val < 11008 := (i 2).isLt
  rw [val_main_v17_apply, val_main_v16_apply, val_main_v15_apply, val_main_v14_apply]
  exact Proj.rd_eq x2 _ _ _ rfl (show (i 2).val % 11008 = (i 2).val by omega)

theorem tap1_at (i : S2x8192x11008.Idx) : (val_main_v25 (F := Ideal) x2 i : EReal) = Proj.rd x2 1 (i 2).val := by
  have h2 : (i 2).val < 11008 := (i 2).isLt
  rw [val_main_v25_apply, val_main_v24_apply, val_main_v23_apply, val_main_v22_apply]
  exact Proj.rd_eq x2 _ _ _ rfl (show (i 2).val % 11008 = (i 2).val by omega)

theorem tap2_at (i : S2x8192x11008.Idx) : (val_main_v32 (F := Ideal) x2 i : EReal) = Proj.rd x2 2 (i 2).val := by
  have h2 : (i 2).val < 11008 := (i 2).isLt
  rw [val_main_v32_apply, val_main_v31_apply, val_main_v30_apply, val_main_v29_apply]
  exact Proj.rd_eq x2 _ _ _ rfl (show (i 2).val % 11008 = (i 2).val by omega)

/-- The bias, spread over rows. -/
theorem bias_at (i : S2x8192x11008.Idx) : (val_main_v36 (F := Ideal) x3 i : EReal) = Proj.rd1 x3 (i 2).val := by
  rw [val_main_v36_apply, val_main_v35_apply]
  exact Proj.rd1_eq x3 _ _ rfl

/-- The convolved gate columns of a sequence. -/
theorem conv_at (i : S2x8192x11008.Idx) : (val_main_v37 (F := Ideal) x0 x1 x2 x3 i : EReal)
    = Proj.back (fun r => Proj.dot x0 x1 1 r (512 * ((i 2).val / 256) + (i 2).val % 256)) 0 (8192 * (i 0).val + (i 1).val) * Proj.rd x2 2 (i 2).val
      + Proj.back (fun r => Proj.dot x0 x1 1 r (512 * ((i 2).val / 256) + (i 2).val % 256)) 1 (8192 * (i 0).val + (i 1).val) * Proj.rd x2 1 (i 2).val
      + Proj.back (fun r => Proj.dot x0 x1 1 r (512 * ((i 2).val / 256) + (i 2).val % 256)) 2 (8192 * (i 0).val + (i 1).val) * Proj.rd x2 0 (i 2).val
      + Proj.rd1 x3 (i 2).val := by
  have h1 : (i 1).val < 8192 := (i 1).isLt
  have p2 := padded_at x0 x1 (idx_main_v13 i) 2 (i 1).val h1 (by omega) rfl
  have p1 := padded_at x0 x1 (idx_main_v21 i) 1 (i 1).val h1 (by omega) (show 1 + (i 1).val + 1 = (i 1).val + 2 by omega)
  have p0 := padded_at x0 x1 (idx_main_v28 i) 0 (i 1).val h1 (by omega) (show 2 + (i 1).val + 0 = (i 1).val + 2 by omega)
  rw [← val_main_v13_apply] at p2
  rw [← val_main_v21_apply] at p1
  rw [← val_main_v28_apply] at p0
  rw [val_main_v37_apply, val_main_v34_apply, val_main_v27_apply, val_main_v20_apply, val_main_v18_apply, val_main_v26_apply, val_main_v33_apply,
    val_main_v19_apply, val_main_cst_apply, tap0_at, tap1_at, tap2_at, bias_at, p0, p1, p2]
  show ((Ideal.ofBits .f32 0x00000000#32 + _ * _) + _ * _ + _ * _) + _ = (_ : EReal)
  rw [Proj.zero_f32, zero_add]
  exact congrArg (fun z : EReal => z + Proj.rd1 x3 (i 2).val) (Proj.last_first _ _ _)

/-- The reference at an element: silu of the convolved gate column, times the up column. -/
theorem reference_at (i : S16384x11008.Idx) :
    (val_main_v41 (F := Ideal) x0 x1 x2 x3 i : EReal) = Cert.FfnUpIdeal.Up.spec x0 x1 x2 x3 (i 0).val (i 1).val := by
  have h0 : (i 0).val < 16384 := (i 0).isLt
  have h1 : (i 1).val < 11008 := (i 1).isLt
  have e : 8192 * (idx_main_v40 i 0).val + (idx_main_v40 i 1).val = (i 0).val := by
    show 8192 * (((i 0).val * 11008 + (i 1).val) / 90177536) + ((i 0).val * 11008 + (i 1).val) / 11008 % 8192 = (i 0).val
    omega
  have e2 : (idx_main_v40 i 2).val = (i 1).val := by
    show ((i 0).val * 11008 + (i 1).val) % 11008 = (i 1).val
    omega
  have hc := conv_at x0 x1 x2 x3 (idx_main_v40 i)
  have hu := up_at x0 x1 (idx_main_v40 i)
  rw [e, e2] at hc hu
  rw [val_main_v41_apply, val_main_v40_apply, val_main_v39_apply, val_main_v38_apply, val_main_call1_v5_apply, val_main_call1_v4_apply,
    val_main_call1_cst_0_apply, val_main_call1_v3_apply, val_main_call1_v2_apply, val_main_call1_cst_apply, val_main_call1_v1_apply,
    val_main_call1_v0_apply]
  unfold Cert.FfnUpIdeal.Up.spec
  rw [← hc, ← hu]
  unfold Proj.silu
  rw [← Proj.logistic_at]
  rfl

end Reference

/-- On the extended reals the projection computes the reference's result at every row and column. -/
theorem algebraic : Cert.algebraic_FfnUpIdeal_FfnUpReferenceIdeal := by
  intro m ρ m' ρ' _ hagree
  refine ⟨fun c => Cert.FfnUpIdeal.Up.result m c, Cert.FfnUpIdeal.Up.run m ρ, ?_⟩
  refine (θ_run Cert.FfnUpReferenceIdeal.defs _ _).mono (fun r h c => ⟨(h c).1.trans ?_, (h c).2⟩)
    (Cert.FfnUpReferenceIdeal.Value.run (F := Ideal) m' ρ')
  rw [Cert.FfnUpReferenceIdeal.Read.val_main_v41_eq, (hagree c).1, (hagree c).2.1, (hagree c).2.2.1, (hagree c).2.2.2]
  funext i
  exact reference_at _ _ _ _ i

end Cert.Up

end
-- ==== Proof.Shift.lean ====
/-
  Rows read some rows up, as the four-tap projections read them: a block of rows written below the eight rows before
  it and read back from a few rows higher; the convolution over such reads, and both read as values in a sequence.
-/
module

public import proofs.«01_k».proof.Proof.Taps
public import Idealize.ShloMosaic.Lib.VecWindow
public import Idealize.ShloMosaic.Lib.WholeRead
public import Idealize.ShloMosaic.Lib.ValueIdxCore
public import Idealize.ShloMosaic.Lib.Pipeline.Value

@[expose] public section

set_option maxRecDepth 16384

noncomputable section

namespace Cert.Shift

open Idealize.ShloMosaic Idealize.ShloMosaic.TcCoe
open Idealize.ShloMosaic.ValueIdx (ix2 ix3)

variable {F : FTy → Type} [FloatOps F]

/-- A block of rows, the eight rows before it, both stacked, and the taps. -/
abbrev Block : Shape := ⟨2, ![1024, 512]⟩
abbrev Eight : Shape := ⟨2, ![8, 512]⟩
abbrev Tall : Shape := ⟨2, ![1032, 512]⟩
abbrev One : Shape := ⟨2, ![1, 512]⟩
abbrev Four : Shape := ⟨2, ![4, 512]⟩

/-- The block's rows `8 - k` rows up, the eight rows `h` standing before them. -/
def rows (k : ℕ) (hk : k ≤ 8) (h : Vec F Eight .f32) (g : FVec F Block .f32) : FVec F Block .f32 := fun y =>
  if hy : (y 0).val + k < 8 then h (ix2 (n0 := 8) (n1 := 512) ⟨(y 0).val + k, hy⟩ (y 1))
  else g (ix2 (n0 := 1024) (n1 := 512) ⟨(y 0).val + k - 8, by have : (y 0).val < 1024 := (y 0).isLt; omega⟩ (y 1))

/-- The stacked rows, read `k` rows down. -/
theorem rows_eq (k : ℕ) (hk : k ≤ 8) (E : Vec F Tall .f32) (h : Vec F Eight .f32) (g : FVec F Block .f32)
    (inb : ∀ a, (![k, 0] : Fin 2 → ℕ) a + Block.size a ≤ Tall.size a) :
    VecWindow.window (VecWindow.put (VecWindow.put E ![0, 0] Eight.size h) ![8, 0] Block.size g) ![k, 0] Block.size inb = rows k hk h g := by
  funext y
  have h0 : (y 0).val < 1024 := (y 0).isLt
  have h1 : (y 1).val < 512 := (y 1).isLt
  have e0 : ((Rect.unit (s := Tall) ![k, 0] Block.size inb).emb y 0).val = k + 1 * (y 0).val := rfl
  have e1 : ((Rect.unit (s := Tall) ![k, 0] Block.size inb).emb y 1).val = 0 + 1 * (y 1).val := rfl
  unfold VecWindow.window rows
  by_cases hy : (y 0).val + k < 8
  · rw [dif_pos hy]
    unfold VecWindow.put
    rw [dif_neg (fun hh => by have := (hh 0).1; simp only [e0, Matrix.cons_val_zero] at this; omega), dif_pos (fun a => by
      match a with
      | 0 => exact ⟨Nat.zero_le _, by rw [e0]; show _ < 0 + 8; omega⟩
      | 1 => exact ⟨Nat.zero_le _, by rw [e1]; show _ < 0 + 512; omega⟩)]
    refine congrArg h (funext fun a => Fin.ext ?_)
    match a with
    | 0 => show k + 1 * (y 0).val - 0 = (y 0).val + k; omega
    | 1 => show 0 + 1 * (y 1).val - 0 = (y 1).val; omega
  · rw [dif_neg hy]
    unfold VecWindow.put
    rw [dif_pos (fun a => by
      match a with
      | 0 => exact ⟨by rw [e0]; show 8 ≤ _; omega, by rw [e0]; show _ < 8 + 1024; omega⟩
      | 1 => exact ⟨Nat.zero_le _, by rw [e1]; show _ < 0 + 512; omega⟩)]
    refine congrArg g (funext fun a => Fin.ext ?_)
    match a with
    | 0 => show k + 1 * (y 0).val - 8 = (y 0).val + k - 8; omega
    | 1 => show 0 + 1 * (y 1).val - 0 = (y 1).val; omega

/-- A load of rows written in two pieces is the shifted rows. -/
theorem cov_rows {sig : RefSig} (k : ℕ) (hk : k ≤ 8) (v : View sig .tc .vmem Tall .f32) (h : Vec F Eight .f32) (g : FVec F Block .f32)
    (inb8 : ∀ a, (![8, 0] : Fin 2 → ℕ) a + Block.size a ≤ Tall.size a)
    (inb0 : ∀ a, (![0, 0] : Fin 2 → ℕ) a + Eight.size a ≤ Tall.size a)
    (inb : ∀ a, (![k, 0] : Fin 2 → ℕ) a + Block.size a ≤ Tall.size a) :
    v.readCov (Val := Elt F) [⟨Rect.unit (s := Tall) ![8, 0] Block.size inb8, g⟩, ⟨Rect.unit (s := Tall) ![0, 0] Eight.size inb0, h⟩]
      (Rect.unit (s := Tall) ![k, 0] Block.size inb).toLoadRect = rows k hk h g := by
  show v.readAt (Elt F) _ _ = _
  rw [View.readAt_unit v _ inb rfl inb, View.read_writes_cons_put (Val := Elt F) v _ inb8 g _ rfl, View.read_writes_cons_put (Val := Elt F) v _ inb0 h _ rfl]
  exact rows_eq k hk _ h g inb

/-- The causal convolution of the block with four taps. -/
def conv (h : Vec F Eight .f32) (g : FVec F Block .f32) (w : Vec F Four .f32) (bc : One.Broadcasts Block)
    (i3 : ∀ a, (![3, 0] : Fin 2 → ℕ) a + One.size a ≤ Four.size a) (i2 : ∀ a, (![2, 0] : Fin 2 → ℕ) a + One.size a ≤ Four.size a)
    (i1 : ∀ a, (![1, 0] : Fin 2 → ℕ) a + One.size a ≤ Four.size a) (i0 : ∀ a, (![0, 0] : Fin 2 → ℕ) a + One.size a ≤ Four.size a) : FVec F Block .f32 :=
  addf (addf (addf
      (mulf g (broadcastTo Block (VecWindow.window w ![3, 0] One.size i3) bc))
      (mulf (rows 7 (by decide) h g) (broadcastTo Block (VecWindow.window w ![2, 0] One.size i2) bc)))
      (mulf (rows 6 (by decide) h g) (broadcastTo Block (VecWindow.window w ![1, 0] One.size i1) bc)))
      (mulf (rows 5 (by decide) h g) (broadcastTo Block (VecWindow.window w ![0, 0] One.size i0) bc))

/-- The last eight rows of a block. -/
theorem last_rows (g : FVec F Block .f32) (hs : Block.Slices ![1016, 0] Eight) (y : Eight.Idx) :
    extractStridedSlice Eight ![1016, 0] g hs y
      = g (ix2 (n0 := 1024) (n1 := 512) ⟨1016 + (y 0).val, by have : (y 0).val < 8 := (y 0).isLt; omega⟩ (y 1)) :=
  extractStridedSlice_apply ![1016, 0] g hs y _ fun a => match a with
    | ⟨0, _⟩ => rfl
    | ⟨1, _⟩ => by show (y 1).val = 0 + (y 1).val; omega

/-- A row spread over the block, at an element. -/
theorem spread (w : Vec F One .f32) (bc : One.Broadcasts Block) (y : Block.Idx) :
    broadcastTo Block w bc y = w (ix2 (n0 := 1) (n1 := 512) 0 (y 1)) :=
  broadcastTo_apply w bc y _ fun a => match a with
    | ⟨0, _⟩ => rfl
    | ⟨1, _⟩ => rfl

/-- What the four-tap convolution of a column is, as values in a sequence. -/
def taps4 (f : ℕ → EReal) (T : ℕ → EReal) (r : ℕ) : EReal :=
  Proj.back f 0 r * T 3 + Proj.back f 1 r * T 2 + Proj.back f 2 r * T 1 + Proj.back f 3 r * T 0

/-- A sum of four, last term first. -/
theorem last_first4 (a b c d : EReal) : a + b + c + d = d + c + b + a := by
  rw [Proj.last_first a b c, add_comm (c + b + a) d, ← add_assoc, ← add_assoc]

section Values

variable (f : ℕ → ℕ → EReal) (q : ℕ) (h : Vec Ideal Eight .f32) (g : FVec Ideal Block .f32)

/-- Shifted rows of row block `q`: the value that many rows before in the sequence. -/
theorem rows_back (hg : ∀ y, (g y : EReal) = f (1024 * q + (y 0).val) (y 1).val)
    (hh : ∀ y, (h y : EReal) = if q % 8 = 0 then 0 else f (1024 * q + (y 0).val - 8) (y 1).val)
    (k d : ℕ) (hk : k ≤ 8) (hd : k + d = 8) (y : Block.Idx) :
    (rows k hk h g y : EReal) = Proj.back (fun r => f r (y 1).val) d (1024 * q + (y 0).val) := by
  have h0 : (y 0).val < 1024 := (y 0).isLt
  unfold rows Proj.back
  by_cases hy : (y 0).val + k < 8
  · rw [dif_pos hy, hh]
    by_cases ht : q % 8 = 0
    · rw [if_pos ht, if_pos (by omega)]
    · rw [if_neg ht, if_neg (by omega)]
      show f (1024 * q + ((y 0).val + k) - 8) (y 1).val = _
      congr 1; omega
  · rw [dif_neg hy, hg, if_neg (by omega)]
    show f (1024 * q + ((y 0).val + k - 8)) (y 1).val = _
    congr 1; omega

/-- A tap's row spread over the block, at an element. -/
theorem tap_at (w : Vec Ideal Four .f32) (T : ℕ → ℕ → EReal) (hw : ∀ y, (w y : EReal) = T (y 0).val (y 1).val) (bc : One.Broadcasts Block)
    (k : ℕ) (inb : ∀ a, (![k, 0] : Fin 2 → ℕ) a + One.size a ≤ Four.size a) (y : Block.Idx) :
    (broadcastTo Block (VecWindow.window w ![k, 0] One.size inb) bc y : EReal) = T k (y 1).val := by
  rw [spread]
  unfold VecWindow.window
  rw [hw]
  show T (k + 1 * 0) (0 + 1 * (y 1).val) = _
  congr 1; omega

/-- The convolution of row block `q` at an element. -/
theorem conv_read (hg : ∀ y, (g y : EReal) = f (1024 * q + (y 0).val) (y 1).val)
    (hh : ∀ y, (h y : EReal) = if q % 8 = 0 then 0 else f (1024 * q + (y 0).val - 8) (y 1).val)
    (w : Vec Ideal Four .f32) (T : ℕ → ℕ → EReal) (hw : ∀ y, (w y : EReal) = T (y 0).val (y 1).val) (bc : One.Broadcasts Block)
    (i3 : ∀ a, (![3, 0] : Fin 2 → ℕ) a + One.size a ≤ Four.size a) (i2 : ∀ a, (![2, 0] : Fin 2 → ℕ) a + One.size a ≤ Four.size a)
    (i1 : ∀ a, (![1, 0] : Fin 2 → ℕ) a + One.size a ≤ Four.size a) (i0 : ∀ a, (![0, 0] : Fin 2 → ℕ) a + One.size a ≤ Four.size a) (y : Block.Idx) :
    (conv h g w bc i3 i2 i1 i0 y : EReal) = taps4 (fun r => f r (y 1).val) (fun k => T k (y 1).val) (1024 * q + (y 0).val) := by
  unfold taps4
  dsimp only
  rw [Proj.back_zero, ← rows_back f q h g hg hh 7 1 (by decide) rfl, ← rows_back f q h g hg hh 6 2 (by decide) rfl,
    ← rows_back f q h g hg hh 5 3 (by decide) rfl, ← hg, ← tap_at w T hw bc 3 i3, ← tap_at w T hw bc 2 i2, ← tap_at w T hw bc 1 i1,
    ← tap_at w T hw bc 0 i0]
  rfl

end Values

end Cert.Shift

end
-- ==== Proof.GqkvBody.lean ====
/-
  The projection to the delta rule's queries, keys and values: what the body does at one grid point, the carried rows
  included.
-/
module

public import proofs.«01_k».proof.Proof.Gen.GdnQkvIdeal.Frame
public import proofs.«01_k».proof.Proof.Shift

@[expose] public section

set_option maxRecDepth 16384

noncomputable section

namespace Cert.GdnQkvIdeal.Gqkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.GdnQkvIdeal Cert.GdnQkvIdeal.Gen

variable {F : FTy → Type} [FloatOps F]

local notation "𝕄" => MT nD τ sig Unit (Elt F) ℕ (UR sig nD τ) ℕ

/-- The first row block of a sequence, as the body tests it. -/
def first (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  let v10 : BitVec 1 := Scalar.cmpi .eq v9 0#32
  let v11 : BitVec 32 := Scalar.extui v10
  Scalar.cmpi .ne v11 0#32

/-- The two tests of the body exclude each other. -/
theorem first_iff (i : grid0.Coords) : first i = 1#1 ↔ ¬ k0_cond2 i = 1#1 := by
  unfold first k0_cond2
  dsimp only
  generalize Scalar.cmpi .eq _ _ = b
  revert b
  decide

/-- Just one of the two tests holds. -/
theorem exclusive (i : grid0.Coords) : (¬ first i = 1#1 ∧ k0_cond2 i = 1#1) ∨ (first i = 1#1 ∧ ¬ k0_cond2 i = 1#1) :=
  (Classical.em (k0_cond2 i = 1#1)).imp (fun h => ⟨fun h' => (first_iff i).mp h' h, h⟩) fun h => ⟨(first_iff i).mpr h, h⟩

/-- The product of a row block by a column block. -/
def prod (x : Vec F S1024x4096 .bf16) (w : Vec F S1x4096x512 .bf16) : FVec F S1024x512 .f32 :=
  matmul dot_S1024x4096_S4096x512_S1024x512_1_0_0_1_n_n none x (shapeCast S4096x512 w shapeCasts_S1x4096x512_S4096x512)
    (constant S1024x512 .f32 0x00000000#32)

/-- The last eight rows of the product, as the body keeps them for the next row block. -/
def tail (x : Vec F S1024x4096 .bf16) (w : Vec F S1x4096x512 .bf16) : FVec F S1x8x512 .f32 :=
  shapeCast S1x8x512 (extractStridedSlice S8x512 ![1016, 0] (prod x w) slices_S1024x512_o1016_0_S8x512) shapeCasts_S8x512_S1x8x512

/-- The eight rows before the point's row block: zero at the start of a sequence, else the kept ones. -/
def before8 (i : grid0.Coords) (X : Vec F S24x8x512 .f32) : Vec F S8x512 .f32 :=
  if h : k0_cond2 i = 1#1 then
    shapeCast S8x512 (VecWindow.window X (k0_off1 i) S1x8x512.size (k0_off1_inb i h)) shapeCasts_S1x8x512_S8x512
  else broadcast S8x512 (Scalar.ofBits .f32 0x00000000#32 : F .f32)

/-- The four-tap causal convolution of the product. -/
def conv (h : Vec F S8x512 .f32) (x : Vec F S1024x4096 .bf16) (w : Vec F S1x4096x512 .bf16) (cw : Vec F S4x512 .f32) : FVec F S1024x512 .f32 :=
  Shift.conv h (prod x w) cw broadcasts_S1x512_S1024x512 inb_S4x512_S1x512_3_0 inb_S4x512_S1x512_2_0 inb_S4x512_S1x512_1_0 inb_S4x512_S1x512_0_0

/-- The block the body stores: silu of the convolved product. -/
def out (h : Vec F S8x512 .f32) (x : Vec F S1024x4096 .bf16) (w : Vec F S1x4096x512 .bf16) (cw : Vec F S4x512 .f32) : FVec F S1024x512 .f32 :=
  mulf (conv h x w cw) (logistic (conv h x w cw))

/-- The kept rows after the point: the last eight rows at the point's column block. -/
def keep (i : grid0.Coords) (X : Vec F S24x8x512 .f32) (x : Vec F S1024x4096 .bf16) (w : Vec F S1x4096x512 .bf16) : Vec F S24x8x512 .f32 :=
  VecWindow.put X (k0_off2 i) S1x8x512.size (tail x w)

set_option maxHeartbeats 1000000 in
/-- A run of the body at any point, whichever way its tests go. -/
theorem run_any (c : Dev nD) (i : grid0.Coords)
    (arg2 : Memref sig .tc .vmem S1024x4096 .bf16) (harg2 : arg2.IsWhole) (arg3 : Memref sig .tc .vmem S1x4096x512 .bf16) (harg3 : arg3.IsWhole)
    (arg4 : Memref sig .tc .vmem S4x512 .f32) (harg4 : arg4.IsWhole) (arg5 : Memref sig .tc .vmem S1024x512 .f32) (harg5 : arg5.IsWhole)
    (arg6 : Memref sig .tc .vmem S1032x512 .f32) (harg6 : arg6.IsWhole) (arg7 : Memref sig .tc .vmem S24x8x512 .f32) (harg7 : arg7.IsWhole)
    (x0 : Vec F S1024x4096 .bf16) (x1 : Vec F S1x4096x512 .bf16) (x2 : Vec F S4x512 .f32)
    (x7 : Vec F S24x8x512 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ owns (c : Thread nD τ) arg7 fullShare x7
        ∗ (iprop(owns (c : Thread nD τ) arg2 fullShare x0 ∗ owns (c : Thread nD τ) arg3 fullShare x1 ∗ owns (c : Thread nD τ) arg4 fullShare x2
          ∗ owns (c : Thread nD τ) arg5 fullShare (out (before8 i x7) x0 x1 x2)
          ∗ (∃ d, owns (c : Thread nD τ) arg6 fullShare d) ∗ owns (c : Thread nD τ) arg7 fullShare (keep i x7 x0 x1)) -∗ K ⟨⟩))
      ⊢ wp frame (wpE (defs₀ (F := F)) Variants.none c none) E (cc0_gdn_qkv_proj i arg2 harg2 arg3 harg3 arg4 harg4 arg5 harg5 arg6 harg6 arg7 harg7) K := by
  unfold cc0_gdn_qkv_proj owns before8
  rcases exclusive i with ⟨h1, h2⟩ | ⟨h1, h2⟩
  all_goals
    first | rw [dif_pos h2] | rw [dif_neg h2]
    iintro ⟨⟨%f0, %hf0, H0⟩, ⟨%f1, %hf1, H1⟩, ⟨%f2, %hf2, H2⟩, ⟨%d5, %f5, -, H5⟩, ⟨%d6, %f6, -, H6⟩, ⟨%f7, %hf7, H7⟩, Hk⟩
    sl_exec (disch := first | sl_exact h1 | sl_exact h2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H5]
    · iexists _; isplitr; swap; · iexact H5
      ipureintro
      rw [View.read_writes_full]
      subst hf0 hf1 hf2 hf7
      sl_unfold_words
      unfold out conv Shift.conv prod
      rw [View.readAt_full arg2.view f0, View.readAt_full arg3.view f1, Shift.cov_rows 7 (by decide), Shift.cov_rows 6 (by decide), Shift.cov_rows 5 (by decide)]
      simp only [shapeCast_self]
      rfl
    isplitl [H6]
    · iexists _; iexists _; isplitr; swap; · iexact H6
      ipureintro; rfl
    iexists _; isplitr; swap; · iexact H7
    ipureintro
    rw [View.read_writes_cons_put _ _ _ _ _ rfl]
    subst hf0 hf1 hf7
    sl_unfold_words
    unfold keep tail prod
    rw [View.readAt_full arg2.view f0, View.readAt_full arg3.view f1]
    rfl

end Cert.GdnQkvIdeal.Gqkv

end
-- ==== Proof.Slots.lean ====
/-
  Rows kept from one row block to the next, one slot for each of `n` column blocks: the points go through the column
  blocks in turn, each keeps its last rows in its column block's slot, and finds there what the point `n` before kept.
-/
module

public import proofs.«01_k».proof.Proof.Shift

@[expose] public section

set_option maxRecDepth 16384

noncomputable section

namespace Cert.Slots

open Idealize.ShloMosaic Idealize.ShloMosaic.TcCoe

variable {F : FTy → Type} [FloatOps F]

/-- All the slots, and one. -/
abbrev All (n : ℕ) : Shape := ⟨3, ![n, 8, 512]⟩
abbrev Slot : Shape := ⟨3, ![1, 8, 512]⟩

variable {n N : ℕ} (off : Fin N → Fin 3 → ℕ) (inb : ∀ s a, off s a + Slot.size a ≤ (All n).size a) (kept : Fin N → Vec F Slot .f32)

/-- Before point `t`: each of the last `n` points' slots holds what that point kept. -/
def Good (t : ℕ) (X : Vec F (All n) .f32) : Prop :=
  ∀ s : Fin N, s.val < t → t ≤ s.val + n → VecWindow.window X (off s) Slot.size (inb s) = kept s

/-- A window at equal offsets is the same window. -/
theorem window_off (X : Vec F (All n) .f32) {o o' : Fin 3 → ℕ} (h : o = o') (i : ∀ a, o a + Slot.size a ≤ (All n).size a)
    (i' : ∀ a, o' a + Slot.size a ≤ (All n).size a) : VecWindow.window X o Slot.size i = VecWindow.window X o' Slot.size i' := by
  subst h; rfl

/-- Before the first point nothing is kept. -/
theorem good_zero (X : Vec F (All n) .f32) : Good off inb kept 0 X := fun _ hs _ => absurd hs (Nat.not_lt_zero _)

/-- A point finds in its slot what the point `n` before kept. -/
theorem found (hoff : ∀ s, off s = ![s.val % n, 0, 0]) (t p : Fin N) (hp : t.val = p.val + n) (hn : 0 < n) (X : Vec F (All n) .f32)
    (hX : Good off inb kept t.val X) (o : Fin 3 → ℕ) (ho : o = ![t.val % n, 0, 0]) (i : ∀ a, o a + Slot.size a ≤ (All n).size a) :
    VecWindow.window X o Slot.size i = kept p := by
  rw [window_off X (ho.trans ((hoff p).trans (by rw [hp, Nat.add_mod_right])).symm) i (inb p), hX p (by omega) (by omega)]

/-- A point that keeps its rows leaves the slots good for the next. -/
theorem good_next (hoff : ∀ s, off s = ![s.val % n, 0, 0]) (t : Fin N) (X : Vec F (All n) .f32) (hX : Good off inb kept t.val X) :
    Good off inb kept (t.val + 1) (VecWindow.put X (off t) Slot.size (kept t)) := by
  intro s hs hs'
  by_cases e : s = t
  · subst e
    exact VecWindow.window_put_same X _ _ _ _
  · have hlt : s.val < t.val := by
      have : s.val ≠ t.val := fun h => e (Fin.ext h)
      omega
    have hmod : s.val % n ≠ t.val % n := fun h => by
      have hd : (t.val - s.val) % n = 0 := Nat.sub_mod_eq_zero_of_mod_eq h.symm
      rw [Nat.mod_eq_of_lt (by omega)] at hd
      omega
    rw [VecWindow.window_put_of_disjoint X _ _ _ _ _ _ 0 (by
      rw [hoff s, hoff t]
      show s.val % n + 1 ≤ t.val % n ∨ t.val % n + 1 ≤ s.val % n
      omega)]
    exact hX s hlt (by omega)

end Cert.Slots

end
-- ==== Proof.GqkvFrame.lean ====
/-
  The projection to the delta rule's queries, keys and values: the invariant that carries the kept rows from one row
  block to the next, the body obligation at every grid point, and the frame of the launch.
-/
module

public import proofs.«01_k».proof.Proof.GqkvBody
public import proofs.«01_k».proof.Proof.Slots
public import Idealize.ShloMosaic.Lib.Claim

@[expose] public section

set_option maxRecDepth 16384

noncomputable section

namespace Cert.GdnQkvIdeal.Gqkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.GdnQkvIdeal Cert.GdnQkvIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Where the body keeps its rows at each point: the slot of the point's column block. -/
theorem slot2 : ∀ t : Fin cfg0.N, k0_off2 (grid0.coords t) = ![t.val % 24, 0, 0] :=
  (by decide +kernel : ∀ t : Fin grid0.N, k0_off2 (grid0.coords t) = ![t.val % 24, 0, 0])

/-- Where the body takes the rows kept from the row block before: the same slot. -/
theorem slot1 : ∀ t : Fin cfg0.N, k0_off1 (grid0.coords t) = ![t.val % 24, 0, 0] :=
  (by decide +kernel : ∀ t : Fin grid0.N, k0_off1 (grid0.coords t) = ![t.val % 24, 0, 0])

/-- Kept rows are taken at every row block but the first of each sequence. -/
theorem later_iff : ∀ t : Fin cfg0.N, k0_cond2 (grid0.coords t) = 1#1 ↔ t.val / 24 % 8 ≠ 0 :=
  (by decide +kernel : ∀ t : Fin grid0.N, k0_cond2 (grid0.coords t) = 1#1 ↔ t.val / 24 % 8 ≠ 0)

/-- The point of the row block before, at the same column block. -/
def prev (t : Fin cfg0.N) : Fin cfg0.N := ⟨t.val - 24, Nat.lt_of_le_of_lt (Nat.sub_le _ _) t.isLt⟩

/-- The last rows of a point's product, as kept. -/
def tailAt (c : Dev nD) (t : Fin cfg0.N) : FVec F S1x8x512 .f32 := tail (iblk m c 0 t) (X0_1 m c t)

/-- The eight rows before a point's row block. -/
def earlier (c : Dev nD) (t : Fin cfg0.N) : Vec F S8x512 .f32 :=
  if k0_cond2 (grid0.coords t) = 1#1 then shapeCast S8x512 (tailAt m c (prev t)) shapeCasts_S1x8x512_S8x512
  else broadcast S8x512 (Scalar.ofBits .f32 0x00000000#32 : F .f32)

/-- The block stored at a point. -/
def outAt (c : Dev nD) (t : Fin cfg0.N) : FVec F S1024x512 .f32 := out (earlier m c t) (iblk m c 0 t) (X0_1 m c t) (iblk m c 2 t)

/-- The kept rows before point `t`. -/
abbrev Good (c : Dev nD) (t : ℕ) (X : Vec F S24x8x512 .f32) : Prop :=
  Slots.Good (n := 24) (fun s : Fin cfg0.N => k0_off2 (grid0.coords s)) (fun s => k0_off2_inb (grid0.coords s)) (tailAt m c) t X

/-- Under the invariant the body finds the rows before its row block. -/
theorem before8_eq (c : Dev nD) (t : Fin cfg0.N) (X : Vec F S24x8x512 .f32) (hX : Good m c t.val X) :
    before8 (grid0.coords t) X = earlier m c t := by
  unfold before8 earlier
  by_cases h : k0_cond2 (grid0.coords t) = 1#1
  · rw [dif_pos h, if_pos h]
    have hl := (later_iff t).mp h
    exact congrArg (shapeCast S8x512 · shapeCasts_S1x8x512_S8x512)
      (Slots.found _ _ _ slot2 t (prev t) (by show t.val = t.val - 24 + 24; omega) (by decide) X hX _ (slot1 t) _)
  · rw [dif_neg h, if_neg h]

/-- What the body carries before point `t`: some shifted rows, the kept rows, the generator. -/
def Φ (c : Dev nD) (t : ℕ) : sProp 𝕄 :=
  iprop((∃ d, owns (c : Thread nD τ) (Memref.whole cc0_scratch0) fullShare d)
    ∗ (∃ X, ⌜Good m c t X⌝ ∗ owns (c : Thread nD τ) (Memref.whole cc0_scratch1) fullShare X) ∗ ∃ r, prngReg c r)

/-- The proof data: the arrays as the region finds them, each input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => outAt m c t
  Φ t := Φ m c t.val
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = X0_1 m c t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

/-- The input buffers hold their blocks before every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: it finds the rows before its row block, stores `outAt` and keeps its own last rows. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.castSucc = Φ m c t.val from rfl, show (dats m 0 c).Φ t.succ = Φ m c (t.val + 1) from rfl,
    show (dats m 0 c).owesAt () t.succ = (dats m 0 c).owesAt () t.castSucc from rfl,
    after0, after1, after2, after3]
  unfold Φ
  iintro ⟨⟨HE, ⟨%X, %hX, HX⟩, Hp⟩, Ho, ⟨%d0, H0⟩, ⟨%d1, H1⟩, ⟨%d2, H2⟩, ⟨%d3, H3⟩⟩
  iapply (run_any c (grid0.coords t) _ _ _ _ _ _ _ _ _ _ _ _ (iblk m c 0 t) (X0_1 m c t) (iblk m c 2 t) X Set.univ _)
  isplitl [H0]; · iexact H0
  isplitl [H1]; · iexact H1
  isplitl [H2]; · iexact H2
  isplitl [H3]; · iexists _; iexact H3
  isplitl [HE]; · iexact HE
  isplitl [HX]; · iexact HX
  rw [before8_eq m c t X hX]
  iintro ⟨H0, H1, H2, H3, HE, HX⟩
  isplitl [HE HX Hp]
  · isplitl [HE]; · iexact HE
    isplitl [HX]
    · iexists _; isplitr; swap; · iexact HX
      ipureintro; exact Slots.good_next _ _ (tailAt m c) slot2 t X hX
    iexact Hp
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch buffers as memrefs owned at some contents. -/
theorem scratch_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)) ∗ (∃ r, prngReg c r)) := by
  unfold Pipeline.ΦA; rw [scopedRest0_eq]; simp only [owns_whole]; try rfl

/-- Before the first point nothing is kept yet. -/
theorem enter (c : Dev nD) : (Pipeline.ΦA spec0 c : sProp 𝕄) ⊢ (dats m 0 c).Φ 0 := by
  rw [scratch_eq, show (dats m 0 c).Φ 0 = Φ m c 0 from rfl]
  unfold Φ
  iintro ⟨⟨HE, ⟨%X, HX⟩⟩, Hp⟩
  isplitl [HE]; · iexact HE
  isplitl [HX]
  · iexists X; isplitr; swap; · iexact HX
    ipureintro; exact Slots.good_zero _ _ _ X
  iexact Hp

/-- After the last point the kept rows are forgotten. -/
theorem leave (c : Dev nD) : (dats m 0 c).Φ (Fin.last cfg0.N) ⊢ (Pipeline.ΦA spec0 c : sProp 𝕄) := by
  rw [scratch_eq, show (dats m 0 c).Φ (Fin.last cfg0.N) = Φ m c cfg0.N from rfl]
  unfold Φ
  iintro ⟨HE, ⟨%X, %hX, HX⟩, Hp⟩
  isplitl [HE HX]
  · isplitl [HE]; · iexact HE
    iexists X; iexact HX
  iexact Hp

set_option backward.isDefEq.respectTransparency.types false in
/-- The launch: every array ends at what the proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the run terminates, the arguments end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.GdnQkvIdeal.Gqkv

end
-- ==== Proof.GqkvCarry.lean ====
/-
  The projection to the delta rule's queries, keys and values as compiled: it is the same program as the one read on
  the extended reals, so the frame proved of that one at any reading of the floats is its frame too.
-/
module

public import proofs.«01_k».proof.Proof.Gen.GdnQkv.Frame
public import proofs.«01_k».proof.Proof.GqkvFrame

@[expose] public section

noncomputable section

namespace Cert.GdnQkv.Gqkv

open Idealize.ShloMosaic Idealize.ShloMosaic.TcCoe Idealize.SL.Sem

variable {F : FTy → Type} [FloatOps F]

/-- The two bodies are one. -/
theorem body_eq : @Cert.GdnQkv.cc0_gdn_qkv_proj F _ _ = @Cert.GdnQkvIdeal.cc0_gdn_qkv_proj F _ _ := rfl

/-- The two programs on the device are one. -/
theorem main_eq : @Cert.GdnQkv.main F _ _ = @Cert.GdnQkvIdeal.main F _ _ := rfl

/-- The two tables of bodies are one. -/
theorem defs₀_eq : @Cert.GdnQkv.defs₀ F _ _ = @Cert.GdnQkvIdeal.defs₀ F _ _ := by
  unfold Cert.GdnQkv.defs₀ Cert.GdnQkvIdeal.defs₀
  congr 1
  funext l x
  match l, x with
  | 0, (t, s) => rfl

/-- The two tables with the pipeline's calls are one. -/
theorem defs_eq : @Cert.GdnQkv.defs F _ _ = @Cert.GdnQkvIdeal.defs F _ _ := by
  unfold Cert.GdnQkv.defs Cert.GdnQkvIdeal.defs
  exact congrArg (Pipeline.defs Cert.GdnQkvIdeal.pcfgs) defs₀_eq

open Cert.GdnQkv in
/-- The frame: the run terminates, the arguments end unchanged, every semaphore counter ends at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [main_eq, defs_eq]
  exact Cert.GdnQkvIdeal.Gqkv.frame m ρ

end Cert.GdnQkv.Gqkv

end
-- ==== Proof.GqkvArray.lean ====
/-
  The projection to the delta rule's queries, keys and values: what a grid point stores, and from the points' blocks
  the whole result.
-/
module

public import proofs.«01_k».proof.Proof.GqkvFrame
public import Idealize.ShloMosaic.Lib.Pipeline.ValueKit.Acc

@[expose] public section

set_option maxRecDepth 16384

noncomputable section

namespace Cert.GdnQkvIdeal.Gqkv

open Cert.GdnQkvIdeal Cert.GdnQkvIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The features on device `c`. -/
abbrev feat (c : Dev nD) : Proj.Mat 16384 4096 := m ((c : Thread nD τ).loc main_arg0)

/-- The two layers' weights on device `c`. -/
abbrev wts (c : Dev nD) : Proj.Stack 2 4096 16448 := m ((c : Thread nD τ).loc main_arg1)

/-- The taps of the convolution on device `c`. -/
abbrev taps (c : Dev nD) : Proj.Mat 4 12288 := m ((c : Thread nD τ).loc main_arg2)

/-- An element of the result from the three arguments: silu of the product's column convolved along the sequence. -/
def spec (A : Proj.Mat 16384 4096) (W : Proj.Stack 2 4096 16448) (T : Proj.Mat 4 12288) (r k : ℕ) : EReal :=
  Proj.silu (Shift.taps4 (fun r => Proj.dot A W 1 r k) (fun s => Proj.rd T s k) r)

/-- The corner of each window's block in its array. -/
theorem corners : ∀ t : Fin grid0.N,
    (win0_0.index t 0 * win0_0.size 0 = 1024 * (t.val / 24) ∧ win0_0.index t 1 * win0_0.size 1 = 0)
    ∧ (win0_1.index t 0 * win0_1.size 0 = 1 ∧ win0_1.index t 1 * win0_1.size 1 = 0 ∧ win0_1.index t 2 * win0_1.size 2 = 512 * (t.val % 24))
    ∧ (win0_2.index t 0 * win0_2.size 0 = 0 ∧ win0_2.index t 1 * win0_2.size 1 = 512 * (t.val % 24))
    ∧ (win0_3.index t 0 * win0_3.size 0 = 1024 * (t.val / 24) ∧ win0_3.index t 1 * win0_3.size 1 = 512 * (t.val % 24))
    ∧ win0_3.xsize (grid0.coords t) 0 = 1024 ∧ win0_3.xsize (grid0.coords t) 1 = 512 := by
  decide +kernel

/-- The weights the region finds are the argument's: rounding them is the identity here. -/
theorem weights (c : Dev nD) : (V m c main_v0 : Proj.Stack 2 4096 16448) = wts m c := by
  show StableHlo.after hostOps0 (fun b => m (c, b)) main_v0 = _
  unfold hostOps0
  rw [StableHlo.after_cons, StableHlo.after_nil, StableHlo.unary_result]
  rfl

theorem x_read (c : Dev nD) (t : Fin cfg0.N) (y : S1024x4096.Idx) :
    (iblk m c 0 t y : EReal) = Proj.rd (feat m c) (1024 * (t.val / 24) + (y 0).val) (y 1).val := by
  obtain ⟨⟨e0, e1⟩, -⟩ := corners t
  have h : (V m c main_arg0 : Proj.Mat 16384 4096) = feat m c := V_main_arg0 m c
  rw [← h]
  refine Proj.rd_eq (V m c main_arg0 : Proj.Mat 16384 4096) _ _ _ ?_ ?_
  · show win0_0.index t 0 * win0_0.size 0 + 1 * (y 0).val = _
    rw [e0, one_mul]
  · show win0_0.index t 1 * win0_0.size 1 + 1 * (y 1).val = _
    rw [e1, one_mul, Nat.zero_add]

theorem w_read (c : Dev nD) (t : Fin cfg0.N) (y : S1x4096x512.Idx) :
    (X0_1 m c t y : EReal) = Proj.rd3 (wts m c) 1 (y 1).val (512 * (t.val % 24) + (y 2).val) := by
  obtain ⟨-, ⟨e0, e1, e2⟩, -⟩ := corners t
  rw [← weights]
  have hy : (y 0).val < 1 := (y 0).isLt
  unfold X0_1 Pipeline.Window.fill
  rw [dif_pos (moved0_1 t y)]
  refine Proj.rd3_eq (V m c main_v0 : Proj.Stack 2 4096 16448) _ _ _ _ ?_ ?_ ?_
  · show win0_1.index t 0 * win0_1.size 0 + 1 * (y 0).val = _
    rw [e0]
    omega
  · show win0_1.index t 1 * win0_1.size 1 + 1 * (y 1).val = _
    rw [e1, one_mul, Nat.zero_add]
  · show win0_1.index t 2 * win0_1.size 2 + 1 * (y 2).val = _
    rw [e2, one_mul]

theorem tap_read (c : Dev nD) (t : Fin cfg0.N) (y : S4x512.Idx) :
    (iblk m c 2 t y : EReal) = Proj.rd (taps m c) (y 0).val (512 * (t.val % 24) + (y 1).val) := by
  obtain ⟨-, -, ⟨e0, e1⟩, -⟩ := corners t
  have h : (V m c main_arg2 : Proj.Mat 4 12288) = taps m c := V_main_arg2 m c
  rw [← h]
  refine Proj.rd_eq (V m c main_arg2 : Proj.Mat 4 12288) _ _ _ ?_ ?_
  · show win0_2.index t 0 * win0_2.size 0 + 1 * (y 0).val = _
    rw [e0, one_mul, Nat.zero_add]
  · show win0_2.index t 1 * win0_2.size 1 + 1 * (y 1).val = _
    rw [e1, one_mul]

/-- A point's product at an element. -/
theorem prod_read (c : Dev nD) (t : Fin cfg0.N) (y : S1024x512.Idx) :
    (prod (F := Ideal) (iblk m c 0 t) (X0_1 m c t) y : EReal)
      = Proj.dot (feat m c) (wts m c) 1 (1024 * (t.val / 24) + (y 0).val) (512 * (t.val % 24) + (y 1).val) := by
  rw [← Proj.block_dot (φ₁ := .bf16) (φ₂ := .bf16) (feat m c) (wts m c) 1 _ _ dot_S1024x4096_S4096x512_S1024x512_1_0_0_1_n_n_wf
    shapeCasts_S1x4096x512_S4096x512 (iblk m c 0 t) (X0_1 m c t) (x_read m c t) (w_read m c t) y]
  rfl

/-- The eight rows before a point's row block: zero at the start of a sequence, else the product's rows there. -/
theorem earlier_read (c : Dev nD) (t : Fin cfg0.N) (y : S8x512.Idx) :
    (earlier m c t y : EReal) = if t.val / 24 % 8 = 0 then 0
      else Proj.dot (feat m c) (wts m c) 1 (1024 * (t.val / 24) + (y 0).val - 8) (512 * (t.val % 24) + (y 1).val) := by
  have h0 : (y 0).val < 8 := (y 0).isLt
  unfold earlier
  by_cases h : k0_cond2 (grid0.coords t) = 1#1
  · have hl := (later_iff t).mp h
    rw [if_pos h, if_neg hl]
    unfold tailAt tail
    rw [shapeCast_shapeCast, Shift.last_rows, prod_read]
    show Proj.dot _ _ 1 (1024 * ((t.val - 24) / 24) + (1016 + (y 0).val)) (512 * ((t.val - 24) % 24) + (y 1).val) = _
    congr 1 <;> omega
  · rw [if_neg h, if_pos (by
      by_contra hl
      exact h ((later_iff t).mpr hl))]
    exact Proj.zero_f32

/-- The convolved product at an element. -/
theorem conv_read (c : Dev nD) (t : Fin cfg0.N) (y : S1024x512.Idx) :
    (conv (F := Ideal) (earlier m c t) (iblk m c 0 t) (X0_1 m c t) (iblk m c 2 t) y : EReal)
      = Shift.taps4 (fun r => Proj.dot (feat m c) (wts m c) 1 r (512 * (t.val % 24) + (y 1).val))
          (fun s => Proj.rd (taps m c) s (512 * (t.val % 24) + (y 1).val)) (1024 * (t.val / 24) + (y 0).val) :=
  Shift.conv_read (fun r k => Proj.dot (feat m c) (wts m c) 1 r (512 * (t.val % 24) + k)) (t.val / 24) _ _ (prod_read m c t) (earlier_read m c t)
    _ (fun s k => Proj.rd (taps m c) s (512 * (t.val % 24) + k)) (tap_read m c t) _ _ _ _ _ y

/-- What a point leaves in the staged block of the result. -/
theorem out_read (c : Dev nD) (t : Fin cfg0.N) (y : S1024x512.Idx) :
    (outAt m c t y : EReal) = spec (feat m c) (wts m c) (taps m c) (1024 * (t.val / 24) + (y 0).val) (512 * (t.val % 24) + (y 1).val) := by
  unfold spec
  rw [← conv_read]
  rfl

/-- The result array: the specification read at a row and a column. -/
def result (c : Dev nD) : Buf (Elt Ideal) ((c : Thread nD τ).loc main_v1) :=
  fun i : S16384x12288.Idx => spec (feat m c) (wts m c) (taps m c) (i 0).val (i 1).val

/-- What a point writes back is its block of the result array. -/
theorem flushed_eq (c : Dev nD) (t : Fin cfg0.N) :
    (dats m 0 c).flushed 3 t = (win0_3.blk t).view.read (Elt Ideal) (result m c) := by
  show (cfg0.win 3).cut (grid0.coords t) ((dats m 0 c).after 3 t) = _
  rw [after3]
  obtain ⟨-, -, -, ⟨e0, e1⟩, -⟩ := corners t
  funext y
  refine (out_read m c t y).trans ?_
  show _ = spec _ _ _ (win0_3.index t 0 * win0_3.size 0 + 1 * (y 0).val) (win0_3.index t 1 * win0_3.size 1 + 1 * (y 1).val)
  rw [e0, e1, one_mul, one_mul]

/-- An index of the result array is in point `t`'s block. -/
theorem mem_blk (t : Fin cfg0.N) (i : S16384x12288.Idx) :
    i ∈ ((cfg0.win 3).blk t).view.set ↔ (1024 * (t.val / 24) ≤ (i 0).val ∧ (i 0).val < 1024 * (t.val / 24) + 1024)
      ∧ (512 * (t.val % 24) ≤ (i 1).val ∧ (i 1).val < 512 * (t.val % 24) + 512) := by
  show i ∈ ((View.whole main_v1).slice (win0_3.rect t)).set ↔ _
  rw [View.set_slice_whole]
  obtain ⟨-, -, -, ⟨e0, e1⟩, s0, s1⟩ := corners t
  exact Proj.mem_block _ _ _ i e0 e1 s0 s1

/-- The points' blocks tile the result array. -/
theorem cover (i : S16384x12288.Idx) : ∃ t : Fin cfg0.N, (cfg0.win 3).flush t = true ∧ i ∈ ((cfg0.win 3).blk t).view.set := by
  have h0 : (i 0).val < 16384 := (i 0).isLt
  have h1 : (i 1).val < 12288 := (i 1).isLt
  refine ⟨⟨24 * ((i 0).val / 1024) + (i 1).val / 512, show _ < 384 by omega⟩, flush0_3 _, ?_⟩
  rw [mem_blk]
  dsimp only
  omega

/-- The run, read: the result array holds the specification, the arguments are unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).trans ((dats m 0 c).arrAt_eq_of_cover 3 (result m c) (fun t _ => flushed_eq m c t) cover), h.2 c⟩)
    (θ_run_and ((θ_run defs _ _).mono (fun r h (c : Dev nD) => ((h c).1 3 : r.2.mem ((c : Thread nD τ).loc main_v1) = (dats m 0 c).arrAt 3 cfg0.N)) (run_main m ρ))
      (frame_of m ρ (dats m) (A_eq m) (run_main m ρ)))

end Cert.GdnQkvIdeal.Gqkv

end
-- ==== Proof.GqkvClaim.lean ====
/-
  The claims about the projection to the delta rule's queries, keys and values: its frames and the equation with the
  reference.
-/
module

public import proofs.«01_k».proof.Defs
public import proofs.«01_k».proof.Proof.GqkvCarry
public import proofs.«01_k».proof.Proof.GqkvArray
public import proofs.«01_k».proof.Proof.Gen.GdnQkvReferenceIdeal.Read

@[expose] public section

set_option maxRecDepth 16384

noncomputable section

namespace Cert.Gqkv

open Idealize.ShloMosaic Idealize.ShloMosaic.TcCoe Idealize.SL.Sem

/-- The projection runs and leaves its arguments as they were. -/
theorem quiescent_GdnQkv : Cert.quiescent_GdnQkv := fun m ρ _ => Cert.GdnQkv.Gqkv.frame m ρ

/-- So does its idealization. -/
theorem quiescent_GdnQkvIdeal : Cert.quiescent_GdnQkvIdeal := fun m ρ _ => Cert.GdnQkvIdeal.Gqkv.frame m ρ

/-- So does the plain form; it has no semaphore. -/
theorem quiescent_GdnQkvReferenceIdeal : Cert.quiescent_GdnQkvReferenceIdeal := fun m ρ _ =>
  (θ_run Cert.GdnQkvReferenceIdeal.defs _ _).mono (fun r h => ⟨fun c => (h c).2, sem_eq_zero_of_no_sems (by decide) r.2⟩)
    (Cert.GdnQkvReferenceIdeal.Value.run (F := Ideal) m ρ)

section Reference

open Cert.GdnQkvReferenceIdeal Cert.GdnQkvReferenceIdeal.Read

variable (x0 : Proj.Mat 16384 4096) (x1 : Proj.Stack 2 4096 16448) (x2 : Proj.Mat 4 12288)

/-- The reference's product at an element. -/
theorem product_at (i : S16384x16448.Idx) : (val_main_v3 (F := Ideal) x0 x1 i : EReal) = Proj.dot x0 x1 1 (i 0).val (i 1).val := by
  have hc : (i 1).val < 16448 := (i 1).isLt
  rw [val_main_v3_apply]
  unfold Proj.dot
  refine Finset.sum_congr rfl fun k _ => ?_
  have hk : k.val < 4096 := k.isLt
  rw [val_main_v0_apply, val_main_v2_apply, val_main_v1_apply]
  refine congrArg₂ (fun a b : EReal => a * b) ?_ ?_
  · exact Proj.rd_eq x0 _ _ _ rfl rfl
  · refine Proj.rd3_eq x1 _ _ _ _ rfl ?_ ?_
    · show (k.val * 16448 + (i 1).val) / 16448 % 4096 = k.val
      omega
    · show (k.val * 16448 + (i 1).val) % 16448 = (i 1).val
      omega

/-- The query, key and value columns of a sequence. -/
theorem qkv_at (i : S2x8192x12288.Idx) : (val_main_v7 (F := Ideal) x0 x1 i : EReal) = Proj.dot x0 x1 1 (8192 * (i 0).val + (i 1).val) (i 2).val := by
  have h0 : (i 0).val < 2 := (i 0).isLt
  have h1 : (i 1).val < 8192 := (i 1).isLt
  have h2 : (i 2).val < 12288 := (i 2).isLt
  rw [val_main_v7_apply, val_main_v4_apply, product_at]
  show Proj.dot x0 x1 1 ((((i 0).val * 8192 + (i 1).val) * 12288 + (i 2).val) / 12288) ((((i 0).val * 8192 + (i 1).val) * 12288 + (i 2).val) % 12288) = _
  congr 1 <;> omega

/-- They with three zero rows before each sequence. -/
theorem padded_at (j : S2x8195x12288.Idx) (d s : ℕ) (hs : s < 8192) (hd : d ≤ 3) (hj : (j 1).val + d = s + 3) :
    (val_main_v8 (F := Ideal) x0 x1 j : EReal) = Proj.back (fun r => Proj.dot x0 x1 1 r (j 2).val) d (8192 * (j 0).val + s) := by
  unfold val_main_v8
  exact Proj.front_at (φ := .f32) _ _ _ _ (fun i => by
    show (((0#32 : BitVec 32).toInt : ℝ) : EReal) = 0
    simp) (fun r k => Proj.dot x0 x1 1 r k) (qkv_at x0 x1) j d s hs hd hj

/-- A tap of the convolution, spread over rows. -/
theorem tap0_at (i : S2x8192x12288.Idx) : (val_main_v13 (F := Ideal) x2 i : EReal) = Proj.rd x2 0 (i 2).val := by
  have h2 : (i 2).val < 12288 := (i 2).isLt
  rw [val_main_v13_apply, val_main_v12_apply, val_main_v11_apply, val_main_v10_apply]
  exact Proj.rd_eq x2 _ _ _ rfl (show (i 2).val % 12288 = (i 2).val by omega)

theorem tap1_at (i : S2x8192x12288.Idx) : (val_main_v21 (F := Ideal) x2 i : EReal) = Proj.rd x2 1 (i 2).val := by
  have h2 : (i 2).val < 12288 := (i 2).isLt
  rw [val_main_v21_apply, val_main_v20_apply, val_main_v19_apply, val_main_v18_apply]
  exact Proj.rd_eq x2 _ _ _ rfl (show (i 2).val % 12288 = (i 2).val by omega)

theorem tap2_at (i : S2x8192x12288.Idx) : (val_main_v28 (F := Ideal) x2 i : EReal) = Proj.rd x2 2 (i 2).val := by
  have h2 : (i 2).val < 12288 := (i 2).isLt
  rw [val_main_v28_apply, val_main_v27_apply, val_main_v26_apply, val_main_v25_apply]
  exact Proj.rd_eq x2 _ _ _ rfl (show (i 2).val % 12288 = (i 2).val by omega)

theorem tap3_at (i : S2x8192x12288.Idx) : (val_main_v35 (F := Ideal) x2 i : EReal) = Proj.rd x2 3 (i 2).val := by
  have h2 : (i 2).val < 12288 := (i 2).isLt
  rw [val_main_v35_apply, val_main_v34_apply, val_main_v33_apply, val_main_v32_apply]
  exact Proj.rd_eq x2 _ _ _ rfl (show (i 2).val % 12288 = (i 2).val by omega)

/-- The convolved columns of a sequence. -/
theorem conv_at (i : S2x8192x12288.Idx) : (val_main_v37 (F := Ideal) x0 x1 x2 i : EReal)
    = Shift.taps4 (fun r => Proj.dot x0 x1 1 r (i 2).val) (fun s => Proj.rd x2 s (i 2).val) (8192 * (i 0).val + (i 1).val) := by
  have h1 : (i 1).val < 8192 := (i 1).isLt
  have p3 := padded_at x0 x1 (idx_main_v9 i) 3 (i 1).val h1 (by omega) rfl
  have p2 := padded_at x0 x1 (idx_main_v17 i) 2 (i 1).val h1 (by omega) (show 1 + (i 1).val + 2 = (i 1).val + 3 by omega)
  have p1 := padded_at x0 x1 (idx_main_v24 i) 1 (i 1).val h1 (by omega) (show 2 + (i 1).val + 1 = (i 1).val + 3 by omega)
  have p0 := padded_at x0 x1 (idx_main_v31 i) 0 (i 1).val h1 (by omega) (show 3 + (i 1).val + 0 = (i 1).val + 3 by omega)
  rw [← val_main_v9_apply] at p3
  rw [← val_main_v17_apply] at p2
  rw [← val_main_v24_apply] at p1
  rw [← val_main_v31_apply] at p0
  rw [val_main_v37_apply, val_main_v30_apply, val_main_v23_apply, val_main_v16_apply, val_main_v14_apply, val_main_v22_apply, val_main_v29_apply,
    val_main_v36_apply, val_main_v15_apply, val_main_cst_apply, tap0_at, tap1_at, tap2_at, tap3_at, p0, p1, p2, p3]
  show ((Ideal.ofBits .f32 0x00000000#32 + _ * _) + _ * _ + _ * _) + _ * _ = (_ : EReal)
  rw [Proj.zero_f32, zero_add]
  exact Shift.last_first4 _ _ _ _

/-- The reference at an element: silu of the convolved column. -/
theorem reference_at (i : S16384x12288.Idx) :
    (val_main_v39 (F := Ideal) x0 x1 x2 i : EReal) = Cert.GdnQkvIdeal.Gqkv.spec x0 x1 x2 (i 0).val (i 1).val := by
  have h0 : (i 0).val < 16384 := (i 0).isLt
  have h1 : (i 1).val < 12288 := (i 1).isLt
  have e : 8192 * (idx_main_v39 i 0).val + (idx_main_v39 i 1).val = (i 0).val := by
    show 8192 * (((i 0).val * 12288 + (i 1).val) / 100663296) + ((i 0).val * 12288 + (i 1).val) / 12288 % 8192 = (i 0).val
    omega
  have e2 : (idx_main_v39 i 2).val = (i 1).val := by
    show ((i 0).val * 12288 + (i 1).val) % 12288 = (i 1).val
    omega
  have hc := conv_at x0 x1 x2 (idx_main_v39 i)
  rw [e, e2] at hc
  rw [val_main_v39_apply, val_main_v38_apply, val_main_call1_v5_apply, val_main_call1_v4_apply,
    val_main_call1_cst_0_apply, val_main_call1_v3_apply, val_main_call1_v2_apply, val_main_call1_cst_apply, val_main_call1_v1_apply,
    val_main_call1_v0_apply]
  unfold Cert.GdnQkvIdeal.Gqkv.spec
  rw [← hc]
  unfold Proj.silu
  rw [← Proj.logistic_at]
  rfl

end Reference

/-- On the extended reals the projection computes the reference's result at every row and column. -/
theorem algebraic : Cert.algebraic_GdnQkvIdeal_GdnQkvReferenceIdeal := by
  intro m ρ m' ρ' _ hagree
  refine ⟨fun c => Cert.GdnQkvIdeal.Gqkv.result m c, Cert.GdnQkvIdeal.Gqkv.run m ρ, ?_⟩
  refine (θ_run Cert.GdnQkvReferenceIdeal.defs _ _).mono (fun r h c => ⟨(h c).1.trans ?_, (h c).2⟩)
    (Cert.GdnQkvReferenceIdeal.Value.run (F := Ideal) m' ρ')
  rw [Cert.GdnQkvReferenceIdeal.Read.val_main_v39_eq, (hagree c).1, (hagree c).2.1, (hagree c).2.2]
  funext i
  exact reference_at _ _ _ i

end Cert.Gqkv

end
-- ==== Proof.LruxBody.lean ====
/-
  The projection to the linear recurrence's input: what the body does at one grid point, the carried rows
  included.
-/
module

public import proofs.«01_k».proof.Proof.Gen.LruXIdeal.Frame
public import proofs.«01_k».proof.Proof.Shift

@[expose] public section

set_option maxRecDepth 16384

noncomputable section

namespace Cert.LruXIdeal.Lrux

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.LruXIdeal Cert.LruXIdeal.Gen

variable {F : FTy → Type} [FloatOps F]

local notation "𝕄" => MT nD τ sig Unit (Elt F) ℕ (UR sig nD τ) ℕ

/-- The first row block of a sequence, as the body tests it. -/
def first (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  let v10 : BitVec 1 := Scalar.cmpi .eq v9 0#32
  let v11 : BitVec 32 := Scalar.extui v10
  Scalar.cmpi .ne v11 0#32

/-- The two tests of the body exclude each other. -/
theorem first_iff (i : grid0.Coords) : first i = 1#1 ↔ ¬ k0_cond2 i = 1#1 := by
  unfold first k0_cond2
  dsimp only
  generalize Scalar.cmpi .eq _ _ = b
  revert b
  decide

/-- Just one of the two tests holds. -/
theorem exclusive (i : grid0.Coords) : (¬ first i = 1#1 ∧ k0_cond2 i = 1#1) ∨ (first i = 1#1 ∧ ¬ k0_cond2 i = 1#1) :=
  (Classical.em (k0_cond2 i = 1#1)).imp (fun h => ⟨fun h' => (first_iff i).mp h' h, h⟩) fun h => ⟨(first_iff i).mpr h, h⟩

/-- The product of a row block by a column block. -/
def prod (x : Vec F S1024x4096 .bf16) (w : Vec F S1x4096x512 .bf16) : FVec F S1024x512 .f32 :=
  matmul dot_S1024x4096_S4096x512_S1024x512_1_0_0_1_n_n none x (shapeCast S4096x512 w shapeCasts_S1x4096x512_S4096x512)
    (constant S1024x512 .f32 0x00000000#32)

/-- The last eight rows of the product, as the body keeps them for the next row block. -/
def tail (x : Vec F S1024x4096 .bf16) (w : Vec F S1x4096x512 .bf16) : FVec F S1x8x512 .f32 :=
  shapeCast S1x8x512 (extractStridedSlice S8x512 ![1016, 0] (prod x w) slices_S1024x512_o1016_0_S8x512) shapeCasts_S8x512_S1x8x512

/-- The eight rows before the point's row block: zero at the start of a sequence, else the kept ones. -/
def before8 (i : grid0.Coords) (X : Vec F S8x8x512 .f32) : Vec F S8x512 .f32 :=
  if h : k0_cond2 i = 1#1 then
    shapeCast S8x512 (VecWindow.window X (k0_off1 i) S1x8x512.size (k0_off1_inb i h)) shapeCasts_S1x8x512_S8x512
  else broadcast S8x512 (Scalar.ofBits .f32 0x00000000#32 : F .f32)

/-- The four-tap causal convolution of the product. -/
def conv (h : Vec F S8x512 .f32) (x : Vec F S1024x4096 .bf16) (w : Vec F S1x4096x512 .bf16) (cw : Vec F S4x512 .f32) : FVec F S1024x512 .f32 :=
  Shift.conv h (prod x w) cw broadcasts_S1x512_S1024x512 inb_S4x512_S1x512_3_0 inb_S4x512_S1x512_2_0 inb_S4x512_S1x512_1_0 inb_S4x512_S1x512_0_0

/-- The block the body stores: the convolved product and the bias. -/
def out (h : Vec F S8x512 .f32) (x : Vec F S1024x4096 .bf16) (w : Vec F S1x4096x512 .bf16) (cw : Vec F S4x512 .f32) (b : Vec F S1x512 .f32) : FVec F S1024x512 .f32 :=
  addf (conv h x w cw) (broadcastTo S1024x512 b broadcasts_S1x512_S1024x512)

/-- The kept rows after the point: the last eight rows at the point's column block. -/
def keep (i : grid0.Coords) (X : Vec F S8x8x512 .f32) (x : Vec F S1024x4096 .bf16) (w : Vec F S1x4096x512 .bf16) : Vec F S8x8x512 .f32 :=
  VecWindow.put X (k0_off2 i) S1x8x512.size (tail x w)

set_option maxHeartbeats 1000000 in
/-- A run of the body at any point, whichever way its tests go. -/
theorem run_any (c : Dev nD) (i : grid0.Coords)
    (arg2 : Memref sig .tc .vmem S1024x4096 .bf16) (harg2 : arg2.IsWhole) (arg3 : Memref sig .tc .vmem S1x4096x512 .bf16) (harg3 : arg3.IsWhole)
    (arg4 : Memref sig .tc .vmem S4x512 .f32) (harg4 : arg4.IsWhole) (arg5 : Memref sig .tc .vmem S1x512 .f32) (harg5 : arg5.IsWhole)
    (arg6 : Memref sig .tc .vmem S1024x512 .f32) (harg6 : arg6.IsWhole)
    (arg7 : Memref sig .tc .vmem S1032x512 .f32) (harg7 : arg7.IsWhole) (arg8 : Memref sig .tc .vmem S8x8x512 .f32) (harg8 : arg8.IsWhole)
    (x0 : Vec F S1024x4096 .bf16) (x1 : Vec F S1x4096x512 .bf16) (x2 : Vec F S4x512 .f32) (x3 : Vec F S1x512 .f32)
    (x8 : Vec F S8x8x512 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ (∃ d, owns (c : Thread nD τ) arg7 fullShare d) ∗ owns (c : Thread nD τ) arg8 fullShare x8
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare (out (before8 i x8) x0 x1 x2 x3)
          ∗ (∃ d, owns (c : Thread nD τ) arg7 fullShare d) ∗ owns (c : Thread nD τ) arg8 fullShare (keep i x8 x0 x1)) -∗ K ⟨⟩))
      ⊢ wp frame (wpE (defs₀ (F := F)) Variants.none c none) E (cc0_lru_x_proj i arg2 harg2 arg3 harg3 arg4 harg4 arg5 harg5 arg6 harg6 arg7 harg7 arg8 harg8) K := by
  unfold cc0_lru_x_proj owns before8
  rcases exclusive i with ⟨h1, h2⟩ | ⟨h1, h2⟩
  all_goals
    first | rw [dif_pos h2] | rw [dif_neg h2]
    iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%f8, %hf8, H8⟩, Hk⟩
    sl_exec (disch := first | sl_exact h1 | sl_exact h2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H6]
    · iexists _; isplitr; swap; · iexact H6
      ipureintro
      rw [View.read_writes_full]
      subst hf0 hf1 hf2 hf3 hf8
      sl_unfold_words
      unfold out conv Shift.conv prod
      rw [View.readAt_full arg2.view f0, View.readAt_full arg3.view f1, View.readAt_full arg5.view f3, Shift.cov_rows 7 (by decide), Shift.cov_rows 6 (by decide), Shift.cov_rows 5 (by decide)]
      simp only [shapeCast_self]
      rfl
    isplitl [H7]
    · iexists _; iexists _; isplitr; swap; · iexact H7
      ipureintro; rfl
    iexists _; isplitr; swap; · iexact H8
    ipureintro
    rw [View.read_writes_cons_put _ _ _ _ _ rfl]
    subst hf0 hf1 hf8
    sl_unfold_words
    unfold keep tail prod
    rw [View.readAt_full arg2.view f0, View.readAt_full arg3.view f1]
    rfl

end Cert.LruXIdeal.Lrux

end
-- ==== Proof.LruxFrame.lean ====
/-
  The projection to the linear recurrence's input: the invariant that carries the kept rows from one row
  block to the next, the body obligation at every grid point, and the frame of the launch.
-/
module

public import proofs.«01_k».proof.Proof.LruxBody
public import proofs.«01_k».proof.Proof.Slots
public import Idealize.ShloMosaic.Lib.Claim

@[expose] public section

set_option maxRecDepth 16384

noncomputable section

namespace Cert.LruXIdeal.Lrux

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.LruXIdeal Cert.LruXIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Where the body keeps its rows at each point: the slot of the point's column block. -/
theorem slot2 : ∀ t : Fin cfg0.N, k0_off2 (grid0.coords t) = ![t.val % 8, 0, 0] :=
  (by decide +kernel : ∀ t : Fin grid0.N, k0_off2 (grid0.coords t) = ![t.val % 8, 0, 0])

/-- Where the body takes the rows kept from the row block before: the same slot. -/
theorem slot1 : ∀ t : Fin cfg0.N, k0_off1 (grid0.coords t) = ![t.val % 8, 0, 0] :=
  (by decide +kernel : ∀ t : Fin grid0.N, k0_off1 (grid0.coords t) = ![t.val % 8, 0, 0])

/-- Kept rows are taken at every row block but the first of each sequence. -/
theorem later_iff : ∀ t : Fin cfg0.N, k0_cond2 (grid0.coords t) = 1#1 ↔ t.val / 8 % 8 ≠ 0 :=
  (by decide +kernel : ∀ t : Fin grid0.N, k0_cond2 (grid0.coords t) = 1#1 ↔ t.val / 8 % 8 ≠ 0)

/-- The point of the row block before, at the same column block. -/
def prev (t : Fin cfg0.N) : Fin cfg0.N := ⟨t.val - 8, Nat.lt_of_le_of_lt (Nat.sub_le _ _) t.isLt⟩

/-- The last rows of a point's product, as kept. -/
def tailAt (c : Dev nD) (t : Fin cfg0.N) : FVec F S1x8x512 .f32 := tail (iblk m c 0 t) (iblk m c 1 t)

/-- The eight rows before a point's row block. -/
def earlier (c : Dev nD) (t : Fin cfg0.N) : Vec F S8x512 .f32 :=
  if k0_cond2 (grid0.coords t) = 1#1 then shapeCast S8x512 (tailAt m c (prev t)) shapeCasts_S1x8x512_S8x512
  else broadcast S8x512 (Scalar.ofBits .f32 0x00000000#32 : F .f32)

/-- The block stored at a point. -/
def outAt (c : Dev nD) (t : Fin cfg0.N) : FVec F S1024x512 .f32 := out (earlier m c t) (iblk m c 0 t) (iblk m c 1 t) (iblk m c 2 t) (iblk m c 3 t)

/-- The kept rows before point `t`. -/
abbrev Good (c : Dev nD) (t : ℕ) (X : Vec F S8x8x512 .f32) : Prop :=
  Slots.Good (n := 8) (fun s : Fin cfg0.N => k0_off2 (grid0.coords s)) (fun s => k0_off2_inb (grid0.coords s)) (tailAt m c) t X

/-- Under the invariant the body finds the rows before its row block. -/
theorem before8_eq (c : Dev nD) (t : Fin cfg0.N) (X : Vec F S8x8x512 .f32) (hX : Good m c t.val X) :
    before8 (grid0.coords t) X = earlier m c t := by
  unfold before8 earlier
  by_cases h : k0_cond2 (grid0.coords t) = 1#1
  · rw [dif_pos h, if_pos h]
    have hl := (later_iff t).mp h
    exact congrArg (shapeCast S8x512 · shapeCasts_S1x8x512_S8x512)
      (Slots.found _ _ _ slot2 t (prev t) (by show t.val = t.val - 8 + 8; omega) (by decide) X hX _ (slot1 t) _)
  · rw [dif_neg h, if_neg h]

/-- What the body carries before point `t`: some shifted rows, the kept rows, the generator. -/
def Φ (c : Dev nD) (t : ℕ) : sProp 𝕄 :=
  iprop((∃ d, owns (c : Thread nD τ) (Memref.whole cc0_scratch0) fullShare d)
    ∗ (∃ X, ⌜Good m c t X⌝ ∗ owns (c : Thread nD τ) (Memref.whole cc0_scratch1) fullShare X) ∗ ∃ r, prngReg c r)

/-- The proof data: the arrays as the region finds them, each input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := Φ m c t.val
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- The input buffers hold their blocks before every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: it finds the rows before its row block, stores `outAt` and keeps its own last rows. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.castSucc = Φ m c t.val from rfl, show (dats m 0 c).Φ t.succ = Φ m c (t.val + 1) from rfl,
    show (dats m 0 c).owesAt () t.succ = (dats m 0 c).owesAt () t.castSucc from rfl,
    after0, after1, after2, after3, after4]
  unfold Φ
  iintro ⟨⟨HE, ⟨%X, %hX, HX⟩, Hp⟩, Ho, ⟨%d0, H0⟩, ⟨%d1, H1⟩, ⟨%d2, H2⟩, ⟨%d3, H3⟩, ⟨%d4, H4⟩⟩
  iapply (run_any c (grid0.coords t) _ _ _ _ _ _ _ _ _ _ _ _ _ _ (iblk m c 0 t) (iblk m c 1 t) (iblk m c 2 t) (iblk m c 3 t) X Set.univ _)
  isplitl [H0]; · iexact H0
  isplitl [H1]; · iexact H1
  isplitl [H2]; · iexact H2
  isplitl [H3]; · iexact H3
  isplitl [H4]; · iexists _; iexact H4
  isplitl [HE]; · iexact HE
  isplitl [HX]; · iexact HX
  rw [before8_eq m c t X hX]
  iintro ⟨H0, H1, H2, H3, H4, HE, HX⟩
  isplitl [HE HX Hp]
  · isplitl [HE]; · iexact HE
    isplitl [HX]
    · iexists _; isplitr; swap; · iexact HX
      ipureintro; exact Slots.good_next _ _ (tailAt m c) slot2 t X hX
    iexact Hp
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch buffers as memrefs owned at some contents. -/
theorem scratch_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)) ∗ (∃ r, prngReg c r)) := by
  unfold Pipeline.ΦA; rw [scopedRest0_eq]; simp only [owns_whole]; try rfl

/-- Before the first point nothing is kept yet. -/
theorem enter (c : Dev nD) : (Pipeline.ΦA spec0 c : sProp 𝕄) ⊢ (dats m 0 c).Φ 0 := by
  rw [scratch_eq, show (dats m 0 c).Φ 0 = Φ m c 0 from rfl]
  unfold Φ
  iintro ⟨⟨HE, ⟨%X, HX⟩⟩, Hp⟩
  isplitl [HE]; · iexact HE
  isplitl [HX]
  · iexists X; isplitr; swap; · iexact HX
    ipureintro; exact Slots.good_zero _ _ _ X
  iexact Hp

/-- After the last point the kept rows are forgotten. -/
theorem leave (c : Dev nD) : (dats m 0 c).Φ (Fin.last cfg0.N) ⊢ (Pipeline.ΦA spec0 c : sProp 𝕄) := by
  rw [scratch_eq, show (dats m 0 c).Φ (Fin.last cfg0.N) = Φ m c cfg0.N from rfl]
  unfold Φ
  iintro ⟨HE, ⟨%X, %hX, HX⟩, Hp⟩
  isplitl [HE HX]
  · isplitl [HE]; · iexact HE
    iexists X; iexact HX
  iexact Hp

set_option backward.isDefEq.respectTransparency.types false in
/-- The launch: every array ends at what the proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the run terminates, the arguments end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.LruXIdeal.Lrux

end
-- ==== Proof.LruxCarry.lean ====
/-
  The projection to the linear recurrence's input as compiled: it is the same program as the one read on
  the extended reals, so the frame proved of that one at any reading of the floats is its frame too.
-/
module

public import proofs.«01_k».proof.Proof.Gen.LruX.Frame
public import proofs.«01_k».proof.Proof.LruxFrame

@[expose] public section

noncomputable section

namespace Cert.LruX.Lrux

open Idealize.ShloMosaic Idealize.ShloMosaic.TcCoe Idealize.SL.Sem

variable {F : FTy → Type} [FloatOps F]

/-- The two bodies are one. -/
theorem body_eq : @Cert.LruX.cc0_lru_x_proj F _ _ = @Cert.LruXIdeal.cc0_lru_x_proj F _ _ := rfl

/-- The two programs on the device are one. -/
theorem main_eq : @Cert.LruX.main F _ _ = @Cert.LruXIdeal.main F _ _ := rfl

/-- The two tables of bodies are one. -/
theorem defs₀_eq : @Cert.LruX.defs₀ F _ _ = @Cert.LruXIdeal.defs₀ F _ _ := by
  unfold Cert.LruX.defs₀ Cert.LruXIdeal.defs₀
  congr 1
  funext l x
  match l, x with
  | 0, (t, s) => rfl

/-- The two tables with the pipeline's calls are one. -/
theorem defs_eq : @Cert.LruX.defs F _ _ = @Cert.LruXIdeal.defs F _ _ := by
  unfold Cert.LruX.defs Cert.LruXIdeal.defs
  exact congrArg (Pipeline.defs Cert.LruXIdeal.pcfgs) defs₀_eq

open Cert.LruX in
/-- The frame: the run terminates, the arguments end unchanged, every semaphore counter ends at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [main_eq, defs_eq]
  exact Cert.LruXIdeal.Lrux.frame m ρ

end Cert.LruX.Lrux

end
-- ==== Proof.LruxArray.lean ====
/-
  The projection to the linear recurrence's input: what a grid point stores, and from the points' blocks
  the whole result.
-/
module

public import proofs.«01_k».proof.Proof.LruxFrame
public import Idealize.ShloMosaic.Lib.Pipeline.ValueKit.Acc

@[expose] public section

set_option maxRecDepth 16384

noncomputable section

namespace Cert.LruXIdeal.Lrux

open Cert.LruXIdeal Cert.LruXIdeal.Gen Idealize.ShloMosaic Idealize.ShloMosaic.TcCoe Idealize.SL.Sem
open Idealize.ShloMosaic.Pipeline (Dat)
open Idealize.ShloMosaic.ValueIdx (ix2)

variable (m : (ℓ : Loc nD τ sig) → Buf (Elt Ideal) ℓ) (ρ : Dev nD → PrngReg)

/-- The features on device `c`. -/
abbrev feat (c : Dev nD) : Proj.Mat 16384 4096 := m ((c : Thread nD τ).loc main_arg0)

/-- The layer's weights on device `c`. -/
abbrev wts (c : Dev nD) : Proj.Stack 1 4096 8192 := m ((c : Thread nD τ).loc main_arg1)

/-- The taps of the convolution on device `c`. -/
abbrev taps (c : Dev nD) : Proj.Mat 4 4096 := m ((c : Thread nD τ).loc main_arg2)

/-- The bias of the convolution on device `c`. -/
abbrev bias (c : Dev nD) : Proj.Row 4096 := m ((c : Thread nD τ).loc main_arg3)

/-- An element of the result from the four arguments: the product's column convolved along the sequence, plus the bias. -/
def spec (A : Proj.Mat 16384 4096) (W : Proj.Stack 1 4096 8192) (T : Proj.Mat 4 4096) (b : Proj.Row 4096) (r k : ℕ) : EReal :=
  Shift.taps4 (fun r => Proj.dot A W 0 r k) (fun s => Proj.rd T s k) r + Proj.rd1 b k

/-- The corner of each window's block in its array. -/
theorem corners : ∀ t : Fin grid0.N,
    (win0_0.index t 0 * win0_0.size 0 = 1024 * (t.val / 8) ∧ win0_0.index t 1 * win0_0.size 1 = 0)
    ∧ (win0_1.index t 0 * win0_1.size 0 = 0 ∧ win0_1.index t 1 * win0_1.size 1 = 0 ∧ win0_1.index t 2 * win0_1.size 2 = 512 * (t.val % 8))
    ∧ (win0_2.index t 0 * win0_2.size 0 = 0 ∧ win0_2.index t 1 * win0_2.size 1 = 512 * (t.val % 8))
    ∧ (win0_3.index t 0 * win0_3.size 0 = 0 ∧ win0_3.index t 1 * win0_3.size 1 = 512 * (t.val % 8))
    ∧ (win0_4.index t 0 * win0_4.size 0 = 1024 * (t.val / 8) ∧ win0_4.index t 1 * win0_4.size 1 = 512 * (t.val % 8))
    ∧ win0_4.xsize (grid0.coords t) 0 = 1024 ∧ win0_4.xsize (grid0.coords t) 1 = 512 := by
  decide +kernel

/-- The weights the region finds are the argument's: rounding them is the identity here. -/
theorem weights (c : Dev nD) : (V m c main_v0 : Proj.Stack 1 4096 8192) = wts m c := by
  show StableHlo.after hostOps0 (fun b => m (c, b)) main_v0 = _
  unfold hostOps0
  after_results
  rfl

/-- The bias the region finds is the argument's, as a row. -/
theorem bias_row (c : Dev nD) : (V m c main_v1 : Proj.Mat 1 4096) = shapeCast S1x4096 (bias m c) shapeCasts_S4096_S1x4096 := by
  show StableHlo.after hostOps0 (fun b => m (c, b)) main_v1 = _
  unfold hostOps0
  after_results
  rfl

theorem x_read (c : Dev nD) (t : Fin cfg0.N) (y : S1024x4096.Idx) :
    (iblk m c 0 t y : EReal) = Proj.rd (feat m c) (1024 * (t.val / 8) + (y 0).val) (y 1).val := by
  obtain ⟨⟨e0, e1⟩, -⟩ := corners t
  have h : (V m c main_arg0 : Proj.Mat 16384 4096) = feat m c := V_main_arg0 m c
  rw [← h]
  refine Proj.rd_eq (V m c main_arg0 : Proj.Mat 16384 4096) _ _ _ ?_ ?_
  · show win0_0.index t 0 * win0_0.size 0 + 1 * (y 0).val = _
    rw [e0, one_mul]
  · show win0_0.index t 1 * win0_0.size 1 + 1 * (y 1).val = _
    rw [e1, one_mul, Nat.zero_add]

theorem w_read (c : Dev nD) (t : Fin cfg0.N) (y : S1x4096x512.Idx) :
    (iblk m c 1 t y : EReal) = Proj.rd3 (wts m c) 0 (y 1).val (512 * (t.val % 8) + (y 2).val) := by
  obtain ⟨-, ⟨e0, e1, e2⟩, -⟩ := corners t
  rw [← weights]
  have hy : (y 0).val < 1 := (y 0).isLt
  refine Proj.rd3_eq (V m c main_v0 : Proj.Stack 1 4096 8192) _ _ _ _ ?_ ?_ ?_
  · show win0_1.index t 0 * win0_1.size 0 + 1 * (y 0).val = _
    rw [e0]
    omega
  · show win0_1.index t 1 * win0_1.size 1 + 1 * (y 1).val = _
    rw [e1, one_mul, Nat.zero_add]
  · show win0_1.index t 2 * win0_1.size 2 + 1 * (y 2).val = _
    rw [e2, one_mul]

theorem tap_read (c : Dev nD) (t : Fin cfg0.N) (y : S4x512.Idx) :
    (iblk m c 2 t y : EReal) = Proj.rd (taps m c) (y 0).val (512 * (t.val % 8) + (y 1).val) := by
  obtain ⟨-, -, ⟨e0, e1⟩, -⟩ := corners t
  have h : (V m c main_arg2 : Proj.Mat 4 4096) = taps m c := V_main_arg2 m c
  rw [← h]
  refine Proj.rd_eq (V m c main_arg2 : Proj.Mat 4 4096) _ _ _ ?_ ?_
  · show win0_2.index t 0 * win0_2.size 0 + 1 * (y 0).val = _
    rw [e0, one_mul, Nat.zero_add]
  · show win0_2.index t 1 * win0_2.size 1 + 1 * (y 1).val = _
    rw [e1, one_mul]

theorem bias_read (c : Dev nD) (t : Fin cfg0.N) (y : S1x512.Idx) :
    (iblk m c 3 t y : EReal) = Proj.rd1 (bias m c) (512 * (t.val % 8) + (y 1).val) := by
  obtain ⟨-, -, -, ⟨e0, e1⟩, -⟩ := corners t
  have hy : (y 0).val < 1 := (y 0).isLt
  have hy1 : (y 1).val < 512 := (y 1).isLt
  have hc : 512 * (t.val % 8) + (y 1).val < 4096 := by omega
  show (V m c main_v1 : Proj.Mat 1 4096) ((win0_3.rect t).emb y) = _
  rw [bias_row]
  have e : (fun a => match a with | ⟨0, _⟩ => ⟨512 * (t.val % 8) + (y 1).val, hc⟩ : S4096.Idx) 0 = ⟨512 * (t.val % 8) + (y 1).val, hc⟩ := rfl
  refine (shapeCast_apply (bias m c) shapeCasts_S4096_S1x4096 _ (fun a => match a with | ⟨0, _⟩ => ⟨512 * (t.val % 8) + (y 1).val, hc⟩) ?_).trans
    (Proj.rd1_eq (bias m c) _ _ (congrArg Fin.val e))
  rw [Shape.rowMajor_val_one, Shape.rowMajor_val_two]
  show 512 * (t.val % 8) + (y 1).val = (win0_3.index t 0 * win0_3.size 0 + 1 * (y 0).val) * 4096 + (win0_3.index t 1 * win0_3.size 1 + 1 * (y 1).val)
  rw [e0, e1]
  omega

/-- A point's product at an element. -/
theorem prod_read (c : Dev nD) (t : Fin cfg0.N) (y : S1024x512.Idx) :
    (prod (F := Ideal) (iblk m c 0 t) (iblk m c 1 t) y : EReal)
      = Proj.dot (feat m c) (wts m c) 0 (1024 * (t.val / 8) + (y 0).val) (512 * (t.val % 8) + (y 1).val) := by
  rw [← Proj.block_dot (φ₁ := .bf16) (φ₂ := .bf16) (feat m c) (wts m c) 0 _ _ dot_S1024x4096_S4096x512_S1024x512_1_0_0_1_n_n_wf
    shapeCasts_S1x4096x512_S4096x512 (iblk m c 0 t) (iblk m c 1 t) (x_read m c t) (w_read m c t) y]
  rfl

/-- The eight rows before a point's row block: zero at the start of a sequence, else the product's rows there. -/
theorem earlier_read (c : Dev nD) (t : Fin cfg0.N) (y : S8x512.Idx) :
    (earlier m c t y : EReal) = if t.val / 8 % 8 = 0 then 0
      else Proj.dot (feat m c) (wts m c) 0 (1024 * (t.val / 8) + (y 0).val - 8) (512 * (t.val % 8) + (y 1).val) := by
  have h0 : (y 0).val < 8 := (y 0).isLt
  unfold earlier
  by_cases h : k0_cond2 (grid0.coords t) = 1#1
  · have hl := (later_iff t).mp h
    rw [if_pos h, if_neg hl]
    unfold tailAt tail
    rw [shapeCast_shapeCast, Shift.last_rows, prod_read]
    show Proj.dot _ _ 0 (1024 * ((t.val - 8) / 8) + (1016 + (y 0).val)) (512 * ((t.val - 8) % 8) + (y 1).val) = _
    congr 1 <;> omega
  · rw [if_neg h, if_pos (by
      by_contra hl
      exact h ((later_iff t).mpr hl))]
    exact Proj.zero_f32

/-- The convolved product at an element. -/
theorem conv_read (c : Dev nD) (t : Fin cfg0.N) (y : S1024x512.Idx) :
    (conv (F := Ideal) (earlier m c t) (iblk m c 0 t) (iblk m c 1 t) (iblk m c 2 t) y : EReal)
      = Shift.taps4 (fun r => Proj.dot (feat m c) (wts m c) 0 r (512 * (t.val % 8) + (y 1).val))
          (fun s => Proj.rd (taps m c) s (512 * (t.val % 8) + (y 1).val)) (1024 * (t.val / 8) + (y 0).val) :=
  Shift.conv_read (fun r k => Proj.dot (feat m c) (wts m c) 0 r (512 * (t.val % 8) + k)) (t.val / 8) _ _ (prod_read m c t) (earlier_read m c t)
    _ (fun s k => Proj.rd (taps m c) s (512 * (t.val % 8) + k)) (tap_read m c t) _ _ _ _ _ y

/-- What a point leaves in the staged block of the result. -/
theorem out_read (c : Dev nD) (t : Fin cfg0.N) (y : S1024x512.Idx) :
    (outAt m c t y : EReal) = spec (feat m c) (wts m c) (taps m c) (bias m c) (1024 * (t.val / 8) + (y 0).val) (512 * (t.val % 8) + (y 1).val) := by
  unfold spec
  rw [← conv_read, show Proj.rd1 (bias m c) (512 * (t.val % 8) + (y 1).val)
      = (broadcastTo S1024x512 (iblk m c 3 t) broadcasts_S1x512_S1024x512 y : EReal) from by
        rw [Shift.spread]
        exact (bias_read m c t (ix2 (n0 := 1) (n1 := 512) 0 (y 1))).symm]
  rfl

/-- The result array: the specification read at a row and a column. -/
def result (c : Dev nD) : Buf (Elt Ideal) ((c : Thread nD τ).loc main_v2) :=
  fun i : S16384x4096.Idx => spec (feat m c) (wts m c) (taps m c) (bias m c) (i 0).val (i 1).val

/-- What a point writes back is its block of the result array. -/
theorem flushed_eq (c : Dev nD) (t : Fin cfg0.N) :
    (dats m 0 c).flushed 4 t = (win0_4.blk t).view.read (Elt Ideal) (result m c) := by
  show (cfg0.win 4).cut (grid0.coords t) ((dats m 0 c).after 4 t) = _
  rw [after4]
  obtain ⟨-, -, -, -, ⟨e0, e1⟩, -⟩ := corners t
  funext y
  refine (out_read m c t y).trans ?_
  show _ = spec _ _ _ _ (win0_4.index t 0 * win0_4.size 0 + 1 * (y 0).val) (win0_4.index t 1 * win0_4.size 1 + 1 * (y 1).val)
  rw [e0, e1, one_mul, one_mul]

/-- An index of the result array is in point `t`'s block. -/
theorem mem_blk (t : Fin cfg0.N) (i : S16384x4096.Idx) :
    i ∈ ((cfg0.win 4).blk t).view.set ↔ (1024 * (t.val / 8) ≤ (i 0).val ∧ (i 0).val < 1024 * (t.val / 8) + 1024)
      ∧ (512 * (t.val % 8) ≤ (i 1).val ∧ (i 1).val < 512 * (t.val % 8) + 512) := by
  show i ∈ ((View.whole main_v2).slice (win0_4.rect t)).set ↔ _
  rw [View.set_slice_whole]
  obtain ⟨-, -, -, -, ⟨e0, e1⟩, s0, s1⟩ := corners t
  exact Proj.mem_block _ _ _ i e0 e1 s0 s1

/-- The points' blocks tile the result array. -/
theorem cover (i : S16384x4096.Idx) : ∃ t : Fin cfg0.N, (cfg0.win 4).flush t = true ∧ i ∈ ((cfg0.win 4).blk t).view.set := by
  have h0 : (i 0).val < 16384 := (i 0).isLt
  have h1 : (i 1).val < 4096 := (i 1).isLt
  refine ⟨⟨8 * ((i 0).val / 1024) + (i 1).val / 512, show _ < 128 by omega⟩, flush0_4 _, ?_⟩
  rw [mem_blk]
  dsimp only
  omega

/-- The run, read: the result array holds the specification, the arguments are unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).trans ((dats m 0 c).arrAt_eq_of_cover 4 (result m c) (fun t _ => flushed_eq m c t) cover), h.2 c⟩)
    (θ_run_and ((θ_run defs _ _).mono (fun r h (c : Dev nD) => ((h c).1 4 : r.2.mem ((c : Thread nD τ).loc main_v2) = (dats m 0 c).arrAt 4 cfg0.N)) (run_main m ρ))
      (frame_of m ρ (dats m) (A_eq m) (run_main m ρ)))

end Cert.LruXIdeal.Lrux

end
-- ==== Proof.LruxClaim.lean ====
/-
  The claims about the projection to the linear recurrence's input: its frames and the equation with the
  reference.
-/
module

public import proofs.«01_k».proof.Defs
public import proofs.«01_k».proof.Proof.LruxCarry
public import proofs.«01_k».proof.Proof.LruxArray
public import proofs.«01_k».proof.Proof.Gen.LruXReferenceIdeal.Read

@[expose] public section

set_option maxRecDepth 16384

noncomputable section

namespace Cert.Lrux

open Idealize.ShloMosaic Idealize.ShloMosaic.TcCoe Idealize.SL.Sem

/-- The projection runs and leaves its arguments as they were. -/
theorem quiescent_LruX : Cert.quiescent_LruX := fun m ρ _ => Cert.LruX.Lrux.frame m ρ

/-- So does its idealization. -/
theorem quiescent_LruXIdeal : Cert.quiescent_LruXIdeal := fun m ρ _ => Cert.LruXIdeal.Lrux.frame m ρ

/-- So does the plain form; it has no semaphore. -/
theorem quiescent_LruXReferenceIdeal : Cert.quiescent_LruXReferenceIdeal := fun m ρ _ =>
  (θ_run Cert.LruXReferenceIdeal.defs _ _).mono (fun r h => ⟨fun c => (h c).2, sem_eq_zero_of_no_sems (by decide) r.2⟩)
    (Cert.LruXReferenceIdeal.Value.run (F := Ideal) m ρ)

section Reference

open Cert.LruXReferenceIdeal Cert.LruXReferenceIdeal.Read

variable (x0 : Proj.Mat 16384 4096) (x1 : Proj.Stack 1 4096 8192) (x2 : Proj.Mat 4 4096) (x3 : Proj.Row 4096)

/-- The reference's product at an element. -/
theorem product_at (i : S16384x8192.Idx) : (val_main_v2 (F := Ideal) x0 x1 i : EReal) = Proj.dot x0 x1 0 (i 0).val (i 1).val := by
  have hc : (i 1).val < 8192 := (i 1).isLt
  rw [val_main_v2_apply]
  unfold Proj.dot
  refine Finset.sum_congr rfl fun k _ => ?_
  have hk : k.val < 4096 := k.isLt
  rw [val_main_v0_apply, val_main_v1_apply]
  refine congrArg₂ (fun a b : EReal => a * b) ?_ ?_
  · exact Proj.rd_eq x0 _ _ _ rfl rfl
  · refine Proj.rd3_eq x1 _ _ _ _ rfl ?_ ?_
    · show (k.val * 8192 + (i 1).val) / 8192 % 4096 = k.val
      omega
    · show (k.val * 8192 + (i 1).val) % 8192 = (i 1).val
      omega

/-- The first half of the columns, by sequence. -/
theorem input_at (i : S2x8192x4096.Idx) : (val_main_v5 (F := Ideal) x0 x1 i : EReal) = Proj.dot x0 x1 0 (8192 * (i 0).val + (i 1).val) (i 2).val := by
  have h0 : (i 0).val < 2 := (i 0).isLt
  have h1 : (i 1).val < 8192 := (i 1).isLt
  have h2 : (i 2).val < 4096 := (i 2).isLt
  rw [val_main_v5_apply, val_main_v3_apply, product_at]
  show Proj.dot x0 x1 0 ((((i 0).val * 8192 + (i 1).val) * 4096 + (i 2).val) / 4096) ((((i 0).val * 8192 + (i 1).val) * 4096 + (i 2).val) % 4096) = _
  congr 1 <;> omega

/-- They with three zero rows before each sequence. -/
theorem padded_at (j : S2x8195x4096.Idx) (d s : ℕ) (hs : s < 8192) (hd : d ≤ 3) (hj : (j 1).val + d = s + 3) :
    (val_main_v6 (F := Ideal) x0 x1 j : EReal) = Proj.back (fun r => Proj.dot x0 x1 0 r (j 2).val) d (8192 * (j 0).val + s) := by
  unfold val_main_v6
  exact Proj.front_at (φ := .f32) _ _ _ _ (fun i => by
    show (((0#32 : BitVec 32).toInt : ℝ) : EReal) = 0
    simp) (fun r k => Proj.dot x0 x1 0 r k) (input_at x0 x1) j d s hs hd hj

/-- A tap of the convolution, spread over rows. -/
theorem tap0_at (i : S2x8192x4096.Idx) : (val_main_v11 (F := Ideal) x2 i : EReal) = Proj.rd x2 0 (i 2).val := by
  have h2 : (i 2).val < 4096 := (i 2).isLt
  rw [val_main_v11_apply, val_main_v10_apply, val_main_v9_apply, val_main_v8_apply]
  exact Proj.rd_eq x2 _ _ _ rfl (show (i 2).val % 4096 = (i 2).val by omega)

theorem tap1_at (i : S2x8192x4096.Idx) : (val_main_v19 (F := Ideal) x2 i : EReal) = Proj.rd x2 1 (i 2).val := by
  have h2 : (i 2).val < 4096 := (i 2).isLt
  rw [val_main_v19_apply, val_main_v18_apply, val_main_v17_apply, val_main_v16_apply]
  exact Proj.rd_eq x2 _ _ _ rfl (show (i 2).val % 4096 = (i 2).val by omega)

theorem tap2_at (i : S2x8192x4096.Idx) : (val_main_v26 (F := Ideal) x2 i : EReal) = Proj.rd x2 2 (i 2).val := by
  have h2 : (i 2).val < 4096 := (i 2).isLt
  rw [val_main_v26_apply, val_main_v25_apply, val_main_v24_apply, val_main_v23_apply]
  exact Proj.rd_eq x2 _ _ _ rfl (show (i 2).val % 4096 = (i 2).val by omega)

theorem tap3_at (i : S2x8192x4096.Idx) : (val_main_v33 (F := Ideal) x2 i : EReal) = Proj.rd x2 3 (i 2).val := by
  have h2 : (i 2).val < 4096 := (i 2).isLt
  rw [val_main_v33_apply, val_main_v32_apply, val_main_v31_apply, val_main_v30_apply]
  exact Proj.rd_eq x2 _ _ _ rfl (show (i 2).val % 4096 = (i 2).val by omega)

/-- The convolved columns of a sequence. -/
theorem conv_at (i : S2x8192x4096.Idx) : (val_main_v35 (F := Ideal) x0 x1 x2 i : EReal)
    = Shift.taps4 (fun r => Proj.dot x0 x1 0 r (i 2).val) (fun s => Proj.rd x2 s (i 2).val) (8192 * (i 0).val + (i 1).val) := by
  have h1 : (i 1).val < 8192 := (i 1).isLt
  have p3 := padded_at x0 x1 (idx_main_v7 i) 3 (i 1).val h1 (by omega) rfl
  have p2 := padded_at x0 x1 (idx_main_v15 i) 2 (i 1).val h1 (by omega) (show 1 + (i 1).val + 2 = (i 1).val + 3 by omega)
  have p1 := padded_at x0 x1 (idx_main_v22 i) 1 (i 1).val h1 (by omega) (show 2 + (i 1).val + 1 = (i 1).val + 3 by omega)
  have p0 := padded_at x0 x1 (idx_main_v29 i) 0 (i 1).val h1 (by omega) (show 3 + (i 1).val + 0 = (i 1).val + 3 by omega)
  rw [← val_main_v7_apply] at p3
  rw [← val_main_v15_apply] at p2
  rw [← val_main_v22_apply] at p1
  rw [← val_main_v29_apply] at p0
  rw [val_main_v35_apply, val_main_v28_apply, val_main_v21_apply, val_main_v14_apply, val_main_v12_apply, val_main_v20_apply, val_main_v27_apply,
    val_main_v34_apply, val_main_v13_apply, val_main_cst_apply, tap0_at, tap1_at, tap2_at, tap3_at, p0, p1, p2, p3]
  show ((Ideal.ofBits .f32 0x00000000#32 + _ * _) + _ * _ + _ * _) + _ * _ = (_ : EReal)
  rw [Proj.zero_f32, zero_add]
  exact Shift.last_first4 _ _ _ _

/-- The bias, spread over rows. -/
theorem bias_at (i : S2x8192x4096.Idx) : (val_main_v37 (F := Ideal) x3 i : EReal) = Proj.rd1 x3 (i 2).val := by
  rw [val_main_v37_apply, val_main_v36_apply]
  exact Proj.rd1_eq x3 _ _ rfl

/-- The reference at an element: the convolved column and the bias. -/
theorem reference_at (i : S16384x4096.Idx) :
    (val_main_v39 (F := Ideal) x0 x1 x2 x3 i : EReal) = Cert.LruXIdeal.Lrux.spec x0 x1 x2 x3 (i 0).val (i 1).val := by
  have h0 : (i 0).val < 16384 := (i 0).isLt
  have h1 : (i 1).val < 4096 := (i 1).isLt
  have e : 8192 * (idx_main_v39 i 0).val + (idx_main_v39 i 1).val = (i 0).val := by
    show 8192 * (((i 0).val * 4096 + (i 1).val) / 33554432) + ((i 0).val * 4096 + (i 1).val) / 4096 % 8192 = (i 0).val
    omega
  have e2 : (idx_main_v39 i 2).val = (i 1).val := by
    show ((i 0).val * 4096 + (i 1).val) % 4096 = (i 1).val
    omega
  have hc := conv_at x0 x1 x2 (idx_main_v39 i)
  have hb := bias_at x3 (idx_main_v39 i)
  rw [e, e2] at hc
  rw [e2] at hb
  rw [val_main_v39_apply, val_main_v38_apply, hc, hb]
  rfl

end Reference

/-- On the extended reals the projection computes the reference's result at every row and column. -/
theorem algebraic : Cert.algebraic_LruXIdeal_LruXReferenceIdeal := by
  intro m ρ m' ρ' _ hagree
  refine ⟨fun c => Cert.LruXIdeal.Lrux.result m c, Cert.LruXIdeal.Lrux.run m ρ, ?_⟩
  refine (θ_run Cert.LruXReferenceIdeal.defs _ _).mono (fun r h c => ⟨(h c).1.trans ?_, (h c).2⟩)
    (Cert.LruXReferenceIdeal.Value.run (F := Ideal) m' ρ')
  rw [Cert.LruXReferenceIdeal.Read.val_main_v39_eq, (hagree c).1, (hagree c).2.1, (hagree c).2.2.1, (hagree c).2.2.2]
  funext i
  exact reference_at _ _ _ _ i

end Cert.Lrux

end
-- ==== Proof.NormArray.lean ====
/-
  The layer norm: what a grid point stores, and from the points' blocks the two results.
-/
module

public import proofs.«01_k».proof.Proof.Taps
public import proofs.«01_k».proof.Proof.Gen.NormIdeal.Value
public import Idealize.ShloMosaic.Lib.Pipeline.ValueKit.Acc

@[expose] public section

set_option maxRecDepth 16384

noncomputable section

namespace Cert.NormIdeal.Norm

open Cert.NormIdeal Cert.NormIdeal.Gen Idealize.ShloMosaic Idealize.ShloMosaic.TcCoe Idealize.SL.Sem
open Idealize.ShloMosaic.Pipeline (Dat)
open Idealize.ShloMosaic.ValueIdx (ix2)

/-- The mean of a row of 4096 numbers. -/
def mean (f : ℕ → EReal) : EReal := Ideal.div (∑ k : Fin 4096, f k.val) (Ideal.ofBits .f32 0x45800000#32)

/-- An element of a normalized row: the distance from the mean over the root of its mean square and a small constant, times
    the gain, plus the bias. -/
def norm (f g b : ℕ → EReal) (k : ℕ) : EReal :=
  (f k - mean f) * Ideal.rsqrt (mean (fun k => (f k - mean f) * (f k - mean f)) + Ideal.ofBits .f32 0x3727C5AC#32) * g k + b k

section Block

variable (f : ℕ → ℕ → EReal) (R0 : ℕ)

/-- A block's column of row means. -/
def rowMean (v : FVec Ideal S256x4096 .f32) : FVec Ideal S256x1 .f32 :=
  divf (shapeCast S256x1 (multiReduction .add [1] S256 v 0x00000000#32 reduces_S256x4096_S256 (.inl rfl) rfl) shapeCasts_S256_S256x1)
    (broadcast S256x1 (Scalar.ofBits (F := Ideal) .f32 0x45800000#32))

/-- A block's row mean is the mean of that row. -/
theorem rowMean_at (v : FVec Ideal S256x4096 .f32) (hv : ∀ y, (v y : EReal) = f (R0 + (y 0).val) (y 1).val) (r : Fin 256) :
    (rowMean v (ix2 (n0 := 256) (n1 := 1) r 0) : EReal) = mean (f (R0 + r.val)) := by
  have e : (shapeCast S256x1 (multiReduction .add [1] S256 v 0x00000000#32 reduces_S256x4096_S256 (.inl rfl) rfl) shapeCasts_S256_S256x1 (ix2 (n0 := 256) (n1 := 1) r 0) : EReal)
      = ∑ k : Fin 4096, f (R0 + r.val) k.val := by
    refine (shapeCast_apply _ shapeCasts_S256_S256x1 (ix2 (n0 := 256) (n1 := 1) r 0) (fun a => match a with | ⟨0, _⟩ => r : S256.Idx) ?_).trans ?_
    · rw [Shape.rowMajor_val_one, Shape.rowMajor_val_two]
      show r.val = r.val * 1 + 0
      omega
    · refine (Ideal.multiReduction_add_single v _ reduces_S256x4096_S256 (.inl rfl) rfl _).trans ?_
      exact Finset.sum_congr rfl fun k _ => hv _
  unfold rowMean mean
  rw [← e]
  rfl

/-- A column spread over the block, at an element. -/
theorem spread_col (w : FVec Ideal S256x1 .f32) (y : S256x4096.Idx) :
    broadcastTo S256x4096 w broadcasts_S256x1_S256x4096 y = w (ix2 (n0 := 256) (n1 := 1) (y 0) 0) :=
  broadcastTo_apply w _ y _ fun a => match a with
    | ⟨0, _⟩ => rfl
    | ⟨1, _⟩ => rfl

/-- A row spread over the block, at an element. -/
theorem spread_row (w : FVec Ideal S1x4096 .f32) (y : S256x4096.Idx) :
    broadcastTo S256x4096 w broadcasts_S1x4096_S256x4096 y = w (ix2 (n0 := 1) (n1 := 4096) 0 (y 1)) :=
  broadcastTo_apply w _ y _ fun a => match a with
    | ⟨0, _⟩ => rfl
    | ⟨1, _⟩ => rfl

/-- A block less its row means. -/
def centred (v : FVec Ideal S256x4096 .f32) : FVec Ideal S256x4096 .f32 :=
  subf v (broadcastTo S256x4096 (rowMean v) broadcasts_S256x1_S256x4096)

theorem centred_at (v : FVec Ideal S256x4096 .f32) (hv : ∀ y, (v y : EReal) = f (R0 + (y 0).val) (y 1).val) (y : S256x4096.Idx) :
    (centred v y : EReal) = f (R0 + (y 0).val) (y 1).val - mean (f (R0 + (y 0).val)) := by
  rw [← rowMean_at f R0 v hv (y 0), ← hv, ← spread_col (rowMean v) y]
  rfl

/-- A block's column of scales: one over the root of the mean square distance and the small constant. -/
def scale (v : FVec Ideal S256x4096 .f32) : FVec Ideal S256x1 .f32 :=
  rsqrt (addf (rowMean (mulf (centred v) (centred v))) (broadcast S256x1 (Scalar.ofBits (F := Ideal) .f32 0x3727C5AC#32)))

theorem scale_at (v : FVec Ideal S256x4096 .f32) (hv : ∀ y, (v y : EReal) = f (R0 + (y 0).val) (y 1).val) (r : Fin 256) :
    (scale v (ix2 (n0 := 256) (n1 := 1) r 0) : EReal)
      = Ideal.rsqrt (mean (fun k => (f (R0 + r.val) k - mean (f (R0 + r.val))) * (f (R0 + r.val) k - mean (f (R0 + r.val))))
          + Ideal.ofBits .f32 0x3727C5AC#32) := by
  rw [← rowMean_at (fun r k => (f r k - mean (f r)) * (f r k - mean (f r))) R0 (mulf (centred v) (centred v))
    (fun y => by rw [← centred_at f R0 v hv]; rfl) r]
  rfl

/-- What a point stores, at an element: the normalized row. -/
theorem pay_at (v : FVec Ideal S256x4096 .f32) (hv : ∀ y, (v y : EReal) = f (R0 + (y 0).val) (y 1).val)
    (p q : FVec Ideal S1x4096 .f32) (g b : ℕ → EReal) (hp : ∀ y, (p y : EReal) = g (y 1).val) (hq : ∀ y, (q y : EReal) = b (y 1).val)
    (y : S256x4096.Idx) :
    (k0_pay1 (F := Ideal) v p q y : EReal) = norm (f (R0 + (y 0).val)) g b (y 1).val := by
  unfold norm
  rw [← scale_at f R0 v hv (y 0), ← spread_col (scale v) y, ← centred_at f R0 v hv, ← hp (ix2 (n0 := 1) (n1 := 4096) 0 (y 1)), ← hq (ix2 (n0 := 1) (n1 := 4096) 0 (y 1)),
    ← congrFun (shapeCast_self p shapeCasts_S1x4096_S1x4096) (ix2 (n0 := 1) (n1 := 4096) 0 (y 1)),
    ← congrFun (shapeCast_self q shapeCasts_S1x4096_S1x4096) (ix2 (n0 := 1) (n1 := 4096) 0 (y 1)),
    ← spread_row (shapeCast S1x4096 p shapeCasts_S1x4096_S1x4096) y, ← spread_row (shapeCast S1x4096 q shapeCasts_S1x4096_S1x4096) y]
  rfl

end Block

variable (m : (ℓ : Loc nD τ sig) → Buf (Elt Ideal) ℓ) (ρ : Dev nD → PrngReg)

/-- The rows to be normalized on device `c`. -/
abbrev feat (c : Dev nD) : Proj.Mat 16384 4096 := m ((c : Thread nD τ).loc main_arg0)

/-- The gain on device `c`. -/
abbrev gain (c : Dev nD) : Proj.Row 4096 := m ((c : Thread nD τ).loc main_arg1)

/-- The bias on device `c`. -/
abbrev bias (c : Dev nD) : Proj.Row 4096 := m ((c : Thread nD τ).loc main_arg2)

/-- An element of the result from the three arguments. -/
def spec (A : Proj.Mat 16384 4096) (g b : Proj.Row 4096) (r k : ℕ) : EReal := norm (Proj.rd A r) (Proj.rd1 g) (Proj.rd1 b) k

/-- The corner of each window's block in its array. -/
theorem corners : ∀ t : Fin grid0.N,
    (win0_0.index t 0 * win0_0.size 0 = 256 * t.val ∧ win0_0.index t 1 * win0_0.size 1 = 0)
    ∧ (win0_1.index t 0 * win0_1.size 0 = 0 ∧ win0_1.index t 1 * win0_1.size 1 = 0)
    ∧ (win0_2.index t 0 * win0_2.size 0 = 0 ∧ win0_2.index t 1 * win0_2.size 1 = 0)
    ∧ (win0_3.index t 0 * win0_3.size 0 = 256 * t.val ∧ win0_3.index t 1 * win0_3.size 1 = 0)
    ∧ (win0_4.index t 0 * win0_4.size 0 = 256 * t.val ∧ win0_4.index t 1 * win0_4.size 1 = 0)
    ∧ (win0_3.xsize (grid0.coords t) 0 = 256 ∧ win0_3.xsize (grid0.coords t) 1 = 4096)
    ∧ (win0_4.xsize (grid0.coords t) 0 = 256 ∧ win0_4.xsize (grid0.coords t) 1 = 4096) := by
  decide +kernel

/-- The gain the region finds is the argument's, as a row. -/
theorem gain_row (c : Dev nD) : (V m c main_v0 : Proj.Mat 1 4096) = shapeCast S1x4096 (gain m c) shapeCasts_S4096_S1x4096 := by
  show StableHlo.after hostOps0 (fun b => m (c, b)) main_v0 = _
  after_results
  rfl

/-- So is the bias. -/
theorem bias_row (c : Dev nD) : (V m c main_v1 : Proj.Mat 1 4096) = shapeCast S1x4096 (bias m c) shapeCasts_S4096_S1x4096 := by
  show StableHlo.after hostOps0 (fun b => m (c, b)) main_v1 = _
  after_results
  rfl

/-- A vector laid as a row, at an element. -/
theorem row_at (b : Proj.Row 4096) (i : S1x4096.Idx) : shapeCast S1x4096 b shapeCasts_S4096_S1x4096 i = Proj.rd1 b (i 1).val := by
  refine (shapeCast_apply b shapeCasts_S4096_S1x4096 i (fun a => match a with | ⟨0, _⟩ => i 1 : S4096.Idx) ?_).trans (Proj.rd1_eq b _ _ rfl)
  have h : (i 0).val < 1 := (i 0).isLt
  rw [Shape.rowMajor_val_one, Shape.rowMajor_val_two]
  show (i 1).val = (i 0).val * 4096 + (i 1).val
  omega

theorem x_read (c : Dev nD) (t : Fin cfg0.N) (y : S256x4096.Idx) :
    (iblk m c 0 t y : EReal) = Proj.rd (feat m c) (256 * t.val + (y 0).val) (y 1).val := by
  obtain ⟨⟨e0, e1⟩, -⟩ := corners t
  have h : (V m c main_arg0 : Proj.Mat 16384 4096) = feat m c := V_main_arg0 m c
  rw [← h]
  refine Proj.rd_eq (V m c main_arg0 : Proj.Mat 16384 4096) _ _ _ ?_ ?_
  · show win0_0.index t 0 * win0_0.size 0 + 1 * (y 0).val = _
    rw [e0, one_mul]
  · show win0_0.index t 1 * win0_0.size 1 + 1 * (y 1).val = _
    rw [e1, one_mul, Nat.zero_add]

theorem gain_read (c : Dev nD) (t : Fin cfg0.N) (y : S1x4096.Idx) : (iblk m c 1 t y : EReal) = Proj.rd1 (gain m c) (y 1).val := by
  obtain ⟨-, ⟨-, e1⟩, -⟩ := corners t
  show (V m c main_v0 : Proj.Mat 1 4096) ((win0_1.rect t).emb y) = _
  rw [gain_row, row_at]
  refine congrArg _ ?_
  show win0_1.index t 1 * win0_1.size 1 + 1 * (y 1).val = _
  rw [e1, one_mul, Nat.zero_add]

theorem bias_read (c : Dev nD) (t : Fin cfg0.N) (y : S1x4096.Idx) : (iblk m c 2 t y : EReal) = Proj.rd1 (bias m c) (y 1).val := by
  obtain ⟨-, -, ⟨-, e1⟩, -⟩ := corners t
  show (V m c main_v1 : Proj.Mat 1 4096) ((win0_2.rect t).emb y) = _
  rw [bias_row, row_at]
  refine congrArg _ ?_
  show win0_2.index t 1 * win0_2.size 1 + 1 * (y 1).val = _
  rw [e1, one_mul, Nat.zero_add]

/-- What a point leaves in the staged block of the first result. -/
theorem out_read (c : Dev nD) (t : Fin cfg0.N) (y : S256x4096.Idx) :
    (out0_3 (iblk m c 0 t) (iblk m c 1 t) (iblk m c 2 t) y : EReal) = spec (feat m c) (gain m c) (bias m c) (256 * t.val + (y 0).val) (y 1).val := by
  frame_out
  exact pay_at (Proj.rd (feat m c)) (256 * t.val) (iblk m c 0 t) (x_read m c t) (iblk m c 1 t) (iblk m c 2 t) _ _
    (gain_read m c t) (bias_read m c t) y

/-- And in the staged block of the second, rounded, which on the extended reals is the same. -/
theorem out_read' (c : Dev nD) (t : Fin cfg0.N) (y : S256x4096.Idx) :
    (out0_4 (iblk m c 0 t) (iblk m c 1 t) (iblk m c 2 t) y : EReal) = spec (feat m c) (gain m c) (bias m c) (256 * t.val + (y 0).val) (y 1).val := by
  frame_out
  exact pay_at (Proj.rd (feat m c)) (256 * t.val) (iblk m c 0 t) (x_read m c t) (iblk m c 1 t) (iblk m c 2 t) _ _
    (gain_read m c t) (bias_read m c t) y

/-- The first result: the specification read at a row and a column. -/
def result (c : Dev nD) : Buf (Elt Ideal) ((c : Thread nD τ).loc main_v2_0) :=
  fun i : S16384x4096.Idx => spec (feat m c) (gain m c) (bias m c) (i 0).val (i 1).val

/-- The second result, the same numbers. -/
def result' (c : Dev nD) : Buf (Elt Ideal) ((c : Thread nD τ).loc main_v2_1) :=
  fun i : S16384x4096.Idx => spec (feat m c) (gain m c) (bias m c) (i 0).val (i 1).val

/-- What a point writes back is its block of the first result. -/
theorem flushed_eq (c : Dev nD) (t : Fin cfg0.N) : (dats m 0 c).flushed 3 t = (win0_3.blk t).view.read (Elt Ideal) (result m c) := by
  rw [Value.flushed3 m c t]
  obtain ⟨-, -, -, ⟨e0, e1⟩, -⟩ := corners t
  funext y
  refine (out_read m c t y).trans ?_
  show _ = spec (feat m c) (gain m c) (bias m c) (win0_3.index t 0 * win0_3.size 0 + 1 * (y 0).val) (win0_3.index t 1 * win0_3.size 1 + 1 * (y 1).val)
  rw [e0, e1, one_mul, one_mul, Nat.zero_add]

/-- And its block of the second. -/
theorem flushed_eq' (c : Dev nD) (t : Fin cfg0.N) : (dats m 0 c).flushed 4 t = (win0_4.blk t).view.read (Elt Ideal) (result' m c) := by
  rw [Value.flushed4 m c t]
  obtain ⟨-, -, -, -, ⟨e0, e1⟩, -⟩ := corners t
  funext y
  refine (out_read' m c t y).trans ?_
  show _ = spec (feat m c) (gain m c) (bias m c) (win0_4.index t 0 * win0_4.size 0 + 1 * (y 0).val) (win0_4.index t 1 * win0_4.size 1 + 1 * (y 1).val)
  rw [e0, e1, one_mul, one_mul, Nat.zero_add]

/-- The elements of result 1 a point writes. -/
theorem mem_blk (t : Fin cfg0.N) (i : S16384x4096.Idx) :
    i ∈ ((cfg0.win 3).blk t).view.set ↔ (256 * t.val ≤ (i 0).val ∧ (i 0).val < 256 * t.val + 256)
      ∧ (0 ≤ (i 1).val ∧ (i 1).val < 0 + 4096) := by
  show i ∈ ((View.whole main_v2_0).slice (win0_3.rect t)).set ↔ _
  rw [View.set_slice_whole]
  obtain ⟨-, -, -, ⟨e0, e1⟩, -, ⟨s0, s1⟩, -⟩ := corners t
  exact Proj.mem_block _ _ _ i e0 e1 s0 s1

/-- The elements of result 2 a point writes. -/
theorem mem_blk' (t : Fin cfg0.N) (i : S16384x4096.Idx) :
    i ∈ ((cfg0.win 4).blk t).view.set ↔ (256 * t.val ≤ (i 0).val ∧ (i 0).val < 256 * t.val + 256)
      ∧ (0 ≤ (i 1).val ∧ (i 1).val < 0 + 4096) := by
  show i ∈ ((View.whole main_v2_1).slice (win0_4.rect t)).set ↔ _
  rw [View.set_slice_whole]
  obtain ⟨-, -, -, -, ⟨e0, e1⟩, -, s0, s1⟩ := corners t
  exact Proj.mem_block _ _ _ i e0 e1 s0 s1

/-- The points' blocks tile the first result. -/
theorem cover (i : S16384x4096.Idx) : ∃ t : Fin cfg0.N, (cfg0.win 3).flush t = true ∧ i ∈ ((cfg0.win 3).blk t).view.set := by
  have h0 : (i 0).val < 16384 := (i 0).isLt
  have h1 : (i 1).val < 4096 := (i 1).isLt
  refine ⟨⟨(i 0).val / 256, show _ < 64 by omega⟩, flush0_3 _, ?_⟩
  rw [mem_blk]
  dsimp only
  omega

/-- And the second. -/
theorem cover' (i : S16384x4096.Idx) : ∃ t : Fin cfg0.N, (cfg0.win 4).flush t = true ∧ i ∈ ((cfg0.win 4).blk t).view.set := by
  have h0 : (i 0).val < 16384 := (i 0).isLt
  have h1 : (i 1).val < 4096 := (i 1).isLt
  refine ⟨⟨(i 0).val / 256, show _ < 64 by omega⟩, flush0_4 _, ?_⟩
  rw [mem_blk']
  dsimp only
  omega

/-- The run, read: the result arrays hold the specification, the arguments are unchanged. -/
theorem run : θ_run defs (onTc (τ := τ) (main (F := Ideal))) ⟨m, fun _ => 0, ρ⟩ fun r => ∀ c : Dev nD,
      r.2.mem ((c : Thread nD τ).loc main_v2_0) = result m c
      ∧ r.2.mem ((c : Thread nD τ).loc main_v2_1) = result' m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans ((dats m 0 c).arrAt_eq_of_cover 3 (result m c) (fun t _ => flushed_eq m c t) cover),
    ((h c).2.1).trans ((dats m 0 c).arrAt_eq_of_cover 4 (result' m c) (fun t _ => flushed_eq' m c t) cover'), (h c).2.2⟩)
    (Value.run_blocks m ρ)

end Cert.NormIdeal.Norm

end
-- ==== Proof.NormClaim.lean ====
/-
  The claims about the layer norm: its frames and the equation with the reference.
-/
module

public import proofs.«01_k».proof.Defs
public import proofs.«01_k».proof.Proof.Gen.Norm.Frame
public import proofs.«01_k».proof.Proof.NormArray
public import proofs.«01_k».proof.Proof.Gen.NormReferenceIdeal.Read

@[expose] public section

set_option maxRecDepth 16384

noncomputable section

namespace Cert.Norm

open Idealize.ShloMosaic Idealize.ShloMosaic.TcCoe Idealize.SL.Sem
open Cert.NormIdeal.Norm (mean spec)

/-- The layer norm runs and leaves its arguments as they were. -/
theorem quiescent_Norm : Cert.quiescent_Norm := fun m ρ _ => Cert.Norm.Gen.frame m ρ

/-- So does its idealization. -/
theorem quiescent_NormIdeal : Cert.quiescent_NormIdeal := fun m ρ _ => Cert.NormIdeal.Gen.frame m ρ

/-- So does the plain norm; it has no semaphore. -/
theorem quiescent_NormReferenceIdeal : Cert.quiescent_NormReferenceIdeal := fun m ρ _ =>
  (θ_run Cert.NormReferenceIdeal.defs _ _).mono (fun r h => ⟨fun c => (h c).2.2, sem_eq_zero_of_no_sems (by decide) r.2⟩)
    (Cert.NormReferenceIdeal.Value.run (F := Ideal) m ρ)

section Reference

open Cert.NormReferenceIdeal Cert.NormReferenceIdeal.Read

variable (x0 : Proj.Mat 16384 4096) (x1 x2 : Proj.Row 4096)

/-- The reference's mean of a row. -/
theorem mean_at (i : S16384x1.Idx) : (val_main_v3 (F := Ideal) x0 i : EReal) = mean (Proj.rd x0 (i 0).val) := by
  rw [val_main_v3_apply, val_main_v1_apply, val_main_v0_apply, val_main_v2_apply, val_main_cst_0_apply, val_main_cst_apply]
  unfold mean
  rw [show (FloatOps.ofBits (F := Ideal) .f32 0x00000000#32 : EReal) = 0 from Ideal.ofBits_zero_f32, zero_add]
  rw [show (∑ k : Fin 4096, Proj.rd x0 (i 0).val k.val) = ∑ k : Fin 4096, x0 (idx_main_v0 (idx_main_v1 i) k) from
    Finset.sum_congr rfl fun k _ => (Proj.rd_eq x0 (i 0).val k.val (idx_main_v0 (idx_main_v1 i) k) rfl rfl).symm]
  rfl

/-- Its distance from the mean. -/
theorem centred_at (i : S16384x4096.Idx) :
    (val_main_v5 (F := Ideal) x0 i : EReal) = Proj.rd x0 (i 0).val (i 1).val - mean (Proj.rd x0 (i 0).val) := by
  rw [val_main_v5_apply, val_main_v4_apply, ← Proj.rd_eq x0 _ _ i rfl rfl]
  exact congrArg (fun a : EReal => x0 i - a) (mean_at x0 (idx_main_v4 i))

/-- Its mean square distance. -/
theorem square_at (i : S16384x1.Idx) : (val_main_v10 (F := Ideal) x0 i : EReal)
    = mean (fun k => (Proj.rd x0 (i 0).val k - mean (Proj.rd x0 (i 0).val)) * (Proj.rd x0 (i 0).val k - mean (Proj.rd x0 (i 0).val))) := by
  rw [val_main_v10_apply, val_main_v8_apply, val_main_v7_apply, val_main_v9_apply, val_main_cst_2_apply, val_main_cst_1_apply,
    show (FloatOps.ofBits (F := Ideal) .f32 0x00000000#32 : EReal) = 0 from Ideal.ofBits_zero_f32, zero_add]
  generalize hs : (∑ k : Fin 4096, (val_main_v6 (F := Ideal) x0 (idx_main_v7 (idx_main_v8 i) k) : EReal)) = s
  have e : s = ∑ k : Fin 4096, (Proj.rd x0 (i 0).val k.val - mean (Proj.rd x0 (i 0).val)) * (Proj.rd x0 (i 0).val k.val - mean (Proj.rd x0 (i 0).val)) := by
    rw [← hs]
    refine Finset.sum_congr rfl fun k _ => ?_
    rw [val_main_v6_apply]
    have h := centred_at x0 (idx_main_v7 (idx_main_v8 i) k)
    exact congrArg₂ (fun a b : EReal => a * b) h h
  rw [e]
  rfl

/-- The reference at an element: the normalized row. -/
theorem reference_at (i : S16384x4096.Idx) : (val_main_v23 (F := Ideal) x0 x1 x2 i : EReal) = spec x0 x1 x2 (i 0).val (i 1).val := by
  rw [val_main_v23_apply, val_main_v20_apply, val_main_v17_apply, val_main_v12_apply, val_main_v11_apply, val_main_v16_apply, val_main_v15_apply,
    val_main_v14_apply, val_main_v13_apply, val_main_cst_3_apply, val_main_v19_apply, val_main_v18_apply, val_main_v22_apply, val_main_v21_apply]
  unfold spec NormIdeal.Norm.norm
  rw [← Proj.rd_eq x0 _ _ i rfl rfl, ← Proj.rd1_eq x1 (i 1).val (idx_main_v18 (idx_main_v19 i)) rfl,
    ← Proj.rd1_eq x2 (i 1).val (idx_main_v21 (idx_main_v22 i)) rfl]
  have h := mean_at x0 (idx_main_v11 i)
  have hs := square_at x0 (idx_main_v16 i)
  generalize (val_main_v3 (F := Ideal) x0 (idx_main_v11 i) : EReal) = a at h ⊢
  generalize (val_main_v10 (F := Ideal) x0 (idx_main_v16 i) : EReal) = b at hs ⊢
  rw [h, hs]
  rfl

end Reference

/-- On the extended reals the layer norm computes the reference's two results at every row and column. -/
theorem algebraic : Cert.algebraic_NormIdeal_NormReferenceIdeal := by
  intro m ρ m' ρ' _ hagree
  refine ⟨fun c => Cert.NormIdeal.Norm.result m c, fun c => Cert.NormIdeal.Norm.result' m c, Cert.NormIdeal.Norm.run m ρ, ?_⟩
  refine (θ_run Cert.NormReferenceIdeal.defs _ _).mono (fun r h c => ⟨(h c).1.trans ?_, (h c).2.1.trans ?_, (h c).2.2⟩)
    (Cert.NormReferenceIdeal.Value.run (F := Ideal) m' ρ')
  · rw [Cert.NormReferenceIdeal.Read.val_main_v23_eq, (hagree c).1, (hagree c).2.1, (hagree c).2.2]
    funext i
    exact reference_at _ _ _ i
  · rw [Cert.NormReferenceIdeal.Read.val_main_v24_eq, (hagree c).1, (hagree c).2.1, (hagree c).2.2]
    funext i
    exact reference_at _ _ _ i

end Cert.Norm

end
-- ==== Proof.PairArray.lean ====
/-
  The pairing of the feed-forward weights: what a grid point stores, and from the points' blocks the whole result.
-/
module

public import proofs.«01_k».proof.Proof.Taps
public import proofs.«01_k».proof.Proof.Gen.PairIdeal.Value
public import Idealize.ShloMosaic.Lib.Pipeline.ValueKit.Tiles

@[expose] public section

set_option maxRecDepth 16384

noncomputable section

namespace Cert.PairIdeal.Pair

open Cert.PairIdeal Cert.PairIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The four layers' weights on device `c`. -/
abbrev wts (c : Dev nD) : Proj.Stack 4 4096 22016 := m ((c : Thread nD τ).loc main_arg0)

/-- The column of the weights that column `k` of the result holds: the result's columns come in blocks of 512, the first half of
    a block a tile of the gate columns, the second half the same tile of the up columns. -/
def source (k : ℕ) : ℕ := 11008 * (k / 256 % 2) + 256 * (k / 512) + k % 256

/-- An element of the result. -/
def spec (W : Proj.Stack 4 4096 22016) (g r k : ℕ) : EReal := Proj.rd3 W g r (source k)

/-- The corner of each window's block in its array. -/
theorem corners : ∀ t : Fin grid0.N,
    (win0_0.index t 0 * win0_0.size 0 = t.val / 43 ∧ win0_0.index t 1 * win0_0.size 1 = 0 ∧ win0_0.index t 2 * win0_0.size 2 = 256 * (t.val % 43))
    ∧ (win0_1.index t 0 * win0_1.size 0 = t.val / 43 ∧ win0_1.index t 1 * win0_1.size 1 = 0
      ∧ win0_1.index t 2 * win0_1.size 2 = 11008 + 256 * (t.val % 43))
    ∧ (win0_2.index t 0 * win0_2.size 0 = t.val / 43 ∧ win0_2.index t 1 * win0_2.size 1 = 0 ∧ win0_2.index t 2 * win0_2.size 2 = 512 * (t.val % 43))
    ∧ win0_2.xsize (grid0.coords t) 0 = 1 ∧ win0_2.xsize (grid0.coords t) 1 = 4096 ∧ win0_2.xsize (grid0.coords t) 2 = 512 := by
  decide +kernel

theorem gate_read (c : Dev nD) (t : Fin cfg0.N) (y : S1x4096x256.Idx) :
    (iblk m c 0 t y : EReal) = Proj.rd3 (wts m c) (t.val / 43) (y 1).val (256 * (t.val % 43) + (y 2).val) := by
  obtain ⟨⟨e0, e1, e2⟩, -⟩ := corners t
  have h : (V m c main_arg0 : Proj.Stack 4 4096 22016) = wts m c := V_main_arg0 m c
  have h0 : (y 0).val < 1 := (y 0).isLt
  rw [← h]
  refine Proj.rd3_eq (V m c main_arg0 : Proj.Stack 4 4096 22016) _ _ _ _ ?_ ?_ ?_
  · show win0_0.index t 0 * win0_0.size 0 + 1 * (y 0).val = _
    omega
  · show win0_0.index t 1 * win0_0.size 1 + 1 * (y 1).val = _
    omega
  · show win0_0.index t 2 * win0_0.size 2 + 1 * (y 2).val = _
    omega

theorem up_read (c : Dev nD) (t : Fin cfg0.N) (y : S1x4096x256.Idx) :
    (iblk m c 1 t y : EReal) = Proj.rd3 (wts m c) (t.val / 43) (y 1).val (11008 + 256 * (t.val % 43) + (y 2).val) := by
  obtain ⟨-, ⟨e0, e1, e2⟩, -⟩ := corners t
  have h : (V m c main_arg0 : Proj.Stack 4 4096 22016) = wts m c := V_main_arg0 m c
  have h0 : (y 0).val < 1 := (y 0).isLt
  rw [← h]
  refine Proj.rd3_eq (V m c main_arg0 : Proj.Stack 4 4096 22016) _ _ _ _ ?_ ?_ ?_
  · show win0_1.index t 0 * win0_1.size 0 + 1 * (y 0).val = _
    omega
  · show win0_1.index t 1 * win0_1.size 1 + 1 * (y 1).val = _
    omega
  · show win0_1.index t 2 * win0_1.size 2 + 1 * (y 2).val = _
    omega

/-- Dropping the layer axis of a tile and putting it back changes nothing. -/
theorem there_and_back {α : Type} (v : S1x4096x256.Idx → α) (x : S1x4096x256.Idx) :
    shapeCast S1x4096x256 (shapeCast S4096x256 v shapeCasts_S1x4096x256_S4096x256) shapeCasts_S4096x256_S1x4096x256 x = v x := by
  have h0 : (x 0).val < 1 := (x 0).isLt
  refine (shapeCast_apply _ shapeCasts_S4096x256_S1x4096x256 x (fun a => match a with | ⟨0, _⟩ => x 1 | ⟨1, _⟩ => x 2 : S4096x256.Idx) ?_).trans
    (shapeCast_apply v shapeCasts_S1x4096x256_S4096x256 _ x ?_)
  · rw [Shape.rowMajor_val_two, Shape.rowMajor_val_three]
    show (x 1).val * 256 + (x 2).val = ((x 0).val * 4096 + (x 1).val) * 256 + (x 2).val
    omega
  · rw [Shape.rowMajor_val_two, Shape.rowMajor_val_three]
    show ((x 0).val * 4096 + (x 1).val) * 256 + (x 2).val = (x 1).val * 256 + (x 2).val
    omega

/-- A tile loaded whole is the tile. -/
theorem load_whole (v : Vec Ideal S1x4096x256 .f32) (x : S1x4096x256.Idx) : View.ld (Val := Elt Ideal) (e' := .f32) v r0_0 x = v x :=
  View.ld_unit_apply_of v ![0, 0, 0] S1x4096x256.size _ x x fun a => match a with
    | ⟨0, _⟩ => (Nat.zero_add _).symm
    | ⟨1, _⟩ => (Nat.zero_add _).symm
    | ⟨2, _⟩ => (Nat.zero_add _).symm

/-- What a point leaves in the staged result block. -/
theorem out_read (c : Dev nD) (t : Fin cfg0.N) (y : S1x4096x512.Idx) :
    (out0_2 (iblk m c 0 t) (iblk m c 1 t) y : EReal) = spec (wts m c) (t.val / 43) (y 1).val (512 * (t.val % 43) + (y 2).val) := by
  canon_tiles x h
  · refine (there_and_back (View.ld (iblk m c 1 t) r0_0) x).trans ((load_whole (iblk m c 1 t) x).trans ((up_read m c t x).trans ?_))
    unfold spec source
    congr 1 <;> omega
  · refine (there_and_back (View.ld (iblk m c 0 t) r0_0) x).trans ((load_whole (iblk m c 0 t) x).trans ((gate_read m c t x).trans ?_))
    unfold spec source
    congr 1 <;> omega

/-- The array of the result: the specification read at a layer, a row and a column. -/
def result (c : Dev nD) : Buf (Elt Ideal) ((c : Thread nD τ).loc main_v0) :=
  fun i : S4x4096x22016.Idx => spec (wts m c) (i 0).val (i 1).val (i 2).val

/-- What a point writes back is its block of the result. -/
theorem flushed_eq (c : Dev nD) (t : Fin cfg0.N) : (dats m 0 c).flushed 2 t = (win0_2.blk t).view.read (Elt Ideal) (result m c) := by
  rw [Value.flushed2 m c t]
  obtain ⟨-, -, ⟨e0, e1, e2⟩, -⟩ := corners t
  funext y
  have h0 : (y 0).val < 1 := (y 0).isLt
  refine (out_read m c t y).trans ?_
  show _ = spec (wts m c) (win0_2.index t 0 * win0_2.size 0 + 1 * (y 0).val) (win0_2.index t 1 * win0_2.size 1 + 1 * (y 1).val)
    (win0_2.index t 2 * win0_2.size 2 + 1 * (y 2).val)
  congr 1 <;> omega

/-- The elements of the result a point writes. -/
theorem mem_blk (t : Fin cfg0.N) (i : S4x4096x22016.Idx) (h0 : (i 0).val = t.val / 43)
    (h2 : 512 * (t.val % 43) ≤ (i 2).val ∧ (i 2).val < 512 * (t.val % 43) + 512) : i ∈ ((cfg0.win 2).blk t).view.set := by
  show i ∈ ((View.whole main_v0).slice (win0_2.rect t)).set
  rw [View.set_slice_whole]
  obtain ⟨-, -, ⟨e0, e1, e2⟩, s0, s1, s2⟩ := corners t
  have h1 : (i 1).val < 4096 := (i 1).isLt
  refine Rect.mem_set_unit.mpr fun a => ?_
  match a with
  | ⟨0, _⟩ =>
    show win0_2.index t 0 * win0_2.size 0 ≤ (i 0).val ∧ (i 0).val < win0_2.index t 0 * win0_2.size 0 + win0_2.xsize (grid0.coords t) 0
    omega
  | ⟨1, _⟩ =>
    show win0_2.index t 1 * win0_2.size 1 ≤ (i 1).val ∧ (i 1).val < win0_2.index t 1 * win0_2.size 1 + win0_2.xsize (grid0.coords t) 1
    omega
  | ⟨2, _⟩ =>
    show win0_2.index t 2 * win0_2.size 2 ≤ (i 2).val ∧ (i 2).val < win0_2.index t 2 * win0_2.size 2 + win0_2.xsize (grid0.coords t) 2
    omega

/-- The points' blocks tile the result array. -/
theorem cover (i : S4x4096x22016.Idx) : ∃ t : Fin cfg0.N, (cfg0.win 2).flush t = true ∧ i ∈ ((cfg0.win 2).blk t).view.set := by
  have h0 : (i 0).val < 4 := (i 0).isLt
  have h2 : (i 2).val < 22016 := (i 2).isLt
  refine ⟨⟨43 * (i 0).val + (i 2).val / 512, show _ < 172 by omega⟩, flush0_2 _, mem_blk _ i ?_ ?_⟩
  · dsimp only
    omega
  · dsimp only
    omega

/-- The run, read: the result array holds the specification, the weights are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun _ h c => ⟨((h c).1).trans
    ((dats m 0 c).arrAt_eq_of_cover 2 (result m c) (fun t _ => flushed_eq m c t) cover), (h c).2⟩) (Value.run_blocks m ρ)

end Cert.PairIdeal.Pair

end
-- ==== Proof.PairClaim.lean ====
/-
  The claims about the pairing of the feed-forward weights: its frames and the equation with the reference.
-/
module

public import proofs.«01_k».proof.Defs
public import proofs.«01_k».proof.Proof.Gen.Pair.Frame
public import proofs.«01_k».proof.Proof.PairArray
public import proofs.«01_k».proof.Proof.Gen.PairReferenceIdeal.Read

@[expose] public section

set_option maxRecDepth 16384

noncomputable section

namespace Cert.Pair

open Idealize.ShloMosaic Idealize.ShloMosaic.TcCoe Idealize.SL.Sem
open Cert.PairIdeal.Pair (source spec)

/-- The pairing runs and leaves the weights as they were. -/
theorem quiescent_Pair : Cert.quiescent_Pair := fun m ρ _ => Cert.Pair.Gen.frame m ρ

/-- So does its idealization. -/
theorem quiescent_PairIdeal : Cert.quiescent_PairIdeal := fun m ρ _ => Cert.PairIdeal.Gen.frame m ρ

/-- So does the plain reordering; it has no semaphore. -/
theorem quiescent_PairReferenceIdeal : Cert.quiescent_PairReferenceIdeal := fun m ρ _ =>
  (θ_run Cert.PairReferenceIdeal.defs _ _).mono (fun r h => ⟨fun c => (h c).2, sem_eq_zero_of_no_sems (by decide) r.2⟩)
    (Cert.PairReferenceIdeal.Value.run (F := Ideal) m ρ)

section Reference

open Cert.PairReferenceIdeal Cert.PairReferenceIdeal.Read

variable (x0 : Proj.Stack 4 4096 22016)

/-- The reference's gate columns in tiles, at an element. -/
theorem gate_at (i : S4x4096x43x1x256.Idx) :
    (val_main_v4 (F := Ideal) x0 i : EReal) = Proj.rd3 x0 (i 0).val (i 1).val (256 * (i 2).val + (i 4).val) := by
  rw [val_main_v4_apply, val_main_v2_apply, val_main_v0_apply]
  have h0 : (i 0).val < 4 := (i 0).isLt
  have h1 : (i 1).val < 4096 := (i 1).isLt
  have h2 : (i 2).val < 43 := (i 2).isLt
  have h4 : (i 4).val < 256 := (i 4).isLt
  refine Proj.rd3_eq x0 _ _ _ _ ?_ ?_ ?_
  · show ((((i 0).val * 4096 + (i 1).val) * 43 + (i 2).val) * 256 + (i 4).val) / 45088768 = (i 0).val
    omega
  · show ((((i 0).val * 4096 + (i 1).val) * 43 + (i 2).val) * 256 + (i 4).val) / 11008 % 4096 = (i 1).val
    omega
  · show ((((i 0).val * 4096 + (i 1).val) * 43 + (i 2).val) * 256 + (i 4).val) % 11008 = _
    omega

/-- The reference's up columns in tiles, at an element. -/
theorem up_at (i : S4x4096x43x1x256.Idx) :
    (val_main_v5 (F := Ideal) x0 i : EReal) = Proj.rd3 x0 (i 0).val (i 1).val (11008 + 256 * (i 2).val + (i 4).val) := by
  rw [val_main_v5_apply, val_main_v3_apply, val_main_v1_apply]
  have h0 : (i 0).val < 4 := (i 0).isLt
  have h1 : (i 1).val < 4096 := (i 1).isLt
  have h2 : (i 2).val < 43 := (i 2).isLt
  have h4 : (i 4).val < 256 := (i 4).isLt
  refine Proj.rd3_eq x0 _ _ _ _ ?_ ?_ ?_
  · show ((((i 0).val * 4096 + (i 1).val) * 43 + (i 2).val) * 256 + (i 4).val) / 45088768 = (i 0).val
    omega
  · show ((((i 0).val * 4096 + (i 1).val) * 43 + (i 2).val) * 256 + (i 4).val) / 11008 % 4096 = (i 1).val
    omega
  · show 11008 + ((((i 0).val * 4096 + (i 1).val) * 43 + (i 2).val) * 256 + (i 4).val) % 11008 = _
    omega

/-- The tiles laid side by side, at an element. -/
theorem both_at (j : S4x4096x43x2x256.Idx) : (val_main_v6 (F := Ideal) x0 j : EReal)
    = Proj.rd3 x0 (j 0).val (j 1).val (11008 * (j 3).val + 256 * (j 2).val + (j 4).val) := by
  have h3 : (j 3).val < 2 := (j 3).isLt
  unfold val_main_v6
  rcases (by omega : (j 3).val = 0 ∨ (j 3).val = 1) with e | e
  · refine (concatenate_pair_apply_left (t := S4x4096x43x2x256) (s₁ := S4x4096x43x1x256) (s₂ := S4x4096x43x1x256) 3 (val_main_v4 (F := Ideal) x0) (val_main_v5 (F := Ideal) x0) _ j rfl (fun a => match a with
      | ⟨0, _⟩ => j 0 | ⟨1, _⟩ => j 1 | ⟨2, _⟩ => j 2 | ⟨3, _⟩ => (0 : Fin 1) | ⟨4, _⟩ => j 4 : S4x4096x43x1x256.Idx) fun a => match a with
      | ⟨0, _⟩ => rfl | ⟨1, _⟩ => rfl | ⟨2, _⟩ => rfl | ⟨3, _⟩ => e.symm | ⟨4, _⟩ => rfl).trans ((gate_at x0 _).trans ?_)
    rw [e, Nat.mul_zero, Nat.zero_add]
  · refine (concatenate_pair_apply_right (t := S4x4096x43x2x256) (s₁ := S4x4096x43x1x256) (s₂ := S4x4096x43x1x256) 3 (val_main_v4 (F := Ideal) x0) (val_main_v5 (F := Ideal) x0) _ j rfl rfl (fun a => match a with
      | ⟨0, _⟩ => j 0 | ⟨1, _⟩ => j 1 | ⟨2, _⟩ => j 2 | ⟨3, _⟩ => (0 : Fin 1) | ⟨4, _⟩ => j 4 : S4x4096x43x1x256.Idx) (fun a => match a with
      | ⟨0, _⟩ => fun _ => rfl | ⟨1, _⟩ => fun _ => rfl | ⟨2, _⟩ => fun _ => rfl | ⟨3, _⟩ => fun h => absurd rfl h | ⟨4, _⟩ => fun _ => rfl)
      e.symm).trans ((up_at x0 _).trans ?_)
    rw [e, Nat.mul_one]

/-- Which element of the tiles the flattening reads. -/
theorem flat_idx (i : S4x4096x22016.Idx) : (idx_main_v7 i 0).val = (i 0).val ∧ (idx_main_v7 i 1).val = (i 1).val
    ∧ 11008 * (idx_main_v7 i 3).val + 256 * (idx_main_v7 i 2).val + (idx_main_v7 i 4).val = source (i 2).val := by
  have h0 : (i 0).val < 4 := (i 0).isLt
  have h1 : (i 1).val < 4096 := (i 1).isLt
  have h2 : (i 2).val < 22016 := (i 2).isLt
  refine ⟨?_, ?_, ?_⟩
  · show (((i 0).val * 4096 + (i 1).val) * 22016 + (i 2).val) / 90177536 = (i 0).val
    omega
  · show (((i 0).val * 4096 + (i 1).val) * 22016 + (i 2).val) / 22016 % 4096 = (i 1).val
    omega
  · show 11008 * ((((i 0).val * 4096 + (i 1).val) * 22016 + (i 2).val) / 256 % 2)
      + 256 * ((((i 0).val * 4096 + (i 1).val) * 22016 + (i 2).val) / 512 % 43) + (((i 0).val * 4096 + (i 1).val) * 22016 + (i 2).val) % 256
      = 11008 * ((i 2).val / 256 % 2) + 256 * ((i 2).val / 512) + (i 2).val % 256
    omega

/-- The reference before its rounding, at an element. -/
theorem flat_at (i : S4x4096x22016.Idx) : (val_main_v7 (F := Ideal) x0 i : EReal) = spec x0 (i 0).val (i 1).val (i 2).val := by
  obtain ⟨e0, e1, e2⟩ := flat_idx i
  rw [val_main_v7_apply, both_at, e0, e1, e2]
  rfl

/-- The reference at an element: the weight the specification names. -/
theorem reference_at (i : S4x4096x22016.Idx) : (val_main_v8 (F := Ideal) x0 i : EReal) = spec x0 (i 0).val (i 1).val (i 2).val := by
  rw [val_main_v8_apply]
  exact flat_at x0 i

end Reference

/-- On the extended reals the pairing computes the reference's result at every layer, row and column. -/
theorem algebraic : Cert.algebraic_PairIdeal_PairReferenceIdeal := by
  intro m ρ m' ρ' _ hagree
  refine ⟨fun c => Cert.PairIdeal.Pair.result m c, Cert.PairIdeal.Pair.run m ρ, ?_⟩
  refine (θ_run Cert.PairReferenceIdeal.defs _ _).mono (fun r h c => ⟨(h c).1.trans ?_, (h c).2⟩)
    (Cert.PairReferenceIdeal.Value.run (F := Ideal) m' ρ')
  rw [Cert.PairReferenceIdeal.Read.val_main_v8_eq, hagree c]
  funext i
  exact reference_at _ i

end Cert.Pair

end
-- ==== Proof.BgScan.lean ====
/-
  The running sums of the gates. A block's rows fall into groups of 64; a row's running sum is built by doubling: the sum
  of the last 2s rows of its group is that of the last s plus, where there are as many rows before it, that of the s before.
-/
module

public import proofs.«01_k».proof.Proof.SbRef
public import proofs.«01_k».proof.Proof.Gen.GdnGatesIdeal.Skeleton
public import Idealize.ShloMosaic.Lib.KernelVsHost
public import Idealize.ShloMosaic.Lib.WordCmp
public import Idealize.ShloMosaic.Lib.Pipeline.Value

@[expose] public section

set_option maxRecDepth 16384

noncomputable section

namespace Cert.GdnGatesIdeal.Bg

open Cert.GdnGatesIdeal Cert.GdnGatesIdeal.Gen Idealize.ShloMosaic Idealize.ShloMosaic.TcCoe Finset
open Idealize.ShloMosaic.ValueIdx (ix2)

/-- The sum of the last `s` rows up to row `r`, those of its group only. -/
def up (s : ℕ) (g : ℕ → EReal) (r : ℕ) : EReal := ∑ j ∈ range s, if j ≤ r % 64 then g (r - j) else 0

/-- The sum of the next `s` rows from row `r` on, those of its group only. -/
def down (s : ℕ) (g : ℕ → EReal) (r : ℕ) : EReal := ∑ j ∈ range s, if r % 64 + j < 64 then g (r + j) else 0

theorem up_one (g : ℕ → EReal) (r : ℕ) : up 1 g r = g r := by simp [up]

theorem down_one (g : ℕ → EReal) (r : ℕ) : down 1 g r = g r := by
  have : r % 64 < 64 := Nat.mod_lt _ (by norm_num)
  simp [down, this]

/-- Twice as many rows back. -/
theorem up_double (s : ℕ) (g : ℕ → EReal) (r : ℕ) : up (s + s) g r = up s g r + if s ≤ r % 64 then up s g (r - s) else 0 := by
  unfold up
  rw [sum_range_add]
  refine congrArg _ ?_
  split_ifs with h
  · refine sum_congr rfl fun j _ => ?_
    rw [show (r - s) % 64 = r % 64 - s by omega, show r - (s + j) = r - s - j by omega]
    exact if_congr (by omega) rfl rfl
  · exact sum_eq_zero fun j _ => if_neg (by omega)

/-- Twice as many rows on. -/
theorem down_double (s : ℕ) (g : ℕ → EReal) (r : ℕ) : down (s + s) g r = down s g r + if r % 64 < 64 - s then down s g (r + s) else 0 := by
  unfold down
  rw [sum_range_add]
  refine congrArg _ ?_
  split_ifs with h
  · refine sum_congr rfl fun j _ => ?_
    rw [show (r + s) % 64 = r % 64 + s by omega, show r + (s + j) = r + s + j by omega]
    exact if_congr (by omega) rfl rfl
  · exact sum_eq_zero fun j _ => if_neg (by omega)

/-- All 64 rows back: the group from its first row to this one. -/
theorem up_all (g : ℕ → EReal) (r : ℕ) : up 64 g r = ∑ k ∈ range (r % 64 + 1), g (64 * (r / 64) + k) := by
  unfold up
  rw [← sum_filter, show (range 64).filter (fun j => j ≤ r % 64) = range (r % 64 + 1) by
    ext j; simp only [mem_filter, mem_range]; omega, ← sum_range_reflect]
  refine sum_congr rfl fun j hj => ?_
  rw [mem_range] at hj
  exact congrArg g (by omega)

/-- All 64 rows on: the group from this row to its last. -/
theorem down_all (g : ℕ → EReal) (r : ℕ) : down 64 g r = ∑ k ∈ Ico (r % 64) 64, g (64 * (r / 64) + k) := by
  unfold down
  rw [← sum_filter, sum_Ico_eq_sum_range, show (range 64).filter (fun j => r % 64 + j < 64) = range (64 - r % 64) by
    ext j; simp only [mem_filter, mem_range]; omega]
  refine sum_congr rfl fun j hj => ?_
  rw [mem_range] at hj
  exact congrArg g (by omega)

/-- A block of rows. -/
abbrev Block := FVec Ideal S512x128 .f32

/-- The remainder by 64 as the body's words compute it: the sign of a negative remainder put right. -/
def place (x : BitVec 32) : BitVec 32 :=
  let n : BitVec 32 := Scalar.select (Scalar.cmpi .eq 64#32 0#32) 1#32 64#32
  let q : BitVec 32 := IntOp.remsi .vector x n
  Scalar.select (IntOp.andi (IntOp.xori (IntOp.cmpi .slt q 0#32) (Scalar.cmpi .slt n 0#32)) (IntOp.cmpi .ne q 0#32)) (IntOp.addi q n) q

theorem place_eq : ∀ r : Fin 512, place (BitVec.ofNat 32 r.val) = BitVec.ofNat 32 (r.val % 64) := by decide +kernel

/-- The row's place in its group. -/
theorem pos_at (y : S512x128.Idx) : k0_pay2 y = BitVec.ofNat 32 ((y 0).val % 64) := by
  rw [← place_eq (y 0), ← iota_single_apply .tc S512x128 32 0 iota_S512x128_d0_w32 y]
  rfl

theorem zero_word : (Scalar.ofBits (F := Ideal) .f32 0x00000000#32 : EReal) = 0 := Ideal.ofBits_zero_f32

/-- One doubling of the sums back. -/
theorem up_step (s : ℕ) (h0 : 0 < s) (hs : s ≤ 32) (G : ℕ → ℕ → EReal) (v : Block) (hv : ∀ y, (v y : EReal) = up s (fun r => G r (y 1).val) (y 0).val)
    (y : S512x128.Idx) :
    (addf v (select (cmpi .sge k0_pay2 (broadcast S512x128 (BitVec.ofNat 32 s)))
      (dynamicRotate 0 (BitVec.ofNat 32 s) none v rotates_S512x128_d0) (broadcast S512x128 (Scalar.ofBits (F := Ideal) .f32 0x00000000#32))) y : EReal)
      = up (s + s) (fun r => G r (y 1).val) (y 0).val := by
  have h : (y 0).val < 512 := (y 0).isLt
  rw [up_double, ← hv]
  refine congrArg (fun a : EReal => (v y : EReal) + a) ?_
  have hc : cmpi .sge k0_pay2 (broadcast S512x128 (BitVec.ofNat 32 s)) y = BitVec.ofBool (decide (s ≤ (y 0).val % 64)) := by
    show IntOp.cmpi .sge (k0_pay2 y) (BitVec.ofNat 32 s) = _
    rw [pos_at]
    exact WordCmp.cmpi_sge_ofNat (by omega) (by omega)
  show (Scalar.select (cmpi .sge k0_pay2 (broadcast S512x128 (BitVec.ofNat 32 s)) y) (dynamicRotate 0 (BitVec.ofNat 32 s) none v rotates_S512x128_d0 y) (Scalar.ofBits (F := Ideal) .f32 0x00000000#32) : EReal) = _
  rw [hc, ReferenceIdeal.Attn.select_dec, zero_word]
  split_ifs with hp
  · rw [dynamicRotate_apply (0 : Fin 2) (BitVec.ofNat 32 s) v rotates_S512x128_d0 y (ix2 (n0 := 512) (n1 := 128) ⟨(y 0).val - s, by omega⟩ (y 1)) ?_]
    · exact hv _
    · intro b
      match b with
      | ⟨0, _⟩ =>
        show (y 0).val - s = ((y 0).val + 512 - (BitVec.ofNat 32 s).toNat % 512) % 512
        rw [BitVec.toNat_ofNat]
        omega
      | ⟨1, _⟩ => rfl
  · rfl

/-- One doubling of the sums on. -/
theorem down_step (s : ℕ) (h0 : 0 < s) (hs : s ≤ 32) (G : ℕ → ℕ → EReal) (v : Block) (hv : ∀ y, (v y : EReal) = down s (fun r => G r (y 1).val) (y 0).val)
    (y : S512x128.Idx) :
    (addf v (select (cmpi .slt k0_pay2 (broadcast S512x128 (BitVec.ofNat 32 (64 - s))))
      (dynamicRotate 0 (BitVec.ofNat 32 (512 - s)) none v rotates_S512x128_d0) (broadcast S512x128 (Scalar.ofBits (F := Ideal) .f32 0x00000000#32))) y : EReal)
      = down (s + s) (fun r => G r (y 1).val) (y 0).val := by
  have h : (y 0).val < 512 := (y 0).isLt
  rw [down_double, ← hv]
  refine congrArg (fun a : EReal => (v y : EReal) + a) ?_
  have hc : cmpi .slt k0_pay2 (broadcast S512x128 (BitVec.ofNat 32 (64 - s))) y = BitVec.ofBool (decide ((y 0).val % 64 < 64 - s)) := by
    show IntOp.cmpi .slt (k0_pay2 y) (BitVec.ofNat 32 (64 - s)) = _
    rw [pos_at]
    exact WordCmp.cmpi_slt_ofNat (by omega) (by omega)
  show (Scalar.select (cmpi .slt k0_pay2 (broadcast S512x128 (BitVec.ofNat 32 (64 - s))) y) (dynamicRotate 0 (BitVec.ofNat 32 (512 - s)) none v rotates_S512x128_d0 y) (Scalar.ofBits (F := Ideal) .f32 0x00000000#32) : EReal) = _
  rw [hc, ReferenceIdeal.Attn.select_dec, zero_word]
  split_ifs with hp
  · rw [dynamicRotate_apply (0 : Fin 2) (BitVec.ofNat 32 (512 - s)) v rotates_S512x128_d0 y (ix2 (n0 := 512) (n1 := 128) ⟨(y 0).val + s, by omega⟩ (y 1)) ?_]
    · exact hv _
    · intro b
      match b with
      | ⟨0, _⟩ =>
        show (y 0).val + s = ((y 0).val + 512 - (BitVec.ofNat 32 (512 - s)).toNat % 512) % 512
        rw [BitVec.toNat_ofNat]
        omega
      | ⟨1, _⟩ => rfl
  · rfl

section Block

variable (G : ℕ → ℕ → EReal) (v : Block) (hv : ∀ y, (v y : EReal) = G (y 0).val (y 1).val)
include hv

/-- The first three doublings back. -/
theorem up_eight (y : S512x128.Idx) : (k0_pay4 (F := Ideal) k0_pay2 v y : EReal) = up 8 (fun r => G r (y 1).val) (y 0).val :=
  up_step 4 (by norm_num) (by norm_num) G _ (up_step 2 (by norm_num) (by norm_num) G _
    (up_step 1 (by norm_num) (by norm_num) G v fun y => (hv y).trans (up_one (fun r => G r (y 1).val) (y 0).val).symm)) y

/-- The first three doublings on. -/
theorem down_eight (y : S512x128.Idx) : (k0_pay5 (F := Ideal) k0_pay2 v y : EReal) = down 8 (fun r => G r (y 1).val) (y 0).val :=
  down_step 4 (by norm_num) (by norm_num) G _ (down_step 2 (by norm_num) (by norm_num) G _
    (down_step 1 (by norm_num) (by norm_num) G v fun y => (hv y).trans (down_one (fun r => G r (y 1).val) (y 0).val).symm)) y

/-- The stored sums on, the row itself left out. -/
theorem down_pay (y : S512x128.Idx) : (k0_pay9 (F := Ideal) k0_pay2 v (k0_pay5 (F := Ideal) k0_pay2 v) y : EReal)
    = down 64 (fun r => G r (y 1).val) (y 0).val - G (y 0).val (y 1).val := by
  rw [← hv]
  have e := down_step 32 (by norm_num) (by norm_num) G _ (down_step 16 (by norm_num) (by norm_num) G _
    (down_step 8 (by norm_num) (by norm_num) G _ (down_eight G v hv))) y
  exact congrArg (fun a : EReal => a - v y) e

/-- The stored gates: in the first 32 lanes the logistic of the product, in the others the sums back. -/
theorem up_pay (p : Block) (y : S512x128.Idx) :
    (k0_pay8 (F := Ideal) p (iota .tc S512x128 32 [1] iota_S512x128_d1_w32) k0_pay2 (k0_pay4 (F := Ideal) k0_pay2 v) (k0_pay6 k0_pay2)
      (k0_pay7 (F := Ideal) k0_pay2 v) (Scalar.ofBits (F := Ideal) .f32 0x00000000#32) y : EReal)
    = if (y 1).val < 32 then Ideal.logistic (p y) else up 64 (fun r => G r (y 1).val) (y 0).val := by
  have h : (y 1).val < 128 := (y 1).isLt
  have e := up_step 32 (by norm_num) (by norm_num) G _ (up_step 16 (by norm_num) (by norm_num) G _
    (up_step 8 (by norm_num) (by norm_num) G _ (up_eight G v hv))) y
  have hc : cmpi .slt (iota .tc S512x128 32 [1] iota_S512x128_d1_w32) (broadcast S512x128 32#32) y = BitVec.ofBool (decide ((y 1).val < 32)) := by
    show IntOp.cmpi .slt (iota .tc S512x128 32 [1] iota_S512x128_d1_w32 y) (BitVec.ofNat 32 32) = _
    rw [iota_single_apply]
    exact WordCmp.cmpi_slt_ofNat (by omega) (by norm_num)
  rw [← ReferenceIdeal.Attn.select_dec, ← hc, ← e]
  rfl

end Block

end Cert.GdnGatesIdeal.Bg

end
-- ==== Proof.BgArray.lean ====
/-
  The gates: what a grid point stores and, from the points' blocks, the two padded arrays the region leaves.
-/
module

public import proofs.«01_k».proof.Proof.Proj
public import proofs.«01_k».proof.Proof.BgScan
public import proofs.«01_k».proof.Proof.Gen.GdnGatesIdeal.Frame
public import Idealize.ShloMosaic.Lib.Pipeline.ValueKit.Acc

@[expose] public section

set_option maxRecDepth 16384

noncomputable section

namespace Cert.GdnGatesIdeal.Bg

open Cert.GdnGatesIdeal Cert.GdnGatesIdeal.Gen Idealize.ShloMosaic Idealize.ShloMosaic.TcCoe Idealize.SL.Sem
open Idealize.ShloMosaic.Pipeline (Dat)
open Idealize.ShloMosaic.ValueIdx (ix2 ix3)

section Spec

variable (X : Proj.Mat 16384 4096) (W : Proj.Mat 4096 128) (a b : Proj.Mat 1 128)

/-- A row of features times a column of weights. -/
def prod (r c : ℕ) : EReal := ∑ k : Fin 4096, Proj.rd X r k.val * Proj.rd W k.val c

/-- A log decay. -/
def decay (r c : ℕ) : EReal := -Ideal.exp (Proj.rd a 0 c) * Sb.sp (prod X W r c + Proj.rd b 0 c)

/-- The log decays summed from the row's group's first row up to the row. -/
def upto (r c : ℕ) : EReal := ∑ k ∈ Finset.range (r % 64 + 1), decay X W a b (64 * (r / 64) + k) c

/-- The log decays summed over the rows of the group after the row. -/
def after (r c : ℕ) : EReal := ∑ k ∈ Finset.Ico (r % 64) 64, decay X W a b (64 * (r / 64) + k) c - decay X W a b r c

/-- An element of the first padded array. -/
def gates (r c : ℕ) : EReal := if c < 32 then Ideal.logistic (prod X W r c) else upto X W a b r c

variable (R : ℕ) (x : Vec Ideal S512x4096 .bf16) (w : Vec Ideal S4096x128 .bf16) (p q : Vec Ideal S1x128 .f32)
  (hx : ∀ y, (x y : EReal) = Proj.rd X (R + (y 0).val) (y 1).val) (hw : ∀ y, (w y : EReal) = Proj.rd W (y 0).val (y 1).val)
  (hp : ∀ y, (p y : EReal) = Proj.rd a 0 (y 1).val) (hq : ∀ y, (q y : EReal) = Proj.rd b 0 (y 1).val)

include hx hw in
/-- A point's product. -/
theorem prod_at (y : S512x128.Idx) : (k0_pay1 (F := Ideal) x w y : EReal) = prod X W (R + (y 0).val) (y 1).val := by
  obtain ⟨r, c, rfl⟩ : ∃ (r : Fin 512) (c : Fin 128), y = ix2 r c := ⟨y 0, y 1, ValueIdx.eq_ix2 y⟩
  unfold k0_pay1
  rw [shapeCast_self]
  refine (Proj.matmul_at (φ₁ := .bf16) (φ₂ := .bf16) dot_S512x4096_S4096x128_S512x128_1_0_0_1_n_n_wf x w r c).trans ?_
  exact Finset.sum_congr rfl fun k _ => congrArg₂ (fun a b : EReal => a * b) (hx _) (hw _)

/-- A row spread over the block, at an element. -/
theorem spread (v : FVec Ideal S1x128 .f32) (y : S512x128.Idx) :
    broadcastTo S512x128 v broadcasts_S1x128_S512x128 y = v (ix2 (n0 := 1) (n1 := 128) 0 (y 1)) :=
  broadcastTo_apply v _ y _ fun a => match a with
    | ⟨0, _⟩ => rfl
    | ⟨1, _⟩ => rfl

/-- The softplus as the body computes it. -/
theorem softplus_at (z : EReal) :
    max z (Scalar.ofBits (F := Ideal) .f32 0x00000000#32 : EReal) + Ideal.log1p (Ideal.exp ((Scalar.ofBits (F := Ideal) .f32 0x00000000#32 : EReal) - max z (-z))) = Sb.sp z := by
  rw [zero_word, zero_sub]
  rfl

include hp in
/-- The row of negated exponentials, spread over the block. -/
theorem rate_at (y : S512x128.Idx) :
    (broadcastTo S512x128 (subf (broadcast S1x128 (Scalar.ofBits (F := Ideal) .f32 0x00000000#32)) (exp p)) broadcasts_S1x128_S512x128 y : EReal)
      = -Ideal.exp (Proj.rd a 0 (y 1).val) := by
  rw [spread, ← hp (ix2 (n0 := 1) (n1 := 128) 0 (y 1)), ← zero_sub, ← zero_word]
  rfl

include hx hw hp hq in
/-- A point's log decays. -/
theorem decay_at (y : S512x128.Idx) : (k0_pay3 (F := Ideal) x w p q y : EReal) = decay X W a b (R + (y 0).val) (y 1).val := by
  unfold k0_pay3 decay
  rw [shapeCast_self, shapeCast_self, ← rate_at a p hp, ← prod_at X W R x w hx hw y, ← hq (ix2 (n0 := 1) (n1 := 128) 0 (y 1)), ← spread q y,
    ← softplus_at]
  rfl

variable (hR : R % 64 = 0)
include hx hw hp hq hR

/-- What a point stores in the first array's block, at an element. -/
theorem gates_at (y : S512x128.Idx) :
    (k0_pay8 (F := Ideal) (k0_pay1 x w) (iota .tc S512x128 32 [1] iota_S512x128_d1_w32) k0_pay2 (k0_pay4 (F := Ideal) k0_pay2 (k0_pay3 x w p q)) (k0_pay6 k0_pay2)
      (k0_pay7 (F := Ideal) k0_pay2 (k0_pay3 x w p q)) (Scalar.ofBits (F := Ideal) .f32 0x00000000#32) y : EReal)
    = gates X W a b (R + (y 0).val) (y 1).val := by
  rw [up_pay (fun r c => decay X W a b (R + r) c) _ (decay_at X W a b R x w p q hx hw hp hq), prod_at X W R x w hx hw, up_all]
  unfold gates upto
  rw [show (R + (y 0).val) % 64 = (y 0).val % 64 by omega, show 64 * ((R + (y 0).val) / 64) = R + 64 * ((y 0).val / 64) by omega]
  simp only [Nat.add_assoc]

/-- And in the second array's. -/
theorem after_at (y : S512x128.Idx) :
    (k0_pay9 (F := Ideal) k0_pay2 (k0_pay3 x w p q) (k0_pay5 (F := Ideal) k0_pay2 (k0_pay3 x w p q)) y : EReal) = after X W a b (R + (y 0).val) (y 1).val := by
  rw [down_pay (fun r c => decay X W a b (R + r) c) _ (decay_at X W a b R x w p q hx hw hp hq), down_all]
  unfold after
  rw [show (R + (y 0).val) % 64 = (y 0).val % 64 by omega, show 64 * ((R + (y 0).val) / 64) = R + 64 * ((y 0).val / 64) by omega]
  simp only [Nat.add_assoc]

end Spec

variable (m : (ℓ : Loc nD τ sig) → Buf (Elt Ideal) ℓ) (ρ : Dev nD → PrngReg)

/-- The rows of features on device `c`. -/
abbrev feat (c : Dev nD) : Proj.Mat 16384 4096 := m ((c : Thread nD τ).loc main_arg0)

/-- The padded columns of weights the region finds on device `c`. -/
abbrev cols (c : Dev nD) : Proj.Mat 4096 128 := V m c main_v3

/-- The padded row of log rates it finds. -/
abbrev rates (c : Dev nD) : Proj.Mat 1 128 := V m c main_v5

/-- The padded row of offsets it finds. -/
abbrev offs (c : Dev nD) : Proj.Mat 1 128 := V m c main_v7

/-- The corner of each window's block in its array. -/
theorem corners : ∀ t : Fin grid0.N,
    (win0_0.index t 0 * win0_0.size 0 = 512 * t.val ∧ win0_0.index t 1 * win0_0.size 1 = 0)
    ∧ (win0_1.index t 0 * win0_1.size 0 = 0 ∧ win0_1.index t 1 * win0_1.size 1 = 0)
    ∧ (win0_2.index t 0 * win0_2.size 0 = 0 ∧ win0_2.index t 1 * win0_2.size 1 = 0)
    ∧ (win0_3.index t 0 * win0_3.size 0 = 0 ∧ win0_3.index t 1 * win0_3.size 1 = 0)
    ∧ (win0_4.index t 0 * win0_4.size 0 = 512 * t.val ∧ win0_4.index t 1 * win0_4.size 1 = 0)
    ∧ (win0_5.index t 0 * win0_5.size 0 = 512 * t.val ∧ win0_5.index t 1 * win0_5.size 1 = 0)
    ∧ (win0_4.xsize (grid0.coords t) 0 = 512 ∧ win0_4.xsize (grid0.coords t) 1 = 128)
    ∧ (win0_5.xsize (grid0.coords t) 0 = 512 ∧ win0_5.xsize (grid0.coords t) 1 = 128) := by
  decide +kernel

theorem x_read (c : Dev nD) (t : Fin cfg0.N) (y : S512x4096.Idx) :
    (iblk m c 0 t y : EReal) = Proj.rd (feat m c) (512 * t.val + (y 0).val) (y 1).val := by
  obtain ⟨⟨e0, e1⟩, -⟩ := corners t
  have h : (V m c main_arg0 : Proj.Mat 16384 4096) = feat m c := V_main_arg0 m c
  rw [← h]
  refine Proj.rd_eq (V m c main_arg0 : Proj.Mat 16384 4096) _ _ _ ?_ ?_
  · show win0_0.index t 0 * win0_0.size 0 + 1 * (y 0).val = _
    rw [e0, one_mul]
  · show win0_0.index t 1 * win0_0.size 1 + 1 * (y 1).val = _
    rw [e1, one_mul, Nat.zero_add]

theorem w_read (c : Dev nD) (t : Fin cfg0.N) (y : S4096x128.Idx) : (iblk m c 1 t y : EReal) = Proj.rd (cols m c) (y 0).val (y 1).val := by
  obtain ⟨-, ⟨e0, e1⟩, -⟩ := corners t
  refine Proj.rd_eq (cols m c) _ _ _ ?_ ?_
  · show win0_1.index t 0 * win0_1.size 0 + 1 * (y 0).val = _
    rw [e0, one_mul, Nat.zero_add]
  · show win0_1.index t 1 * win0_1.size 1 + 1 * (y 1).val = _
    rw [e1, one_mul, Nat.zero_add]

theorem rate_read (c : Dev nD) (t : Fin cfg0.N) (y : S1x128.Idx) : (iblk m c 2 t y : EReal) = Proj.rd (rates m c) 0 (y 1).val := by
  obtain ⟨-, -, ⟨e0, e1⟩, -⟩ := corners t
  have h : (y 0).val < 1 := (y 0).isLt
  refine Proj.rd_eq (rates m c) _ _ _ ?_ ?_
  · show win0_2.index t 0 * win0_2.size 0 + 1 * (y 0).val = _
    rw [e0]; omega
  · show win0_2.index t 1 * win0_2.size 1 + 1 * (y 1).val = _
    rw [e1, one_mul, Nat.zero_add]

theorem off_read (c : Dev nD) (t : Fin cfg0.N) (y : S1x128.Idx) : (iblk m c 3 t y : EReal) = Proj.rd (offs m c) 0 (y 1).val := by
  obtain ⟨-, -, -, ⟨e0, e1⟩, -⟩ := corners t
  have h : (y 0).val < 1 := (y 0).isLt
  refine Proj.rd_eq (offs m c) _ _ _ ?_ ?_
  · show win0_3.index t 0 * win0_3.size 0 + 1 * (y 0).val = _
    rw [e0]; omega
  · show win0_3.index t 1 * win0_3.size 1 + 1 * (y 1).val = _
    rw [e1, one_mul, Nat.zero_add]

/-- The body's named values over whole staged blocks. -/
theorem place_named (x : Vec Ideal S512x4096 .bf16) (w : Vec Ideal S4096x128 .bf16) (p q : Vec Ideal S1x128 .f32) :
    k0_pay10 (F := Ideal) x w p q = k0_pay2 := rfl

theorem decay_named (x : Vec Ideal S512x4096 .bf16) (w : Vec Ideal S4096x128 .bf16) (p q : Vec Ideal S1x128 .f32) :
    k0_pay11 (F := Ideal) x w p q = k0_pay3 x w p q := by
  have h : ∀ a : Fin 2, (![0, 0] : Fin 2 → ℕ) a = 0 := by decide
  unfold k0_pay11
  rw [View.ld_unit_lit inb_S512x4096_S512x4096_0_0 x h, View.ld_unit_lit inb_S4096x128_S4096x128_0_0 w h,
    View.ld_unit_lit inb_S1x128_S1x128_0_0 p h, View.ld_unit_lit inb_S1x128_S1x128_0_0 q h]

/-- What a point leaves in the staged block of the first array. -/
theorem out_read (c : Dev nD) (t : Fin cfg0.N) (y : S512x128.Idx) :
    (out0_4 (iblk m c 0 t) (iblk m c 1 t) (iblk m c 2 t) (iblk m c 3 t) y : EReal)
      = gates (feat m c) (cols m c) (rates m c) (offs m c) (512 * t.val + (y 0).val) (y 1).val := by
  frame_out
  rw [place_named, decay_named]
  exact gates_at _ _ _ _ (512 * t.val) (iblk m c 0 t) (iblk m c 1 t) (iblk m c 2 t) (iblk m c 3 t)
    (x_read m c t) (w_read m c t) (rate_read m c t) (off_read m c t) (by omega) y

/-- And in the staged block of the second. -/
theorem out_read' (c : Dev nD) (t : Fin cfg0.N) (y : S512x128.Idx) :
    (out0_5 (iblk m c 0 t) (iblk m c 1 t) (iblk m c 2 t) (iblk m c 3 t) y : EReal)
      = after (feat m c) (cols m c) (rates m c) (offs m c) (512 * t.val + (y 0).val) (y 1).val := by
  frame_out
  rw [place_named, decay_named]
  exact after_at _ _ _ _ (512 * t.val) (iblk m c 0 t) (iblk m c 1 t) (iblk m c 2 t) (iblk m c 3 t)
    (x_read m c t) (w_read m c t) (rate_read m c t) (off_read m c t) (by omega) y

/-- The first padded array. -/
def full (c : Dev nD) : Buf (Elt Ideal) ((c : Thread nD τ).loc main_v8_0) :=
  fun i : S16384x128.Idx => gates (feat m c) (cols m c) (rates m c) (offs m c) (i 0).val (i 1).val

/-- The second. -/
def full' (c : Dev nD) : Buf (Elt Ideal) ((c : Thread nD τ).loc main_v8_1) :=
  fun i : S16384x128.Idx => after (feat m c) (cols m c) (rates m c) (offs m c) (i 0).val (i 1).val

/-- What a point writes back is its block of the first array. -/
theorem flushed_eq (c : Dev nD) (t : Fin cfg0.N) : (dats m 0 c).flushed 4 t = (win0_4.blk t).view.read (Elt Ideal) (full m c) := by
  show (cfg0.win 4).cut (grid0.coords t) ((dats m 0 c).after 4 t) = _
  rw [after0_4]
  obtain ⟨-, -, -, -, ⟨e0, e1⟩, -⟩ := corners t
  funext y
  refine (out_read m c t y).trans ?_
  show _ = gates (feat m c) (cols m c) (rates m c) (offs m c) (win0_4.index t 0 * win0_4.size 0 + 1 * (y 0).val) (win0_4.index t 1 * win0_4.size 1 + 1 * (y 1).val)
  rw [e0, e1, one_mul, one_mul, Nat.zero_add]

/-- And its block of the second. -/
theorem flushed_eq' (c : Dev nD) (t : Fin cfg0.N) : (dats m 0 c).flushed 5 t = (win0_5.blk t).view.read (Elt Ideal) (full' m c) := by
  show (cfg0.win 5).cut (grid0.coords t) ((dats m 0 c).after 5 t) = _
  rw [after0_5]
  obtain ⟨-, -, -, -, -, ⟨e0, e1⟩, -⟩ := corners t
  funext y
  refine (out_read' m c t y).trans ?_
  show _ = after (feat m c) (cols m c) (rates m c) (offs m c) (win0_5.index t 0 * win0_5.size 0 + 1 * (y 0).val) (win0_5.index t 1 * win0_5.size 1 + 1 * (y 1).val)
  rw [e0, e1, one_mul, one_mul, Nat.zero_add]

/-- The elements of the first array a point writes. -/
theorem mem_blk (t : Fin cfg0.N) (i : S16384x128.Idx) :
    i ∈ ((cfg0.win 4).blk t).view.set ↔ (512 * t.val ≤ (i 0).val ∧ (i 0).val < 512 * t.val + 512)
      ∧ (0 ≤ (i 1).val ∧ (i 1).val < 0 + 128) := by
  show i ∈ ((View.whole main_v8_0).slice (win0_4.rect t)).set ↔ _
  rw [View.set_slice_whole]
  obtain ⟨-, -, -, -, ⟨e0, e1⟩, -, ⟨s0, s1⟩, -⟩ := corners t
  exact Proj.mem_block _ _ _ i e0 e1 s0 s1

/-- The elements of the second a point writes. -/
theorem mem_blk' (t : Fin cfg0.N) (i : S16384x128.Idx) :
    i ∈ ((cfg0.win 5).blk t).view.set ↔ (512 * t.val ≤ (i 0).val ∧ (i 0).val < 512 * t.val + 512)
      ∧ (0 ≤ (i 1).val ∧ (i 1).val < 0 + 128) := by
  show i ∈ ((View.whole main_v8_1).slice (win0_5.rect t)).set ↔ _
  rw [View.set_slice_whole]
  obtain ⟨-, -, -, -, -, ⟨e0, e1⟩, -, s0, s1⟩ := corners t
  exact Proj.mem_block _ _ _ i e0 e1 s0 s1

/-- The points' blocks tile the first array. -/
theorem cover (i : S16384x128.Idx) : ∃ t : Fin cfg0.N, (cfg0.win 4).flush t = true ∧ i ∈ ((cfg0.win 4).blk t).view.set := by
  have h0 : (i 0).val < 16384 := (i 0).isLt
  have h1 : (i 1).val < 128 := (i 1).isLt
  refine ⟨⟨(i 0).val / 512, show _ < 32 by omega⟩, flush0_4 _, ?_⟩
  rw [mem_blk]
  dsimp only
  omega

/-- And the second. -/
theorem cover' (i : S16384x128.Idx) : ∃ t : Fin cfg0.N, (cfg0.win 5).flush t = true ∧ i ∈ ((cfg0.win 5).blk t).view.set := by
  have h0 : (i 0).val < 16384 := (i 0).isLt
  have h1 : (i 1).val < 128 := (i 1).isLt
  refine ⟨⟨(i 0).val / 512, show _ < 32 by omega⟩, flush0_5 _, ?_⟩
  rw [mem_blk']
  dsimp only
  omega

/-- The first result: the first 64 lanes of the first array. -/
def result (c : Dev nD) : Buf (Elt Ideal) ((c : Thread nD τ).loc main_v9) :=
  (extractStridedSlice S16384x64 ![0, 0] (full m c : Proj.Mat 16384 128) slices_S16384x128_S16384x64_0_0 : Proj.Mat 16384 64)

/-- The second result: 32 lanes of the second array. -/
def result' (c : Dev nD) : Buf (Elt Ideal) ((c : Thread nD τ).loc main_v10) :=
  (extractStridedSlice S16384x32 ![0, 32] (full' m c : Proj.Mat 16384 128) slices_S16384x128_S16384x32_0_32 : Proj.Mat 16384 32)

theorem inj : Function.Injective (Pipeline.arrRef spec0) := by decide

/-- The region leaves the first array so. -/
theorem left (c : Dev nD) :
    Pipeline.withArrays (cfgs 0).spec c (V0 m c) (fun w => (dats m 0 c).arrAt w (cfgs 0).N) (Proc.devRef .tc main_v8_0) = full m c :=
  (Pipeline.withArrays_arr spec0 inj c (V0 m c) (fun w => (dats m 0 c).arrAt w (cfgs 0).N) 4).trans
    ((dats m 0 c).arrAt_eq_of_cover 4 (full m c) (fun t _ => flushed_eq m c t) cover)

/-- And the second so. -/
theorem left' (c : Dev nD) :
    Pipeline.withArrays (cfgs 0).spec c (V0 m c) (fun w => (dats m 0 c).arrAt w (cfgs 0).N) (Proc.devRef .tc main_v8_1) = full' m c :=
  (Pipeline.withArrays_arr spec0 inj c (V0 m c) (fun w => (dats m 0 c).arrAt w (cfgs 0).N) 5).trans
    ((dats m 0 c).arrAt_eq_of_cover 5 (full' m c) (fun t _ => flushed_eq' m c t) cover')

/-- The operations after the region slice them. -/
theorem tail (c : Dev nD) : Pipeline.afterTail₀ cfgs (dats m) 0 (V0 m) [hostOps1] c main_v9 = result m c := by
  unfold Pipeline.afterTail₀ result
  rw [← left m c]
  generalize Pipeline.withArrays (cfgs 0).spec c (V0 m c) (fun w => (dats m 0 c).arrAt w (cfgs 0).N) = U
  show StableHlo.after hostOps1 U main_v9 = _
  after_results

theorem tail' (c : Dev nD) : Pipeline.afterTail₀ cfgs (dats m) 0 (V0 m) [hostOps1] c main_v10 = result' m c := by
  unfold Pipeline.afterTail₀ result'
  rw [← left' m c]
  generalize Pipeline.withArrays (cfgs 0).spec c (V0 m c) (fun w => (dats m 0 c).arrAt w (cfgs 0).N) = U
  show StableHlo.after hostOps1 U main_v10 = _
  after_results

/-- The run, read: the results are the slices of the two arrays, the arguments are unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_v10) = result' m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h.1 c).2 main_v9 (Pipeline.mem_restRefs_of main_v9 (by decide) (by decide))).trans (tail m c),
      ((h.1 c).2 main_v10 (Pipeline.mem_restRefs_of main_v10 (by decide) (by decide))).trans (tail' m c), h.2 c⟩)
    (θ_run_and (run_main m ρ) (unchanged m ρ))

end Cert.GdnGatesIdeal.Bg

end
-- ==== Proof.BgHost.lean ====
/-
  The gates' arguments as the region finds them, padded to 128 lanes, read at the lanes that count.
-/
module

public import proofs.«01_k».proof.Proof.Taps
public import proofs.«01_k».proof.Proof.BgArray

@[expose] public section

set_option maxRecDepth 16384

noncomputable section

namespace Cert.GdnGatesIdeal.Bg

open Cert.GdnGatesIdeal Cert.GdnGatesIdeal.Gen Idealize.ShloMosaic Idealize.ShloMosaic.TcCoe Idealize.SL.Sem
open Idealize.ShloMosaic.ValueIdx (ix1 ix2 ix3)

variable (m : (ℓ : Loc nD τ sig) → Buf (Elt Ideal) ℓ)

/-- The weights on device `c`. -/
abbrev wts (c : Dev nD) : Proj.Stack 2 4096 16448 := m ((c : Thread nD τ).loc main_arg1)

/-- The log rates. -/
abbrev alog (c : Dev nD) : Proj.Row 32 := m ((c : Thread nD τ).loc main_arg2)

/-- The offsets. -/
abbrev dtb (c : Dev nD) : Proj.Row 32 := m ((c : Thread nD τ).loc main_arg3)

/-- The word zero as a number, the filling. -/
abbrev fill : S_.Idx → EReal := sitofp (F := Ideal) .f32 (constantI S_ 32 0#32)

/-- The columns of weights the region finds: the last 64 of layer 1, 64 more filled up. -/
theorem cols_eq (c : Dev nD) : cols m c = pad S4096x128 ![0, 0] ![0, 64] ![0, 0]
    (shapeCast S4096x64 (extractStridedSlice S1x4096x64 ![1, 0, 16384] (wts m c) slices_S2x4096x16448_S1x4096x64_1_0_16384) shapeCasts_S1x4096x64_S4096x64)
    fill pads_S4096x64_S4096x128_000_0640 h_S_ := by
  show StableHlo.after (List.flatten [hostOps0, hostOps0_1, hostOps0_2, hostOps0_3, hostOps0_4, hostOps0_5]) (fun b => m (c, b)) main_v3 = _
  simp only [List.flatten_cons, List.flatten_nil, List.append_nil, List.cons_append, List.nil_append, StableHlo.TRef.binary, StableHlo.TRef.unary, StableHlo.TRef.toBuf, StableHlo.TRef.ofBuf, cast_eq]
  after_results_simp
  rfl

/-- The row of log rates it finds. -/
theorem rates_eq (c : Dev nD) : rates m c = pad S1x128 ![0, 32] ![0, 64] ![0, 0] (shapeCast S1x32 (alog m c) shapeCasts_S32_S1x32)
    fill pads_S1x32_S1x128_000_32640 h_S_ := by
  show StableHlo.after (List.flatten [hostOps0, hostOps0_1, hostOps0_2, hostOps0_3, hostOps0_4, hostOps0_5]) (fun b => m (c, b)) main_v5 = _
  simp only [List.flatten_cons, List.flatten_nil, List.append_nil, List.cons_append, List.nil_append, StableHlo.TRef.binary, StableHlo.TRef.unary, StableHlo.TRef.toBuf, StableHlo.TRef.ofBuf, cast_eq]
  after_results_simp
  rfl

/-- The row of offsets it finds. -/
theorem offs_eq (c : Dev nD) : offs m c = pad S1x128 ![0, 32] ![0, 64] ![0, 0] (shapeCast S1x32 (dtb m c) shapeCasts_S32_S1x32)
    fill pads_S1x32_S1x128_000_32640 h_S_ := by
  show StableHlo.after (List.flatten [hostOps0, hostOps0_1, hostOps0_2, hostOps0_3, hostOps0_4, hostOps0_5]) (fun b => m (c, b)) main_v7 = _
  simp only [List.flatten_cons, List.flatten_nil, List.append_nil, List.cons_append, List.nil_append, StableHlo.TRef.binary, StableHlo.TRef.unary, StableHlo.TRef.toBuf, StableHlo.TRef.ofBuf, cast_eq]
  after_results_simp
  rfl

/-- A column of weights that counts. -/
theorem cols_at (c : Dev nD) (k : Fin 4096) (l : ℕ) (hl : l < 64) : Proj.rd (cols m c) k.val l = Proj.rd3 (wts m c) 1 k.val (16384 + l) := by
  rw [← Proj.rd_eq (cols m c) k.val l (ix2 (n0 := 4096) (n1 := 128) k ⟨l, by omega⟩) rfl rfl, cols_eq]
  refine (pad_apply_of_inside _ _ _ _ _ _ _ _ (ix2 (n0 := 4096) (n1 := 64) k ⟨l, hl⟩) fun a => ?_).trans ?_
  · match a with
    | ⟨0, _⟩ => show k.val = 0 + k.val * (0 + 1); omega
    | ⟨1, _⟩ => show l = 0 + l * (0 + 1); omega
  rw [Proj.layer_at]
  refine (extractStridedSlice_apply _ _ _ _ (ix3 (n0 := 2) (n1 := 4096) (n2 := 16448) 1 k ⟨16384 + l, by omega⟩) fun a => ?_).trans (Proj.rd3_eq _ _ _ _ _ rfl rfl rfl)
  match a with
  | ⟨0, _⟩ => rfl
  | ⟨1, _⟩ => show k.val = 0 + k.val; omega
  | ⟨2, _⟩ => rfl

/-- A padded row of 32 at a lane that counts. -/
theorem row_at (v : Proj.Row 32) (h : ℕ) (hh : h < 32) :
    Proj.rd (pad S1x128 ![0, 32] ![0, 64] ![0, 0] (shapeCast S1x32 v shapeCasts_S32_S1x32) fill pads_S1x32_S1x128_000_32640 h_S_ : Proj.Mat 1 128) 0 (32 + h)
      = Proj.rd1 v h := by
  rw [← Proj.rd_eq (R := 1) (C := 128) _ 0 (32 + h) (ix2 (n0 := 1) (n1 := 128) 0 ⟨32 + h, by omega⟩) rfl rfl]
  refine (pad_apply_of_inside _ _ _ _ _ _ _ _ (ix2 (n0 := 1) (n1 := 32) 0 ⟨h, hh⟩) fun a => ?_).trans ?_
  · match a with
    | ⟨0, _⟩ => rfl
    | ⟨1, _⟩ => show 32 + h = 32 + h * (0 + 1); omega
  refine (shapeCast_apply v shapeCasts_S32_S1x32 _ (fun a => match a with | ⟨0, _⟩ => ⟨h, hh⟩ : S32.Idx) ?_).trans (Proj.rd1_eq v _ _ rfl)
  rw [Shape.rowMajor_val_one, Shape.rowMajor_val_two]
  show h = 0 * 32 + h
  omega

/-- A log decay from the arguments. -/
def dec (X : Proj.Mat 16384 4096) (W : Proj.Stack 2 4096 16448) (a b : Proj.Row 32) (r h : ℕ) : EReal :=
  -Ideal.exp (Proj.rd1 a h) * Sb.sp (Proj.dot X W 1 r (16384 + (32 + h)) + Proj.rd1 b h)

/-- The product of a lane that counts. -/
theorem prod_eq (c : Dev nD) (r l : ℕ) (hl : l < 64) : prod (feat m c) (cols m c) r l = Proj.dot (feat m c) (wts m c) 1 r (16384 + l) := by
  unfold prod Proj.dot
  exact Finset.sum_congr rfl fun k _ => by rw [cols_at m c k l hl]

/-- The log decay of a head. -/
theorem decay_eq (c : Dev nD) (r h : ℕ) (hh : h < 32) :
    decay (feat m c) (cols m c) (rates m c) (offs m c) r (32 + h) = dec (feat m c) (wts m c) (alog m c) (dtb m c) r h := by
  unfold decay dec
  rw [prod_eq m c r _ (by omega), rates_eq, offs_eq, row_at _ h hh, row_at _ h hh]

end Cert.GdnGatesIdeal.Bg

end
-- ==== Proof.BgRef.lean ====
/-
  The gates' reference read at an element: the step sizes are logistics of the product, the running sums within a chunk
  plain sums of the log decays.
-/
module

public import proofs.«01_k».proof.Proof.Gen.GdnGatesReferenceIdeal.Read
public import proofs.«01_k».proof.Proof.SbRef
public import proofs.«01_k».proof.Proof.BgHost

@[expose] public section

set_option maxRecDepth 16384

noncomputable section

namespace Cert.Bg

open Cert.GdnGatesReferenceIdeal Cert.GdnGatesReferenceIdeal.Read Idealize.ShloMosaic Finset
open Idealize.ShloMosaic.ValueIdx (ix1 ix2 ix3 ix4)
open Cert.GdnGatesIdeal.Bg (dec)
open Cert.ReferenceIdeal.Attn (fold_sum window_sum softplus_at)

/-- One position of a window filled up before the row: the operand's element once inside the row, zero before. -/
theorem pick_low {B H T n : ℕ} (x : (⟨4, ![B, H, T, n]⟩ : Shape).Idx → EReal) (y : ℕ → EReal) (b : Fin B) (h : Fin H) (t : Fin T) (lo q : ℕ)
    (hy : ∀ s : Fin n, x (ix4 b h t s) = y s.val) (p : Fin 4 → ℕ) (e0 : p 0 = b.val) (e1 : p 1 = h.val) (e2 : p 2 = t.val)
    (e3 : p 3 = q) (hq : q - lo < n)
    {inst : Decidable (∀ a : Fin 4, (![0, 0, 0, lo] : Fin 4 → ℕ) a ≤ p a ∧ p a - (![0, 0, 0, lo] : Fin 4 → ℕ) a < (![B, H, T, n] : Fin 4 → ℕ) a)} :
    (if hin : ∀ a : Fin 4, (![0, 0, 0, lo] : Fin 4 → ℕ) a ≤ p a ∧ p a - (![0, 0, 0, lo] : Fin 4 → ℕ) a < (![B, H, T, n] : Fin 4 → ℕ) a then
      x (fun a => ⟨p a - (![0, 0, 0, lo] : Fin 4 → ℕ) a, (hin a).2⟩) else 0) = if lo ≤ q then y (q - lo) else 0 := by
  by_cases hk : lo ≤ q
  · have hin : ∀ a : Fin 4, (![0, 0, 0, lo] : Fin 4 → ℕ) a ≤ p a ∧ p a - (![0, 0, 0, lo] : Fin 4 → ℕ) a < (![B, H, T, n] : Fin 4 → ℕ) a := by
      intro a
      match a with
      | ⟨0, _⟩ => exact ⟨Nat.zero_le _, by show p 0 - 0 < B; rw [e0]; exact b.isLt⟩
      | ⟨1, _⟩ => exact ⟨Nat.zero_le _, by show p 1 - 0 < H; rw [e1]; exact h.isLt⟩
      | ⟨2, _⟩ => exact ⟨Nat.zero_le _, by show p 2 - 0 < T; rw [e2]; exact t.isLt⟩
      | ⟨3, _⟩ => exact ⟨by show lo ≤ p 3; rw [e3]; exact hk, by show p 3 - lo < n; rw [e3]; exact hq⟩
    rw [dif_pos hin, if_pos hk, ← hy ⟨q - lo, hq⟩]
    refine congrArg x (funext fun a => Fin.ext ?_)
    match a with
    | ⟨0, _⟩ => exact e0
    | ⟨1, _⟩ => exact e1
    | ⟨2, _⟩ => exact e2
    | ⟨3, _⟩ => exact congrArg (· - lo) e3
  · rw [if_neg hk, dif_neg]
    intro hin
    have h3 : lo ≤ p 3 := (hin 3).1
    rw [e3] at h3
    exact hk h3

/-- A window of `n` positions along the last axis, ending at `j` and filled up with zeros before the row: its sum is the
    sum from the start of the row to `j`. -/
theorem prefix_sum {B H T n lo : ℕ} {u : Shape} (x : (⟨4, ![B, H, T, n]⟩ : Shape).Idx → EReal) (init : u.Idx → EReal) (hlo : lo + 1 = n)
    (hw : (⟨4, ![B, H, T, n]⟩ : Shape).ReduceWindows ![1, 1, 1, n] ![1, 1, 1, 1] ![0, 0, 0, lo] ![0, 0, 0, 0] ⟨4, ![B, H, T, n]⟩)
    (hu : 0 < u.numel) (h0 : ∀ i, init i = 0) (y : ℕ → EReal) (b : Fin B) (h : Fin H) (t : Fin T) (j : Fin n)
    (hy : ∀ s : Fin n, x (ix4 b h t s) = y s.val) :
    Host.reduceWindow (fun a b : EReal => a + b) ![1, 1, 1, n] ![1, 1, 1, 1] ![0, 0, 0, lo] ![0, 0, 0, 0] x init hw hu (ix4 b h t j)
      = ∑ s ∈ range (j.val + 1), y s := by
  unfold Host.reduceWindow
  dsimp only
  rw [h0, fold_sum]
  have num : (⟨4, ![1, 1, 1, n]⟩ : Shape).numel = n := by simp [Shape.numel, Fin.prod_univ_four]
  have hj := j.isLt
  have key : ∀ k : Fin (⟨4, ![1, 1, 1, n]⟩ : Shape).numel, ∀ p : Fin 4 → ℕ,
      (p = fun a => ((ix4 b h t j : (⟨4, ![B, H, T, n]⟩ : Shape).Idx) a).val * (![1, 1, 1, 1] : Fin 4 → ℕ) a
        + ((⟨4, ![1, 1, 1, n]⟩ : Shape).rowMajor.symm k a).val) →
      p 0 = b.val ∧ p 1 = h.val ∧ p 2 = t.val ∧ p 3 = j.val + k.val := by
    intro k p hp
    obtain ⟨i, rfl⟩ := (⟨4, ![1, 1, 1, n]⟩ : Shape).rowMajor.surjective k
    rw [Equiv.symm_apply_apply] at hp
    have l0 : (i 0).val < 1 := (i 0).isLt
    have l1 : (i 1).val < 1 := (i 1).isLt
    have l2 : (i 2).val < 1 := (i 2).isLt
    rw [Shape.rowMajor_val_four]
    subst hp
    refine ⟨?_, ?_, ?_, ?_⟩
    · show b.val * 1 + (i 0).val = _; omega
    · show h.val * 1 + (i 1).val = _; omega
    · show t.val * 1 + (i 2).val = _; omega
    · show j.val * 1 + (i 3).val = j.val + ((((i 0).val * 1 + (i 1).val) * 1 + (i 2).val) * n + (i 3).val)
      have e0 : (i 0).val = 0 := by omega
      have e1 : (i 1).val = 0 := by omega
      have e2 : (i 2).val = 0 := by omega
      rw [e0, e1, e2]; simp
  refine (sum_congr rfl fun k _ => ?_).trans (b := ∑ k : Fin (⟨4, ![1, 1, 1, n]⟩ : Shape).numel, if lo ≤ j.val + k.val then y (j.val + k.val - lo) else 0) ?_
  · obtain ⟨e0, e1, e2, e3⟩ := key k _ rfl
    have hk : k.val < n := k.isLt.trans_eq num
    exact pick_low x y b h t lo (j.val + k.val) hy (fun a => ((ix4 b h t j : (⟨4, ![B, H, T, n]⟩ : Shape).Idx) a).val * (![1, 1, 1, 1] : Fin 4 → ℕ) a
        + ((⟨4, ![1, 1, 1, n]⟩ : Shape).rowMajor.symm k a).val) e0 e1 e2 e3 (by omega)
  · rw [Fin.sum_univ_eq_sum_range (fun k => if lo ≤ j.val + k then y (j.val + k - lo) else 0), num, ← sum_filter,
      show (range n).filter (fun k => lo ≤ j.val + k) = Ico (lo - j.val) (lo - j.val + (j.val + 1)) by
        ext k; simp only [mem_filter, mem_range, mem_Ico]; omega,
      sum_Ico_eq_sum_range]
    refine sum_congr (by congr 1; omega) fun s _ => congrArg y ?_
    omega

variable (X : Proj.Mat 16384 4096) (W : Proj.Stack 2 4096 16448) (a b : Proj.Row 32)

/-- The reference's product, the columns the gates use. -/
theorem product_at (i : S16384x64.Idx) : (val_main_v4 (F := Ideal) X W i : EReal) = Proj.dot X W 1 (i 0).val (16384 + (i 1).val) := by
  have h1 : (i 1).val < 64 := (i 1).isLt
  rw [val_main_v4_apply, val_main_v3_apply]
  unfold Proj.dot
  refine sum_congr rfl fun k _ => ?_
  rw [val_main_v0_apply, val_main_v2_apply, val_main_v1_apply]
  refine congrArg₂ (fun p q : EReal => p * q) (Proj.rd_eq X _ _ _ rfl rfl) (Proj.rd3_eq W _ _ _ _ rfl ?_ ?_)
  · have hk := k.isLt
    dsimp only
    omega
  · have hk := k.isLt
    dsimp only
    omega

/-- The softplus of a product plus its offset. -/
theorem plus_at (i : S16384x32.Idx) :
    (val_main_v11 (F := Ideal) X W b i : EReal) = Sb.sp (Proj.dot X W 1 (i 0).val (16384 + (32 + (i 1).val)) + Proj.rd1 b (i 1).val) := by
  have e : (val_main_v10 (F := Ideal) X W b i : EReal) = Proj.dot X W 1 (i 0).val (16384 + (32 + (i 1).val)) + Proj.rd1 b (i 1).val := by
    rw [val_main_v10_apply, val_main_v6_apply, val_main_v9_apply, val_main_v8_apply]
    exact congrArg₂ (fun p q : EReal => p + q) (product_at X W _) (Proj.rd1_eq b _ _ rfl)
  rw [← e, ← softplus_at, ← Ideal.ofBits_zero_f32, val_main_v11_apply, val_main_call0_v11_apply, val_main_call0_v10_apply, val_main_call0_v9_apply,
    val_main_call0_v8_apply, val_main_call0_v7_apply, val_main_call0_v6_apply, val_main_call0_v4_apply, val_main_call0_v3_apply,
    val_main_call0_v1_apply, val_main_call0_v0_apply, val_main_call0_v2_apply, val_main_call0_v5_apply]
  rfl

/-- The reference's log decays. -/
theorem dec_at (i : S16384x32.Idx) : (val_main_v15 (F := Ideal) X W a b i : EReal) = dec X W a b (i 0).val (i 1).val := by
  have e := plus_at X W b i
  unfold dec
  rw [val_main_v15_apply, val_main_v14_apply, val_main_v13_apply, val_main_v12_apply, val_main_v7_apply, EReal.neg_mul,
    ← Proj.rd1_eq a (i 1).val (idx_main_v12 (idx_main_v13 i)) rfl]
  exact congrArg (fun p : EReal => -(Ideal.exp (a (idx_main_v12 (idx_main_v13 i))) * p)) e

/-- The log decays, split into batches, heads and chunks. -/
theorem chunk_at (p : Fin 2) (h : Fin 32) (c : Fin 128) (j : Fin 64) :
    (val_main_v18 (F := Ideal) X W a b (ix4 p h c j) : EReal) = dec X W a b (8192 * p.val + 64 * c.val + j.val) h.val := by
  have hp := p.isLt
  have hh := h.isLt
  have hc := c.isLt
  have hj := j.isLt
  have q0 : (((p.val * 32 + h.val) * 128 + c.val) * 64 + j.val) / 262144 = p.val := by omega
  have q1 : (((p.val * 32 + h.val) * 128 + c.val) * 64 + j.val) / 8192 = p.val * 32 + h.val := by omega
  have q2 : (((p.val * 32 + h.val) * 128 + c.val) * 64 + j.val) % 8192 = c.val * 64 + j.val := by omega
  have q3 : (p.val * 32 + h.val) % 32 = h.val := by omega
  rw [val_main_v18_apply, val_main_v17_apply, val_main_v16_apply, dec_at]
  refine congrArg₂ (dec X W a b) ?_ ?_
  · show ((((((p.val * 32 + h.val) * 128 + c.val) * 64 + j.val) / 262144) * 8192 + (((p.val * 32 + h.val) * 128 + c.val) * 64 + j.val) % 8192) * 32
      + (((p.val * 32 + h.val) * 128 + c.val) * 64 + j.val) / 8192 % 32) / 32 = _
    rw [q0, q1, q2, q3]
    omega
  · show ((((((p.val * 32 + h.val) * 128 + c.val) * 64 + j.val) / 262144) * 8192 + (((p.val * 32 + h.val) * 128 + c.val) * 64 + j.val) % 8192) * 32
      + (((p.val * 32 + h.val) * 128 + c.val) * 64 + j.val) / 8192 % 32) % 32 = _
    rw [q0, q1, q2, q3]
    omega

/-- The running sums from the start of a chunk. -/
theorem upto_at (p : Fin 2) (h : Fin 32) (c : Fin 128) (j : Fin 64) : (val_main_v19 (F := Ideal) X W a b (ix4 p h c j) : EReal)
    = ∑ k ∈ range (j.val + 1), dec X W a b (8192 * p.val + 64 * c.val + k) h.val := by
  unfold val_main_v19 Host.reduceWindowAdd
  rw [Ideal.hostReduceWindowAdd_def]
  unfold Ideal.hostReduceWindowAdd
  refine prefix_sum (B := 2) (H := 32) (T := 128) (n := 64) (lo := 63) (u := ⟨0, ![]⟩) (val_main_v18 (F := Ideal) X W a b) _ rfl _ _
    (fun i => ?_) (fun k => dec X W a b (8192 * p.val + 64 * c.val + k) h.val) p h c j (fun s => chunk_at X W a b p h c s)
  exact (val_main_call1_v0_apply (F := Ideal) i).trans Ideal.ofBits_zero_f32

/-- The running sums from the end of a chunk. -/
theorem after_at (p : Fin 2) (h : Fin 32) (c : Fin 128) (j : Fin 64) : (val_main_v20 (F := Ideal) X W a b (ix4 p h c j) : EReal)
    = ∑ k ∈ Ico j.val 64, dec X W a b (8192 * p.val + 64 * c.val + k) h.val := by
  unfold val_main_v20 Host.reduceWindowAdd
  rw [Ideal.hostReduceWindowAdd_def]
  unfold Ideal.hostReduceWindowAdd
  refine window_sum (B := 2) (H := 32) (T := 128) (n := 64) (hi := 63) (u := ⟨0, ![]⟩) (val_main_v18 (F := Ideal) X W a b) _ _ _
    (fun i => ?_) (fun k => dec X W a b (8192 * p.val + 64 * c.val + k) h.val) p h c j (fun s => chunk_at X W a b p h c s)
  exact (val_main_call2_v0_apply (F := Ideal) i).trans Ideal.ofBits_zero_f32

/-- The batch, head, chunk and place of an element. -/
abbrev spot (i : S16384x32.Idx) : S2x32x128x64.Idx :=
  ix4 (n0 := 2) (n1 := 32) (n2 := 128) (n3 := 64) ⟨(i 0).val / 8192, by have h : (i 0).val < 16384 := (i 0).isLt; omega⟩ ⟨(i 1).val, (i 1).isLt⟩
    ⟨(i 0).val / 64 % 128, by omega⟩ ⟨(i 0).val % 64, by omega⟩

/-- The digits of a flattened position. -/
theorem digits (p h s : ℕ) (hh : h < 32) (hs : s < 8192) : ((p * 32 + h) * 8192 + s) / 262144 = p ∧ ((p * 32 + h) * 8192 + s) / 8192 % 32 = h
    ∧ ((p * 32 + h) * 8192 + s) / 64 % 128 = s / 64 ∧ ((p * 32 + h) * 8192 + s) % 64 = s % 64 := by
  have e : ((p * 32 + h) * 8192 + s) / 8192 = p * 32 + h := by omega
  have e' : ((p * 32 + h) * 8192 + s) / 64 = (p * 32 + h) * 128 + s / 64 := by omega
  refine ⟨by omega, by rw [e]; omega, by rw [e']; omega, by omega⟩

/-- A row's chunk within its sequence. -/
theorem chunk_eq (r : ℕ) : r % 8192 / 64 = r / 64 % 128 := by
  rw [show 8192 = 64 * 128 from rfl, Nat.mod_mul_right_div_self]

/-- The running sums are read there. -/
theorem spot_eq (i : S16384x32.Idx) : idx_main_v22 (idx_main_v23 (idx_main_v24 i)) = spot i := by
  have h0 : (i 0).val < 16384 := (i 0).isLt
  have h1 : (i 1).val < 32 := (i 1).isLt
  have q0 : ((i 0).val * 32 + (i 1).val) / 262144 = (i 0).val / 8192 := by omega
  have q1 : ((i 0).val * 32 + (i 1).val) / 32 = (i 0).val := by omega
  have q2 : ((i 0).val * 32 + (i 1).val) % 32 = (i 1).val := by omega
  obtain ⟨d0, d1, d2, d3⟩ := digits ((i 0).val / 8192) (i 1).val ((i 0).val % 8192) h1 (Nat.mod_lt _ (by norm_num))
  refine funext fun x => Fin.ext ?_
  match x with
  | ⟨0, _⟩ =>
    show (((((i 0).val * 32 + (i 1).val) / 262144 * 32 + ((i 0).val * 32 + (i 1).val) % 32)) * 8192 + ((i 0).val * 32 + (i 1).val) / 32 % 8192) / 262144
      = (i 0).val / 8192
    rw [q0, q1, q2, d0]
  | ⟨1, _⟩ =>
    show (((((i 0).val * 32 + (i 1).val) / 262144 * 32 + ((i 0).val * 32 + (i 1).val) % 32)) * 8192 + ((i 0).val * 32 + (i 1).val) / 32 % 8192) / 8192 % 32
      = (i 1).val
    rw [q0, q1, q2, d1]
  | ⟨2, _⟩ =>
    show (((((i 0).val * 32 + (i 1).val) / 262144 * 32 + ((i 0).val * 32 + (i 1).val) % 32)) * 8192 + ((i 0).val * 32 + (i 1).val) / 32 % 8192) / 64 % 128
      = (i 0).val / 64 % 128
    rw [q0, q1, q2, d2]
    exact chunk_eq _
  | ⟨3, _⟩ =>
    show (((((i 0).val * 32 + (i 1).val) / 262144 * 32 + ((i 0).val * 32 + (i 1).val) % 32)) * 8192 + ((i 0).val * 32 + (i 1).val) / 32 % 8192) % 64
      = (i 0).val % 64
    rw [q0, q1, q2, d3]
    omega

/-- The row a chunk starts at, from the batch and the chunk or from the row itself. -/
theorem start_eq (r k : ℕ) : 8192 * (r / 8192) + 64 * (r / 64 % 128) + k = 64 * (r / 64) + k := by omega

/-- The running sums from the start, at a row. -/
theorem start_at (i : S16384x32.Idx) : (val_main_v24 (F := Ideal) X W a b i : EReal)
    = ∑ k ∈ range ((i 0).val % 64 + 1), dec X W a b (64 * ((i 0).val / 64) + k) (i 1).val := by
  rw [val_main_v24_apply, val_main_v23_apply, val_main_v22_apply, spot_eq, upto_at]
  exact sum_congr rfl fun k _ => congrArg (fun r => dec X W a b r (i 1).val) (start_eq (i 0).val k)

/-- The sums after the row, at a row. -/
theorem rest_at (i : S16384x32.Idx) : (val_main_v27 (F := Ideal) X W a b i : EReal)
    = ∑ k ∈ Ico ((i 0).val % 64) 64, dec X W a b (64 * ((i 0).val / 64) + k) (i 1).val - dec X W a b (i 0).val (i 1).val := by
  rw [val_main_v27_apply, val_main_v26_apply, val_main_v25_apply, show idx_main_v25 (idx_main_v26 (idx_main_v27 i)) = spot i from spot_eq i,
    val_main_v21_apply]
  have e := after_at X W a b ⟨(i 0).val / 8192, by have h : (i 0).val < 16384 := (i 0).isLt; omega⟩ ⟨(i 1).val, (i 1).isLt⟩
    ⟨(i 0).val / 64 % 128, by omega⟩ ⟨(i 0).val % 64, by omega⟩
  have e' := chunk_at X W a b ⟨(i 0).val / 8192, by have h : (i 0).val < 16384 := (i 0).isLt; omega⟩ ⟨(i 1).val, (i 1).isLt⟩
    ⟨(i 0).val / 64 % 128, by omega⟩ ⟨(i 0).val % 64, by omega⟩
  refine congrArg₂ (fun p q : EReal => p - q) (e.trans ?_) (e'.trans ?_)
  · exact sum_congr rfl fun k _ => congrArg (fun r => dec X W a b r (i 1).val) (start_eq (i 0).val k)
  · refine congrArg (fun r => dec X W a b r (i 1).val) ?_
    show 8192 * ((i 0).val / 8192) + 64 * ((i 0).val / 64 % 128) + (i 0).val % 64 = (i 0).val
    omega

/-- The step sizes. -/
theorem step_at (i : S16384x32.Idx) :
    (val_main_v33 (F := Ideal) X W i : EReal) = Ideal.logistic (Proj.dot X W 1 (i 0).val (16384 + (i 1).val)) := by
  have e : (val_main_v5 (F := Ideal) X W i : EReal) = Proj.dot X W 1 (i 0).val (16384 + (i 1).val) := by
    rw [val_main_v5_apply]
    exact product_at X W _
  rw [← e, val_main_v33_apply, val_main_v32_apply, val_main_cst_0_apply, val_main_v31_apply, val_main_v30_apply, val_main_cst_apply,
    val_main_v29_apply, val_main_v28_apply, show (FloatOps.ofBits (F := Ideal) .f32 0x3F800000#32 : EReal) = 1 from Proj.one_f32]
  rfl

/-- The reference's first result: the step sizes beside the running sums. -/
theorem gates_at (i : S16384x64.Idx) : (val_main_v34 (F := Ideal) X W a b i : EReal) =
    if (i 1).val < 32 then Ideal.logistic (Proj.dot X W 1 (i 0).val (16384 + (i 1).val))
    else ∑ k ∈ range ((i 0).val % 64 + 1), dec X W a b (64 * ((i 0).val / 64) + k) ((i 1).val - 32) := by
  have h1 : (i 1).val < 64 := (i 1).isLt
  unfold val_main_v34
  by_cases h : (i 1).val < 32
  · rw [if_pos h]
    exact (concatenate_pair_apply_left (t := S16384x64) (s₁ := S16384x32) (s₂ := S16384x32) 1 (val_main_v33 (F := Ideal) X W)
      (val_main_v24 (F := Ideal) X W a b) _ i rfl (ix2 (n0 := 16384) (n1 := 32) (i 0) ⟨(i 1).val, h⟩) fun x => match x with
      | ⟨0, _⟩ => rfl | ⟨1, _⟩ => rfl).trans (step_at X W _)
  · rw [if_neg h]
    exact (concatenate_pair_apply_right (t := S16384x64) (s₁ := S16384x32) (s₂ := S16384x32) 1 (val_main_v33 (F := Ideal) X W)
      (val_main_v24 (F := Ideal) X W a b) _ i rfl rfl (ix2 (n0 := 16384) (n1 := 32) (i 0) ⟨(i 1).val - 32, by omega⟩) (fun x => match x with
      | ⟨0, _⟩ => fun _ => rfl | ⟨1, _⟩ => fun h => absurd rfl h)
      (by show ((i 1).val - 32) + 32 = (i 1).val; omega)).trans (start_at X W a b _)

end Cert.Bg

end
-- ==== Proof.BgClaim.lean ====
/-
  The claims about the delta rule's gates: their frames and the equation with the reference.
-/
module

public import proofs.«01_k».proof.Defs
public import proofs.«01_k».proof.Proof.Gen.GdnGates.Frame
public import proofs.«01_k».proof.Proof.Gen.GdnGatesIdeal.Frame
public import proofs.«01_k».proof.Proof.Gen.GdnGatesReferenceIdeal.Read
public import proofs.«01_k».proof.Proof.BgRef

@[expose] public section

set_option maxRecDepth 16384

noncomputable section

namespace Cert.Bg

open Idealize.ShloMosaic Idealize.ShloMosaic.TcCoe Idealize.SL.Sem
open Idealize.ShloMosaic.ValueIdx (ix2)
open Cert.GdnGatesIdeal (S16384x64 S16384x32)
open Cert.GdnGatesIdeal.Gen (slices_S16384x128_S16384x64_0_0 slices_S16384x128_S16384x32_0_32)
open Cert.GdnGatesIdeal.Bg (dec result result' full full' gates after upto feat cols rates offs wts alog dtb prod_eq decay_eq)

/-- The gates run and leave their arguments as they were. -/
theorem quiescent_GdnGates : Cert.quiescent_GdnGates := fun m ρ _ => Cert.GdnGates.Gen.frame m ρ

/-- So does their idealization. -/
theorem quiescent_GdnGatesIdeal : Cert.quiescent_GdnGatesIdeal := fun m ρ _ => Cert.GdnGatesIdeal.Gen.frame m ρ

/-- So does the plain form; it has no semaphore. -/
theorem quiescent_GdnGatesReferenceIdeal : Cert.quiescent_GdnGatesReferenceIdeal := fun m ρ _ =>
  (θ_run Cert.GdnGatesReferenceIdeal.defs _ _).mono (fun r h => ⟨fun c => (h c).2.2, sem_eq_zero_of_no_sems (by decide) r.2⟩)
    (Cert.GdnGatesReferenceIdeal.Value.run (F := Ideal) m ρ)

section Kernel

open Cert.GdnGatesIdeal (nD τ sig)

variable (m : (ℓ : Loc nD τ sig) → Buf (Elt Ideal) ℓ)

/-- The kernel's first result at an element. -/
theorem result_at (c : Dev nD) (i : S16384x64.Idx) : (result m c : Proj.Mat 16384 64) i =
    if (i 1).val < 32 then Ideal.logistic (Proj.dot (feat m c) (wts m c) 1 (i 0).val (16384 + (i 1).val))
    else ∑ k ∈ Finset.range ((i 0).val % 64 + 1), dec (feat m c) (wts m c) (alog m c) (dtb m c) (64 * ((i 0).val / 64) + k) ((i 1).val - 32) := by
  have h1 : (i 1).val < 64 := (i 1).isLt
  refine (extractStridedSlice_apply (s := ⟨2, ![16384, 128]⟩) (t := ⟨2, ![16384, 64]⟩) ![0, 0] (full m c : Proj.Mat 16384 128) slices_S16384x128_S16384x64_0_0 i
    (ix2 (n0 := 16384) (n1 := 128) (i 0) ⟨(i 1).val, by omega⟩) fun a => match a with
    | ⟨0, _⟩ => (Nat.zero_add _).symm
    | ⟨1, _⟩ => (Nat.zero_add _).symm).trans ?_
  show gates (feat m c) (cols m c) (rates m c) (offs m c) (i 0).val (i 1).val = _
  unfold gates
  by_cases h : (i 1).val < 32
  · rw [if_pos h, if_pos h, prod_eq m c _ _ h1]
  · rw [if_neg h, if_neg h]
    unfold upto
    refine Finset.sum_congr rfl fun k _ => ?_
    rw [← decay_eq m c _ _ (by omega), show 32 + ((i 1).val - 32) = (i 1).val by omega]

/-- The kernel's second result at an element. -/
theorem result'_at (c : Dev nD) (i : S16384x32.Idx) : (result' m c : Proj.Mat 16384 32) i =
    ∑ k ∈ Finset.Ico ((i 0).val % 64) 64, dec (feat m c) (wts m c) (alog m c) (dtb m c) (64 * ((i 0).val / 64) + k) (i 1).val
      - dec (feat m c) (wts m c) (alog m c) (dtb m c) (i 0).val (i 1).val := by
  have h1 : (i 1).val < 32 := (i 1).isLt
  refine (extractStridedSlice_apply (s := ⟨2, ![16384, 128]⟩) (t := ⟨2, ![16384, 32]⟩) ![0, 32] (full' m c : Proj.Mat 16384 128) slices_S16384x128_S16384x32_0_32 i
    (ix2 (n0 := 16384) (n1 := 128) (i 0) ⟨32 + (i 1).val, by omega⟩) fun a => match a with
    | ⟨0, _⟩ => (Nat.zero_add _).symm
    | ⟨1, _⟩ => rfl).trans ?_
  show after (feat m c) (cols m c) (rates m c) (offs m c) (i 0).val (32 + (i 1).val) = _
  unfold after
  rw [decay_eq m c _ _ h1]
  refine congrArg (fun s : EReal => s - dec (feat m c) (wts m c) (alog m c) (dtb m c) (i 0).val (i 1).val) (Finset.sum_congr rfl fun k _ => ?_)
  exact decay_eq m c _ _ h1

end Kernel

/-- On the extended reals the gates' kernel computes the reference's two results at every row and column. -/
theorem algebraic : Cert.algebraic_GdnGatesIdeal_GdnGatesReferenceIdeal := by
  intro m ρ m' ρ' _ hagree
  refine ⟨fun c => result m c, fun c => result' m c, Cert.GdnGatesIdeal.Bg.run m ρ, ?_⟩
  refine (θ_run Cert.GdnGatesReferenceIdeal.defs _ _).mono (fun r h c => ⟨(h c).1.trans ?_, (h c).2.1.trans ?_, (h c).2.2⟩)
    (Cert.GdnGatesReferenceIdeal.Value.run (F := Ideal) m' ρ')
  · rw [Cert.GdnGatesReferenceIdeal.Read.val_main_v34_eq, (hagree c).1, (hagree c).2.1, (hagree c).2.2.1, (hagree c).2.2.2]
    funext i
    exact (gates_at _ _ _ _ i).trans (result_at m c i).symm
  · rw [Cert.GdnGatesReferenceIdeal.Read.val_main_v27_eq, (hagree c).1, (hagree c).2.1, (hagree c).2.2.1, (hagree c).2.2.2]
    funext i
    exact (rest_at _ _ _ _ i).trans (result'_at m c i).symm

end Cert.Bg

end
-- ==== Proof.RecBody.lean ====
/-
  The gated linear recurrence: what the body does at one grid point, its loop over the eight-row pieces
  included.
-/
module

public import proofs.«01_k».proof.Proof.Gen.LruIdeal.Frame
public import proofs.«01_k».proof.Proof.Shift

@[expose] public section

set_option maxRecDepth 16384

noncomputable section

namespace Cert.LruIdeal.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.LruIdeal Cert.LruIdeal.Gen

variable {F : FTy → Type} [FloatOps F]

local notation "𝕄" => MT nD τ sig Unit (Elt F) ℕ (UR sig nD τ) ℕ

/-- The first row block of a sequence, as the body tests it. -/
def first (i : grid0.Coords) : BitVec 1 :=
  Scalar.cmpi .ne (Scalar.extui (Scalar.cmpi .eq (BitVec.ofNat 32 (i 2).val) 0#32) : BitVec 32) 0#32

/-- The two gates side by side: the logistic of the block's product and the biases. -/
def gates (x : Vec F S512x256 .f32) (w : Vec F S1x256x512 .bf16) (b : Vec F S1x1x512 .f32) : FVec F S512x512 .f32 :=
  logistic (addf
    (matmul dot_S512x256_S256x512_S512x512_1_0_0_1_n_n none (truncf .bf16 x bitsLt_bf16_f32) (shapeCast S256x512 w shapeCasts_S1x256x512_S256x512)
      (constant S512x512 .f32 0x00000000#32))
    (broadcastTo S512x512 (shapeCast S1x512 b shapeCasts_S1x1x512_S1x512) broadcasts_S1x512_S512x512))

/-- The softplus of the negated decay parameters. -/
def soft (l : Vec F S1x1x256 .f32) : FVec F S1x256 .f32 :=
  have z : FVec F S1x256 .f32 := broadcast S1x256 (Scalar.ofBits .f32 0x00000000#32)
  have n : FVec F S1x256 .f32 := subf z (shapeCast S1x256 l shapeCasts_S1x1x256_S1x256)
  addf (maximumf n z) (log1p (exp (subf z (absf n))))

/-- The logarithm of the decay. -/
def logA (x : Vec F S512x256 .f32) (w : Vec F S1x256x512 .bf16) (b : Vec F S1x1x512 .f32) (l : Vec F S1x1x256 .f32) : FVec F S512x256 .f32 :=
  mulf (mulf (broadcast S512x256 (Scalar.ofBits .f32 0xC1000000#32)) (extractStridedSlice S512x256 ![0, 0] (gates x w b) slices_S512x512_o0_0_S512x256))
    (broadcastTo S512x256 (soft l) broadcasts_S1x256_S512x256)

/-- The decay. -/
def decay (x : Vec F S512x256 .f32) (w : Vec F S1x256x512 .bf16) (b : Vec F S1x1x512 .f32) (l : Vec F S1x1x256 .f32) : FVec F S512x256 .f32 :=
  exp (logA x w b l)

/-- What each row adds to the state. -/
def input (x : Vec F S512x256 .f32) (w : Vec F S1x256x512 .bf16) (b : Vec F S1x1x512 .f32) (l : Vec F S1x1x256 .f32) : FVec F S512x256 .f32 :=
  mulf (mulf (sqrt (mulf (subf (broadcast S512x256 (Scalar.ofBits .f32 0x00000000#32)) (tanh (logA x w b l)))
      (addf (mulf (decay x w b l) (decay x w b l)) (broadcast S512x256 (Scalar.ofBits .f32 0x3F800000#32)))))
    (extractStridedSlice S512x256 ![0, 256] (gates x w b) slices_S512x512_o0_256_S512x256)) x

/-- The rows of a piece shifted down by `n`, the given value in the first `n`. -/
def down (n : BitVec 32) (z : F .f32) (v : FVec F S8x256 .f32) : FVec F S8x256 .f32 :=
  select (cmpi .sge (iota .tc S8x256 32 [0] iota_S8x256_d0_w32) (broadcast S8x256 n)) (dynamicRotate 0 n none v rotates_S8x256_d0)
    (broadcast S8x256 z)

/-- One doubling of the decays of a piece, -/
def doubleA (n : BitVec 32) (a : FVec F S8x256 .f32) : FVec F S8x256 .f32 :=
  mulf a (down n (Scalar.ofBits .f32 0x3F800000#32) a)

/-- and of its states. -/
def doubleU (n : BitVec 32) (a u : FVec F S8x256 .f32) : FVec F S8x256 .f32 :=
  addf (mulf a (down n (Scalar.ofBits .f32 0x00000000#32) u)) u

/-- The states of an eight-row piece from its decays, its inputs and the state before it. -/
def piece (a u : FVec F S8x256 .f32) (h : FVec F S1x256 .f32) : FVec F S8x256 .f32 :=
  addf (mulf (doubleA 4#32 (doubleA 2#32 (doubleA 1#32 a))) (broadcastTo S8x256 h broadcasts_S1x256_S8x256))
    (doubleU 4#32 (doubleA 2#32 (doubleA 1#32 a)) (doubleU 2#32 (doubleA 1#32 a) (doubleU 1#32 a u)))

/-- The piece of trip `k`. -/
def pieceAt (a : FVec F S512x256 .f32) (k : Fin k0_t1_loop.trips) (s : FVec F S1x256 .f32 × FVec F S512x256 .f32) : FVec F S8x256 .f32 :=
  piece (VecWindow.window a (k0_off1 k) S8x256.size (k0_off1_inb k)) (VecWindow.window s.2 (k0_off1 k) S8x256.size (k0_off1_inb k)) s.1

/-- What a trip hands the next: the last row of its piece, and the rows with the piece put in place. -/
def trip (a : FVec F S512x256 .f32) (k : Fin k0_t1_loop.trips) (s : FVec F S1x256 .f32 × FVec F S512x256 .f32) :
    FVec F S1x256 .f32 × FVec F S512x256 .f32 :=
  (extractStridedSlice S1x256 ![7, 0] (pieceAt a k s) slices_S8x256_o7_0_S1x256, VecWindow.put s.2 (k0_off1 k) S8x256.size (pieceAt a k s))

/-- The carried row and the rows before trip `k`. -/
def walk (a u : FVec F S512x256 .f32) (h : FVec F S1x256 .f32) : ℕ → FVec F S1x256 .f32 × FVec F S512x256 .f32
  | 0 => (h, u)
  | k + 1 => if hk : k < k0_t1_loop.trips then trip a ⟨k, hk⟩ (walk a u h k) else walk a u h k

/-- A trip takes one step of the walk. -/
theorem walk_succ (a u : FVec F S512x256 .f32) (h : FVec F S1x256 .f32) (k : Fin k0_t1_loop.trips) :
    walk a u h (k.val + 1) = trip a k (walk a u h k.val) := by
  show (if hk : k.val < k0_t1_loop.trips then _ else _) = _
  rw [dif_pos k.isLt]

/-- The state before the point's row block: zero at the start of a sequence, else the carried one. -/
def before (i : grid0.Coords) (h : FVec F S1x256 .f32) : FVec F S1x256 .f32 :=
  if first i = 1#1 then broadcast S1x256 (Scalar.ofBits .f32 0x00000000#32 : F .f32) else h

/-- The walk over a whole row block. -/
def run (x : Vec F S512x256 .f32) (w : Vec F S1x256x512 .bf16) (b : Vec F S1x1x512 .f32) (l : Vec F S1x1x256 .f32) (h : FVec F S1x256 .f32) :
    FVec F S1x256 .f32 × FVec F S512x256 .f32 :=
  walk (decay x w b l) (input x w b l) h k0_t1_loop.trips

/-- The block the body stores: the states times the second branch. -/
def out (x y : Vec F S512x256 .f32) (w : Vec F S1x256x512 .bf16) (b : Vec F S1x1x512 .f32) (l : Vec F S1x1x256 .f32) (h : FVec F S1x256 .f32) :
    FVec F S512x256 .bf16 :=
  truncf .bf16 (mulf (run x w b l h).2 y) bitsLt_bf16_f32

/-- Between trips: the carried row and the rows are the walk's, the decays stay. -/
def inv (c : Dev nD) (arg10 arg11 : Memref sig .tc .vmem S512x256 .f32) (a u : FVec F S512x256 .f32) (h : FVec F S1x256 .f32)
    (k : ℕ) (acc : Vec F S1x256 .f32) : sProp 𝕄 :=
  iprop(⌜acc = (walk a u h k).1⌝
    ∗ owns (c : Thread nD τ) arg10 fullShare a
    ∗ owns (c : Thread nD τ) arg11 fullShare (walk a u h k).2)

set_option maxHeartbeats 2000000 in
/-- A run of the body at any point, whichever way its test goes. -/
theorem run_any (c : Dev nD) (i : grid0.Coords)
    (arg3 : Memref sig .tc .vmem S512x256 .f32) (harg3 : arg3.IsWhole) (arg4 : Memref sig .tc .vmem S512x256 .f32) (harg4 : arg4.IsWhole)
    (arg5 : Memref sig .tc .vmem S1x256x512 .bf16) (harg5 : arg5.IsWhole) (arg6 : Memref sig .tc .vmem S1x1x512 .f32) (harg6 : arg6.IsWhole)
    (arg7 : Memref sig .tc .vmem S1x1x256 .f32) (harg7 : arg7.IsWhole) (arg8 : Memref sig .tc .vmem S512x256 .bf16) (harg8 : arg8.IsWhole)
    (arg9 : Memref sig .tc .vmem S1x256 .f32) (harg9 : arg9.IsWhole) (arg10 : Memref sig .tc .vmem S512x256 .f32) (harg10 : arg10.IsWhole)
    (arg11 : Memref sig .tc .vmem S512x256 .f32) (harg11 : arg11.IsWhole)
    (x0 : Vec F S512x256 .f32) (x1 : Vec F S512x256 .f32) (x2 : Vec F S1x256x512 .bf16) (x3 : Vec F S1x1x512 .f32) (x4 : Vec F S1x1x256 .f32)
    (x9 : Vec F S1x256 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ owns (c : Thread nD τ) arg9 fullShare x9
        ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4
          ∗ owns (c : Thread nD τ) arg8 fullShare (out x0 x1 x2 x3 x4 (before i x9))
          ∗ owns (c : Thread nD τ) arg9 fullShare (run x0 x2 x3 x4 (before i x9)).1
          ∗ (∃ d, owns (c : Thread nD τ) arg10 fullShare d) ∗ (∃ d, owns (c : Thread nD τ) arg11 fullShare d)) -∗ K ⟨⟩))
      ⊢ wp frame (wpE (defs₀ (F := F)) Variants.none c none) E (cc0_lru_core i arg3 harg3 arg4 harg4 arg5 harg5 arg6 harg6 arg7 harg7 arg8 harg8 arg9 harg9 arg10 harg10 arg11 harg11) K := by
  generalize hb : before i x9 = h
  unfold cc0_lru_core owns
  unfold before at hb
  by_cases h1 : first i = 1#1
  all_goals
    first | rw [if_pos h1] at hb | rw [if_neg h1] at hb
    iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%f9, %hf9, H9⟩, ⟨%da, %fa, -, HA⟩, ⟨%du, %fu, -, HU⟩, Hk⟩
    sl_exec (disch := sl_exact h1)
    sl_for (inv c arg10 arg11 (decay x0 x2 x3 x4) (input x0 x2 x3 x4) h) $$ [HA HU]
    case region =>
      intro k acc
      unfold inv owns
      iintro ⟨%hacc, ⟨%fa', %hfa', HA⟩, ⟨%fu', %hfu', HU⟩⟩
      sl_exec
      sl_step
      isplitr
      · ipureintro
        rw [walk_succ]
        subst hacc
        unfold trip pieceAt
        rw [← hfu', ← hfa']
        sl_unfold_words
        simp only [shapeCast_self]
        rfl
      isplitl [HA]
      · iexists _; isplitr; swap; · iexact HA
        ipureintro; exact hfa'
      iexists _; isplitr; swap; · iexact HU
      ipureintro
      rw [walk_succ, View.read_writes_cons_put _ _ _ _ _ rfl]
      subst hacc
      unfold trip pieceAt
      rw [← hfu', ← hfa']
      sl_unfold_words
      simp only [shapeCast_self]
      rfl
    · unfold inv owns
      isplitr
      · ipureintro
        subst hb
        sl_unfold_words
        first
        | rw [View.readAt_full arg9.view f9]; exact hf9
        | rw [View.readCov_full]; simp only [shapeCast_self]; rfl
      isplitl [HA]
      · iexists _; isplitr; swap; · iexact HA
        ipureintro
        sl_unfold_words
        rw [View.read_writes_full]
        subst hf0 hf2 hf3 hf4
        unfold decay logA gates soft
        rw [View.readAt_full arg3.view f0, View.readAt_full arg5.view f2, View.readAt_full arg6.view f3, View.readAt_full arg7.view f4]
        simp only [shapeCast_self]
      iexists _; isplitr; swap; · iexact HU
      ipureintro
      sl_unfold_words
      rw [View.read_writes_full]
      subst hf0 hf2 hf3 hf4
      unfold input decay logA gates soft
      rw [View.readAt_full arg3.view f0, View.readAt_full arg5.view f2, View.readAt_full arg6.view f3, View.readAt_full arg7.view f4]
      simp only [shapeCast_self]
      rfl
    iintro %acc HI
    unfold inv owns
    icases HI with ⟨%hacc, ⟨%fa', %hfa', HA⟩, ⟨%fu', %hfu', HU⟩⟩
    sl_exec
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H8]
    · iexists _; isplitr; swap; · iexact H8
      ipureintro
      rw [View.read_writes_full]
      subst hf1
      sl_unfold_words
      unfold out run
      rw [View.readAt_full arg4.view f1, View.readAt_full arg11.view fu', hfu']
    isplitl [H9]
    · iexists _; isplitr; swap; · iexact H9
      ipureintro
      first | rw [View.read_writes_full] | rw [View.read_writes_cons_put _ _ _ _ _ rfl]
      sl_unfold_words
      unfold run
      rw [shapeCast_self]
      exact hacc
    isplitl [HA]
    · iexists _; iexists _; isplitr; swap; · iexact HA
      ipureintro; rfl
    iexists _; iexists _; isplitr; swap; · iexact HU
    ipureintro; rfl

end Cert.LruIdeal.Rec

end
-- ==== Proof.RecFrame.lean ====
/-
  The gated linear recurrence: the invariant that carries the state from one row block to the next, the body
  obligation at every grid point, and the frame of the launch.
-/
module

public import proofs.«01_k».proof.Proof.RecBody
public import Idealize.ShloMosaic.Lib.Claim

@[expose] public section

set_option maxRecDepth 16384

noncomputable section

namespace Cert.LruIdeal.Rec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.LruIdeal Cert.LruIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point's own blocks through the walk, from the state before it. -/
def runAt (c : Dev nD) (t : Fin cfg0.N) (h : FVec F S1x256 .f32) : FVec F S1x256 .f32 × FVec F S512x256 .f32 :=
  run (iblk m c 0 t) (iblk m c 2 t) (iblk m c 3 t) (iblk m c 4 t) (before (grid0.coords t) h)

/-- The carried state before point `t`. -/
def stateAt (c : Dev nD) : ℕ → FVec F S1x256 .f32
  | 0 => broadcast S1x256 (Scalar.ofBits .f32 0x00000000#32 : F .f32)
  | t + 1 => if ht : t < cfg0.N then (runAt m c ⟨t, ht⟩ (stateAt c t)).1 else stateAt c t

/-- A point carries on from the state before it. -/
theorem stateAt_succ (c : Dev nD) (t : Fin cfg0.N) : stateAt m c (t.val + 1) = (runAt m c t (stateAt m c t.val)).1 := by
  show (if ht : t.val < cfg0.N then _ else _) = _
  rw [dif_pos t.isLt]

/-- The block stored at a point. -/
def outAt (c : Dev nD) (t : Fin cfg0.N) : FVec F S512x256 .bf16 :=
  out (iblk m c 0 t) (iblk m c 1 t) (iblk m c 2 t) (iblk m c 3 t) (iblk m c 4 t) (before (grid0.coords t) (stateAt m c t.val))

/-- The carried state starts afresh at the first row block of each sequence and column block. -/
theorem first_iff : ∀ t : Fin cfg0.N, first (grid0.coords t) = 1#1 ↔ t.val % 16 = 0 :=
  (by decide +kernel : ∀ t : Fin grid0.N, first (grid0.coords t) = 1#1 ↔ t.val % 16 = 0)

/-- Under the invariant the body finds the state before its row block. -/
theorem before_eq (c : Dev nD) (t : Fin cfg0.N) (X : FVec F S1x256 .f32) (hX : t.val ≠ 0 → X = stateAt m c t.val) :
    before (grid0.coords t) X = before (grid0.coords t) (stateAt m c t.val) := by
  by_cases h : t.val = 0
  · unfold before
    rw [if_pos ((first_iff t).mpr (by rw [h])), if_pos ((first_iff t).mpr (by rw [h]))]
  · rw [hX h]

/-- What the body carries before point `t`: the state, some decays and states of the last piece, the generator. -/
def Φ (c : Dev nD) (t : ℕ) : sProp 𝕄 :=
  iprop((∃ X, ⌜t ≠ 0 → X = stateAt m c t⌝ ∗ owns (c : Thread nD τ) (Memref.whole cc0_scratch0) fullShare X)
    ∗ (∃ d, owns (c : Thread nD τ) (Memref.whole cc0_scratch1) fullShare d)
    ∗ (∃ d, owns (c : Thread nD τ) (Memref.whole cc0_scratch2) fullShare d) ∗ ∃ r, prngReg c r)

/-- The proof data: the arrays as the region finds them, each input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := Φ m c t.val
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- The input buffers hold their blocks before every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: it finds the state before its row block, stores `outAt` and leaves the state after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.castSucc = Φ m c t.val from rfl, show (dats m 0 c).Φ t.succ = Φ m c (t.val + 1) from rfl,
    show (dats m 0 c).owesAt () t.succ = (dats m 0 c).owesAt () t.castSucc from rfl,
    after0, after1, after2, after3, after4, after5]
  unfold Φ
  iintro ⟨⟨⟨%X, %hX, HX⟩, HE, HG, Hp⟩, Ho, ⟨%d0, H0⟩, ⟨%d1, H1⟩, ⟨%d2, H2⟩, ⟨%d3, H3⟩, ⟨%d4, H4⟩, ⟨%d5, H5⟩⟩
  iapply (run_any c (grid0.coords t) _ _ _ _ _ _ _ _ _ _ _ _ _ _ _ _ _ _ (iblk m c 0 t) (iblk m c 1 t) (iblk m c 2 t) (iblk m c 3 t) (iblk m c 4 t) X Set.univ _)
  isplitl [H0]; · iexact H0
  isplitl [H1]; · iexact H1
  isplitl [H2]; · iexact H2
  isplitl [H3]; · iexact H3
  isplitl [H4]; · iexact H4
  isplitl [H5]; · iexists _; iexact H5
  isplitl [HX]; · iexact HX
  isplitl [HE]; · iexact HE
  isplitl [HG]; · iexact HG
  rw [before_eq m c t X hX]
  iintro ⟨H0, H1, H2, H3, H4, H5, HX, HE, HG⟩
  isplitl [HX HE HG Hp]
  · isplitl [HX]
    · iexists _; isplitr; swap; · iexact HX
      ipureintro; exact fun _ => (stateAt_succ m c t).symm
    isplitl [HE]; · iexact HE
    isplitl [HG]; · iexact HG
    iexact Hp
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch buffers as memrefs owned at some contents. -/
theorem scratch_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- Before the first point the carried row holds anything. -/
theorem enter (c : Dev nD) : (Pipeline.ΦA spec0 c : sProp 𝕄) ⊢ (dats m 0 c).Φ 0 := by
  rw [scratch_eq, show (dats m 0 c).Φ 0 = Φ m c 0 from rfl]
  unfold Φ
  iintro ⟨⟨⟨%X, HX⟩, HE, HG⟩, Hp⟩
  isplitl [HX]
  · iexists X; isplitr; swap; · iexact HX
    ipureintro; exact fun h => absurd rfl h
  isplitl [HE]; · iexact HE
  isplitl [HG]; · iexact HG
  iexact Hp

/-- After the last point the carried state is forgotten. -/
theorem leave (c : Dev nD) : (dats m 0 c).Φ (Fin.last cfg0.N) ⊢ (Pipeline.ΦA spec0 c : sProp 𝕄) := by
  rw [scratch_eq, show (dats m 0 c).Φ (Fin.last cfg0.N) = Φ m c cfg0.N from rfl]
  unfold Φ
  iintro ⟨⟨%X, %hX, HX⟩, HE, HG, Hp⟩
  isplitl [HX HE HG]
  · isplitl [HX]; · iexists X; iexact HX
    isplitl [HE]; · iexact HE
    iexact HG
  iexact Hp

set_option backward.isDefEq.respectTransparency.types false in
/-- The launch: every array ends at what the proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the run terminates, the arguments end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.LruIdeal.Rec

end
-- ==== Proof.RecCarry.lean ====
/-
  The gated linear recurrence as compiled: it is the same program as the one read on
  the extended reals, so the frame proved of that one at any reading of the floats is its frame too.
-/
module

public import proofs.«01_k».proof.Proof.Gen.Lru.Frame
public import proofs.«01_k».proof.Proof.RecFrame

@[expose] public section

noncomputable section

namespace Cert.Lru.Rec

open Idealize.ShloMosaic Idealize.ShloMosaic.TcCoe Idealize.SL.Sem

variable {F : FTy → Type} [FloatOps F]

/-- The two bodies are one. -/
theorem body_eq : @Cert.Lru.cc0_lru_core F _ _ = @Cert.LruIdeal.cc0_lru_core F _ _ := rfl

/-- The two programs on the device are one. -/
theorem main_eq : @Cert.Lru.main F _ _ = @Cert.LruIdeal.main F _ _ := rfl

/-- The two tables of bodies are one. -/
theorem defs₀_eq : @Cert.Lru.defs₀ F _ _ = @Cert.LruIdeal.defs₀ F _ _ := by
  unfold Cert.Lru.defs₀ Cert.LruIdeal.defs₀
  congr 1
  funext l x
  match l, x with
  | 0, (t, s) => rfl

/-- The two tables with the pipeline's calls are one. -/
theorem defs_eq : @Cert.Lru.defs F _ _ = @Cert.LruIdeal.defs F _ _ := by
  unfold Cert.Lru.defs Cert.LruIdeal.defs
  exact congrArg (Pipeline.defs Cert.LruIdeal.pcfgs) defs₀_eq

open Cert.Lru in
/-- The frame: the run terminates, the arguments end unchanged, every semaphore counter ends at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [main_eq, defs_eq]
  exact Cert.LruIdeal.Rec.frame m ρ

end Cert.Lru.Rec

end
-- ==== Proof.RecScalar.lean ====
/-
  The scalar facts of the gated linear recurrence, on extended reals: the decay lies between zero and one, the
  kernel's form of the input's factor is the reference's, and eight steps of the recurrence are its three
  doublings.
-/
module

public import proofs.«01_k».proof.Proof.Proj
public import proofs.«01_k».proof.Proof.SbScalar

@[expose] public section

noncomputable section

namespace Cert.Rec

open Idealize.ShloMosaic

/-- An exponential is not negative. -/
theorem exp_nonneg (x : EReal) : 0 ≤ Ideal.exp x := by
  induction x using EReal.rec with
  | bot => exact le_refl 0
  | top => exact le_top
  | coe r => exact EReal.coe_nonneg.mpr (Real.exp_pos r).le

/-- A logistic value is not negative. -/
theorem logistic_nonneg (x : EReal) : 0 ≤ Ideal.logistic x := by
  unfold Ideal.logistic Ideal.div
  have h : (0 : EReal) < 1 + Ideal.exp (-x) := lt_of_lt_of_le zero_lt_one (le_add_of_nonneg_right (exp_nonneg _))
  rw [if_neg h.ne', one_mul]
  exact EReal.inv_nonneg_of_nonneg h.le

/-- A softplus value is not negative. -/
theorem sp_nonneg (y : EReal) : 0 ≤ Sb.sp y := by
  induction y using EReal.rec with
  | bot => rw [Sb.sp_bot]
  | top => rw [Sb.sp_top]; exact le_top
  | coe r =>
    rw [Sb.sp_coe]
    have h : 0 ≤ Real.log (1 + Real.exp (-|r|)) := Real.log_nonneg (by linarith [Real.exp_pos (-|r|)])
    exact EReal.coe_nonneg.mpr (by linarith [le_max_right r 0])

/-- The constant of the decay's exponent. -/
theorem eight : Ideal.ofBits .f32 0xC1000000#32 = -8 := by
  simp [Ideal.ofBits, Ideal.ieee, -EReal.coe_mul]; norm_num; rfl

/-- The constant that doubles the exponent. -/
theorem two : Ideal.ofBits .f32 0x40000000#32 = 2 := by
  simp [Ideal.ofBits, Ideal.ieee, -EReal.coe_mul]; norm_num; rfl

/-- The exponent is not positive. -/
theorem exponent_nonpos (g s : EReal) (hg : 0 ≤ g) (hs : 0 ≤ s) : Ideal.ofBits .f32 0xC1000000#32 * g * s ≤ 0 := by
  rw [eight, EReal.neg_mul, EReal.neg_mul, EReal.neg_le, neg_zero]
  exact mul_nonneg (mul_nonneg (by norm_num) hg) hs

/-- The decay is not infinite. -/
theorem decay_ne_top (l : EReal) (hl : l ≤ 0) : Ideal.exp l ≠ ⊤ := by
  induction l using EReal.rec with
  | bot => exact EReal.zero_ne_top
  | top => exact absurd hl (by simp)
  | coe r => exact EReal.coe_ne_top _

/-- The input's factor: `1 - exp (2 l)` by the hyperbolic tangent, infinite exponents included. -/
theorem factor (l : EReal) (hl : l ≤ 0) :
    (0 - Ideal.tanh l) * (Ideal.exp l * Ideal.exp l + 1) = -Ideal.expm1 (Ideal.ofBits .f32 0x40000000#32 * l) := by
  rw [two]
  unfold Ideal.expm1
  induction l using EReal.rec with
  | bot =>
    rw [show (2 : EReal) * ⊥ = ⊥ from EReal.mul_bot_of_pos (by norm_num)]
    show (0 - (-1 : EReal)) * (0 * 0 + 1) = -((0 : EReal) - 1)
    simp
  | top => exact absurd hl (by simp)
  | coe r =>
    have h2 : (2 : EReal) * (r : EReal) = ((2 * r : ℝ) : EReal) := by rw [EReal.coe_mul]; rfl
    rw [h2]
    show ((0 : ℝ) - ((Real.tanh r : ℝ) : EReal)) * ((Real.exp r : ℝ) * (Real.exp r : ℝ) + ((1 : ℝ) : EReal)) = -(((Real.exp (2 * r) : ℝ) : EReal) - ((1 : ℝ) : EReal))
    rw [← EReal.coe_sub, ← EReal.coe_mul, ← EReal.coe_add, ← EReal.coe_mul, ← EReal.coe_sub, ← EReal.coe_neg]
    congr 1
    rw [Real.tanh_eq_sinh_div_cosh, Real.sinh_eq, Real.cosh_eq, Real.exp_neg, two_mul, Real.exp_add]
    have hp := Real.exp_pos r
    field_simp
    ring

/-- The recurrence from `h`, its first `n` steps. -/
def go (a u : ℕ → EReal) (h : EReal) : ℕ → EReal
  | 0 => h
  | n + 1 => a n * go a u h n + u n

/-- Steps after steps. -/
theorem go_add (a u : ℕ → EReal) (h : EReal) (n k : ℕ) :
    go a u h (n + k) = go (fun t => a (n + t)) (fun t => u (n + t)) (go a u h n) k := by
  induction k with
  | zero => rfl
  | succ k ih =>
    show a (n + k) * go a u h (n + k) + u (n + k) = _
    rw [ih]
    rfl

/-- Steps that agree lead to the same state. -/
theorem go_congr (a u a' u' : ℕ → EReal) (h : EReal) (n : ℕ) (ha : ∀ t < n, a t = a' t) (hu : ∀ t < n, u t = u' t) :
    go a u h n = go a' u' h n := by
  induction n with
  | zero => rfl
  | succ n ih =>
    show a n * go a u h n + u n = a' n * go a' u' h n + u' n
    rw [ih (fun t ht => ha t (by omega)) (fun t ht => hu t (by omega)), ha n (by omega), hu n (by omega)]

/-- A doubling of decays by `n` rows, -/
def dblA (n : ℕ) (a : ℕ → EReal) (r : ℕ) : EReal := a r * if n ≤ r then a (r - n) else 1

/-- and of states. -/
def dblU (n : ℕ) (a u : ℕ → EReal) (r : ℕ) : EReal := a r * (if n ≤ r then u (r - n) else 0) + u r

/-- Three doublings are the steps one after another, on eight rows, wherever no decay is negative or infinite. -/
theorem doublings (a u : ℕ → EReal) (h : EReal) (h0 : ∀ t, 0 ≤ a t) (h1 : ∀ t, a t ≠ ⊤) (r : ℕ) (hr : r < 8) :
    dblA 4 (dblA 2 (dblA 1 a)) r * h + dblU 4 (dblA 2 (dblA 1 a)) (dblU 2 (dblA 1 a) (dblU 1 a u)) r = go a u h (r + 1) := by
  have dist : ∀ t (x y : EReal), a t * (x + y) = a t * x + a t * y := fun t x y => EReal.left_distrib_of_nonneg_of_ne_top (h0 t) (h1 t) x y
  interval_cases r <;> simp [dblA, dblU, go, dist, mul_assoc, add_assoc]

end Cert.Rec

end
-- ==== Proof.RecScan.lean ====
/-
  The gated linear recurrence: on the extended reals the walk over the eight-row pieces of a block, three
  doublings each, is the recurrence taken row by row.
-/
module

public import proofs.«01_k».proof.Proof.RecBody
public import proofs.«01_k».proof.Proof.RecScalar
public import Idealize.ShloMosaic.Lib.KernelVsHost
public import Idealize.ShloMosaic.Lib.WordCmp

@[expose] public section

set_option maxRecDepth 16384

noncomputable section

namespace Cert.LruIdeal.Rec

open Cert.LruIdeal Cert.LruIdeal.Gen Idealize.ShloMosaic
open Idealize.ShloMosaic.ValueIdx (ix2)
open Cert.Rec (go go_add go_congr dblA dblU doublings)

/-- Column `c` of a piece holds `f` row by row. -/
def Is (a : FVec Ideal S8x256 .f32) (f : ℕ → EReal) (c : ℕ) : Prop := ∀ i : S8x256.Idx, (i 1).val = c → (a i : EReal) = f (i 0).val

/-- A piece shifted down by `n` rows, at an element. -/
theorem down_at (n : ℕ) (hn : n < 8) (z : EReal) (a : FVec Ideal S8x256 .f32) (f : ℕ → EReal) (c : ℕ) (ha : Is a f c) :
    Is (down (F := Ideal) (BitVec.ofNat 32 n) z a) (fun r => if n ≤ r then f (r - n) else z) c := by
  intro i hi
  have h0 : (i 0).val < 8 := (i 0).isLt
  have h1 : (i 1).val < 256 := (i 1).isLt
  show Scalar.select (IntOp.cmpi .sge (iota .tc S8x256 32 [0] iota_S8x256_d0_w32 i) (BitVec.ofNat 32 n)) (dynamicRotate 0 (BitVec.ofNat 32 n) none a rotates_S8x256_d0 i) z = _
  rw [iota_single_apply]
  by_cases h : n ≤ (i 0).val
  · rw [(WordCmp.cmpi_sge_ofNat_eq_one_iff (w := 32) (by omega) (by omega)).mpr h]
    show (dynamicRotate 0 (BitVec.ofNat 32 n) none a rotates_S8x256_d0 i : EReal) = if n ≤ (i 0).val then _ else _
    rw [if_pos h, dynamicRotate_apply 0 (BitVec.ofNat 32 n) a rotates_S8x256_d0 i (ix2 (n0 := 8) (n1 := 256) ⟨(i 0).val - n, by omega⟩ (i 1)) fun b => match b with
      | ⟨0, _⟩ => by
        show (i 0).val - n = ((i 0).val + 8 - (BitVec.ofNat 32 n).toNat % 8) % 8
        rw [BitVec.toNat_ofNat]
        omega
      | ⟨1, _⟩ => rfl]
    exact ha _ hi
  · rw [(WordCmp.cmpi_sge_ofNat_eq_zero_iff (w := 32) (by omega) (by omega)).mpr h]
    show z = if n ≤ (i 0).val then _ else _
    rw [if_neg h]

/-- A doubling of decays, column by column, -/
theorem doubleA_at (n : ℕ) (hn : n < 8) (a : FVec Ideal S8x256 .f32) (f : ℕ → EReal) (c : ℕ) (ha : Is a f c) :
    Is (doubleA (F := Ideal) (BitVec.ofNat 32 n) a) (dblA n f) c := by
  intro i hi
  have h := down_at n hn 1 a f c ha i hi
  show (a i : EReal) * down (F := Ideal) (BitVec.ofNat 32 n) (Ideal.ofBits .f32 0x3F800000#32) a i = _
  rw [Proj.one_f32, h, ha i hi]
  rfl

/-- and of states. -/
theorem doubleU_at (n : ℕ) (hn : n < 8) (a u : FVec Ideal S8x256 .f32) (f g : ℕ → EReal) (c : ℕ) (ha : Is a f c) (hu : Is u g c) :
    Is (doubleU (F := Ideal) (BitVec.ofNat 32 n) a u) (dblU n f g) c := by
  intro i hi
  have h := down_at n hn 0 u g c hu i hi
  show (a i : EReal) * down (F := Ideal) (BitVec.ofNat 32 n) (Ideal.ofBits .f32 0x00000000#32) u i + u i = _
  rw [Proj.zero_f32, h, ha i hi, hu i hi]
  rfl

/-- The states of a piece: the recurrence from the state before it. -/
theorem piece_at (a u : FVec Ideal S8x256 .f32) (h : FVec Ideal S1x256 .f32) (f g : ℕ → EReal) (c : ℕ) (s : EReal) (ha : Is a f c) (hu : Is u g c)
    (hs : ∀ i : S1x256.Idx, (i 1).val = c → (h i : EReal) = s) (h0 : ∀ t, 0 ≤ f t) (h1 : ∀ t, f t ≠ ⊤) :
    Is (piece (F := Ideal) a u h) (fun r => go f g s (r + 1)) c := by
  intro i hi
  have hr : (i 0).val < 8 := (i 0).isLt
  have a1 := doubleA_at 1 (by decide) a f c ha
  have u1 := doubleU_at 1 (by decide) a u f g c ha hu
  have a2 := doubleA_at 2 (by decide) _ _ c a1
  have u2 := doubleU_at 2 (by decide) _ _ _ _ c a1 u1
  have a3 := doubleA_at 4 (by decide) _ _ c a2 i hi
  have u3 := doubleU_at 4 (by decide) _ _ _ _ c a2 u2 i hi
  show (doubleA (F := Ideal) 4#32 (doubleA 2#32 (doubleA 1#32 a)) i : EReal) * (broadcastTo S8x256 h broadcasts_S1x256_S8x256 i : EReal)
    + doubleU (F := Ideal) 4#32 (doubleA 2#32 (doubleA 1#32 a)) (doubleU 2#32 (doubleA 1#32 a) (doubleU 1#32 a u)) i = _
  rw [broadcastTo_apply h broadcasts_S1x256_S8x256 i (ix2 (n0 := 1) (n1 := 256) 0 (i 1)) fun b => match b with
      | ⟨0, _⟩ => rfl
      | ⟨1, _⟩ => rfl, hs _ hi]
  exact (congrArg₂ (fun x y : EReal => x * s + y) a3 u3).trans (doublings f g s h0 h1 _ hr)

/-- The loop takes 64 trips. -/
theorem trips_eq : k0_t1_loop.trips = 64 := by decide

/-- Before trip `k` the carried row is the state after `8 k` rows, and the rows before it hold their states. -/
theorem walk_at (A U : FVec Ideal S512x256 .f32) (h : FVec Ideal S1x256 .f32) (f g : ℕ → EReal) (c : ℕ) (s : EReal)
    (hA : ∀ i : S512x256.Idx, (i 1).val = c → (A i : EReal) = f (i 0).val) (hU : ∀ i : S512x256.Idx, (i 1).val = c → (U i : EReal) = g (i 0).val)
    (hs : ∀ i : S1x256.Idx, (i 1).val = c → (h i : EReal) = s) (h0 : ∀ t, 0 ≤ f t) (h1 : ∀ t, f t ≠ ⊤) (k : ℕ) (hk : k ≤ 64) :
    (∀ i : S1x256.Idx, (i 1).val = c → ((walk (F := Ideal) A U h k).1 i : EReal) = go f g s (8 * k))
    ∧ ∀ i : S512x256.Idx, (i 1).val = c → ((walk (F := Ideal) A U h k).2 i : EReal) = if (i 0).val < 8 * k then go f g s ((i 0).val + 1) else g (i 0).val := by
  induction k with
  | zero => exact ⟨hs, fun i hi => by rw [if_neg (by omega)]; exact hU i hi⟩
  | succ k ih =>
    obtain ⟨ih1, ih2⟩ := ih (by omega)
    have hk' : k < k0_t1_loop.trips := by rw [trips_eq]; omega
    have hoff := k0_off1_eq ⟨k, hk'⟩
    have e0 : k0_off1 ⟨k, hk'⟩ 0 = 8 * k := by rw [hoff]; rfl
    have e1 : k0_off1 ⟨k, hk'⟩ 1 = 0 := by rw [hoff]; rfl
    rw [show walk (F := Ideal) A U h (k + 1) = trip A ⟨k, hk'⟩ (walk A U h k) from walk_succ A U h ⟨k, hk'⟩]
    have hp : Is (pieceAt (F := Ideal) A ⟨k, hk'⟩ (walk A U h k)) (fun r => go f g s (8 * k + (r + 1))) c := by
      intro i hi
      show _ = go f g s (8 * k + ((i 0).val + 1))
      rw [go_add]
      refine piece_at _ _ _ (fun t => f (8 * k + t)) (fun t => g (8 * k + t)) c (go f g s (8 * k)) ?_ ?_ ih1 (fun t => h0 _) (fun t => h1 _) i hi
      · intro j hj
        refine (hA _ ?_).trans (congrArg f ?_)
        · show k0_off1 ⟨k, hk'⟩ 1 + 1 * (j 1).val = c
          rw [e1]; omega
        · show k0_off1 ⟨k, hk'⟩ 0 + 1 * (j 0).val = 8 * k + (j 0).val
          rw [e0]; omega
      · intro j hj
        refine (ih2 ((Rect.unit (s := S512x256) (k0_off1 ⟨k, hk'⟩) S8x256.size (k0_off1_inb ⟨k, hk'⟩)).emb j) ?_).trans ?_
        · show k0_off1 ⟨k, hk'⟩ 1 + 1 * (j 1).val = c
          rw [e1]; omega
        · have e : (((Rect.unit (s := S512x256) (k0_off1 ⟨k, hk'⟩) S8x256.size (k0_off1_inb ⟨k, hk'⟩)).emb j) 0).val = 8 * k + (j 0).val := by
            show k0_off1 ⟨k, hk'⟩ 0 + 1 * (j 0).val = 8 * k + (j 0).val
            rw [e0]; omega
          rw [e, if_neg (by omega)]
    constructor
    · intro i hi
      show (extractStridedSlice S1x256 ![7, 0] (pieceAt (F := Ideal) A ⟨k, hk'⟩ (walk A U h k)) slices_S8x256_o7_0_S1x256 i : EReal) = _
      have hz : (i 0).val < 1 := (i 0).isLt
      rw [extractStridedSlice_apply ![7, 0] (pieceAt (F := Ideal) A ⟨k, hk'⟩ (walk A U h k)) slices_S8x256_o7_0_S1x256 i (ix2 (n0 := 8) (n1 := 256) 7 (i 1)) fun b => match b with
        | ⟨0, _⟩ => by show 7 = 7 + (i 0).val; omega
        | ⟨1, _⟩ => by show (i 1).val = 0 + (i 1).val; omega]
      exact (hp _ hi).trans (congrArg (go f g s) (show 8 * k + (7 + 1) = 8 * (k + 1) by omega))
    · intro i hi
      have hc : (i 1).val < 256 := (i 1).isLt
      show (VecWindow.put (walk (F := Ideal) A U h k).2 (k0_off1 ⟨k, hk'⟩) S8x256.size (pieceAt A ⟨k, hk'⟩ (walk A U h k)) i : EReal) = _
      unfold VecWindow.put
      by_cases hin : 8 * k ≤ (i 0).val ∧ (i 0).val < 8 * k + 8
      · rw [dif_pos (fun a => match a with
          | ⟨0, _⟩ => by show k0_off1 ⟨k, hk'⟩ 0 ≤ (i 0).val ∧ (i 0).val < k0_off1 ⟨k, hk'⟩ 0 + 8; rw [e0]; exact hin
          | ⟨1, _⟩ => by show k0_off1 ⟨k, hk'⟩ 1 ≤ (i 1).val ∧ (i 1).val < k0_off1 ⟨k, hk'⟩ 1 + 256; rw [e1]; omega)]
        rw [if_pos (by omega)]
        refine (hp _ ?_).trans (congrArg (go f g s) ?_)
        · show (i 1).val - k0_off1 ⟨k, hk'⟩ 1 = c
          rw [e1]; omega
        · show 8 * k + ((i 0).val - k0_off1 ⟨k, hk'⟩ 0 + 1) = (i 0).val + 1
          rw [e0]; omega
      · rw [dif_neg (fun H => hin (by
          have := H 0
          rw [e0] at this
          exact this)), ih2 i hi]
        by_cases hl : (i 0).val < 8 * k
        · rw [if_pos hl, if_pos (by omega)]
        · rw [if_neg hl, if_neg (by omega)]

end Cert.LruIdeal.Rec

end
-- ==== Proof.RecSpec.lean ====
/-
  The gated linear recurrence as a function of the arguments: gates, decays, inputs, and the state along a
  sequence.
-/
module

public import proofs.«01_k».proof.Proof.RecScalar
public import proofs.«01_k».proof.Proof.Taps

@[expose] public section

noncomputable section

namespace Cert.Rec

open Idealize.ShloMosaic

/-- A gate at a row and a column: the column's block of 256 through its weights, plus its bias, through the logistic. -/
def gate (X : Proj.Mat 16384 4096) (W : Proj.Stack 16 256 256) (b : Proj.Mat 16 256) (r j : ℕ) : EReal :=
  Ideal.logistic ((∑ k : Fin 256, Proj.rd X r (256 * (j / 256) + k.val) * Proj.rd3 W (j / 256) k.val (j % 256)) + Proj.rd b (j / 256) (j % 256))

variable (X Y : Proj.Mat 16384 4096) (Wa : Proj.Stack 16 256 256) (ba : Proj.Mat 16 256) (Wx : Proj.Stack 16 256 256) (bx : Proj.Mat 16 256)
  (L : Proj.Row 4096)

/-- The logarithm of the decay. -/
def logDecay (r j : ℕ) : EReal := Ideal.ofBits .f32 0xC1000000#32 * gate X Wa ba r j * Sb.sp (-Proj.rd1 L j)

/-- The decay. -/
def dec (r j : ℕ) : EReal := Ideal.exp (logDecay X Wa ba L r j)

/-- What a row adds to the state. -/
def inp (r j : ℕ) : EReal :=
  Ideal.sqrt (-Ideal.expm1 (Ideal.ofBits .f32 0x40000000#32 * logDecay X Wa ba L r j)) * gate X Wx bx r j * Proj.rd X r j

/-- The state of column `j` of sequence `b` after `n` rows. -/
def state (b j n : ℕ) : EReal := go (fun s => dec X Wa ba L (8192 * b + s) j) (fun s => inp X Wa ba Wx bx L (8192 * b + s) j) 0 n

/-- An element of the result: the state after its row, times the second branch. -/
def spec (r j : ℕ) : EReal := state X Wa ba Wx bx L (r / 8192) j (r % 8192 + 1) * Proj.rd Y r j

theorem logDecay_nonpos (r j : ℕ) : logDecay X Wa ba L r j ≤ 0 := exponent_nonpos _ _ (logistic_nonneg _) (sp_nonneg _)

theorem dec_nonneg (r j : ℕ) : 0 ≤ dec X Wa ba L r j := exp_nonneg _

theorem dec_ne_top (r j : ℕ) : dec X Wa ba L r j ≠ ⊤ := decay_ne_top _ (logDecay_nonpos X Wa ba L r j)

end Cert.Rec

end
-- ==== Proof.RecBlocks.lean ====
/-
  The gated linear recurrence: a grid point's blocks as entries of the arguments, and its decays and inputs as
  the specification's.
-/
module

public import proofs.«01_k».proof.Proof.RecFrame
public import proofs.«01_k».proof.Proof.RecScan
public import proofs.«01_k».proof.Proof.RecSpec
public import Idealize.ShloMosaic.Lib.Pipeline.ValueKit.Acc

@[expose] public section

set_option maxRecDepth 16384

noncomputable section

namespace Cert.LruIdeal.Rec

open Cert.LruIdeal Cert.LruIdeal.Gen Idealize.ShloMosaic Idealize.ShloMosaic.TcCoe Idealize.SL.Sem
open Idealize.ShloMosaic.ValueIdx (ix2 ix3)

variable (m : (ℓ : Loc nD τ sig) → Buf (Elt Ideal) ℓ)

/-- The features on device `c`, -/
abbrev feat (c : Dev nD) : Proj.Mat 16384 4096 := m ((c : Thread nD τ).loc main_arg0)
/-- the second branch, -/
abbrev branch (c : Dev nD) : Proj.Mat 16384 4096 := m ((c : Thread nD τ).loc main_arg1)
/-- the weights of the recurrence gate, -/
abbrev wA (c : Dev nD) : Proj.Stack 16 256 256 := m ((c : Thread nD τ).loc main_arg2)
/-- its biases, -/
abbrev bA (c : Dev nD) : Proj.Mat 16 256 := m ((c : Thread nD τ).loc main_arg3)
/-- the weights of the input gate, -/
abbrev wX (c : Dev nD) : Proj.Stack 16 256 256 := m ((c : Thread nD τ).loc main_arg4)
/-- its biases, -/
abbrev bX (c : Dev nD) : Proj.Mat 16 256 := m ((c : Thread nD τ).loc main_arg5)
/-- and the decay parameters. -/
abbrev lam (c : Dev nD) : Proj.Row 4096 := m ((c : Thread nD τ).loc main_arg6)

/-- The first row of a point's row block. -/
def row (t : ℕ) : ℕ := 512 * (16 * (t / 256) + t % 16)

/-- A point's column block. -/
def col (t : ℕ) : ℕ := t / 16 % 16

set_option maxHeartbeats 4000000 in
/-- The corner of each window's block in its array. -/
theorem corners : ∀ t : Fin grid0.N,
    (win0_0.index t 0 * win0_0.size 0 = 512 * (16 * (t.val / 256) + t.val % 16) ∧ win0_0.index t 1 * win0_0.size 1 = 256 * (t.val / 16 % 16))
    ∧ (win0_1.index t 0 * win0_1.size 0 = 512 * (16 * (t.val / 256) + t.val % 16) ∧ win0_1.index t 1 * win0_1.size 1 = 256 * (t.val / 16 % 16))
    ∧ (win0_2.index t 0 * win0_2.size 0 = t.val / 16 % 16 ∧ win0_2.index t 1 * win0_2.size 1 = 0 ∧ win0_2.index t 2 * win0_2.size 2 = 0)
    ∧ (win0_3.index t 0 * win0_3.size 0 = t.val / 16 % 16 ∧ win0_3.index t 1 * win0_3.size 1 = 0 ∧ win0_3.index t 2 * win0_3.size 2 = 0)
    ∧ (win0_4.index t 0 * win0_4.size 0 = t.val / 16 % 16 ∧ win0_4.index t 1 * win0_4.size 1 = 0 ∧ win0_4.index t 2 * win0_4.size 2 = 0)
    ∧ (win0_5.index t 0 * win0_5.size 0 = 512 * (16 * (t.val / 256) + t.val % 16) ∧ win0_5.index t 1 * win0_5.size 1 = 256 * (t.val / 16 % 16))
    ∧ win0_5.xsize (grid0.coords t) 0 = 512 ∧ win0_5.xsize (grid0.coords t) 1 = 256 := by
  decide +kernel

/-- The weights the region finds: the two gates' side by side. -/
theorem weights (c : Dev nD) : (V m c main_v1 : Proj.Stack 16 256 512)
    = concatenate S16x256x512 2 [⟨S16x256x256, wA m c⟩, ⟨S16x256x256, wX m c⟩] concatenates_S16x256x256_S16x256x256_S16x256x512_d2 := by
  show StableHlo.after hostOps0 (fun b => m (c, b)) main_v1 = _
  unfold hostOps0
  after_results
  rfl

/-- The biases it finds, -/
theorem biases (c : Dev nD) : (V m c main_v3 : Proj.Stack 16 1 512)
    = shapeCast S16x1x512 (concatenate S16x512 1 [⟨S16x256, bA m c⟩, ⟨S16x256, bX m c⟩] concatenates_S16x256_S16x256_S16x512_d1)
        shapeCasts_S16x512_S16x1x512 := by
  show StableHlo.after hostOps0 (fun b => m (c, b)) main_v3 = _
  unfold hostOps0
  after_results
  rfl

/-- and the decay parameters, by column block. -/
theorem params (c : Dev nD) : (V m c main_v4 : Proj.Stack 16 1 256) = shapeCast S16x1x256 (lam m c) shapeCasts_S4096_S16x1x256 := by
  show StableHlo.after hostOps0 (fun b => m (c, b)) main_v4 = _
  unfold hostOps0
  after_results
  rfl

/-- The weights at an element of the left half, -/
theorem weights_left (c : Dev nD) (n k l : ℕ) (hn : n < 16) (hk : k < 256) (hl : l < 256) :
    Proj.rd3 (V m c main_v1 : Proj.Stack 16 256 512) n k l = Proj.rd3 (wA m c) n k l := by
  rw [← Proj.rd3_eq (V m c main_v1 : Proj.Stack 16 256 512) n k l (ix3 (n0 := 16) (n1 := 256) (n2 := 512) ⟨n, hn⟩ ⟨k, hk⟩ ⟨l, by omega⟩) rfl rfl rfl, weights]
  refine (concatenate_pair_apply_left (t := S16x256x512) (s₁ := S16x256x256) (s₂ := S16x256x256) 2 (wA m c) (wX m c) _ _ rfl
    (ix3 (n0 := 16) (n1 := 256) (n2 := 256) ⟨n, hn⟩ ⟨k, hk⟩ ⟨l, hl⟩) (fun a => match a with
    | ⟨0, _⟩ => rfl
    | ⟨1, _⟩ => rfl
    | ⟨2, _⟩ => rfl)).trans (Proj.rd3_eq _ _ _ _ _ rfl rfl rfl)

/-- and of the right half. -/
theorem weights_right (c : Dev nD) (n k l : ℕ) (hn : n < 16) (hk : k < 256) (hl : l < 256) :
    Proj.rd3 (V m c main_v1 : Proj.Stack 16 256 512) n k (256 + l) = Proj.rd3 (wX m c) n k l := by
  rw [← Proj.rd3_eq (V m c main_v1 : Proj.Stack 16 256 512) n k (256 + l) (ix3 (n0 := 16) (n1 := 256) (n2 := 512) ⟨n, hn⟩ ⟨k, hk⟩ ⟨256 + l, by omega⟩) rfl rfl rfl, weights]
  refine (concatenate_pair_apply_right (t := S16x256x512) (s₁ := S16x256x256) (s₂ := S16x256x256) 2 (wA m c) (wX m c) _ _ rfl rfl
    (ix3 (n0 := 16) (n1 := 256) (n2 := 256) ⟨n, hn⟩ ⟨k, hk⟩ ⟨l, hl⟩) (fun a => match a with
    | ⟨0, _⟩ => fun _ => rfl
    | ⟨1, _⟩ => fun _ => rfl
    | ⟨2, _⟩ => fun h => absurd rfl h) (by show l + 256 = 256 + l; omega)).trans (Proj.rd3_eq _ _ _ _ _ rfl rfl rfl)

/-- A bias the region finds is the concatenation's. -/
theorem biases_at (c : Dev nD) (n l : ℕ) (hn : n < 16) (hl : l < 512) :
    Proj.rd3 (V m c main_v3 : Proj.Stack 16 1 512) n 0 l
      = concatenate S16x512 1 [⟨S16x256, bA m c⟩, ⟨S16x256, bX m c⟩] concatenates_S16x256_S16x256_S16x512_d1 (ix2 (n0 := 16) (n1 := 512) ⟨n, hn⟩ ⟨l, hl⟩) := by
  rw [← Proj.rd3_eq (V m c main_v3 : Proj.Stack 16 1 512) n 0 l (ix3 (n0 := 16) (n1 := 1) (n2 := 512) ⟨n, hn⟩ 0 ⟨l, hl⟩) rfl rfl rfl, biases]
  refine shapeCast_apply _ shapeCasts_S16x512_S16x1x512 _ (ix2 (n0 := 16) (n1 := 512) ⟨n, hn⟩ ⟨l, hl⟩) ?_
  rw [Shape.rowMajor_val_two, Shape.rowMajor_val_three]
  show n * 512 + l = (n * 1 + 0) * 512 + l
  omega

/-- The biases at an element of the left half, -/
theorem biases_left (c : Dev nD) (n l : ℕ) (hn : n < 16) (hl : l < 256) :
    Proj.rd3 (V m c main_v3 : Proj.Stack 16 1 512) n 0 l = Proj.rd (bA m c) n l := by
  rw [biases_at m c n l hn (by omega)]
  refine (concatenate_pair_apply_left (t := S16x512) (s₁ := S16x256) (s₂ := S16x256) 1 (bA m c) (bX m c) _ _ rfl
    (ix2 (n0 := 16) (n1 := 256) ⟨n, hn⟩ ⟨l, hl⟩) (fun a => match a with
    | ⟨0, _⟩ => rfl
    | ⟨1, _⟩ => rfl)).trans (Proj.rd_eq _ _ _ _ rfl rfl)

/-- and of the right half. -/
theorem biases_right (c : Dev nD) (n l : ℕ) (hn : n < 16) (hl : l < 256) :
    Proj.rd3 (V m c main_v3 : Proj.Stack 16 1 512) n 0 (256 + l) = Proj.rd (bX m c) n l := by
  rw [biases_at m c n (256 + l) hn (by omega)]
  refine (concatenate_pair_apply_right (t := S16x512) (s₁ := S16x256) (s₂ := S16x256) 1 (bA m c) (bX m c) _ _ rfl rfl
    (ix2 (n0 := 16) (n1 := 256) ⟨n, hn⟩ ⟨l, hl⟩) (fun a => match a with
    | ⟨0, _⟩ => fun _ => rfl
    | ⟨1, _⟩ => fun h => absurd rfl h) (by show l + 256 = 256 + l; omega)).trans (Proj.rd_eq _ _ _ _ rfl rfl)

/-- A decay parameter the region finds. -/
theorem params_at (c : Dev nD) (n l : ℕ) (hn : n < 16) (hl : l < 256) :
    Proj.rd3 (V m c main_v4 : Proj.Stack 16 1 256) n 0 l = Proj.rd1 (lam m c) (256 * n + l) := by
  rw [← Proj.rd3_eq (V m c main_v4 : Proj.Stack 16 1 256) n 0 l (ix3 (n0 := 16) (n1 := 1) (n2 := 256) ⟨n, hn⟩ 0 ⟨l, hl⟩) rfl rfl rfl, params]
  have hb : 256 * n + l < 4096 := by omega
  have e : (fun a => match a with | ⟨0, _⟩ => ⟨256 * n + l, hb⟩ : S4096.Idx) 0 = ⟨256 * n + l, hb⟩ := rfl
  refine (shapeCast_apply (lam m c) shapeCasts_S4096_S16x1x256 _ (fun a => match a with | ⟨0, _⟩ => ⟨256 * n + l, hb⟩) ?_).trans
    (Proj.rd1_eq (lam m c) _ _ (congrArg Fin.val e))
  rw [Shape.rowMajor_val_one, Shape.rowMajor_val_three]
  show 256 * n + l = (n * 1 + 0) * 256 + l
  omega

theorem x_read (c : Dev nD) (t : Fin cfg0.N) (y : S512x256.Idx) :
    (iblk m c 0 t y : EReal) = Proj.rd (feat m c) (row t.val + (y 0).val) (256 * col t.val + (y 1).val) := by
  obtain ⟨⟨e0, e1⟩, -⟩ := corners t
  have h : (V m c main_arg0 : Proj.Mat 16384 4096) = feat m c := V_main_arg0 m c
  rw [← h]
  refine Proj.rd_eq (V m c main_arg0 : Proj.Mat 16384 4096) _ _ _ ?_ ?_
  · show win0_0.index t 0 * win0_0.size 0 + 1 * (y 0).val = _
    rw [e0, one_mul, row]
  · show win0_0.index t 1 * win0_0.size 1 + 1 * (y 1).val = _
    rw [e1, one_mul, col]

theorem y_read (c : Dev nD) (t : Fin cfg0.N) (y : S512x256.Idx) :
    (iblk m c 1 t y : EReal) = Proj.rd (branch m c) (row t.val + (y 0).val) (256 * col t.val + (y 1).val) := by
  obtain ⟨-, ⟨e0, e1⟩, -⟩ := corners t
  have h : (V m c main_arg1 : Proj.Mat 16384 4096) = branch m c := V_main_arg1 m c
  rw [← h]
  refine Proj.rd_eq (V m c main_arg1 : Proj.Mat 16384 4096) _ _ _ ?_ ?_
  · show win0_1.index t 0 * win0_1.size 0 + 1 * (y 0).val = _
    rw [e0, one_mul, row]
  · show win0_1.index t 1 * win0_1.size 1 + 1 * (y 1).val = _
    rw [e1, one_mul, col]

theorem w_read (c : Dev nD) (t : Fin cfg0.N) (y : S1x256x512.Idx) :
    (iblk m c 2 t y : EReal) = Proj.rd3 (V m c main_v1 : Proj.Stack 16 256 512) (col t.val) (y 1).val (y 2).val := by
  obtain ⟨-, -, ⟨e0, e1, e2⟩, -⟩ := corners t
  have hy : (y 0).val < 1 := (y 0).isLt
  refine Proj.rd3_eq (V m c main_v1 : Proj.Stack 16 256 512) _ _ _ _ ?_ ?_ ?_
  · show win0_2.index t 0 * win0_2.size 0 + 1 * (y 0).val = _
    rw [e0, col]
    omega
  · show win0_2.index t 1 * win0_2.size 1 + 1 * (y 1).val = _
    rw [e1, one_mul, Nat.zero_add]
  · show win0_2.index t 2 * win0_2.size 2 + 1 * (y 2).val = _
    rw [e2, one_mul, Nat.zero_add]

theorem b_read (c : Dev nD) (t : Fin cfg0.N) (y : S1x1x512.Idx) :
    (iblk m c 3 t y : EReal) = Proj.rd3 (V m c main_v3 : Proj.Stack 16 1 512) (col t.val) 0 (y 2).val := by
  obtain ⟨-, -, -, ⟨e0, e1, e2⟩, -⟩ := corners t
  have hy : (y 0).val < 1 := (y 0).isLt
  have hy1 : (y 1).val < 1 := (y 1).isLt
  refine Proj.rd3_eq (V m c main_v3 : Proj.Stack 16 1 512) _ _ _ _ ?_ ?_ ?_
  · show win0_3.index t 0 * win0_3.size 0 + 1 * (y 0).val = _
    rw [e0, col]
    omega
  · show win0_3.index t 1 * win0_3.size 1 + 1 * (y 1).val = _
    rw [e1]
    omega
  · show win0_3.index t 2 * win0_3.size 2 + 1 * (y 2).val = _
    rw [e2, one_mul, Nat.zero_add]

theorem l_read (c : Dev nD) (t : Fin cfg0.N) (y : S1x1x256.Idx) :
    (iblk m c 4 t y : EReal) = Proj.rd1 (lam m c) (256 * col t.val + (y 2).val) := by
  obtain ⟨-, -, -, -, ⟨e0, e1, e2⟩, -⟩ := corners t
  have hy : (y 0).val < 1 := (y 0).isLt
  have hy1 : (y 1).val < 1 := (y 1).isLt
  rw [← params_at m c (col t.val) (y 2).val (Nat.mod_lt _ (by norm_num)) (y 2).isLt]
  refine Proj.rd3_eq (V m c main_v4 : Proj.Stack 16 1 256) _ _ _ _ ?_ ?_ ?_
  · show win0_4.index t 0 * win0_4.size 0 + 1 * (y 0).val = _
    rw [e0, col]
    omega
  · show win0_4.index t 1 * win0_4.size 1 + 1 * (y 1).val = _
    rw [e1]
    omega
  · show win0_4.index t 2 * win0_4.size 2 + 1 * (y 2).val = _
    rw [e2, one_mul, Nat.zero_add]

/-- The two gates of a point at an element, from the weights and biases the region finds. -/
theorem gates_read (c : Dev nD) (t : Fin cfg0.N) (r : Fin 512) (k : Fin 512) :
    (gates (F := Ideal) (iblk m c 0 t) (iblk m c 2 t) (iblk m c 3 t) (ix2 r k) : EReal)
      = Ideal.logistic ((∑ d : Fin 256, Proj.rd (feat m c) (row t.val + r.val) (256 * col t.val + d.val)
          * Proj.rd3 (V m c main_v1 : Proj.Stack 16 256 512) (col t.val) d.val k.val) + Proj.rd3 (V m c main_v3 : Proj.Stack 16 1 512) (col t.val) 0 k.val) := by
  refine congrArg Ideal.logistic (congrArg₂ (fun a b : EReal => a + b) ?_ ?_)
  · refine (Proj.matmul_at (φ₁ := .bf16) (φ₂ := .bf16) dot_S512x256_S256x512_S512x512_1_0_0_1_n_n_wf (iblk m c 0 t)
      (shapeCast S256x512 (iblk m c 2 t) shapeCasts_S1x256x512_S256x512) r k).trans ?_
    exact Finset.sum_congr rfl fun d _ => congrArg₂ (fun a b : EReal => a * b) (x_read m c t _) ((Proj.layer_at _ _ d k).trans (w_read m c t _))
  · refine (broadcastTo_apply _ broadcasts_S1x512_S512x512 (ix2 r k) (ix2 (n0 := 1) (n1 := 512) 0 k) fun a => match a with
      | ⟨0, _⟩ => rfl
      | ⟨1, _⟩ => rfl).trans ((Proj.layer_at (K := 1) (N := 512) _ shapeCasts_S1x1x512_S1x512 0 k).trans (b_read m c t _))

/-- A column of a point's block, as the specification addresses it. -/
theorem col_div (t l : ℕ) (hl : l < 256) : (256 * col t + l) / 256 = col t ∧ (256 * col t + l) % 256 = l := by omega

/-- The recurrence gate. -/
theorem gateA_read (c : Dev nD) (t : Fin cfg0.N) (y : S512x256.Idx) :
    (extractStridedSlice S512x256 ![0, 0] (gates (F := Ideal) (iblk m c 0 t) (iblk m c 2 t) (iblk m c 3 t)) slices_S512x512_o0_0_S512x256 y : EReal)
      = Cert.Rec.gate (feat m c) (wA m c) (bA m c) (row t.val + (y 0).val) (256 * col t.val + (y 1).val) := by
  have h0 : (y 0).val < 512 := (y 0).isLt
  have h1 : (y 1).val < 256 := (y 1).isLt
  have hc : col t.val < 16 := Nat.mod_lt _ (by norm_num)
  refine (extractStridedSlice_apply _ _ _ _ (ix2 (n0 := 512) (n1 := 512) ⟨(y 0).val, h0⟩ ⟨(y 1).val, by omega⟩) fun a => match a with
    | ⟨0, _⟩ => by show (y 0).val = 0 + (y 0).val; omega
    | ⟨1, _⟩ => by show (y 1).val = 0 + (y 1).val; omega).trans ((gates_read m c t _ _).trans ?_)
  unfold Cert.Rec.gate
  rw [(col_div t.val _ h1).1, (col_div t.val _ h1).2, biases_left m c _ _ hc h1]
  exact congrArg (fun s => Ideal.logistic (s + _)) (Finset.sum_congr rfl fun d _ => by rw [weights_left m c _ _ _ hc d.isLt h1])

/-- The input gate. -/
theorem gateX_read (c : Dev nD) (t : Fin cfg0.N) (y : S512x256.Idx) :
    (extractStridedSlice S512x256 ![0, 256] (gates (F := Ideal) (iblk m c 0 t) (iblk m c 2 t) (iblk m c 3 t)) slices_S512x512_o0_256_S512x256 y : EReal)
      = Cert.Rec.gate (feat m c) (wX m c) (bX m c) (row t.val + (y 0).val) (256 * col t.val + (y 1).val) := by
  have h0 : (y 0).val < 512 := (y 0).isLt
  have h1 : (y 1).val < 256 := (y 1).isLt
  have hc : col t.val < 16 := Nat.mod_lt _ (by norm_num)
  refine (extractStridedSlice_apply _ _ _ _ (ix2 (n0 := 512) (n1 := 512) ⟨(y 0).val, h0⟩ ⟨256 + (y 1).val, by omega⟩) fun a => match a with
    | ⟨0, _⟩ => by show (y 0).val = 0 + (y 0).val; omega
    | ⟨1, _⟩ => by show 256 + (y 1).val = 256 + (y 1).val; omega).trans ((gates_read m c t _ _).trans ?_)
  unfold Cert.Rec.gate
  rw [(col_div t.val _ h1).1, (col_div t.val _ h1).2, biases_right m c _ _ hc h1]
  exact congrArg (fun s => Ideal.logistic (s + _)) (Finset.sum_congr rfl fun d _ => by rw [weights_right m c _ _ _ hc d.isLt h1])

/-- The softplus of the negated decay parameters. -/
theorem soft_read (c : Dev nD) (t : Fin cfg0.N) (k : Fin 256) :
    (soft (F := Ideal) (iblk m c 4 t) (ix2 (n0 := 1) (n1 := 256) 0 k) : EReal) = Sb.sp (-Proj.rd1 (lam m c) (256 * col t.val + k.val)) := by
  have h : (shapeCast S1x256 (iblk m c 4 t) shapeCasts_S1x1x256_S1x256 (ix2 (n0 := 1) (n1 := 256) 0 k) : EReal) = Proj.rd1 (lam m c) (256 * col t.val + k.val) :=
    (Proj.layer_at (K := 1) (N := 256) _ shapeCasts_S1x1x256_S1x256 0 k).trans (l_read m c t _)
  rw [← h]
  generalize hz : (shapeCast S1x256 (iblk m c 4 t) shapeCasts_S1x1x256_S1x256 (ix2 (n0 := 1) (n1 := 256) 0 k) : EReal) = z
  show max (Ideal.ofBits .f32 0x00000000#32 - (shapeCast S1x256 (iblk m c 4 t) shapeCasts_S1x1x256_S1x256 (ix2 (n0 := 1) (n1 := 256) 0 k) : EReal)) (Ideal.ofBits .f32 0x00000000#32)
    + Ideal.log1p (Ideal.exp (Ideal.ofBits .f32 0x00000000#32
      - max (Ideal.ofBits .f32 0x00000000#32 - (shapeCast S1x256 (iblk m c 4 t) shapeCasts_S1x1x256_S1x256 (ix2 (n0 := 1) (n1 := 256) 0 k) : EReal))
          (-(Ideal.ofBits .f32 0x00000000#32 - (shapeCast S1x256 (iblk m c 4 t) shapeCasts_S1x1x256_S1x256 (ix2 (n0 := 1) (n1 := 256) 0 k) : EReal))))) = _
  rw [hz, Ideal.ofBits_zero_f32, zero_sub, zero_sub]
  rfl

/-- The logarithm of the decay. -/
theorem logA_read (c : Dev nD) (t : Fin cfg0.N) (y : S512x256.Idx) :
    (logA (F := Ideal) (iblk m c 0 t) (iblk m c 2 t) (iblk m c 3 t) (iblk m c 4 t) y : EReal)
      = Cert.Rec.logDecay (feat m c) (wA m c) (bA m c) (lam m c) (row t.val + (y 0).val) (256 * col t.val + (y 1).val) := by
  unfold Cert.Rec.logDecay
  rw [← gateA_read m c t y, ← soft_read m c t (y 1)]
  exact congrArg (fun s : EReal => Ideal.ofBits .f32 0xC1000000#32 * _ * s) (broadcastTo_apply _ broadcasts_S1x256_S512x256 y (ix2 (n0 := 1) (n1 := 256) 0 (y 1)) fun a => match a with
    | ⟨0, _⟩ => rfl
    | ⟨1, _⟩ => rfl)

/-- The decay. -/
theorem decay_read (c : Dev nD) (t : Fin cfg0.N) (y : S512x256.Idx) :
    (decay (F := Ideal) (iblk m c 0 t) (iblk m c 2 t) (iblk m c 3 t) (iblk m c 4 t) y : EReal)
      = Cert.Rec.dec (feat m c) (wA m c) (bA m c) (lam m c) (row t.val + (y 0).val) (256 * col t.val + (y 1).val) := by
  unfold Cert.Rec.dec
  rw [← logA_read]
  rfl

/-- What a row adds to the state. -/
theorem input_read (c : Dev nD) (t : Fin cfg0.N) (y : S512x256.Idx) :
    (input (F := Ideal) (iblk m c 0 t) (iblk m c 2 t) (iblk m c 3 t) (iblk m c 4 t) y : EReal)
      = Cert.Rec.inp (feat m c) (wA m c) (bA m c) (wX m c) (bX m c) (lam m c) (row t.val + (y 0).val) (256 * col t.val + (y 1).val) := by
  unfold Cert.Rec.inp
  rw [← Cert.Rec.factor _ (Cert.Rec.logDecay_nonpos _ _ _ _ _ _), ← logA_read, ← gateX_read m c t y, ← x_read m c t y, ← Proj.one_f32, ← Ideal.ofBits_zero_f32]
  rfl

end Cert.LruIdeal.Rec

end
-- ==== Proof.RecArray.lean ====
/-
  The gated linear recurrence: the state that reaches each row block, what a grid point stores, and from the
  points' blocks the whole result.
-/
module

public import proofs.«01_k».proof.Proof.RecBlocks

@[expose] public section

set_option maxRecDepth 16384

noncomputable section

namespace Cert.LruIdeal.Rec

open Cert.LruIdeal Cert.LruIdeal.Gen Idealize.ShloMosaic Idealize.ShloMosaic.TcCoe Idealize.SL.Sem
open Cert.Rec (go go_add go_congr)

variable (m : (ℓ : Loc nD τ sig) → Buf (Elt Ideal) ℓ) (ρ : Dev nD → PrngReg)

/-- The specification's state on device `c`. -/
def goal (c : Dev nD) (b j n : ℕ) : EReal := Cert.Rec.state (feat m c) (wA m c) (bA m c) (wX m c) (bX m c) (lam m c) b j n

/-- The recurrence over a block's rows goes on from the state before the block. -/
theorem chain (c : Dev nD) (t k n : ℕ) :
    go (fun s => Cert.Rec.dec (feat m c) (wA m c) (bA m c) (lam m c) (row t + s) (256 * col t + k))
        (fun s => Cert.Rec.inp (feat m c) (wA m c) (bA m c) (wX m c) (bX m c) (lam m c) (row t + s) (256 * col t + k))
        (goal m c (t / 256) (256 * col t + k) (512 * (t % 16))) n
      = goal m c (t / 256) (256 * col t + k) (512 * (t % 16) + n) := by
  unfold goal Cert.Rec.state
  rw [go_add]
  have e : ∀ s, row t + s = 8192 * (t / 256) + (512 * (t % 16) + s) := fun s => by unfold row; omega
  exact go_congr _ _ _ _ _ _ (fun s _ => by rw [e]) fun s _ => by rw [e]

/-- A point's walk, when the state before it is the specification's: the state after it and the states of its rows. -/
theorem walk_read (c : Dev nD) (t : Fin cfg0.N) (h : FVec Ideal S1x256 .f32)
    (hh : ∀ i : S1x256.Idx, (h i : EReal) = goal m c (t.val / 256) (256 * col t.val + (i 1).val) (512 * (t.val % 16))) :
    (∀ i : S1x256.Idx, ((run (F := Ideal) (iblk m c 0 t) (iblk m c 2 t) (iblk m c 3 t) (iblk m c 4 t) h).1 i : EReal)
      = goal m c (t.val / 256) (256 * col t.val + (i 1).val) (512 * (t.val % 16) + 512))
    ∧ ∀ i : S512x256.Idx, ((run (F := Ideal) (iblk m c 0 t) (iblk m c 2 t) (iblk m c 3 t) (iblk m c 4 t) h).2 i : EReal)
      = goal m c (t.val / 256) (256 * col t.val + (i 1).val) (512 * (t.val % 16) + ((i 0).val + 1)) := by
  have w := fun k : ℕ => walk_at (decay (F := Ideal) (iblk m c 0 t) (iblk m c 2 t) (iblk m c 3 t) (iblk m c 4 t))
    (input (F := Ideal) (iblk m c 0 t) (iblk m c 2 t) (iblk m c 3 t) (iblk m c 4 t)) h
    (fun s => Cert.Rec.dec (feat m c) (wA m c) (bA m c) (lam m c) (row t.val + s) (256 * col t.val + k))
    (fun s => Cert.Rec.inp (feat m c) (wA m c) (bA m c) (wX m c) (bX m c) (lam m c) (row t.val + s) (256 * col t.val + k)) k
    (goal m c (t.val / 256) (256 * col t.val + k) (512 * (t.val % 16)))
    (fun i hi => by rw [decay_read, hi]) (fun i hi => by rw [input_read, hi]) (fun i hi => by rw [hh, hi])
    (fun s => Cert.Rec.dec_nonneg _ _ _ _ _ _) (fun s => Cert.Rec.dec_ne_top _ _ _ _ _ _) 64 (le_refl 64)
  unfold run
  rw [trips_eq]
  refine ⟨fun i => ?_, fun i => ?_⟩
  · rw [(w (i 1).val).1 i rfl, chain]
  · have h0 : (i 0).val < 512 := (i 0).isLt
    rw [(w (i 1).val).2 i rfl, if_pos (by omega), chain]

/-- The state before a point's row block is the specification's. -/
theorem before_read (c : Dev nD) (n : ℕ) : ∀ (hn : n < cfg0.N) (i : S1x256.Idx),
    (before (F := Ideal) (grid0.coords ⟨n, hn⟩) (stateAt m c n) i : EReal) = goal m c (n / 256) (256 * col n + (i 1).val) (512 * (n % 16)) := by
  induction n with
  | zero =>
    intro hn i
    unfold before
    rw [if_pos ((first_iff ⟨0, hn⟩).mpr rfl)]
    exact Proj.zero_f32
  | succ p ih =>
    intro hn i
    have hp : p < cfg0.N := by omega
    unfold before
    by_cases h : (p + 1) % 16 = 0
    · rw [if_pos ((first_iff ⟨p + 1, hn⟩).mpr h), h]
      exact Proj.zero_f32
    · rw [if_neg fun h' => h ((first_iff ⟨p + 1, hn⟩).mp h'), show stateAt m c (p + 1) = _ from stateAt_succ m c ⟨p, hp⟩]
      unfold runAt
      rw [(walk_read m c ⟨p, hp⟩ _ (ih hp)).1 i]
      have e1 : p / 256 = (p + 1) / 256 := by omega
      have e2 : col p = col (p + 1) := by unfold col; omega
      have e3 : 512 * (p % 16) + 512 = 512 * ((p + 1) % 16) := by omega
      show goal m c (p / 256) (256 * col p + (i 1).val) (512 * (p % 16) + 512) = _
      rw [e1, e2, e3]

/-- What a point leaves in the staged block of the result. -/
theorem out_read (c : Dev nD) (t : Fin cfg0.N) (y : S512x256.Idx) :
    (outAt m c t y : EReal) = Cert.Rec.spec (feat m c) (branch m c) (wA m c) (bA m c) (wX m c) (bX m c) (lam m c) (row t.val + (y 0).val) (256 * col t.val + (y 1).val) := by
  have h0 : (y 0).val < 512 := (y 0).isLt
  have w := (walk_read m c t _ (before_read m c t.val t.isLt)).2 y
  unfold Cert.Rec.spec
  rw [← y_read, show (row t.val + (y 0).val) / 8192 = t.val / 256 by unfold row; omega,
    show (row t.val + (y 0).val) % 8192 + 1 = 512 * (t.val % 16) + ((y 0).val + 1) by unfold row; omega]
  exact congrArg (fun s : EReal => s * _) w

/-- The result array: the specification read at a row and a column. -/
def result (c : Dev nD) : Buf (Elt Ideal) ((c : Thread nD τ).loc main_v5) :=
  fun i : S16384x4096.Idx => Cert.Rec.spec (feat m c) (branch m c) (wA m c) (bA m c) (wX m c) (bX m c) (lam m c) (i 0).val (i 1).val

/-- What a point writes back is its block of the result array. -/
theorem flushed_eq (c : Dev nD) (t : Fin cfg0.N) :
    (dats m 0 c).flushed 5 t = (win0_5.blk t).view.read (Elt Ideal) (result m c) := by
  show (cfg0.win 5).cut (grid0.coords t) ((dats m 0 c).after 5 t) = _
  rw [after5]
  obtain ⟨-, -, -, -, -, ⟨e0, e1⟩, -⟩ := corners t
  funext y
  refine (out_read m c t y).trans ?_
  show _ = Cert.Rec.spec _ _ _ _ _ _ _ (win0_5.index t 0 * win0_5.size 0 + 1 * (y 0).val) (win0_5.index t 1 * win0_5.size 1 + 1 * (y 1).val)
  rw [e0, e1, one_mul, one_mul]
  rfl

/-- An index of the result array is in point `t`'s block. -/
theorem mem_blk (t : Fin cfg0.N) (i : S16384x4096.Idx) :
    i ∈ ((cfg0.win 5).blk t).view.set
      ↔ (512 * (16 * (t.val / 256) + t.val % 16) ≤ (i 0).val ∧ (i 0).val < 512 * (16 * (t.val / 256) + t.val % 16) + 512)
      ∧ (256 * (t.val / 16 % 16) ≤ (i 1).val ∧ (i 1).val < 256 * (t.val / 16 % 16) + 256) := by
  show i ∈ ((View.whole main_v5).slice (win0_5.rect t)).set ↔ _
  rw [View.set_slice_whole]
  obtain ⟨-, -, -, -, -, ⟨e0, e1⟩, s0, s1⟩ := corners t
  exact Proj.mem_block _ _ _ i e0 e1 s0 s1

/-- The points' blocks tile the result array. -/
theorem cover (i : S16384x4096.Idx) : ∃ t : Fin cfg0.N, (cfg0.win 5).flush t = true ∧ i ∈ ((cfg0.win 5).blk t).view.set := by
  have h0 : (i 0).val < 16384 := (i 0).isLt
  have h1 : (i 1).val < 4096 := (i 1).isLt
  refine ⟨⟨((i 0).val / 8192 * 16 + (i 1).val / 256) * 16 + (i 0).val % 8192 / 512, show _ < 512 by omega⟩, flush0_5 _, ?_⟩
  rw [mem_blk]
  dsimp only
  omega

/-- The launch, read: the result array holds the specification, the arguments are unchanged. -/
theorem run_result : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h.1 c).trans ((dats m 0 c).arrAt_eq_of_cover 5 (result m c) (fun t _ => flushed_eq m c t) cover), h.2 c⟩)
    (θ_run_and ((θ_run defs _ _).mono (fun r h (c : Dev nD) => ((h c).1 5 : r.2.mem ((c : Thread nD τ).loc main_v5) = (dats m 0 c).arrAt 5 cfg0.N)) (run_main m ρ))
      (frame_of m ρ (dats m) (A_eq m) (run_main m ρ)))

end Cert.LruIdeal.Rec

end
-- ==== Proof.RecRef.lean ====
/-
  The gated linear recurrence's reference before its loop: gates, decays and inputs at an element are the
  specification's.
-/
module

public import proofs.«01_k».proof.Proof.RecSpec
public import proofs.«01_k».proof.Proof.SbRef
public import proofs.«01_k».proof.Proof.Gen.LruReferenceIdeal.Step

@[expose] public section

set_option maxRecDepth 16384

noncomputable section

namespace Cert.LruReferenceIdeal.Rec

open Cert.LruReferenceIdeal Cert.LruReferenceIdeal.Gen Cert.LruReferenceIdeal.Step Idealize.ShloMosaic
open Idealize.ShloMosaic.ValueIdx (ix1 ix2 ix3 ix4)

variable (X : Proj.Mat 16384 4096) (Wa : Proj.Stack 16 256 256) (ba : Proj.Mat 16 256) (Wx : Proj.Stack 16 256 256) (bx : Proj.Mat 16 256)
  (L : Proj.Row 4096)

/-- The features by sequence. -/
theorem seq_at (b : Fin 2) (s : Fin 8192) (j : Fin 4096) :
    (A_main_v0 (F := Ideal) X Wa ba Wx bx L (ix3 b s j) : EReal) = Proj.rd X (8192 * b.val + s.val) j.val := by
  unfold A_main_v0
  refine (shapeCast_apply X _ _ (ix2 (n0 := 16384) (n1 := 4096) ⟨8192 * b.val + s.val, by omega⟩ j) ?_).trans (Proj.rd_eq X _ _ _ rfl rfl)
  rw [Shape.rowMajor_val_two, Shape.rowMajor_val_three]
  show (8192 * b.val + s.val) * 4096 + j.val = (b.val * 8192 + s.val) * 4096 + j.val
  omega

/-- The features by sequence and column block. -/
theorem split_at (b : Fin 2) (s : Fin 8192) (n : Fin 16) (k : Fin 256) :
    (A_main_v1 (F := Ideal) X Wa ba Wx bx L (ix4 b s n k) : EReal) = Proj.rd X (8192 * b.val + s.val) (256 * n.val + k.val) := by
  unfold A_main_v1
  refine (shapeCast_apply _ _ _ (ix3 (n0 := 2) (n1 := 8192) (n2 := 4096) b s ⟨256 * n.val + k.val, by omega⟩) ?_).trans (seq_at X Wa ba Wx bx L _ _ _)
  rw [Shape.rowMajor_val_three, Shape.rowMajor_val_four]
  show (b.val * 8192 + s.val) * 4096 + (256 * n.val + k.val) = ((b.val * 8192 + s.val) * 16 + n.val) * 256 + k.val
  omega

/-- The product of a column block's weights and features, at an element. -/
theorem product_at (W : Proj.Stack 16 256 256) (v : FVec Ideal S2x8192x16x256 .f32) (n : Fin 16) (o : Fin 256) (b : Fin 2) (s : Fin 8192) :
    (Host.dotGeneral dot_S16x256x256_S2x8192x16x256_S16x256x2x8192_1_3_2_01_0_2 none (φ₁ := .f32) W v (ix4 n o b s) : EReal)
      = ∑ k : Fin 256, (W (ix3 n k o) : EReal) * v (ix4 b s n k) := by
  simp only [Host.dotGeneral]
  rw [Ideal.dotGeneral_apply, ← Equiv.sum_comp (ValueIdx.contrEquiv1 dot_S16x256x256_S2x8192x16x256_S16x256x2x8192_1_3_2_01_0_2 256 rfl rfl).symm]
  refine Finset.sum_congr rfl fun k _ => ?_
  have hk := ValueIdx.contrEquiv1_symm_val dot_S16x256x256_S2x8192x16x256_S16x256x2x8192_1_3_2_01_0_2 256 rfl rfl k
  refine congrArg₂ (fun a b : EReal => a * b) (congrArg W (funext fun a => Fin.ext ?_)) (congrArg v (funext fun a => Fin.ext ?_))
  · match a with
    | ⟨0, _⟩ => rfl
    | ⟨1, _⟩ => exact hk
    | ⟨2, _⟩ => rfl
  · match a with
    | ⟨0, _⟩ => rfl
    | ⟨1, _⟩ => rfl
    | ⟨2, _⟩ => rfl
    | ⟨3, _⟩ => exact hk

/-- The argument of a gate's logistic, from the split features. -/
def arg (v : FVec Ideal S2x8192x16x256 .f32) (W : Proj.Stack 16 256 256) (w : Proj.Mat 16 256) : FVec Ideal S2x8192x16x256 .f32 :=
  addf (transpose S2x8192x16x256 [2, 3, 0, 1] (Host.dotGeneral dot_S16x256x256_S2x8192x16x256_S16x256x2x8192_1_3_2_01_0_2 none (φ₁ := .f32) W v)
      transposes_S16x256x2x8192_S2x8192x16x256_2_3_0_1)
    (broadcastInDim S2x8192x16x256 ![0, 1, 2, 3] bcast_S1x1x16x256_S2x8192x16x256_0_1_2_3
      (broadcastInDim S1x1x16x256 ![2, 3] bcast_S16x256_S1x1x16x256_2_3 w))

/-- It is the column block's product plus the bias. -/
theorem arg_at (W : Proj.Stack 16 256 256) (w : Proj.Mat 16 256) (b : Fin 2) (s : Fin 8192) (n : Fin 16) (o : Fin 256) :
    (arg (A_main_v1 (F := Ideal) X Wa ba Wx bx L) W w (ix4 b s n o) : EReal)
      = (∑ k : Fin 256, Proj.rd X (8192 * b.val + s.val) (256 * n.val + k.val) * Proj.rd3 W n.val k.val o.val) + Proj.rd w n.val o.val := by
  refine congrArg₂ (fun a b : EReal => a + b) ?_ ?_
  · refine (transpose_apply _ _ transposes_S16x256x2x8192_S2x8192x16x256_2_3_0_1 _ (ix4 n o b s) fun a => match a with
      | ⟨0, _⟩ => rfl
      | ⟨1, _⟩ => rfl
      | ⟨2, _⟩ => rfl
      | ⟨3, _⟩ => rfl).trans ((product_at W _ n o b s).trans (Finset.sum_congr rfl fun k _ => ?_))
    rw [split_at, mul_comm, Proj.rd3_eq W n.val k.val o.val (ix3 n k o) rfl rfl rfl]
  · refine (broadcastInDim_apply _ _ _ _ (ix4 (n0 := 1) (n1 := 1) (n2 := 16) (n3 := 256) 0 0 n o) fun a => match a with
      | ⟨0, _⟩ => rfl
      | ⟨1, _⟩ => rfl
      | ⟨2, _⟩ => rfl
      | ⟨3, _⟩ => rfl).trans ((broadcastInDim_apply _ _ _ _ (ix2 (n0 := 16) (n1 := 256) n o) fun a => match a with
      | ⟨0, _⟩ => rfl
      | ⟨1, _⟩ => rfl).trans (Proj.rd_eq w _ _ _ rfl rfl))

/-- A gate's array, its columns rejoined, at an element. -/
theorem rejoin_at (v : FVec Ideal S2x8192x16x256 .f32) (W : Proj.Stack 16 256 256) (w : Proj.Mat 16 256)
    (hv : ∀ b s n o, (v (ix4 b s n o) : EReal)
      = Ideal.div (Ideal.ofBits .f32 0x3F800000#32) (Ideal.ofBits .f32 0x3F800000#32 + Ideal.exp (-(arg (A_main_v1 (F := Ideal) X Wa ba Wx bx L) W w (ix4 b s n o) : EReal))))
    (b : Fin 2) (s : Fin 8192) (j : Fin 4096) :
    (shapeCast S2x8192x4096 v shapeCasts_S2x8192x16x256_S2x8192x4096 (ix3 b s j) : EReal) = Cert.Rec.gate X W w (8192 * b.val + s.val) j.val := by
  refine (shapeCast_apply v _ _ (ix4 (n0 := 2) (n1 := 8192) (n2 := 16) (n3 := 256) b s ⟨j.val / 256, by omega⟩ ⟨j.val % 256, Nat.mod_lt _ (by norm_num)⟩) ?_).trans ?_
  · rw [Shape.rowMajor_val_three, Shape.rowMajor_val_four]
    show ((b.val * 8192 + s.val) * 16 + j.val / 256) * 256 + j.val % 256 = (b.val * 8192 + s.val) * 4096 + j.val
    omega
  · rw [hv, Proj.logistic_at, arg_at]
    rfl

/-- The recurrence gate. -/
theorem gateA_at (b : Fin 2) (s : Fin 8192) (j : Fin 4096) :
    (A_main_v13 (F := Ideal) X Wa ba Wx bx L (ix3 b s j) : EReal) = Cert.Rec.gate X Wa ba (8192 * b.val + s.val) j.val :=
  rejoin_at X Wa ba Wx bx L (A_main_v12 (F := Ideal) X Wa ba Wx bx L) Wa ba (fun _ _ _ _ => rfl) b s j

/-- The input gate. -/
theorem gateX_at (b : Fin 2) (s : Fin 8192) (j : Fin 4096) :
    (A_main_v25 (F := Ideal) X Wa ba Wx bx L (ix3 b s j) : EReal) = Cert.Rec.gate X Wx bx (8192 * b.val + s.val) j.val :=
  rejoin_at X Wa ba Wx bx L (A_main_v24 (F := Ideal) X Wa ba Wx bx L) Wx bx (fun _ _ _ _ => rfl) b s j

/-- The softplus of the negated decay parameters. -/
theorem soft_at (j : Fin 4096) : (A_main_v29 (F := Ideal) X Wa ba Wx bx L (ix1 j) : EReal) = Sb.sp (-Proj.rd1 L j.val) := by
  rw [← Cert.ReferenceIdeal.Attn.softplus_at, ← Proj.rd1_eq L j.val (ix1 j) rfl, ← Ideal.ofBits_zero_f32]
  rfl

/-- The logarithm of the decay. -/
theorem logDecay_at (b : Fin 2) (s : Fin 8192) (j : Fin 4096) :
    (A_main_v32 (F := Ideal) X Wa ba Wx bx L (ix3 b s j) : EReal) = Cert.Rec.logDecay X Wa ba L (8192 * b.val + s.val) j.val := by
  unfold Cert.Rec.logDecay
  rw [← gateA_at X Wa ba Wx bx L, ← soft_at X Wa ba Wx bx L]
  refine congrArg (fun t : EReal => Ideal.ofBits .f32 0xC1000000#32 * (A_main_v13 (F := Ideal) X Wa ba Wx bx L (ix3 b s j) : EReal) * t) ?_
  refine (broadcastInDim_apply _ _ _ _ (ix3 (n0 := 1) (n1 := 1) (n2 := 4096) 0 0 j) fun a => match a with
    | ⟨0, _⟩ => rfl
    | ⟨1, _⟩ => rfl
    | ⟨2, _⟩ => rfl).trans (broadcastInDim_apply _ _ _ _ (ix1 j) fun a => match a with
    | ⟨0, _⟩ => rfl)

/-- The decays, time first. -/
theorem dec_at (s : Fin 8192) (b : Fin 2) (j : Fin 4096) :
    (A_main_v42 (F := Ideal) X Wa ba Wx bx L (ix3 s b j) : EReal) = Cert.Rec.dec X Wa ba L (8192 * b.val + s.val) j.val := by
  unfold Cert.Rec.dec
  rw [← logDecay_at X Wa ba Wx bx L]
  refine (transpose_apply _ _ transposes_S2x8192x4096_S8192x2x4096_1_0_2 _ (ix3 b s j) fun a => match a with
    | ⟨0, _⟩ => rfl
    | ⟨1, _⟩ => rfl
    | ⟨2, _⟩ => rfl).trans ?_
  rfl

/-- The inputs, time first. -/
theorem inp_at (s : Fin 8192) (b : Fin 2) (j : Fin 4096) :
    (A_main_v43 (F := Ideal) X Wa ba Wx bx L (ix3 s b j) : EReal) = Cert.Rec.inp X Wa ba Wx bx L (8192 * b.val + s.val) j.val := by
  unfold Cert.Rec.inp
  rw [← logDecay_at X Wa ba Wx bx L, ← gateX_at X Wa ba Wx bx L, ← seq_at X Wa ba Wx bx L]
  refine (transpose_apply _ _ transposes_S2x8192x4096_S8192x2x4096_1_0_2 _ (ix3 b s j) fun a => match a with
    | ⟨0, _⟩ => rfl
    | ⟨1, _⟩ => rfl
    | ⟨2, _⟩ => rfl).trans ?_
  rfl

end Cert.LruReferenceIdeal.Rec

end
-- ==== Proof.RecLoop.lean ====
/-
  The gated linear recurrence's reference: its loop over the rows, and its result at an element.
-/
module

public import proofs.«01_k».proof.Proof.RecRef
public import proofs.«01_k».proof.Proof.Gen.LruReferenceIdeal.Run
public import Idealize.ShloMosaic.Lib.DynamicIndex
public import Idealize.ShloMosaic.Lib.WordCmp

@[expose] public section

set_option maxRecDepth 16384

noncomputable section

namespace Cert.LruReferenceIdeal.Rec

open Cert.LruReferenceIdeal Cert.LruReferenceIdeal.Gen Cert.LruReferenceIdeal.Step Cert.LruReferenceIdeal.Value Idealize.ShloMosaic
open Idealize.ShloMosaic.TcCoe Idealize.SL.Sem Idealize.ShloMosaic.StableHlo
open Idealize.ShloMosaic.ValueIdx (ix2 ix3)

/-- Row `k` fits in the rows. -/
theorem row_fits (k : ℕ) (hk : k < 8192) : S8192x2x4096.Slices ![k, 0, 0] S1x2x4096 :=
  ⟨rfl, fun a => match a with
    | ⟨0, _⟩ => by show k + 1 ≤ 8192; omega
    | ⟨1, _⟩ => by show 0 + 2 ≤ 2; omega
    | ⟨2, _⟩ => by show 0 + 4096 ≤ 4096; omega⟩

/-- A row read at index `k`, its leading axis dropped. -/
theorem row_read (k : ℕ) (hk : k < 8192) (v : FVec Ideal S8192x2x4096 .f32) (start : Fin 3 → ℤ) (hs : ∀ a : Fin 3, start a = (((![k, 0, 0] : Fin 3 → ℕ) a : ℕ) : ℤ))
    (b : Fin 2) (j : Fin 4096) :
    (shapeCast S2x4096 (Host.dynamicSlice S1x2x4096 v start sliceFits_S8192x2x4096_S1x2x4096) shapeCasts_S1x2x4096_S2x4096 (ix2 b j) : EReal)
      = v (ix3 (n0 := 8192) ⟨k, hk⟩ b j) := by
  rw [Host.dynamicSlice_eq_extractStridedSlice _ _ _ ![k, 0, 0] _ (row_fits k hk) hs]
  refine (Proj.layer_at (K := 2) (N := 4096) _ shapeCasts_S1x2x4096_S2x4096 b j).trans (extractStridedSlice_apply _ _ _ _ _ fun a => match a with
    | ⟨0, _⟩ => rfl
    | ⟨1, _⟩ => by show b.val = 0 + b.val; omega
    | ⟨2, _⟩ => by show j.val = 0 + j.val; omega)

/-- A row written at index `k`: it holds the new row, the other rows are as they were. -/
theorem row_write (k : ℕ) (hk : k < 8192) (v : FVec Ideal S8192x2x4096 .f32) (h : FVec Ideal S2x4096 .f32) (start : Fin 3 → ℤ)
    (hs : ∀ a : Fin 3, start a = (((![k, 0, 0] : Fin 3 → ℕ) a : ℕ) : ℤ)) (s : Fin 8192) (b : Fin 2) (j : Fin 4096) :
    (Host.dynamicUpdateSlice v (broadcastInDim S1x2x4096 ![1, 2] bcast_S2x4096_S1x2x4096_1_2 h) start updateFits_S8192x2x4096_S1x2x4096 (ix3 s b j) : EReal)
      = if s.val = k then h (ix2 b j) else v (ix3 s b j) := by
  rw [WordCmp.dynamicUpdateSlice_eq_update _ _ _ _ ![k, 0, 0] (row_fits k hk) hs]
  unfold updateSlice
  by_cases e : s.val = k
  · rw [if_pos e, dif_pos (fun a => match a with
      | ⟨0, _⟩ => by show k ≤ s.val ∧ s.val < k + 1; omega
      | ⟨1, _⟩ => by show 0 ≤ b.val ∧ b.val < 0 + 2; omega
      | ⟨2, _⟩ => by show 0 ≤ j.val ∧ j.val < 0 + 4096; omega)]
    exact broadcastInDim_apply _ _ _ _ (ix2 b j) fun a => match a with
      | ⟨0, _⟩ => rfl
      | ⟨1, _⟩ => rfl
  · rw [if_neg e, dif_neg (fun h' => e (by
      have := h' 0
      change k ≤ s.val ∧ s.val < k + 1 at this
      omega))]

variable (X Y : Proj.Mat 16384 4096) (Wa : Proj.Stack 16 256 256) (ba : Proj.Mat 16 256) (Wx : Proj.Stack 16 256 256) (bx : Proj.Mat 16 256)
  (L : Proj.Row 4096)

/-- The loop's buffers before trip `n`: the decays and inputs, the number of the trip, the state after `n` rows, and the rows
    written so far. -/
structure Before (V : Valuation τ sig (Elt Ideal)) (n : ℕ) : Prop where
  decays : V (Proc.devRef .tc main_v45_0) = A_main_v42 (F := Ideal) X Wa ba Wx bx L
  inputs : V (Proc.devRef .tc main_v45_1) = A_main_v43 (F := Ideal) X Wa ba Wx bx L
  number : ∀ i : S_.Idx, (V (Proc.devRef .tc main_v45_2) i : BitVec 32) = BitVec.ofNat 32 n
  carried : ∀ (b : Fin 2) (j : Fin 4096), (V (Proc.devRef .tc main_v45_3) (ix2 b j : S2x4096.Idx) : EReal) = Cert.Rec.state X Wa ba Wx bx L b.val j.val n
  written : ∀ (s : Fin 8192) (b : Fin 2) (j : Fin 4096), s.val < n →
    (V (Proc.devRef .tc main_v45_4) (ix3 s b j : S8192x2x4096.Idx) : EReal) = Cert.Rec.state X Wa ba Wx bx L b.val j.val (s.val + 1)

variable {X Y Wa ba Wx bx L} {V : Valuation τ sig (Elt Ideal)} {n : ℕ}

/-- The index words of trip `n`. -/
theorem Before.start (h : Before X Wa ba Wx bx L V n) (hn : n < 8192) (a : Fin 3) :
    (((![V (Proc.devRef .tc main_v45_2), constantI S_ 32 0#32, constantI S_ 32 0#32] : Fin 3 → (⟨S_, .i32⟩ : BufTy).Contents (Elt Ideal)) a
      (Shape.Idx.first h_S_)).toInt) = (((![n, 0, 0] : Fin 3 → ℕ) a : ℕ) : ℤ) :=
  match a with
  | ⟨0, _⟩ => (congrArg BitVec.toInt (h.number _)).trans (WordCmp.toInt_ofNat_of_lt (by omega))
  | ⟨1, _⟩ => rfl
  | ⟨2, _⟩ => rfl

/-- The state a trip makes. -/
theorem Before.next (h : Before X Wa ba Wx bx L V n) (hn : n < 8192) (b : Fin 2) (j : Fin 4096) :
    (res_main_while0b_v53 V (ix2 b j : S2x4096.Idx) : EReal) = Cert.Rec.state X Wa ba Wx bx L b.val j.val (n + 1) := by
  have ea := (row_read n hn (V (Proc.devRef .tc main_v45_0)) _ (h.start hn) b j).trans ((congrFun h.decays _).trans (dec_at X Wa ba Wx bx L ⟨n, hn⟩ b j))
  have eu := (row_read n hn (V (Proc.devRef .tc main_v45_1)) _ (h.start hn) b j).trans ((congrFun h.inputs _).trans (inp_at X Wa ba Wx bx L ⟨n, hn⟩ b j))
  exact congrArg₂ (fun p q : EReal => p + q) (congrArg₂ (fun p q : EReal => p * q) ea (h.carried b j)) eu

/-- A trip leads from each number to the next. -/
theorem Before.step (h : Before X Wa ba Wx bx L V n) (hn : n < 8192) : Before X Wa ba Wx bx L (STEP V) (n + 1) where
  decays := (STEP_main_v45_0 V).trans h.decays
  inputs := (STEP_main_v45_1 V).trans h.inputs
  number := fun i => (congrFun (STEP_main_v45_2 V) i).trans ((congrArg (fun w : BitVec 32 => w + 1#32) (h.number i)).trans
    (BitVec.ofNat_add n 1).symm)
  carried := fun b j => (congrFun (STEP_main_v45_3 V) _).trans (h.next hn b j)
  written := fun s b j hs => (congrFun (STEP_main_v45_4 V) _).trans
    ((row_write n hn (V (Proc.devRef .tc main_v45_4)) (res_main_while0b_v53 V) _ (h.start hn) s b j).trans (by
      by_cases e : s.val = n
      · rw [if_pos e, e]
        exact h.next hn b j
      · rw [if_neg e]
        exact h.written s b j (by omega)))

section Run

variable (m : (ℓ : Loc nD τ sig) → Buf (Elt Ideal) ℓ) (c : Dev nD)

/-- The loop's buffers before trip `n`, of the arguments in memory. -/
abbrev At (V : Valuation τ sig (Elt Ideal)) (n : ℕ) : Prop :=
  Before (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6)) V n

/-- What comes before the loop leaves the buffers ready for the first trip. -/
theorem entry : At m c (entryContents preI m c) 0 where
  decays := by simp only [entryContents, afterL_cons, afterL_nil]; after_reads_simp; rfl
  inputs := by simp only [entryContents, afterL_cons, afterL_nil]; after_reads_simp; rfl
  number := by
    have e : entryContents preI m c (Proc.devRef .tc main_v45_2) = fun _ => (0#32 : BitVec 32) := ctr_entry m c
    exact fun i => congrFun e i
  carried := by
    have e : entryContents preI m c (Proc.devRef .tc main_v45_3) = K_main_v41 (F := Ideal) := by
      simp only [entryContents, afterL_cons, afterL_nil]; after_reads_simp; rfl
    exact fun b j => (congrFun e _).trans Proj.zero_f32
  written := fun _ _ _ h => absurd h (by omega)

/-- The buffers before each trip. -/
theorem trips (n : ℕ) (hn : n ≤ 8192) : At m c (STEP^[n] (entryContents preI m c)) n := by
  induction n with
  | zero => exact entry m c
  | succ n ih =>
    rw [Function.iterate_succ_apply']
    exact (ih (by omega)).step (by omega)

/-- The reference's result at an element. -/
theorem reference_at (i : S16384x4096.Idx) :
    (out_main_v49 (STEP^[8192] (entryContents preI m c)) i : EReal)
      = Cert.Rec.spec (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (i 0).val (i 1).val := by
  have h0 : (i 0).val < 16384 := (i 0).isLt
  have hm : (i 0).val % 8192 < 8192 := Nat.mod_lt _ (by norm_num)
  have h := trips m c 8192 (le_refl _)
  have ha := iter_main_arg1 m c 8192
  generalize (STEP^[8192] (entryContents preI m c)) = V at h ha
  unfold Cert.Rec.spec
  refine congrArg₂ (fun a b : EReal => a * b) ?_ ((congrFun ha i).trans (Proj.rd_eq _ _ _ i rfl rfl))
  refine (shapeCast_apply _ shapeCasts_S2x8192x4096_S16384x4096 i (ix3 (n0 := 2) (n1 := 8192) (n2 := 4096) ⟨(i 0).val / 8192, by omega⟩ ⟨(i 0).val % 8192, hm⟩ (i 1)) ?_).trans
    ((transpose_apply _ _ transposes_S8192x2x4096_S2x8192x4096_1_0_2 _ (ix3 (n0 := 8192) (n1 := 2) (n2 := 4096) ⟨(i 0).val % 8192, hm⟩ ⟨(i 0).val / 8192, by omega⟩ (i 1)) fun a => match a with
    | ⟨0, _⟩ => rfl
    | ⟨1, _⟩ => rfl
    | ⟨2, _⟩ => rfl).trans (h.written _ _ _ hm))
  rw [Shape.rowMajor_val_two, Shape.rowMajor_val_three]
  show ((i 0).val / 8192 * 8192 + (i 0).val % 8192) * 4096 + (i 1).val = (i 0).val * 4096 + (i 1).val
  omega

end Run

end Cert.LruReferenceIdeal.Rec

end
-- ==== Proof.RecClaim.lean ====
/-
  The claims about the gated linear recurrence: its frames and the equation with the reference.
-/
module

public import proofs.«01_k».proof.Defs
public import proofs.«01_k».proof.Proof.RecCarry
public import proofs.«01_k».proof.Proof.RecArray
public import proofs.«01_k».proof.Proof.RecLoop
public import Idealize.ShloMosaic.Lib.Quiescent

@[expose] public section

set_option maxRecDepth 16384

noncomputable section

namespace Cert.Rec

open Idealize.ShloMosaic Idealize.ShloMosaic.TcCoe Idealize.SL.Sem

/-- The recurrence runs and leaves its arguments as they were. -/
theorem quiescent_Lru : Cert.quiescent_Lru := fun m ρ _ => Cert.Lru.Rec.frame m ρ

/-- So does its idealization. -/
theorem quiescent_LruIdeal : Cert.quiescent_LruIdeal := fun m ρ _ => Cert.LruIdeal.Rec.frame m ρ

/-- So does the plain form; it has no semaphore. -/
theorem quiescent_LruReferenceIdeal : Cert.quiescent_LruReferenceIdeal := fun m ρ _ =>
  (θ_run Cert.LruReferenceIdeal.defs _ _).mono (fun r h => ⟨fun c => (h c).2, sem_eq_zero_of_no_sems (by decide) r.2⟩)
    (Cert.LruReferenceIdeal.Value.run (F := Ideal) m ρ)

/-- From arguments that agree the idealized kernel and the plain form end with the same result. -/
theorem algebraic : Cert.algebraic_LruIdeal_LruReferenceIdeal := by
  intro m ρ m' ρ' _ hagree
  refine ⟨fun c => Cert.LruIdeal.Rec.result m c, Cert.LruIdeal.Rec.run_result m ρ, ?_⟩
  refine (θ_run Cert.LruReferenceIdeal.defs _ _).mono (fun r h c => ⟨(h c).1.trans ?_, (h c).2⟩)
    (Cert.LruReferenceIdeal.Value.run (F := Ideal) m' ρ')
  funext i
  refine (Cert.LruReferenceIdeal.Rec.reference_at m' c i).trans ?_
  rw [(hagree c).1, (hagree c).2.1, (hagree c).2.2.1, (hagree c).2.2.2.1, (hagree c).2.2.2.2.1, (hagree c).2.2.2.2.2.1, (hagree c).2.2.2.2.2.2]
  rfl

end Cert.Rec

end
-- ==== Proof.lean ====
/-
  The certificate: the claims of every call, proved in their own modules, put together.
-/
module

public import proofs.«01_k».proof.Defs
public import proofs.«01_k».proof.Proof.SbClaim
public import proofs.«01_k».proof.Proof.DownClaim
public import proofs.«01_k».proof.Proof.MixClaim
public import proofs.«01_k».proof.Proof.QkvClaim
public import proofs.«01_k».proof.Proof.GateClaim
public import proofs.«01_k».proof.Proof.GeluClaim
public import proofs.«01_k».proof.Proof.UpClaim
public import proofs.«01_k».proof.Proof.GqkvClaim
public import proofs.«01_k».proof.Proof.LruxClaim
public import proofs.«01_k».proof.Proof.NormClaim
public import proofs.«01_k».proof.Proof.PairClaim
public import proofs.«01_k».proof.Proof.BgClaim
public import proofs.«01_k».proof.Proof.RecClaim
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.FfnDown.Gen.facts, Cert.FfnDownIdeal.Gen.facts, Cert.FfnDownReferenceIdeal.Gen.facts,
  Cert.MixerOut.Gen.facts, Cert.MixerOutIdeal.Gen.facts, Cert.MixerOutReferenceIdeal.Gen.facts,
  Cert.SbQkv.Gen.facts, Cert.SbQkvIdeal.Gen.facts, Cert.SbQkvReferenceIdeal.Gen.facts,
  Cert.GdnZ.Gen.facts, Cert.GdnZIdeal.Gen.facts, Cert.GdnZReferenceIdeal.Gen.facts,
  Cert.LruY.Gen.facts, Cert.LruYIdeal.Gen.facts, Cert.LruYReferenceIdeal.Gen.facts,
  Cert.FfnUp.Gen.facts, Cert.FfnUpIdeal.Gen.facts, Cert.FfnUpReferenceIdeal.Gen.facts,
  Cert.GdnQkv.Gen.facts, Cert.GdnQkvIdeal.Gen.facts, Cert.GdnQkvReferenceIdeal.Gen.facts,
  Cert.LruX.Gen.facts, Cert.LruXIdeal.Gen.facts, Cert.LruXReferenceIdeal.Gen.facts,
  Cert.Norm.Gen.facts, Cert.NormIdeal.Gen.facts, Cert.NormReferenceIdeal.Gen.facts,
  Cert.Pair.Gen.facts, Cert.PairIdeal.Gen.facts, Cert.PairReferenceIdeal.Gen.facts,
  Cert.GdnGates.Gen.facts, Cert.GdnGatesIdeal.Gen.facts, Cert.GdnGatesReferenceIdeal.Gen.facts,
  Cert.Lru.Gen.facts, Cert.LruIdeal.Gen.facts, Cert.LruReferenceIdeal.Gen.facts,
  Sb.quiescent_Kernel, Sb.quiescent_KernelIdeal, Sb.quiescent_ReferenceIdeal,
  Down.quiescent_FfnDown, Down.quiescent_FfnDownIdeal, Down.quiescent_FfnDownReferenceIdeal,
  Mix.quiescent_MixerOut, Mix.quiescent_MixerOutIdeal, Mix.quiescent_MixerOutReferenceIdeal,
  Qkv.quiescent_SbQkv, Qkv.quiescent_SbQkvIdeal, Qkv.quiescent_SbQkvReferenceIdeal,
  Gate.quiescent_GdnZ, Gate.quiescent_GdnZIdeal, Gate.quiescent_GdnZReferenceIdeal,
  Gelu.quiescent_LruY, Gelu.quiescent_LruYIdeal, Gelu.quiescent_LruYReferenceIdeal,
  Up.quiescent_FfnUp, Up.quiescent_FfnUpIdeal, Up.quiescent_FfnUpReferenceIdeal,
  Gqkv.quiescent_GdnQkv, Gqkv.quiescent_GdnQkvIdeal, Gqkv.quiescent_GdnQkvReferenceIdeal,
  Lrux.quiescent_LruX, Lrux.quiescent_LruXIdeal, Lrux.quiescent_LruXReferenceIdeal,
  Norm.quiescent_Norm, Norm.quiescent_NormIdeal, Norm.quiescent_NormReferenceIdeal,
  Pair.quiescent_Pair, Pair.quiescent_PairIdeal, Pair.quiescent_PairReferenceIdeal,
  Bg.quiescent_GdnGates, Bg.quiescent_GdnGatesIdeal, Bg.quiescent_GdnGatesReferenceIdeal,
  Rec.quiescent_Lru, Rec.quiescent_LruIdeal, Rec.quiescent_LruReferenceIdeal,
  Sb.preserves, Sb.algebraic,
  trivial, Down.algebraic,
  trivial, Mix.algebraic,
  trivial, Qkv.algebraic,
  trivial, Gate.algebraic,
  trivial, Gelu.algebraic,
  trivial, Up.algebraic,
  trivial, Gqkv.algebraic,
  trivial, Lrux.algebraic,
  trivial, Norm.algebraic,
  trivial, Pair.algebraic,
  trivial, Bg.algebraic,
  trivial, Rec.algebraic⟩

end Cert.Proof

end
